-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_conv [hPre_finite_conv : Cert.Pre_finite_conv.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_conv.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_conv [hPre_finite_conv : Cert.Pre_finite_conv.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_conv.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_conv [hPre_finite_conv : Cert.Pre_finite_conv.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_conv.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_conv [hPre_finite_conv : Cert.Pre_finite_conv.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_conv.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_conv [hPre_finite_conv : Cert.Pre_finite_conv.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_conv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_conv [hPre_finite_conv : Cert.Pre_finite_conv.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_conv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite_conv [hKernel2Ideal : Cert.Kernel2Ideal.Facts] [hPre_finite_conv : Cert.Pre_finite_conv.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_conv m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite_conv [hReference2Ideal : Cert.Reference2Ideal.Facts] [hPre_finite_conv : Cert.Pre_finite_conv.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_conv m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_conv [hKernel3Ideal : Cert.Kernel3Ideal.Facts] [hPre_finite_conv : Cert.Pre_finite_conv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_conv m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_conv [hReference3Ideal : Cert.Reference3Ideal.Facts] [hPre_finite_conv : Cert.Pre_finite_conv.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_conv m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_finite_conv [hKernel4Ideal : Cert.Kernel4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_conv m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_finite_conv [hReference4Ideal : Cert.Reference4Ideal.Facts] [hPre_finite_conv : Cert.Pre_finite_conv.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_conv m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_conv [hKernel2Ideal : Cert.Kernel2Ideal.Facts] [hReference2Ideal : Cert.Reference2Ideal.Facts] [hPre_finite_conv : Cert.Pre_finite_conv.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_conv m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v160) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_finite_conv [hKernel3Ideal : Cert.Kernel3Ideal.Facts] [hReference3Ideal : Cert.Reference3Ideal.Facts] [hPre_finite_conv : Cert.Pre_finite_conv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_conv m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_v159) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite_conv [hKernel4Ideal : Cert.Kernel4Ideal.Facts] [hReference4Ideal : Cert.Reference4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_conv m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v160) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_conv : Cert.Pre_finite_conv.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_conv (hKernel2Ideal := hKernel2Ideal) (hPre_finite_conv := hPre_finite_conv)
    ∧ quiescent_Reference2Ideal (hReference2Ideal := hReference2Ideal)
    ∧ quiescent_Reference2Ideal_pre_finite_conv (hReference2Ideal := hReference2Ideal) (hPre_finite_conv := hPre_finite_conv)
    ∧ quiescent_Kernel3 (hKernel3 := hKernel3)
    ∧ quiescent_Kernel3Ideal (hKernel3Ideal := hKernel3Ideal)
    ∧ quiescent_Kernel3Ideal_pre_finite_conv (hKernel3Ideal := hKernel3Ideal) (hPre_finite_conv := hPre_finite_conv)
    ∧ quiescent_Reference3Ideal (hReference3Ideal := hReference3Ideal)
    ∧ quiescent_Reference3Ideal_pre_finite_conv (hReference3Ideal := hReference3Ideal) (hPre_finite_conv := hPre_finite_conv)
    ∧ quiescent_Kernel4 (hKernel4 := hKernel4)
    ∧ quiescent_Kernel4Ideal (hKernel4Ideal := hKernel4Ideal)
    ∧ quiescent_Kernel4Ideal_pre_finite_conv (hKernel4Ideal := hKernel4Ideal) (hPre_finite_conv := hPre_finite_conv)
    ∧ quiescent_Reference4Ideal (hReference4Ideal := hReference4Ideal)
    ∧ quiescent_Reference4Ideal_pre_finite_conv (hReference4Ideal := hReference4Ideal) (hPre_finite_conv := hPre_finite_conv)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_conv (hKernel2Ideal := hKernel2Ideal) (hReference2Ideal := hReference2Ideal) (hPre_finite_conv := hPre_finite_conv)
    ∧ preserves_Kernel3_Kernel3Ideal
    ∧ algebraic_Kernel3Ideal_Reference3Ideal_pre_finite_conv (hKernel3Ideal := hKernel3Ideal) (hReference3Ideal := hReference3Ideal) (hPre_finite_conv := hPre_finite_conv)
    ∧ preserves_Kernel4_Kernel4Ideal
    ∧ algebraic_Kernel4Ideal_Reference4Ideal_pre_finite_conv (hKernel4Ideal := hKernel4Ideal) (hReference4Ideal := hReference4Ideal) (hPre_finite_conv := hPre_finite_conv)
-- ==== Pre_finite_conv.lean ====
abbrev S32x256x1024 : Shape := ⟨3, ![32, 256, 1024]⟩
abbrev S8x1024x1024 : Shape := ⟨3, ![8, 1024, 1024]⟩
abbrev S1024x1024 : Shape := ⟨2, ![1024, 1024]⟩
abbrev S4x6144 : Shape := ⟨2, ![4, 6144]⟩
abbrev S4x8x6144 : Shape := ⟨3, ![4, 8, 6144]⟩
abbrev S4x1024 : Shape := ⟨2, ![4, 1024]⟩
abbrev S4x1024x5632 : Shape := ⟨3, ![4, 1024, 5632]⟩
abbrev S4x5632 : Shape := ⟨2, ![4, 5632]⟩
abbrev S4x3x5632 : Shape := ⟨3, ![4, 3, 5632]⟩
abbrev S4x2816x1024 : Shape := ⟨3, ![4, 2816, 1024]⟩
abbrev S_ : Shape := ⟨0, ![]⟩

class Facts : Prop where
  bcast_S_S4x5632 : S_.BroadcastsInDim S4x5632 (![] : Fin 0 → Fin S4x5632.rank)
  reducesTo_S4x5632_S_d0_1 : S4x5632.ReducesTo [0, 1] S_
  h_S_ : 0 < S_.numel
  bcast_S_S4x3x5632 : S_.BroadcastsInDim S4x3x5632 (![] : Fin 0 → Fin S4x3x5632.rank)
  reducesTo_S4x3x5632_S_d0_1_2 : S4x3x5632.ReducesTo [0, 1, 2] S_

variable [Facts]

def fn {F : FTy → Type} [FloatOps F] (main_arg0 : FVec F S32x256x1024 .f32) (main_arg1 : FVec F S8x1024x1024 .f32) (main_arg2 : FVec F S32x256x1024 .f32) (main_arg3 : FVec F S8x1024x1024 .f32) (main_arg4 : FVec F S1024x1024 .f32) (main_arg5 : FVec F S4x6144 .f32) (main_arg6 : FVec F S4x8x6144 .f32) (main_arg7 : FVec F S4x1024 .f32) (main_arg8 : FVec F S4x1024x5632 .f32) (main_arg9 : FVec F S4x5632 .f32) (main_arg10 : FVec F S4x3x5632 .f32) (main_arg11 : FVec F S4x5632 .f32) (main_arg12 : FVec F S4x2816x1024 .f32) : IVec S_ 1 :=
  let main_v0 : FVec F S4x5632 .f32 := Host.absf main_arg9
  let main_cst : FVec F S_ .f32 := constant S_ .f32 0x7F800000#32
  let main_v1 : FVec F S4x5632 .f32 := broadcastInDim S4x5632 ![] bcast_S_S4x5632 main_cst
  let main_v2 : IVec S4x5632 1 := cmpf .olt main_v0 main_v1
  let main_c : IVec S_ 1 := constantI S_ 1 1#1
  let main_v3 : IVec S_ 1 := (fun x v => Host.reduce IntOp.andi x v reducesTo_S4x5632_S_d0_1 h_S_) main_v2 main_c
  let main_v4 : FVec F S4x3x5632 .f32 := Host.absf main_arg10
  let main_cst_0 : FVec F S_ .f32 := constant S_ .f32 0x7F800000#32
  let main_v5 : FVec F S4x3x5632 .f32 := broadcastInDim S4x3x5632 ![] bcast_S_S4x3x5632 main_cst_0
  let main_v6 : IVec S4x3x5632 1 := cmpf .olt main_v4 main_v5
  let main_c_1 : IVec S_ 1 := constantI S_ 1 1#1
  let main_v7 : IVec S_ 1 := (fun x v => Host.reduce IntOp.andi x v reducesTo_S4x3x5632_S_d0_1_2 h_S_) main_v6 main_c_1
  let main_v8 : IVec S_ 1 := andi main_v3 main_v7
  main_v8
-- ==== Pre_finite_scores.lean ====
abbrev S16384x16x64 : Shape := ⟨3, ![16384, 16, 64]⟩
abbrev S32x256x4x64 : Shape := ⟨4, ![32, 256, 4, 64]⟩
abbrev S16 : Shape := ⟨1, ![16]⟩
abbrev S_ : Shape := ⟨0, ![]⟩

class Facts : Prop where
  bcast_S_S16384x16x64 : S_.BroadcastsInDim S16384x16x64 (![] : Fin 0 → Fin S16384x16x64.rank)
  reducesTo_S16384x16x64_S_d0_1_2 : S16384x16x64.ReducesTo [0, 1, 2] S_
  h_S_ : 0 < S_.numel
  bcast_S_S32x256x4x64 : S_.BroadcastsInDim S32x256x4x64 (![] : Fin 0 → Fin S32x256x4x64.rank)
  reducesTo_S32x256x4x64_S_d0_1_2_3 : S32x256x4x64.ReducesTo [0, 1, 2, 3] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16384x16x64 .f32) (main_arg1 : FVec F S32x256x4x64 .f32) (main_arg2 : FVec F S32x256x4x64 .f32) (main_arg3 : FVec F S16 .f32) : IVec S_ 1 :=
  let main_v0 : FVec F S16384x16x64 .f32 := Host.absf main_arg0
  let main_cst : FVec F S_ .f32 := constant S_ .f32 0x7F800000#32
  let main_v1 : FVec F S16384x16x64 .f32 := broadcastInDim S16384x16x64 ![] bcast_S_S16384x16x64 main_cst
  let main_v2 : IVec S16384x16x64 1 := cmpf .olt main_v0 main_v1
  let main_c : IVec S_ 1 := constantI S_ 1 1#1
  let main_v3 : IVec S_ 1 := (fun x v => Host.reduce IntOp.andi x v reducesTo_S16384x16x64_S_d0_1_2 h_S_) main_v2 main_c
  let main_v4 : FVec F S32x256x4x64 .f32 := Host.absf main_arg1
  let main_cst_0 : FVec F S_ .f32 := constant S_ .f32 0x7F800000#32
  let main_v5 : FVec F S32x256x4x64 .f32 := broadcastInDim S32x256x4x64 ![] bcast_S_S32x256x4x64 main_cst_0
  let main_v6 : IVec S32x256x4x64 1 := cmpf .olt main_v4 main_v5
  let main_c_1 : IVec S_ 1 := constantI S_ 1 1#1
  let main_v7 : IVec S_ 1 := (fun x v => Host.reduce IntOp.andi x v reducesTo_S32x256x4x64_S_d0_1_2_3 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S16384x16x64 : Shape := ⟨3, ![16384, 16, 64]⟩
abbrev S32x256x4x64 : Shape := ⟨4, ![32, 256, 4, 64]⟩
abbrev S16 : Shape := ⟨1, ![16]⟩
abbrev S8192x256 : Shape := ⟨2, ![8192, 256]⟩
abbrev S_ : Shape := ⟨0, ![]⟩
abbrev S16384x1024 : Shape := ⟨2, ![16384, 1024]⟩
abbrev S8192x1024 : Shape := ⟨2, ![8192, 1024]⟩
abbrev S256x1024 : Shape := ⟨2, ![256, 1024]⟩
abbrev S256x256 : Shape := ⟨2, ![256, 256]⟩
abbrev S256x128 : Shape := ⟨2, ![256, 128]⟩
abbrev S1 : Shape := ⟨1, ![1]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 15
  | .vmem => 8
  | .smem => 1
  | _ => 0

abbrev bufTy : (tb : Table) → Fin (tcTables nBuf tb) → BufTy
  | .hbm, ⟨0, _⟩ => ⟨S16384x16x64, .f32⟩
  | .hbm, ⟨1, _⟩ => ⟨S32x256x4x64, .f32⟩
  | .hbm, ⟨2, _⟩ => ⟨S32x256x4x64, .f32⟩
  | .hbm, ⟨3, _⟩ => ⟨S16, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x16x64, .f32⟩
  | .hbm, ⟨11, _⟩ => ⟨S16384x16x64, .f32⟩
  | .hbm, ⟨12, _⟩ => ⟨S16384x16x64, .bf16⟩
  | .hbm, ⟨13, _⟩ => ⟨S16384x1024, .bf16⟩
  | .hbm, ⟨14, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .bf16⟩
  | .local _ .smem, ⟨0, _⟩ => ⟨S16, .f32⟩
  | _, _ => ⟨S16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x16x64 : Shape := ⟨3, ![16384, 16, 64]⟩
abbrev S32x256x4x64 : Shape := ⟨4, ![32, 256, 4, 64]⟩
abbrev S16 : Shape := ⟨1, ![16]⟩
abbrev S8192x16x64 : Shape := ⟨3, ![8192, 16, 64]⟩
abbrev S32x256x4x4x64 : Shape := ⟨5, ![32, 256, 4, 4, 64]⟩
abbrev S32x4x256x256x4 : Shape := ⟨5, ![32, 4, 256, 256, 4]⟩
abbrev S32x4x4x256x256 : Shape := ⟨5, ![32, 4, 4, 256, 256]⟩
abbrev S_ : Shape := ⟨0, ![]⟩
abbrev S4x4 : Shape := ⟨2, ![4, 4]⟩
abbrev S1x4x4x1x1 : Shape := ⟨5, ![1, 4, 4, 1, 1]⟩
abbrev S32x4x4x256x1 : Shape := ⟨5, ![32, 4, 4, 256, 1]⟩
abbrev S32x4x4x256x257 : Shape := ⟨5, ![32, 4, 4, 256, 257]⟩
abbrev S32x4x4x256 : Shape := ⟨4, ![32, 4, 4, 256]⟩
abbrev S32x4x64x4x256 : Shape := ⟨5, ![32, 4, 64, 4, 256]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x16x64, .f32⟩
  | .hbm, ⟨1, _⟩ => ⟨S32x256x4x64, .f32⟩
  | .hbm, ⟨2, _⟩ => ⟨S32x256x4x64, .f32⟩
  | .hbm, ⟨3, _⟩ => ⟨S16, .f32⟩
  | .hbm, ⟨4, _⟩ => ⟨S8192x16x64, .f32⟩
  | .hbm, ⟨5, _⟩ => ⟨S32x256x4x4x64, .f32⟩
  | .hbm, ⟨6, _⟩ => ⟨S32x4x256x256x4, .f32⟩
  | .hbm, ⟨7, _⟩ => ⟨S32x4x4x256x256, .f32⟩
  | .hbm, ⟨8, _⟩ => ⟨S_, .f32⟩
  | .hbm, ⟨9, _⟩ => ⟨S32x4x4x256x256, .f32⟩
  | .hbm, ⟨10, _⟩ => ⟨S32x4x4x256x256, .f32⟩
  | .hbm, ⟨11, _⟩ => ⟨S4x4, .f32⟩
  | .hbm, ⟨12, _⟩ => ⟨S1x4x4x1x1, .f32⟩
  | .hbm, ⟨13, _⟩ => ⟨S32x4x4x256x1, .f32⟩
  | .hbm, ⟨14, _⟩ => ⟨S32x4x4x256x257, .f32⟩
  | .hbm, ⟨15, _⟩ => ⟨S_, .f32⟩
  | .hbm, ⟨16, _⟩ => ⟨S32x4x4x256, .f32⟩
  | .hbm, ⟨17, _⟩ => ⟨S_, .f32⟩
  | .hbm, ⟨18, _⟩ => ⟨S32x4x4x256, .f32⟩
  | .hbm, ⟨19, _⟩ => ⟨S32x4x4x256, .f32⟩
  | .hbm, ⟨20, _⟩ => ⟨S32x4x4x256x1, .f32⟩
  | .hbm, ⟨21, _⟩ => ⟨S32x4x4x256x257, .f32⟩
  | .hbm, ⟨22, _⟩ => ⟨S32x4x4x256x257, .f32⟩
  | .hbm, ⟨23, _⟩ => ⟨S32x4x4x256x257, .f32⟩
  | .hbm, ⟨24, _⟩ => ⟨S_, .f32⟩
  | .hbm, ⟨25, _⟩ => ⟨S32x4x4x256, .f32⟩
  | .hbm, ⟨26, _⟩ => ⟨S32x4x4x256x1, .f32⟩
  | .hbm, ⟨27, _⟩ => ⟨S32x4x4x256x257, .f32⟩
  | .hbm, ⟨28, _⟩ => ⟨S32x4x4x256x257, .f32⟩
  | .hbm, ⟨29, _⟩ => ⟨S32x4x4x256x256, .f32⟩
  | .hbm, ⟨30, _⟩ => ⟨S32x4x64x4x256, .f32⟩
  | .hbm, ⟨31, _⟩ => ⟨S32x256x4x4x64, .f32⟩
  | .hbm, ⟨32, _⟩ => ⟨S8192x1024, .f32⟩
  | .hbm, ⟨33, _⟩ => ⟨S8192x1024, .bf16⟩
  | _, _ => ⟨S16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel2.lean ====
abbrev S32x256x1024 : Shape := ⟨3, ![32, 256, 1024]⟩
abbrev S8x1024x1024 : Shape := ⟨3, ![8, 1024, 1024]⟩
abbrev S1024x1024 : Shape := ⟨2, ![1024, 1024]⟩
abbrev S4x6144 : Shape := ⟨2, ![4, 6144]⟩
abbrev S4x8x6144 : Shape := ⟨3, ![4, 8, 6144]⟩
abbrev S4x1024 : Shape := ⟨2, ![4, 1024]⟩
abbrev S4x1024x5632 : Shape := ⟨3, ![4, 1024, 5632]⟩
abbrev S4x5632 : Shape := ⟨2, ![4, 5632]⟩
abbrev S4x3x5632 : Shape := ⟨3, ![4, 3, 5632]⟩
abbrev S4x2816x1024 : Shape := ⟨3, ![4, 2816, 1024]⟩
abbrev S8192x1024 : Shape := ⟨2, ![8192, 1024]⟩
abbrev S16384x1024 : Shape := ⟨2, ![16384, 1024]⟩
abbrev S4x1x6144 : Shape := ⟨3, ![4, 1, 6144]⟩
abbrev S_ : Shape := ⟨0, ![]⟩
abbrev S4x7x6144 : Shape := ⟨3, ![4, 7, 6144]⟩
abbrev S4x16x6144 : Shape := ⟨3, ![4, 16, 6144]⟩
abbrev S1x1024 : Shape := ⟨2, ![1, 1024]⟩
abbrev S1024 : Shape := ⟨1, ![1024]⟩
abbrev S4x1x5632 : Shape := ⟨3, ![4, 1, 5632]⟩
abbrev S4x16x1x6144 : Shape := ⟨4, ![4, 16, 1, 6144]⟩
abbrev S1x1x1x6144 : Shape := ⟨4, ![1, 1, 1, 6144]⟩
abbrev S1x1024x256 : Shape := ⟨3, ![1, 1024, 256]⟩
abbrev S1x1x256 : Shape := ⟨3, ![1, 1, 256]⟩
abbrev S1x3x256 : Shape := ⟨3, ![1, 3, 256]⟩
abbrev S1x256x1024 : Shape := ⟨3, ![1, 256, 1024]⟩
abbrev S1096x256 : Shape := ⟨2, ![1096, 256]⟩
abbrev S1024x256 : Shape := ⟨2, ![1024, 256]⟩
abbrev S256x1024 : Shape := ⟨2, ![256, 1024]⟩
abbrev S1x6144 : Shape := ⟨2, ![1, 6144]⟩
abbrev S1024x1 : Shape := ⟨2, ![1024, 1]⟩
abbrev S256x256 : Shape := ⟨2, ![256, 256]⟩
abbrev S1x256 : Shape := ⟨2, ![1, 256]⟩
abbrev S3x256 : Shape := ⟨2, ![3, 256]⟩
abbrev S1x1x1x1024 : Shape := ⟨4, ![1, 1, 1, 1024]⟩

abbrev nBuf : Space → Nat
  | .hbm => 32
  | .vmem => 37
  | .smem => 0
  | _ => 0

abbrev bufTy : (tb : Table) → Fin (tcTables nBuf tb) → BufTy
  | .hbm, ⟨0, _⟩ => ⟨S32x256x1024, .f32⟩
  | .hbm, ⟨1, _⟩ => ⟨S8x1024x1024, .f32⟩
  | .hbm, ⟨2, _⟩ => ⟨S32x256x1024, .f32⟩
  | .hbm, ⟨3, _⟩ => ⟨S8x1024x1024, .f32⟩
  | .hbm, ⟨4, _⟩ => ⟨S1024x1024, .f32⟩
  | .hbm, ⟨5, _⟩ => ⟨S4x6144, .f32⟩
  | .hbm, ⟨6, _⟩ => ⟨S4x8x6144, .f32⟩
  | .hbm, ⟨7, _⟩ => ⟨S4x1024, .f32⟩
  | .hbm, ⟨8, _⟩ => ⟨S4x1024x5632, .f32⟩
  | .hbm, ⟨9, _⟩ => ⟨S4x5632, .f32⟩
  | .hbm, ⟨10, _⟩ => ⟨S4x3x5632, .f32⟩
  | .hbm, ⟨11, _⟩ => ⟨S4x5632, .f32⟩
  | .hbm, ⟨12, _⟩ => ⟨S4x2816x1024, .f32⟩
  | .hbm, ⟨13, _⟩ => ⟨S8192x1024, .f32⟩
  | .hbm, ⟨14, _⟩ => ⟨S8192x1024, .f32⟩
  | .hbm, ⟨15, _⟩ => ⟨S16384x1024, .f32⟩
  | .hbm, ⟨16, _⟩ => ⟨S4x1x6144, .f32⟩
  | .hbm, ⟨17, _⟩ => ⟨S_, .f32⟩
  | .hbm, ⟨18, _⟩ => ⟨S4x7x6144, .f32⟩
  | .hbm, ⟨19, _⟩ => ⟨S4x16x6144, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .hbm, ⟨24, _⟩ => ⟨S1x1024, .f32⟩
  | .hbm, ⟨25, _⟩ => ⟨S1024, .f32⟩
  | .hbm, ⟨26, _⟩ => ⟨S4x1x5632, .f32⟩
  | .hbm, ⟨27, _⟩ => ⟨S4x1x5632, .f32⟩
  | .hbm, ⟨28, _⟩ => ⟨S1024x1024, .bf16⟩
  | .hbm, ⟨29, _⟩ => ⟨S4x16x1x6144, .f32⟩
  | .hbm, ⟨30, _⟩ => ⟨S1x1024, .f32⟩
  | .hbm, ⟨31, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x1x6144, .f32⟩
  | .local _ .vmem, ⟨8, _⟩ => ⟨S1x1x1x6144, .f32⟩
  | .local _ .vmem, ⟨9, _⟩ => ⟨S1x1024, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x3x256, .f32⟩
  | .local _ .vmem, ⟨19, _⟩ => ⟨S1x3x256, .f32⟩
  | .local _ .vmem, ⟨20, _⟩ => ⟨S1x3x256, .f32⟩
  | .local _ .vmem, ⟨21, _⟩ => ⟨S1x3x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S1x256x1024, .f32⟩
  | .local _ .vmem, ⟨27, _⟩ => ⟨S1x256x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .bf16⟩
  | .local _ .vmem, ⟨31, _⟩ => ⟨S1024x1024, .f32⟩
  | .local _ .vmem, ⟨32, _⟩ => ⟨S1096x256, .f32⟩
  | .local _ .vmem, ⟨33, _⟩ => ⟨S1096x256, .f32⟩
  | .local _ .vmem, ⟨34, _⟩ => ⟨S1024x256, .bf16⟩
  | .local _ .vmem, ⟨35, _⟩ => ⟨S1024x256, .bf16⟩
  | .local _ .vmem, ⟨36, _⟩ => ⟨S256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c10_i32 : BitVec 32 := 10#32
  let v422 : BitVec 1 := Scalar.cmpi .eq arg1 c10_i32
  let v423 : BitVec 32 := Scalar.extui v422
  let c0_i32_252 : BitVec 32 := 0#32
  let v424 : BitVec 1 := Scalar.cmpi .ne v423 c0_i32_252
  v424

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 32 := Scalar.addi c8_i32_6 v18
  let c0_i32_7 : BitVec 32 := 0#32
  let v20 : BitVec 32 := Scalar.select v0 c0_i32_7 v19
  let c2_i32 : BitVec 32 := 2#32
  let c0_i32_8 : BitVec 32 := 0#32
  let c0_i32_9 : BitVec 32 := 0#32
  let c0_i32_10 : BitVec 32 := 0#32
  ![c2_i32.toNat, v20.toNat, c0_i32_8.toNat, c0_i32_9.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c2_i32 : BitVec 32 := 2#32
  let c0_i32 : BitVec 32 := 0#32
  let c0_i32_0 : BitVec 32 := 0#32
  ![c2_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c2_i32 : BitVec 32 := 2#32
  let c0_i32 : BitVec 32 := 0#32
  let c0_i32_0 : BitVec 32 := 0#32
  ![c2_i32.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c2_i32 : BitVec 32 := 2#32
  let c0_i32 : BitVec 32 := 0#32
  let c0_i32_0 : BitVec 32 := 0#32
  ![c2_i32.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, c0_i32_0.toNat, v0.toNat]

def cc0_transform_13 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c2_i32 : BitVec 32 := 2#32
  let c0_i32 : BitVec 32 := 0#32
  let c0_i32_0 : BitVec 32 := 0#32
  ![c2_i32.toNat, c0_i32.toNat, v0.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference2Ideal.lean ====
abbrev S32x256x1024 : Shape := ⟨3, ![32, 256, 1024]⟩
abbrev S8x1024x1024 : Shape := ⟨3, ![8, 1024, 1024]⟩
abbrev S1024x1024 : Shape := ⟨2, ![1024, 1024]⟩
abbrev S4x6144 : Shape := ⟨2, ![4, 6144]⟩
abbrev S4x8x6144 : Shape := ⟨3, ![4, 8, 6144]⟩
abbrev S4x1024 : Shape := ⟨2, ![4, 1024]⟩
abbrev S4x1024x5632 : Shape := ⟨3, ![4, 1024, 5632]⟩
abbrev S4x5632 : Shape := ⟨2, ![4, 5632]⟩
abbrev S4x3x5632 : Shape := ⟨3, ![4, 3, 5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S1x5632 : Shape := ⟨2, ![1, 5632]⟩
abbrev S5632 : Shape := ⟨1, ![5632]⟩
abbrev S1x3x5632 : Shape := ⟨3, ![1, 3, 5632]⟩
abbrev S3x5632 : Shape := ⟨2, ![3, 5632]⟩
abbrev S1x2816x1024 : Shape := ⟨3, ![1, 2816, 1024]⟩
abbrev S2816x1024 : Shape := ⟨2, ![2816, 1024]⟩
abbrev S1x6144 : Shape := ⟨2, ![1, 6144]⟩
abbrev S6144 : Shape := ⟨1, ![6144]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S1x1x5632 : Shape := ⟨3, ![1, 1, 5632]⟩
abbrev S32x258x5632 : Shape := ⟨3, ![32, 258, 5632]⟩
abbrev S32x256x2816 : Shape := ⟨3, ![32, 256, 2816]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1026x5632 : Shape := ⟨3, ![8, 1026, 5632]⟩
abbrev S8x1024x2816 : Shape := ⟨3, ![8, 1024, 2816]⟩
abbrev S8192x1024 : Shape := ⟨2, ![8192, 1024]⟩
abbrev S16384x1024 : Shape := ⟨2, ![16384, 1024]⟩

abbrev nBuf : Space → Nat
  | .hbm => 204
  | .vmem => 0
  | .smem => 0
  | _ => 0

abbrev hbmTy0_0 (i : Nat) : BufTy := match i % 128 with
  | 0 => ⟨S32x256x1024, .f32⟩
  | 1 => ⟨S8x1024x1024, .f32⟩
  | 2 => ⟨S32x256x1024, .f32⟩
  | 3 => ⟨S8x1024x1024, .f32⟩
  | 4 => ⟨S1024x1024, .f32⟩
  | 5 => ⟨S4x6144, .f32⟩
  | 6 => ⟨S4x8x6144, .f32⟩
  | 7 => ⟨S4x1024, .f32⟩
  | 8 => ⟨S4x1024x5632, .f32⟩
  | 9 => ⟨S4x5632, .f32⟩
  | 10 => ⟨S4x3x5632, .f32⟩
  | 11 => ⟨S4x5632, .f32⟩
  | 12 => ⟨S4x2816x1024, .f32⟩
  | 13 => ⟨S1x1024x5632, .f32⟩
  | 14 => ⟨S1024x5632, .f32⟩
  | 15 => ⟨S1x5632, .f32⟩
  | 16 => ⟨S5632, .f32⟩
  | 17 => ⟨S1x3x5632, .f32⟩
  | 18 => ⟨S3x5632, .f32⟩
  | 19 => ⟨S1x5632, .f32⟩
  | 20 => ⟨S5632, .f32⟩
  | 21 => ⟨S1x2816x1024, .f32⟩
  | 22 => ⟨S2816x1024, .f32⟩
  | 23 => ⟨S1x6144, .f32⟩
  | 24 => ⟨S6144, .f32⟩
  | 25 => ⟨S1x6144, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S32x256x1024, .f32⟩
  | 33 => ⟨S1x1x1024, .f32⟩
  | 34 => ⟨S32x256x1024, .f32⟩
  | 35 => ⟨S32x256x1024, .f32⟩
  | 36 => ⟨S32x256x1024, .f32⟩
  | 37 => ⟨S1x1024, .f32⟩
  | 38 => ⟨S1024, .f32⟩
  | 39 => ⟨S32x256x1024, .f32⟩
  | 40 => ⟨S_, .f32⟩
  | 41 => ⟨S32x256, .f32⟩
  | 42 => ⟨S32x256x1, .f32⟩
  | 43 => ⟨S_, .f32⟩
  | 44 => ⟨S32x256x1, .f32⟩
  | 45 => ⟨S32x256x1, .f32⟩
  | 46 => ⟨S_, .f32⟩
  | 47 => ⟨S32x256x1, .f32⟩
  | 48 => ⟨S32x256x1, .f32⟩
  | 49 => ⟨S32x256x1, .f32⟩
  | 50 => ⟨S32x256x1024, .f32⟩
  | 51 => ⟨S32x256x1024, .f32⟩
  | 52 => ⟨S1x1x1024, .f32⟩
  | 53 => ⟨S32x256x1024, .f32⟩
  | 54 => ⟨S32x256x1024, .f32⟩
  | 55 => ⟨S_, .f32⟩
  | 56 => ⟨S1x1024, .f32⟩
  | 57 => ⟨S1x1024, .f32⟩
  | 58 => ⟨S1x1x1024, .f32⟩
  | 59 => ⟨S32x256x1024, .f32⟩
  | 60 => ⟨S32x256x1024, .f32⟩
  | 61 => ⟨S1x1x1024, .f32⟩
  | 62 => ⟨S32x256x1024, .f32⟩
  | 63 => ⟨S32x256x1024, .f32⟩
  | 64 => ⟨S32x256x5632, .f32⟩
  | 65 => ⟨S1x1x5632, .f32⟩
  | 66 => ⟨S32x256x5632, .f32⟩
  | 67 => ⟨S32x256x5632, .f32⟩
  | 68 => ⟨S_, .i32⟩
  | 69 => ⟨S_, .f32⟩
  | 70 => ⟨S32x258x5632, .f32⟩
  | 71 => ⟨S32x256x5632, .f32⟩
  | 72 => ⟨S1x5632, .f32⟩
  | 73 => ⟨S5632, .f32⟩
  | 74 => ⟨S1x1x5632, .f32⟩
  | 75 => ⟨S32x256x5632, .f32⟩
  | 76 => ⟨S32x256x5632, .f32⟩
  | 77 => ⟨S_, .f32⟩
  | 78 => ⟨S32x256x5632, .f32⟩
  | 79 => ⟨S32x256x5632, .f32⟩
  | 80 => ⟨S32x256x5632, .f32⟩
  | 81 => ⟨S1x5632, .f32⟩
  | 82 => ⟨S5632, .f32⟩
  | 83 => ⟨S1x1x5632, .f32⟩
  | 84 => ⟨S32x256x5632, .f32⟩
  | 85 => ⟨S32x256x5632, .f32⟩
  | 86 => ⟨S32x256x5632, .f32⟩
  | 87 => ⟨S32x256x5632, .f32⟩
  | 88 => ⟨S1x5632, .f32⟩
  | 89 => ⟨S5632, .f32⟩
  | 90 => ⟨S1x1x5632, .f32⟩
  | 91 => ⟨S32x256x5632, .f32⟩
  | 92 => ⟨S32x256x5632, .f32⟩
  | 93 => ⟨S32x256x5632, .f32⟩
  | 94 => ⟨S1x1x5632, .f32⟩
  | 95 => ⟨S32x256x5632, .f32⟩
  | 96 => ⟨S32x256x5632, .f32⟩
  | 97 => ⟨S32x256x2816, .f32⟩
  | 98 => ⟨S32x256x2816, .f32⟩
  | 99 => ⟨S32x256x2816, .f32⟩
  | 100 => ⟨S32x256x2816, .f32⟩
  | 101 => ⟨S_, .f32⟩
  | 102 => ⟨S32x256x2816, .f32⟩
  | 103 => ⟨S32x256x2816, .f32⟩
  | 104 => ⟨S_, .f32⟩
  | 105 => ⟨S32x256x2816, .f32⟩
  | 106 => ⟨S32x256x2816, .f32⟩
  | 107 => ⟨S32x256x2816, .f32⟩
  | 108 => ⟨S32x256x2816, .f32⟩
  | 109 => ⟨S32x256x1024, .f32⟩
  | 110 => ⟨S1x1x1024, .f32⟩
  | 111 => ⟨S32x256x1024, .f32⟩
  | 112 => ⟨S32x256x1024, .f32⟩
  | 113 => ⟨S32x256x1024, .f32⟩
  | 114 => ⟨S1x8x6144, .f32⟩
  | 115 => ⟨S8x6144, .f32⟩
  | 116 => ⟨S8x1x6144, .f32⟩
  | 117 => ⟨S8x1x1024, .f32⟩
  | 118 => ⟨S8x1x1024, .f32⟩
  | 119 => ⟨S8x1x1024, .f32⟩
  | 120 => ⟨S8x1x1024, .f32⟩
  | 121 => ⟨S8x1x1024, .f32⟩
  | 122 => ⟨S8x1x1024, .f32⟩
  | 123 => ⟨S8x1024x1024, .f32⟩
  | 124 => ⟨S8x1024x1024, .f32⟩
  | 125 => ⟨S8x1024x1024, .f32⟩
  | 126 => ⟨S8x1024x1024, .f32⟩
  | 127 => ⟨S1x1024, .f32⟩
  | _ => ⟨S32x256x1024, .f32⟩

abbrev hbmTy0_1 (i : Nat) : BufTy := match i % 128 with
  | 0 => ⟨S1024, .f32⟩
  | 1 => ⟨S8x1024x1024, .f32⟩
  | 2 => ⟨S_, .f32⟩
  | 3 => ⟨S8x1024, .f32⟩
  | 4 => ⟨S8x1024x1, .f32⟩
  | 5 => ⟨S_, .f32⟩
  | 6 => ⟨S8x1024x1, .f32⟩
  | 7 => ⟨S8x1024x1, .f32⟩
  | 8 => ⟨S_, .f32⟩
  | 9 => ⟨S8x1024x1, .f32⟩
  | 10 => ⟨S8x1024x1, .f32⟩
  | 11 => ⟨S8x1024x1, .f32⟩
  | 12 => ⟨S8x1024x1024, .f32⟩
  | 13 => ⟨S8x1024x1024, .f32⟩
  | 14 => ⟨S1x1x1024, .f32⟩
  | 15 => ⟨S8x1024x1024, .f32⟩
  | 16 => ⟨S8x1024x1024, .f32⟩
  | 17 => ⟨S_, .f32⟩
  | 18 => ⟨S8x1x1024, .f32⟩
  | 19 => ⟨S8x1x1024, .f32⟩
  | 20 => ⟨S8x1024x1024, .f32⟩
  | 21 => ⟨S8x1024x1024, .f32⟩
  | 22 => ⟨S8x1024x1024, .f32⟩
  | 23 => ⟨S8x1024x1024, .f32⟩
  | 24 => ⟨S8x1024x5632, .f32⟩
  | 25 => ⟨S1x1x5632, .f32⟩
  | 26 => ⟨S8x1024x5632, .f32⟩
  | 27 => ⟨S8x1024x5632, .f32⟩
  | 28 => ⟨S_, .i32⟩
  | 29 => ⟨S_, .f32⟩
  | 30 => ⟨S8x1026x5632, .f32⟩
  | 31 => ⟨S8x1024x5632, .f32⟩
  | 32 => ⟨S1x5632, .f32⟩
  | 33 => ⟨S5632, .f32⟩
  | 34 => ⟨S1x1x5632, .f32⟩
  | 35 => ⟨S8x1024x5632, .f32⟩
  | 36 => ⟨S8x1024x5632, .f32⟩
  | 37 => ⟨S_, .f32⟩
  | 38 => ⟨S8x1024x5632, .f32⟩
  | 39 => ⟨S8x1024x5632, .f32⟩
  | 40 => ⟨S8x1024x5632, .f32⟩
  | 41 => ⟨S1x5632, .f32⟩
  | 42 => ⟨S5632, .f32⟩
  | 43 => ⟨S1x1x5632, .f32⟩
  | 44 => ⟨S8x1024x5632, .f32⟩
  | 45 => ⟨S8x1024x5632, .f32⟩
  | 46 => ⟨S8x1024x5632, .f32⟩
  | 47 => ⟨S8x1024x5632, .f32⟩
  | 48 => ⟨S1x5632, .f32⟩
  | 49 => ⟨S5632, .f32⟩
  | 50 => ⟨S1x1x5632, .f32⟩
  | 51 => ⟨S8x1024x5632, .f32⟩
  | 52 => ⟨S8x1024x5632, .f32⟩
  | 53 => ⟨S8x1024x5632, .f32⟩
  | 54 => ⟨S1x1x5632, .f32⟩
  | 55 => ⟨S8x1024x5632, .f32⟩
  | 56 => ⟨S8x1024x5632, .f32⟩
  | 57 => ⟨S8x1024x2816, .f32⟩
  | 58 => ⟨S8x1024x2816, .f32⟩
  | 59 => ⟨S8x1024x2816, .f32⟩
  | 60 => ⟨S8x1024x2816, .f32⟩
  | 61 => ⟨S_, .f32⟩
  | 62 => ⟨S8x1024x2816, .f32⟩
  | 63 => ⟨S8x1024x2816, .f32⟩
  | 64 => ⟨S_, .f32⟩
  | 65 => ⟨S8x1024x2816, .f32⟩
  | 66 => ⟨S8x1024x2816, .f32⟩
  | 67 => ⟨S8x1024x2816, .f32⟩
  | 68 => ⟨S8x1024x2816, .f32⟩
  | 69 => ⟨S8x1024x1024, .f32⟩
  | 70 => ⟨S8x1024x1024, .f32⟩
  | 71 => ⟨S8x1024x1024, .f32⟩
  | 72 => ⟨S8x1024x1024, .f32⟩
  | 73 => ⟨S8192x1024, .f32⟩
  | 74 => ⟨S8192x1024, .f32⟩
  | 75 => ⟨S16384x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_3 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_4 : Ref sig .tc := ⟨.hbm, 130, rfl⟩
abbrev main_v102 : Ref sig .tc := ⟨.hbm, 131, rfl⟩
abbrev main_v103 : Ref sig .tc := ⟨.hbm, 132, rfl⟩
abbrev main_cst_5 : Ref sig .tc := ⟨.hbm, 133, rfl⟩
abbrev main_v104 : Ref sig .tc := ⟨.hbm, 134, rfl⟩
abbrev main_v105 : Ref sig .tc := ⟨.hbm, 135, rfl⟩
abbrev main_cst_6 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_7 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_c_8 : Ref sig .tc := ⟨.hbm, 156, rfl⟩
abbrev main_call2_v0 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_9 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_call3_v0 : Ref sig .tc := ⟨.hbm, 187, rfl⟩
abbrev main_call3_v1 : Ref sig .tc := ⟨.hbm, 188, rfl⟩
abbrev main_call3_cst : Ref sig .tc := ⟨.hbm, 189, rfl⟩
abbrev main_call3_v2 : Ref sig .tc := ⟨.hbm, 190, rfl⟩
abbrev main_call3_v3 : Ref sig .tc := ⟨.hbm, 191, rfl⟩
abbrev main_call3_cst_0 : Ref sig .tc := ⟨.hbm, 192, rfl⟩
abbrev main_call3_v4 : Ref sig .tc := ⟨.hbm, 193, rfl⟩
abbrev main_call3_v5 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩

abbrev nD : Nat := 1
abbrev τ : Topo := Topo.v7x

variable {F : FTy → Type} [FloatOps F]
-- ==== Kernel3.lean ====
abbrev S32x256x1024 : Shape := ⟨3, ![32, 256, 1024]⟩
abbrev S8x1024x1024 : Shape := ⟨3, ![8, 1024, 1024]⟩
abbrev S1024x1024 : Shape := ⟨2, ![1024, 1024]⟩
abbrev S4x6144 : Shape := ⟨2, ![4, 6144]⟩
abbrev S4x8x6144 : Shape := ⟨3, ![4, 8, 6144]⟩
abbrev S4x1024 : Shape := ⟨2, ![4, 1024]⟩
abbrev S4x1024x5632 : Shape := ⟨3, ![4, 1024, 5632]⟩
abbrev S4x5632 : Shape := ⟨2, ![4, 5632]⟩
abbrev S4x3x5632 : Shape := ⟨3, ![4, 3, 5632]⟩
abbrev S4x2816x1024 : Shape := ⟨3, ![4, 2816, 1024]⟩
abbrev S8192x1024 : Shape := ⟨2, ![8192, 1024]⟩
abbrev S16384x1024 : Shape := ⟨2, ![16384, 1024]⟩
abbrev S4x1x6144 : Shape := ⟨3, ![4, 1, 6144]⟩
abbrev S_ : Shape := ⟨0, ![]⟩
abbrev S4x7x6144 : Shape := ⟨3, ![4, 7, 6144]⟩
abbrev S4x16x6144 : Shape := ⟨3, ![4, 16, 6144]⟩
abbrev S1x1024 : Shape := ⟨2, ![1, 1024]⟩
abbrev S1024 : Shape := ⟨1, ![1024]⟩
abbrev S4x1x5632 : Shape := ⟨3, ![4, 1, 5632]⟩
abbrev S4x16x1x6144 : Shape := ⟨4, ![4, 16, 1, 6144]⟩
abbrev S1x1x1x6144 : Shape := ⟨4, ![1, 1, 1, 6144]⟩
abbrev S1x1024x256 : Shape := ⟨3, ![1, 1024, 256]⟩
abbrev S1x1x256 : Shape := ⟨3, ![1, 1, 256]⟩
abbrev S1x3x256 : Shape := ⟨3, ![1, 3, 256]⟩
abbrev S1x256x1024 : Shape := ⟨3, ![1, 256, 1024]⟩
abbrev S1096x256 : Shape := ⟨2, ![1096, 256]⟩
abbrev S1024x256 : Shape := ⟨2, ![1024, 256]⟩
abbrev S256x1024 : Shape := ⟨2, ![256, 1024]⟩
abbrev S1x6144 : Shape := ⟨2, ![1, 6144]⟩
abbrev S1024x1 : Shape := ⟨2, ![1024, 1]⟩
abbrev S256x256 : Shape := ⟨2, ![256, 256]⟩
abbrev S1x256 : Shape := ⟨2, ![1, 256]⟩
abbrev S3x256 : Shape := ⟨2, ![3, 256]⟩
abbrev S1x1x1x1024 : Shape := ⟨4, ![1, 1, 1, 1024]⟩

abbrev nBuf : Space → Nat
  | .hbm => 33
  | .vmem => 39
  | .smem => 0
  | _ => 0

abbrev bufTy : (tb : Table) → Fin (tcTables nBuf tb) → BufTy
  | .hbm, ⟨0, _⟩ => ⟨S32x256x1024, .f32⟩
  | .hbm, ⟨1, _⟩ => ⟨S8x1024x1024, .f32⟩
  | .hbm, ⟨2, _⟩ => ⟨S32x256x1024, .f32⟩
  | .hbm, ⟨3, _⟩ => ⟨S8x1024x1024, .f32⟩
  | .hbm, ⟨4, _⟩ => ⟨S1024x1024, .f32⟩
  | .hbm, ⟨5, _⟩ => ⟨S4x6144, .f32⟩
  | .hbm, ⟨6, _⟩ => ⟨S4x8x6144, .f32⟩
  | .hbm, ⟨7, _⟩ => ⟨S4x1024, .f32⟩
  | .hbm, ⟨8, _⟩ => ⟨S4x1024x5632, .f32⟩
  | .hbm, ⟨9, _⟩ => ⟨S4x5632, .f32⟩
  | .hbm, ⟨10, _⟩ => ⟨S4x3x5632, .f32⟩
  | .hbm, ⟨11, _⟩ => ⟨S4x5632, .f32⟩
  | .hbm, ⟨12, _⟩ => ⟨S4x2816x1024, .f32⟩
  | .hbm, ⟨13, _⟩ => ⟨S8192x1024, .f32⟩
  | .hbm, ⟨14, _⟩ => ⟨S8192x1024, .f32⟩
  | .hbm, ⟨15, _⟩ => ⟨S16384x1024, .f32⟩
  | .hbm, ⟨16, _⟩ => ⟨S4x1x6144, .f32⟩
  | .hbm, ⟨17, _⟩ => ⟨S_, .f32⟩
  | .hbm, ⟨18, _⟩ => ⟨S4x7x6144, .f32⟩
  | .hbm, ⟨19, _⟩ => ⟨S4x16x6144, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .hbm, ⟨24, _⟩ => ⟨S1x1024, .f32⟩
  | .hbm, ⟨25, _⟩ => ⟨S1024, .f32⟩
  | .hbm, ⟨26, _⟩ => ⟨S4x1x5632, .f32⟩
  | .hbm, ⟨27, _⟩ => ⟨S4x1x5632, .f32⟩
  | .hbm, ⟨28, _⟩ => ⟨S1024x1024, .bf16⟩
  | .hbm, ⟨29, _⟩ => ⟨S4x16x1x6144, .f32⟩
  | .hbm, ⟨30, _⟩ => ⟨S1x1024, .f32⟩
  | .hbm, ⟨31, _⟩ => ⟨S8192x1024, .f32⟩
  | .hbm, ⟨32, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x1x6144, .f32⟩
  | .local _ .vmem, ⟨8, _⟩ => ⟨S1x1x1x6144, .f32⟩
  | .local _ .vmem, ⟨9, _⟩ => ⟨S1x1024, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x3x256, .f32⟩
  | .local _ .vmem, ⟨19, _⟩ => ⟨S1x3x256, .f32⟩
  | .local _ .vmem, ⟨20, _⟩ => ⟨S1x3x256, .f32⟩
  | .local _ .vmem, ⟨21, _⟩ => ⟨S1x3x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S1x256x1024, .f32⟩
  | .local _ .vmem, ⟨27, _⟩ => ⟨S1x256x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .bf16⟩
  | .local _ .vmem, ⟨33, _⟩ => ⟨S1024x1024, .f32⟩
  | .local _ .vmem, ⟨34, _⟩ => ⟨S1096x256, .f32⟩
  | .local _ .vmem, ⟨35, _⟩ => ⟨S1096x256, .f32⟩
  | .local _ .vmem, ⟨36, _⟩ => ⟨S1024x256, .bf16⟩
  | .local _ .vmem, ⟨37, _⟩ => ⟨S1024x256, .bf16⟩
  | .local _ .vmem, ⟨38, _⟩ => ⟨S256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c8_i32 : BitVec 32 := 8#32
  let v0 : BitVec 1 := Scalar.cmpi .sge arg0 c8_i32
  let v_true : BitVec 1 := 1#1
  let v1 : BitVec 1 := Scalar.xori v0 v_true
  let v3 : BitVec 1 := Scalar.andi v2 v1
  let v4 : BitVec 32 := Scalar.extui v3
  let c0_i32_0 : BitVec 32 := 0#32
  let v5 : BitVec 1 := Scalar.cmpi .ne v4 c0_i32_0
  v5

def k0_cond3 (i : grid0.Coords) : BitVec 1 :=
  let arg1 : BitVec 32 := BitVec.ofNat 32 (i 1).val
  let c10_i32 : BitVec 32 := 10#32
  let v428 : BitVec 1 := Scalar.cmpi .eq arg1 c10_i32
  let arg0 : BitVec 32 := BitVec.ofNat 32 (i 0).val
  let c8_i32 : BitVec 32 := 8#32
  let v0 : BitVec 1 := Scalar.cmpi .sge arg0 c8_i32
  let v_true : BitVec 1 := 1#1
  let v1 : BitVec 1 := Scalar.xori v0 v_true
  let v429 : BitVec 1 := Scalar.andi v428 v1
  let v430 : BitVec 32 := Scalar.extui v429
  let c0_i32_254 : BitVec 32 := 0#32
  let v431 : BitVec 1 := Scalar.cmpi .ne v430 c0_i32_254
  v431

def k0_cond2 (i : grid0.Coords) : BitVec 1 :=
  let arg1 : BitVec 32 := BitVec.ofNat 32 (i 1).val
  let c0_i32_1 : BitVec 32 := 0#32
  let v6 : BitVec 1 := Scalar.cmpi .eq arg1 c0_i32_1
  let arg0 : BitVec 32 := BitVec.ofNat 32 (i 0).val
  let c8_i32 : BitVec 32 := 8#32
  let v0 : BitVec 1 := Scalar.cmpi .sge arg0 c8_i32
  let v7 : BitVec 1 := Scalar.andi v6 v0
  let v8 : BitVec 32 := Scalar.extui v7
  let c0_i32_2 : BitVec 32 := 0#32
  let v9 : BitVec 1 := Scalar.cmpi .ne v8 c0_i32_2
  v9

def k0_cond4 (i : grid0.Coords) : BitVec 1 :=
  let arg1 : BitVec 32 := BitVec.ofNat 32 (i 1).val
  let c10_i32_255 : BitVec 32 := 10#32
  let v432 : BitVec 1 := Scalar.cmpi .eq arg1 c10_i32_255
  let arg0 : BitVec 32 := BitVec.ofNat 32 (i 0).val
  let c8_i32 : BitVec 32 := 8#32
  let v0 : BitVec 1 := Scalar.cmpi .sge arg0 c8_i32
  let v433 : BitVec 1 := Scalar.andi v432 v0
  let v434 : BitVec 32 := Scalar.extui v433
  let c0_i32_256 : BitVec 32 := 0#32
  let v435 : BitVec 1 := Scalar.cmpi .ne v434 c0_i32_256
  v435

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 32 := Scalar.addi c8_i32_6 v18
  let c0_i32_7 : BitVec 32 := 0#32
  let v20 : BitVec 32 := Scalar.select v0 c0_i32_7 v19
  let c3_i32 : BitVec 32 := 3#32
  let c0_i32_8 : BitVec 32 := 0#32
  let c0_i32_9 : BitVec 32 := 0#32
  let c0_i32_10 : BitVec 32 := 0#32
  ![c3_i32.toNat, v20.toNat, c0_i32_8.toNat, c0_i32_9.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_13 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference3Ideal.lean ====
abbrev S32x256x1024 : Shape := ⟨3, ![32, 256, 1024]⟩
abbrev S8x1024x1024 : Shape := ⟨3, ![8, 1024, 1024]⟩
abbrev S1024x1024 : Shape := ⟨2, ![1024, 1024]⟩
abbrev S4x6144 : Shape := ⟨2, ![4, 6144]⟩
abbrev S4x8x6144 : Shape := ⟨3, ![4, 8, 6144]⟩
abbrev S4x1024 : Shape := ⟨2, ![4, 1024]⟩
abbrev S4x1024x5632 : Shape := ⟨3, ![4, 1024, 5632]⟩
abbrev S4x5632 : Shape := ⟨2, ![4, 5632]⟩
abbrev S4x3x5632 : Shape := ⟨3, ![4, 3, 5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S1x5632 : Shape := ⟨2, ![1, 5632]⟩
abbrev S5632 : Shape := ⟨1, ![5632]⟩
abbrev S1x3x5632 : Shape := ⟨3, ![1, 3, 5632]⟩
abbrev S3x5632 : Shape := ⟨2, ![3, 5632]⟩
abbrev S1x2816x1024 : Shape := ⟨3, ![1, 2816, 1024]⟩
abbrev S2816x1024 : Shape := ⟨2, ![2816, 1024]⟩
abbrev S1x6144 : Shape := ⟨2, ![1, 6144]⟩
abbrev S6144 : Shape := ⟨1, ![6144]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S1x1x5632 : Shape := ⟨3, ![1, 1, 5632]⟩
abbrev S32x258x5632 : Shape := ⟨3, ![32, 258, 5632]⟩
abbrev S32x256x2816 : Shape := ⟨3, ![32, 256, 2816]⟩
abbrev S8192x1024 : Shape := ⟨2, ![8192, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1026x5632 : Shape := ⟨3, ![8, 1026, 5632]⟩
abbrev S8x1024x2816 : Shape := ⟨3, ![8, 1024, 2816]⟩

abbrev nBuf : Space → Nat
  | .hbm => 203
  | .vmem => 0
  | .smem => 0
  | _ => 0

abbrev hbmTy0_0 (i : Nat) : BufTy := match i % 128 with
  | 0 => ⟨S32x256x1024, .f32⟩
  | 1 => ⟨S8x1024x1024, .f32⟩
  | 2 => ⟨S32x256x1024, .f32⟩
  | 3 => ⟨S8x1024x1024, .f32⟩
  | 4 => ⟨S1024x1024, .f32⟩
  | 5 => ⟨S4x6144, .f32⟩
  | 6 => ⟨S4x8x6144, .f32⟩
  | 7 => ⟨S4x1024, .f32⟩
  | 8 => ⟨S4x1024x5632, .f32⟩
  | 9 => ⟨S4x5632, .f32⟩
  | 10 => ⟨S4x3x5632, .f32⟩
  | 11 => ⟨S4x5632, .f32⟩
  | 12 => ⟨S4x2816x1024, .f32⟩
  | 13 => ⟨S1x1024x5632, .f32⟩
  | 14 => ⟨S1024x5632, .f32⟩
  | 15 => ⟨S1x5632, .f32⟩
  | 16 => ⟨S5632, .f32⟩
  | 17 => ⟨S1x3x5632, .f32⟩
  | 18 => ⟨S3x5632, .f32⟩
  | 19 => ⟨S1x5632, .f32⟩
  | 20 => ⟨S5632, .f32⟩
  | 21 => ⟨S1x2816x1024, .f32⟩
  | 22 => ⟨S2816x1024, .f32⟩
  | 23 => ⟨S1x6144, .f32⟩
  | 24 => ⟨S6144, .f32⟩
  | 25 => ⟨S1x6144, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S32x256x1024, .f32⟩
  | 33 => ⟨S1x1x1024, .f32⟩
  | 34 => ⟨S32x256x1024, .f32⟩
  | 35 => ⟨S32x256x1024, .f32⟩
  | 36 => ⟨S32x256x1024, .f32⟩
  | 37 => ⟨S1x1024, .f32⟩
  | 38 => ⟨S1024, .f32⟩
  | 39 => ⟨S32x256x1024, .f32⟩
  | 40 => ⟨S_, .f32⟩
  | 41 => ⟨S32x256, .f32⟩
  | 42 => ⟨S32x256x1, .f32⟩
  | 43 => ⟨S_, .f32⟩
  | 44 => ⟨S32x256x1, .f32⟩
  | 45 => ⟨S32x256x1, .f32⟩
  | 46 => ⟨S_, .f32⟩
  | 47 => ⟨S32x256x1, .f32⟩
  | 48 => ⟨S32x256x1, .f32⟩
  | 49 => ⟨S32x256x1, .f32⟩
  | 50 => ⟨S32x256x1024, .f32⟩
  | 51 => ⟨S32x256x1024, .f32⟩
  | 52 => ⟨S1x1x1024, .f32⟩
  | 53 => ⟨S32x256x1024, .f32⟩
  | 54 => ⟨S32x256x1024, .f32⟩
  | 55 => ⟨S_, .f32⟩
  | 56 => ⟨S1x1024, .f32⟩
  | 57 => ⟨S1x1024, .f32⟩
  | 58 => ⟨S1x1x1024, .f32⟩
  | 59 => ⟨S32x256x1024, .f32⟩
  | 60 => ⟨S32x256x1024, .f32⟩
  | 61 => ⟨S1x1x1024, .f32⟩
  | 62 => ⟨S32x256x1024, .f32⟩
  | 63 => ⟨S32x256x1024, .f32⟩
  | 64 => ⟨S32x256x5632, .f32⟩
  | 65 => ⟨S1x1x5632, .f32⟩
  | 66 => ⟨S32x256x5632, .f32⟩
  | 67 => ⟨S32x256x5632, .f32⟩
  | 68 => ⟨S_, .i32⟩
  | 69 => ⟨S_, .f32⟩
  | 70 => ⟨S32x258x5632, .f32⟩
  | 71 => ⟨S32x256x5632, .f32⟩
  | 72 => ⟨S1x5632, .f32⟩
  | 73 => ⟨S5632, .f32⟩
  | 74 => ⟨S1x1x5632, .f32⟩
  | 75 => ⟨S32x256x5632, .f32⟩
  | 76 => ⟨S32x256x5632, .f32⟩
  | 77 => ⟨S_, .f32⟩
  | 78 => ⟨S32x256x5632, .f32⟩
  | 79 => ⟨S32x256x5632, .f32⟩
  | 80 => ⟨S32x256x5632, .f32⟩
  | 81 => ⟨S1x5632, .f32⟩
  | 82 => ⟨S5632, .f32⟩
  | 83 => ⟨S1x1x5632, .f32⟩
  | 84 => ⟨S32x256x5632, .f32⟩
  | 85 => ⟨S32x256x5632, .f32⟩
  | 86 => ⟨S32x256x5632, .f32⟩
  | 87 => ⟨S32x256x5632, .f32⟩
  | 88 => ⟨S1x5632, .f32⟩
  | 89 => ⟨S5632, .f32⟩
  | 90 => ⟨S1x1x5632, .f32⟩
  | 91 => ⟨S32x256x5632, .f32⟩
  | 92 => ⟨S32x256x5632, .f32⟩
  | 93 => ⟨S32x256x5632, .f32⟩
  | 94 => ⟨S1x1x5632, .f32⟩
  | 95 => ⟨S32x256x5632, .f32⟩
  | 96 => ⟨S32x256x5632, .f32⟩
  | 97 => ⟨S32x256x2816, .f32⟩
  | 98 => ⟨S32x256x2816, .f32⟩
  | 99 => ⟨S32x256x2816, .f32⟩
  | 100 => ⟨S32x256x2816, .f32⟩
  | 101 => ⟨S_, .f32⟩
  | 102 => ⟨S32x256x2816, .f32⟩
  | 103 => ⟨S32x256x2816, .f32⟩
  | 104 => ⟨S_, .f32⟩
  | 105 => ⟨S32x256x2816, .f32⟩
  | 106 => ⟨S32x256x2816, .f32⟩
  | 107 => ⟨S32x256x2816, .f32⟩
  | 108 => ⟨S32x256x2816, .f32⟩
  | 109 => ⟨S32x256x1024, .f32⟩
  | 110 => ⟨S1x1x1024, .f32⟩
  | 111 => ⟨S32x256x1024, .f32⟩
  | 112 => ⟨S32x256x1024, .f32⟩
  | 113 => ⟨S32x256x1024, .f32⟩
  | 114 => ⟨S8192x1024, .f32⟩
  | 115 => ⟨S1x8x6144, .f32⟩
  | 116 => ⟨S8x6144, .f32⟩
  | 117 => ⟨S8x1x6144, .f32⟩
  | 118 => ⟨S8x1x1024, .f32⟩
  | 119 => ⟨S8x1x1024, .f32⟩
  | 120 => ⟨S8x1x1024, .f32⟩
  | 121 => ⟨S8x1x1024, .f32⟩
  | 122 => ⟨S8x1x1024, .f32⟩
  | 123 => ⟨S8x1x1024, .f32⟩
  | 124 => ⟨S8x1024x1024, .f32⟩
  | 125 => ⟨S8x1024x1024, .f32⟩
  | 126 => ⟨S8x1024x1024, .f32⟩
  | 127 => ⟨S8x1024x1024, .f32⟩
  | _ => ⟨S32x256x1024, .f32⟩

abbrev hbmTy0_1 (i : Nat) : BufTy := match i % 128 with
  | 0 => ⟨S1x1024, .f32⟩
  | 1 => ⟨S1024, .f32⟩
  | 2 => ⟨S8x1024x1024, .f32⟩
  | 3 => ⟨S_, .f32⟩
  | 4 => ⟨S8x1024, .f32⟩
  | 5 => ⟨S8x1024x1, .f32⟩
  | 6 => ⟨S_, .f32⟩
  | 7 => ⟨S8x1024x1, .f32⟩
  | 8 => ⟨S8x1024x1, .f32⟩
  | 9 => ⟨S_, .f32⟩
  | 10 => ⟨S8x1024x1, .f32⟩
  | 11 => ⟨S8x1024x1, .f32⟩
  | 12 => ⟨S8x1024x1, .f32⟩
  | 13 => ⟨S8x1024x1024, .f32⟩
  | 14 => ⟨S8x1024x1024, .f32⟩
  | 15 => ⟨S1x1x1024, .f32⟩
  | 16 => ⟨S8x1024x1024, .f32⟩
  | 17 => ⟨S8x1024x1024, .f32⟩
  | 18 => ⟨S_, .f32⟩
  | 19 => ⟨S8x1x1024, .f32⟩
  | 20 => ⟨S8x1x1024, .f32⟩
  | 21 => ⟨S8x1024x1024, .f32⟩
  | 22 => ⟨S8x1024x1024, .f32⟩
  | 23 => ⟨S8x1024x1024, .f32⟩
  | 24 => ⟨S8x1024x1024, .f32⟩
  | 25 => ⟨S8x1024x5632, .f32⟩
  | 26 => ⟨S1x1x5632, .f32⟩
  | 27 => ⟨S8x1024x5632, .f32⟩
  | 28 => ⟨S8x1024x5632, .f32⟩
  | 29 => ⟨S_, .i32⟩
  | 30 => ⟨S_, .f32⟩
  | 31 => ⟨S8x1026x5632, .f32⟩
  | 32 => ⟨S8x1024x5632, .f32⟩
  | 33 => ⟨S1x5632, .f32⟩
  | 34 => ⟨S5632, .f32⟩
  | 35 => ⟨S1x1x5632, .f32⟩
  | 36 => ⟨S8x1024x5632, .f32⟩
  | 37 => ⟨S8x1024x5632, .f32⟩
  | 38 => ⟨S_, .f32⟩
  | 39 => ⟨S8x1024x5632, .f32⟩
  | 40 => ⟨S8x1024x5632, .f32⟩
  | 41 => ⟨S8x1024x5632, .f32⟩
  | 42 => ⟨S1x5632, .f32⟩
  | 43 => ⟨S5632, .f32⟩
  | 44 => ⟨S1x1x5632, .f32⟩
  | 45 => ⟨S8x1024x5632, .f32⟩
  | 46 => ⟨S8x1024x5632, .f32⟩
  | 47 => ⟨S8x1024x5632, .f32⟩
  | 48 => ⟨S8x1024x5632, .f32⟩
  | 49 => ⟨S1x5632, .f32⟩
  | 50 => ⟨S5632, .f32⟩
  | 51 => ⟨S1x1x5632, .f32⟩
  | 52 => ⟨S8x1024x5632, .f32⟩
  | 53 => ⟨S8x1024x5632, .f32⟩
  | 54 => ⟨S8x1024x5632, .f32⟩
  | 55 => ⟨S1x1x5632, .f32⟩
  | 56 => ⟨S8x1024x5632, .f32⟩
  | 57 => ⟨S8x1024x5632, .f32⟩
  | 58 => ⟨S8x1024x2816, .f32⟩
  | 59 => ⟨S8x1024x2816, .f32⟩
  | 60 => ⟨S8x1024x2816, .f32⟩
  | 61 => ⟨S8x1024x2816, .f32⟩
  | 62 => ⟨S_, .f32⟩
  | 63 => ⟨S8x1024x2816, .f32⟩
  | 64 => ⟨S8x1024x2816, .f32⟩
  | 65 => ⟨S_, .f32⟩
  | 66 => ⟨S8x1024x2816, .f32⟩
  | 67 => ⟨S8x1024x2816, .f32⟩
  | 68 => ⟨S8x1024x2816, .f32⟩
  | 69 => ⟨S8x1024x2816, .f32⟩
  | 70 => ⟨S8x1024x1024, .f32⟩
  | 71 => ⟨S8x1024x1024, .f32⟩
  | 72 => ⟨S8x1024x1024, .f32⟩
  | 73 => ⟨S8x1024x1024, .f32⟩
  | 74 => ⟨S8192x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_3 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_4 : Ref sig .tc := ⟨.hbm, 131, rfl⟩
abbrev main_v103 : Ref sig .tc := ⟨.hbm, 132, rfl⟩
abbrev main_v104 : Ref sig .tc := ⟨.hbm, 133, rfl⟩
abbrev main_cst_5 : Ref sig .tc := ⟨.hbm, 134, rfl⟩
abbrev main_v105 : Ref sig .tc := ⟨.hbm, 135, rfl⟩
abbrev main_v106 : Ref sig .tc := ⟨.hbm, 136, rfl⟩
abbrev main_cst_6 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_7 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_c_8 : Ref sig .tc := ⟨.hbm, 157, rfl⟩
abbrev main_call2_v0 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_9 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_call3_v0 : Ref sig .tc := ⟨.hbm, 188, rfl⟩
abbrev main_call3_v1 : Ref sig .tc := ⟨.hbm, 189, rfl⟩
abbrev main_call3_cst : Ref sig .tc := ⟨.hbm, 190, rfl⟩
abbrev main_call3_v2 : Ref sig .tc := ⟨.hbm, 191, rfl⟩
abbrev main_call3_v3 : Ref sig .tc := ⟨.hbm, 192, rfl⟩
abbrev main_call3_cst_0 : Ref sig .tc := ⟨.hbm, 193, rfl⟩
abbrev main_call3_v4 : Ref sig .tc := ⟨.hbm, 194, rfl⟩
abbrev main_call3_v5 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩

abbrev nD : Nat := 1
abbrev τ : Topo := Topo.v7x

variable {F : FTy → Type} [FloatOps F]
-- ==== Kernel4.lean ====
abbrev S32x256x1024 : Shape := ⟨3, ![32, 256, 1024]⟩
abbrev S8x1024x1024 : Shape := ⟨3, ![8, 1024, 1024]⟩
abbrev S1024x1024 : Shape := ⟨2, ![1024, 1024]⟩
abbrev S4x6144 : Shape := ⟨2, ![4, 6144]⟩
abbrev S4x8x6144 : Shape := ⟨3, ![4, 8, 6144]⟩
abbrev S4x1024 : Shape := ⟨2, ![4, 1024]⟩
abbrev S4x1024x5632 : Shape := ⟨3, ![4, 1024, 5632]⟩
abbrev S4x5632 : Shape := ⟨2, ![4, 5632]⟩
abbrev S4x3x5632 : Shape := ⟨3, ![4, 3, 5632]⟩
abbrev S4x2816x1024 : Shape := ⟨3, ![4, 2816, 1024]⟩
abbrev S8192x1024 : Shape := ⟨2, ![8192, 1024]⟩
abbrev S4x1x6144 : Shape := ⟨3, ![4, 1, 6144]⟩
abbrev S_ : Shape := ⟨0, ![]⟩
abbrev S4x7x6144 : Shape := ⟨3, ![4, 7, 6144]⟩
abbrev S4x16x6144 : Shape := ⟨3, ![4, 16, 6144]⟩
abbrev S1x1024 : Shape := ⟨2, ![1, 1024]⟩
abbrev S1024 : Shape := ⟨1, ![1024]⟩
abbrev S4x1x5632 : Shape := ⟨3, ![4, 1, 5632]⟩
abbrev S4x16x1x6144 : Shape := ⟨4, ![4, 16, 1, 6144]⟩
abbrev S16384x1024 : Shape := ⟨2, ![16384, 1024]⟩
abbrev S1x1x1x6144 : Shape := ⟨4, ![1, 1, 1, 6144]⟩
abbrev S1x1024x256 : Shape := ⟨3, ![1, 1024, 256]⟩
abbrev S1x1x256 : Shape := ⟨3, ![1, 1, 256]⟩
abbrev S1x3x256 : Shape := ⟨3, ![1, 3, 256]⟩
abbrev S1x256x1024 : Shape := ⟨3, ![1, 256, 1024]⟩
abbrev S1096x256 : Shape := ⟨2, ![1096, 256]⟩
abbrev S1024x256 : Shape := ⟨2, ![1024, 256]⟩
abbrev S256x1024 : Shape := ⟨2, ![256, 1024]⟩
abbrev S1x6144 : Shape := ⟨2, ![1, 6144]⟩
abbrev S1024x1 : Shape := ⟨2, ![1024, 1]⟩
abbrev S256x256 : Shape := ⟨2, ![256, 256]⟩
abbrev S1x256 : Shape := ⟨2, ![1, 256]⟩
abbrev S3x256 : Shape := ⟨2, ![3, 256]⟩
abbrev S1x1x1x1024 : Shape := ⟨4, ![1, 1, 1, 1024]⟩

abbrev nBuf : Space → Nat
  | .hbm => 31
  | .vmem => 39
  | .smem => 0
  | _ => 0

abbrev bufTy : (tb : Table) → Fin (tcTables nBuf tb) → BufTy
  | .hbm, ⟨0, _⟩ => ⟨S32x256x1024, .f32⟩
  | .hbm, ⟨1, _⟩ => ⟨S8x1024x1024, .f32⟩
  | .hbm, ⟨2, _⟩ => ⟨S32x256x1024, .f32⟩
  | .hbm, ⟨3, _⟩ => ⟨S8x1024x1024, .f32⟩
  | .hbm, ⟨4, _⟩ => ⟨S1024x1024, .f32⟩
  | .hbm, ⟨5, _⟩ => ⟨S4x6144, .f32⟩
  | .hbm, ⟨6, _⟩ => ⟨S4x8x6144, .f32⟩
  | .hbm, ⟨7, _⟩ => ⟨S4x1024, .f32⟩
  | .hbm, ⟨8, _⟩ => ⟨S4x1024x5632, .f32⟩
  | .hbm, ⟨9, _⟩ => ⟨S4x5632, .f32⟩
  | .hbm, ⟨10, _⟩ => ⟨S4x3x5632, .f32⟩
  | .hbm, ⟨11, _⟩ => ⟨S4x5632, .f32⟩
  | .hbm, ⟨12, _⟩ => ⟨S4x2816x1024, .f32⟩
  | .hbm, ⟨13, _⟩ => ⟨S8192x1024, .f32⟩
  | .hbm, ⟨14, _⟩ => ⟨S8192x1024, .f32⟩
  | .hbm, ⟨15, _⟩ => ⟨S4x1x6144, .f32⟩
  | .hbm, ⟨16, _⟩ => ⟨S_, .f32⟩
  | .hbm, ⟨17, _⟩ => ⟨S4x7x6144, .f32⟩
  | .hbm, ⟨18, _⟩ => ⟨S4x16x6144, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x1024, .bf16⟩
  | .hbm, ⟨23, _⟩ => ⟨S1x1024, .f32⟩
  | .hbm, ⟨24, _⟩ => ⟨S1024, .f32⟩
  | .hbm, ⟨25, _⟩ => ⟨S4x1x5632, .f32⟩
  | .hbm, ⟨26, _⟩ => ⟨S4x1x5632, .f32⟩
  | .hbm, ⟨27, _⟩ => ⟨S1024x1024, .bf16⟩
  | .hbm, ⟨28, _⟩ => ⟨S4x16x1x6144, .f32⟩
  | .hbm, ⟨29, _⟩ => ⟨S1x1024, .f32⟩
  | .hbm, ⟨30, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1x1x6144, .f32⟩
  | .local _ .vmem, ⟨10, _⟩ => ⟨S1x1x1x6144, .f32⟩
  | .local _ .vmem, ⟨11, _⟩ => ⟨S1x1024, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x3x256, .f32⟩
  | .local _ .vmem, ⟨21, _⟩ => ⟨S1x3x256, .f32⟩
  | .local _ .vmem, ⟨22, _⟩ => ⟨S1x3x256, .f32⟩
  | .local _ .vmem, ⟨23, _⟩ => ⟨S1x3x256, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x256x1024, .f32⟩
  | .local _ .vmem, ⟨29, _⟩ => ⟨S1x256x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .bf16⟩
  | .local _ .vmem, ⟨33, _⟩ => ⟨S1024x1024, .f32⟩
  | .local _ .vmem, ⟨34, _⟩ => ⟨S1096x256, .f32⟩
  | .local _ .vmem, ⟨35, _⟩ => ⟨S1096x256, .f32⟩
  | .local _ .vmem, ⟨36, _⟩ => ⟨S1024x256, .bf16⟩
  | .local _ .vmem, ⟨37, _⟩ => ⟨S1024x256, .bf16⟩
  | .local _ .vmem, ⟨38, _⟩ => ⟨S256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c10_i32 : BitVec 32 := 10#32
  let v422 : BitVec 1 := Scalar.cmpi .eq arg1 c10_i32
  let v423 : BitVec 32 := Scalar.extui v422
  let c0_i32_252 : BitVec 32 := 0#32
  let v424 : BitVec 1 := Scalar.cmpi .ne v423 c0_i32_252
  v424

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 32 := Scalar.addi c8_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  let c0_i32_11 : BitVec 32 := 0#32
  ![c0_i32_8.toNat, v20.toNat, c0_i32_9.toNat, c0_i32_10.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_10 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_12 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_14 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x3x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference4Ideal.lean ====
abbrev S32x256x1024 : Shape := ⟨3, ![32, 256, 1024]⟩
abbrev S8x1024x1024 : Shape := ⟨3, ![8, 1024, 1024]⟩
abbrev S1024x1024 : Shape := ⟨2, ![1024, 1024]⟩
abbrev S4x6144 : Shape := ⟨2, ![4, 6144]⟩
abbrev S4x8x6144 : Shape := ⟨3, ![4, 8, 6144]⟩
abbrev S4x1024 : Shape := ⟨2, ![4, 1024]⟩
abbrev S4x1024x5632 : Shape := ⟨3, ![4, 1024, 5632]⟩
abbrev S4x5632 : Shape := ⟨2, ![4, 5632]⟩
abbrev S4x3x5632 : Shape := ⟨3, ![4, 3, 5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S1x5632 : Shape := ⟨2, ![1, 5632]⟩
abbrev S5632 : Shape := ⟨1, ![5632]⟩
abbrev S1x3x5632 : Shape := ⟨3, ![1, 3, 5632]⟩
abbrev S3x5632 : Shape := ⟨2, ![3, 5632]⟩
abbrev S1x2816x1024 : Shape := ⟨3, ![1, 2816, 1024]⟩
abbrev S2816x1024 : Shape := ⟨2, ![2816, 1024]⟩
abbrev S1x6144 : Shape := ⟨2, ![1, 6144]⟩
abbrev S6144 : Shape := ⟨1, ![6144]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S1x1x5632 : Shape := ⟨3, ![1, 1, 5632]⟩
abbrev S32x258x5632 : Shape := ⟨3, ![32, 258, 5632]⟩
abbrev S32x256x2816 : Shape := ⟨3, ![32, 256, 2816]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1026x5632 : Shape := ⟨3, ![8, 1026, 5632]⟩
abbrev S8x1024x2816 : Shape := ⟨3, ![8, 1024, 2816]⟩
abbrev S8192x1024 : Shape := ⟨2, ![8192, 1024]⟩
abbrev S16384x1024 : Shape := ⟨2, ![16384, 1024]⟩

abbrev nBuf : Space → Nat
  | .hbm => 204
  | .vmem => 0
  | .smem => 0
  | _ => 0

abbrev hbmTy0_0 (i : Nat) : BufTy := match i % 128 with
  | 0 => ⟨S32x256x1024, .f32⟩
  | 1 => ⟨S8x1024x1024, .f32⟩
  | 2 => ⟨S32x256x1024, .f32⟩
  | 3 => ⟨S8x1024x1024, .f32⟩
  | 4 => ⟨S1024x1024, .f32⟩
  | 5 => ⟨S4x6144, .f32⟩
  | 6 => ⟨S4x8x6144, .f32⟩
  | 7 => ⟨S4x1024, .f32⟩
  | 8 => ⟨S4x1024x5632, .f32⟩
  | 9 => ⟨S4x5632, .f32⟩
  | 10 => ⟨S4x3x5632, .f32⟩
  | 11 => ⟨S4x5632, .f32⟩
  | 12 => ⟨S4x2816x1024, .f32⟩
  | 13 => ⟨S1x1024x5632, .f32⟩
  | 14 => ⟨S1024x5632, .f32⟩
  | 15 => ⟨S1x5632, .f32⟩
  | 16 => ⟨S5632, .f32⟩
  | 17 => ⟨S1x3x5632, .f32⟩
  | 18 => ⟨S3x5632, .f32⟩
  | 19 => ⟨S1x5632, .f32⟩
  | 20 => ⟨S5632, .f32⟩
  | 21 => ⟨S1x2816x1024, .f32⟩
  | 22 => ⟨S2816x1024, .f32⟩
  | 23 => ⟨S1x6144, .f32⟩
  | 24 => ⟨S6144, .f32⟩
  | 25 => ⟨S1x6144, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S32x256x1024, .f32⟩
  | 33 => ⟨S1x1x1024, .f32⟩
  | 34 => ⟨S32x256x1024, .f32⟩
  | 35 => ⟨S32x256x1024, .f32⟩
  | 36 => ⟨S32x256x1024, .f32⟩
  | 37 => ⟨S1x1024, .f32⟩
  | 38 => ⟨S1024, .f32⟩
  | 39 => ⟨S32x256x1024, .f32⟩
  | 40 => ⟨S_, .f32⟩
  | 41 => ⟨S32x256, .f32⟩
  | 42 => ⟨S32x256x1, .f32⟩
  | 43 => ⟨S_, .f32⟩
  | 44 => ⟨S32x256x1, .f32⟩
  | 45 => ⟨S32x256x1, .f32⟩
  | 46 => ⟨S_, .f32⟩
  | 47 => ⟨S32x256x1, .f32⟩
  | 48 => ⟨S32x256x1, .f32⟩
  | 49 => ⟨S32x256x1, .f32⟩
  | 50 => ⟨S32x256x1024, .f32⟩
  | 51 => ⟨S32x256x1024, .f32⟩
  | 52 => ⟨S1x1x1024, .f32⟩
  | 53 => ⟨S32x256x1024, .f32⟩
  | 54 => ⟨S32x256x1024, .f32⟩
  | 55 => ⟨S_, .f32⟩
  | 56 => ⟨S1x1024, .f32⟩
  | 57 => ⟨S1x1024, .f32⟩
  | 58 => ⟨S1x1x1024, .f32⟩
  | 59 => ⟨S32x256x1024, .f32⟩
  | 60 => ⟨S32x256x1024, .f32⟩
  | 61 => ⟨S1x1x1024, .f32⟩
  | 62 => ⟨S32x256x1024, .f32⟩
  | 63 => ⟨S32x256x1024, .f32⟩
  | 64 => ⟨S32x256x5632, .f32⟩
  | 65 => ⟨S1x1x5632, .f32⟩
  | 66 => ⟨S32x256x5632, .f32⟩
  | 67 => ⟨S32x256x5632, .f32⟩
  | 68 => ⟨S_, .i32⟩
  | 69 => ⟨S_, .f32⟩
  | 70 => ⟨S32x258x5632, .f32⟩
  | 71 => ⟨S32x256x5632, .f32⟩
  | 72 => ⟨S1x5632, .f32⟩
  | 73 => ⟨S5632, .f32⟩
  | 74 => ⟨S1x1x5632, .f32⟩
  | 75 => ⟨S32x256x5632, .f32⟩
  | 76 => ⟨S32x256x5632, .f32⟩
  | 77 => ⟨S_, .f32⟩
  | 78 => ⟨S32x256x5632, .f32⟩
  | 79 => ⟨S32x256x5632, .f32⟩
  | 80 => ⟨S32x256x5632, .f32⟩
  | 81 => ⟨S1x5632, .f32⟩
  | 82 => ⟨S5632, .f32⟩
  | 83 => ⟨S1x1x5632, .f32⟩
  | 84 => ⟨S32x256x5632, .f32⟩
  | 85 => ⟨S32x256x5632, .f32⟩
  | 86 => ⟨S32x256x5632, .f32⟩
  | 87 => ⟨S32x256x5632, .f32⟩
  | 88 => ⟨S1x5632, .f32⟩
  | 89 => ⟨S5632, .f32⟩
  | 90 => ⟨S1x1x5632, .f32⟩
  | 91 => ⟨S32x256x5632, .f32⟩
  | 92 => ⟨S32x256x5632, .f32⟩
  | 93 => ⟨S32x256x5632, .f32⟩
  | 94 => ⟨S1x1x5632, .f32⟩
  | 95 => ⟨S32x256x5632, .f32⟩
  | 96 => ⟨S32x256x5632, .f32⟩
  | 97 => ⟨S32x256x2816, .f32⟩
  | 98 => ⟨S32x256x2816, .f32⟩
  | 99 => ⟨S32x256x2816, .f32⟩
  | 100 => ⟨S32x256x2816, .f32⟩
  | 101 => ⟨S_, .f32⟩
  | 102 => ⟨S32x256x2816, .f32⟩
  | 103 => ⟨S32x256x2816, .f32⟩
  | 104 => ⟨S_, .f32⟩
  | 105 => ⟨S32x256x2816, .f32⟩
  | 106 => ⟨S32x256x2816, .f32⟩
  | 107 => ⟨S32x256x2816, .f32⟩
  | 108 => ⟨S32x256x2816, .f32⟩
  | 109 => ⟨S32x256x1024, .f32⟩
  | 110 => ⟨S1x1x1024, .f32⟩
  | 111 => ⟨S32x256x1024, .f32⟩
  | 112 => ⟨S32x256x1024, .f32⟩
  | 113 => ⟨S32x256x1024, .f32⟩
  | 114 => ⟨S1x8x6144, .f32⟩
  | 115 => ⟨S8x6144, .f32⟩
  | 116 => ⟨S8x1x6144, .f32⟩
  | 117 => ⟨S8x1x1024, .f32⟩
  | 118 => ⟨S8x1x1024, .f32⟩
  | 119 => ⟨S8x1x1024, .f32⟩
  | 120 => ⟨S8x1x1024, .f32⟩
  | 121 => ⟨S8x1x1024, .f32⟩
  | 122 => ⟨S8x1x1024, .f32⟩
  | 123 => ⟨S8x1024x1024, .f32⟩
  | 124 => ⟨S8x1024x1024, .f32⟩
  | 125 => ⟨S8x1024x1024, .f32⟩
  | 126 => ⟨S8x1024x1024, .f32⟩
  | 127 => ⟨S1x1024, .f32⟩
  | _ => ⟨S32x256x1024, .f32⟩

abbrev hbmTy0_1 (i : Nat) : BufTy := match i % 128 with
  | 0 => ⟨S1024, .f32⟩
  | 1 => ⟨S8x1024x1024, .f32⟩
  | 2 => ⟨S_, .f32⟩
  | 3 => ⟨S8x1024, .f32⟩
  | 4 => ⟨S8x1024x1, .f32⟩
  | 5 => ⟨S_, .f32⟩
  | 6 => ⟨S8x1024x1, .f32⟩
  | 7 => ⟨S8x1024x1, .f32⟩
  | 8 => ⟨S_, .f32⟩
  | 9 => ⟨S8x1024x1, .f32⟩
  | 10 => ⟨S8x1024x1, .f32⟩
  | 11 => ⟨S8x1024x1, .f32⟩
  | 12 => ⟨S8x1024x1024, .f32⟩
  | 13 => ⟨S8x1024x1024, .f32⟩
  | 14 => ⟨S1x1x1024, .f32⟩
  | 15 => ⟨S8x1024x1024, .f32⟩
  | 16 => ⟨S8x1024x1024, .f32⟩
  | 17 => ⟨S_, .f32⟩
  | 18 => ⟨S8x1x1024, .f32⟩
  | 19 => ⟨S8x1x1024, .f32⟩
  | 20 => ⟨S8x1024x1024, .f32⟩
  | 21 => ⟨S8x1024x1024, .f32⟩
  | 22 => ⟨S8x1024x1024, .f32⟩
  | 23 => ⟨S8x1024x1024, .f32⟩
  | 24 => ⟨S8x1024x5632, .f32⟩
  | 25 => ⟨S1x1x5632, .f32⟩
  | 26 => ⟨S8x1024x5632, .f32⟩
  | 27 => ⟨S8x1024x5632, .f32⟩
  | 28 => ⟨S_, .i32⟩
  | 29 => ⟨S_, .f32⟩
  | 30 => ⟨S8x1026x5632, .f32⟩
  | 31 => ⟨S8x1024x5632, .f32⟩
  | 32 => ⟨S1x5632, .f32⟩
  | 33 => ⟨S5632, .f32⟩
  | 34 => ⟨S1x1x5632, .f32⟩
  | 35 => ⟨S8x1024x5632, .f32⟩
  | 36 => ⟨S8x1024x5632, .f32⟩
  | 37 => ⟨S_, .f32⟩
  | 38 => ⟨S8x1024x5632, .f32⟩
  | 39 => ⟨S8x1024x5632, .f32⟩
  | 40 => ⟨S8x1024x5632, .f32⟩
  | 41 => ⟨S1x5632, .f32⟩
  | 42 => ⟨S5632, .f32⟩
  | 43 => ⟨S1x1x5632, .f32⟩
  | 44 => ⟨S8x1024x5632, .f32⟩
  | 45 => ⟨S8x1024x5632, .f32⟩
  | 46 => ⟨S8x1024x5632, .f32⟩
  | 47 => ⟨S8x1024x5632, .f32⟩
  | 48 => ⟨S1x5632, .f32⟩
  | 49 => ⟨S5632, .f32⟩
  | 50 => ⟨S1x1x5632, .f32⟩
  | 51 => ⟨S8x1024x5632, .f32⟩
  | 52 => ⟨S8x1024x5632, .f32⟩
  | 53 => ⟨S8x1024x5632, .f32⟩
  | 54 => ⟨S1x1x5632, .f32⟩
  | 55 => ⟨S8x1024x5632, .f32⟩
  | 56 => ⟨S8x1024x5632, .f32⟩
  | 57 => ⟨S8x1024x2816, .f32⟩
  | 58 => ⟨S8x1024x2816, .f32⟩
  | 59 => ⟨S8x1024x2816, .f32⟩
  | 60 => ⟨S8x1024x2816, .f32⟩
  | 61 => ⟨S_, .f32⟩
  | 62 => ⟨S8x1024x2816, .f32⟩
  | 63 => ⟨S8x1024x2816, .f32⟩
  | 64 => ⟨S_, .f32⟩
  | 65 => ⟨S8x1024x2816, .f32⟩
  | 66 => ⟨S8x1024x2816, .f32⟩
  | 67 => ⟨S8x1024x2816, .f32⟩
  | 68 => ⟨S8x1024x2816, .f32⟩
  | 69 => ⟨S8x1024x1024, .f32⟩
  | 70 => ⟨S8x1024x1024, .f32⟩
  | 71 => ⟨S8x1024x1024, .f32⟩
  | 72 => ⟨S8x1024x1024, .f32⟩
  | 73 => ⟨S8192x1024, .f32⟩
  | 74 => ⟨S8192x1024, .f32⟩
  | 75 => ⟨S16384x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_3 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_4 : Ref sig .tc := ⟨.hbm, 130, rfl⟩
abbrev main_v102 : Ref sig .tc := ⟨.hbm, 131, rfl⟩
abbrev main_v103 : Ref sig .tc := ⟨.hbm, 132, rfl⟩
abbrev main_cst_5 : Ref sig .tc := ⟨.hbm, 133, rfl⟩
abbrev main_v104 : Ref sig .tc := ⟨.hbm, 134, rfl⟩
abbrev main_v105 : Ref sig .tc := ⟨.hbm, 135, rfl⟩
abbrev main_cst_6 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_7 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_c_8 : Ref sig .tc := ⟨.hbm, 156, rfl⟩
abbrev main_call2_v0 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_9 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_call3_v0 : Ref sig .tc := ⟨.hbm, 187, rfl⟩
abbrev main_call3_v1 : Ref sig .tc := ⟨.hbm, 188, rfl⟩
abbrev main_call3_cst : Ref sig .tc := ⟨.hbm, 189, rfl⟩
abbrev main_call3_v2 : Ref sig .tc := ⟨.hbm, 190, rfl⟩
abbrev main_call3_v3 : Ref sig .tc := ⟨.hbm, 191, rfl⟩
abbrev main_call3_cst_0 : Ref sig .tc := ⟨.hbm, 192, rfl⟩
abbrev main_call3_v4 : Ref sig .tc := ⟨.hbm, 193, rfl⟩
abbrev main_call3_v5 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩

abbrev nD : Nat := 1
abbrev τ : Topo := Topo.v7x

variable {F : FTy → Type} [FloatOps F]
-- ==== Proof.CtxPieces.lean ====
/- The context attention's block as the kernel leaves it: the eight column pieces one grid point stores, each written over
   one small vocabulary (a duplicated half, the stacked query rows, the scores, the sink column, the attention rows), the
   same for each of the four key/value heads. -/
module

public import proofs.«01_k».proof.Proof.Gen.KernelIdeal.Value
public import Idealize.ShloMosaic.Lib.Pointwise

@[expose] public section

noncomputable section

namespace Cert.KernelIdeal.Ctx

open Cert.KernelIdeal Cert.KernelIdeal.Gen Idealize.ShloMosaic Idealize.ShloMosaic.TcCoe Idealize.SL.Sem

variable {F : FTy → Type} [FloatOps F] [Named F]

/-- A head stored in lanes 0–63, copied into both halves of the 128 lanes. -/
def dupLo (x : FVec F S256x128 .f32) : FVec F S256x128 .bf16 :=
  truncf .bf16 (select k0_pay4 x (dynamicRotate 1 64#32 none x rotates_S256x128_d1)) bitsLt_bf16_f32

/-- A head stored in lanes 64–127, copied into both halves. -/
def dupHi (x : FVec F S256x128 .f32) : FVec F S256x128 .bf16 :=
  truncf .bf16 (select k0_pay4 (dynamicRotate 1 64#32 none x rotates_S256x128_d1) x) bitsLt_bf16_f32

/-- Lanes 0–127 of a key or value block: heads 0 and 1. -/
def kvL (x : FVec F S256x256 .f32) : FVec F S256x128 .f32 :=
  extractStridedSlice S256x128 ![0, 0] (shapeCast S256x256 x shapeCasts_S256x256_S256x256) slices_S256x256_o0_0_S256x128

/-- Lanes 128–255: heads 2 and 3. -/
def kvR (x : FVec F S256x256 .f32) : FVec F S256x128 .f32 :=
  extractStridedSlice S256x128 ![0, 128] (shapeCast S256x256 x shapeCasts_S256x256_S256x256) slices_S256x256_o0_128_S256x128

/-- Two column blocks of queries (four heads) as 1024 rows: each head's half of the lanes, the other half zero. -/
def stack (q0 q1 : FVec F S256x128 .bf16) : FVec F S1024x128 .bf16 :=
  have z : FVec F S256x128 .bf16 := broadcast S256x128 (Scalar.ofBits .bf16 0x0000#16)
  have a : FVec F S256x128 .bf16 := shapeCast S256x128 q0 shapeCasts_S256x128_S256x128
  have b : FVec F S256x128 .bf16 := shapeCast S256x128 q1 shapeCasts_S256x128_S256x128
  concatenate S1024x128 0 [⟨S256x128, select k0_pay4 a z⟩, ⟨S256x128, select k0_pay4 z a⟩, ⟨S256x128, select k0_pay4 b z⟩,
    ⟨S256x128, select k0_pay4 z b⟩] concatenates_S256x128_S256x128_S256x128_S256x128_S1024x128_d0

/-- The scores of the 1024 stacked query rows against the 256 keys. -/
def scores (K : FVec F S256x128 .bf16) (q0 q1 : FVec F S256x128 .bf16) : FVec F S1024x256 .f32 :=
  matmul dot_S1024x128_S256x128_S1024x256_1_1_0_0_n_n none (stack q0 q1) K (constant S1024x256 .f32 0x00000000#32)

/-- A sink's logit in units of log 2. -/
def sinkLog (s : F .f32) : F .f32 := Scalar.mulf s (Named.named κ "log2e" 0x3FB8AA3B#32)

/-- The four heads' sinks, each down its 256 rows. -/
def sinks (s0 s1 s2 s3 : F .f32) : FVec F S1024x1 .f32 :=
  select (cmpi .sge k0_pay69 (broadcast S1024x1 3#32)) (broadcast S1024x1 (sinkLog s3))
    (select (cmpi .sge k0_pay69 (broadcast S1024x1 2#32)) (broadcast S1024x1 (sinkLog s2))
      (select (cmpi .sge k0_pay69 (broadcast S1024x1 1#32)) (broadcast S1024x1 (sinkLog s1)) (broadcast S1024x1 (sinkLog s0))))

/-- Each row's greatest score, the sink among them. -/
def rowMax (s : FVec F S1024x256 .f32) (sk : FVec F S1024x1 .f32) : FVec F S1024x1 .f32 :=
  maximumf (shapeCast S1024x1 (multiReduction .maximumf [1] S1024 s 0xFF800000#32 reduces_S1024x256_S1024 (.inl rfl) rfl) shapeCasts_S1024_S1024x1) sk

/-- The rows of attention: weights `2 ^ (score − maximum)` over the values, divided by the weights' sum. -/
def att (V : FVec F S256x128 .bf16) (s : FVec F S1024x256 .f32) (sk : FVec F S1024x1 .f32) : FVec F S1024x128 .f32 :=
  have p : FVec F S1024x256 .f32 := exp2 (subf s (broadcastTo S1024x256 (rowMax s sk) broadcasts_S1024x1_S1024x256))
  divf (matmul dot_S1024x256_S256x128_S1024x128_1_0_0_1_n_n none (truncf .bf16 p bitsLt_bf16_f32) V (constant S1024x128 .f32 0x00000000#32))
    (broadcastTo S1024x128 (addf (exp2 (subf sk (rowMax s sk)))
      (shapeCast S1024x1 (multiReduction .add [1] S1024 p 0x00000000#32 reduces_S1024x256_S1024 (.inl rfl) rfl) shapeCasts_S1024_S1024x1))
      broadcasts_S1024x1_S1024x128)

/-- Heads 0 and 1 of the four, side by side in 128 lanes. -/
def pairA (a : FVec F S1024x128 .f32) : FVec F S256x128 .bf16 :=
  truncf .bf16 (select k0_pay4 (extractStridedSlice S256x128 ![0, 0] a slices_S1024x128_o0_0_S256x128)
    (extractStridedSlice S256x128 ![256, 0] a slices_S1024x128_o256_0_S256x128)) bitsLt_bf16_f32

/-- Heads 2 and 3. -/
def pairB (a : FVec F S1024x128 .f32) : FVec F S256x128 .bf16 :=
  truncf .bf16 (select k0_pay4 (extractStridedSlice S256x128 ![512, 0] a slices_S1024x128_o512_0_S256x128)
    (extractStridedSlice S256x128 ![768, 0] a slices_S1024x128_o768_0_S256x128)) bitsLt_bf16_f32

abbrev ldKV (x : Vec F S256x256 .f32) : FVec F S256x256 .f32 := View.ld x (Rect.unit ![0, 0] ![256, 256] inb_S256x256_S256x256_0_0)

/-- The rows of attention of key/value head 0, 1, 2, 3. -/
def att0 (x0 : Vec F S16 .f32) (x1 : Vec F S256x1024 .bf16) (x2 x3 : Vec F S256x256 .f32) : FVec F S1024x128 .f32 :=
  att (dupLo (kvL (ldKV x3)))
    (scores (dupLo (kvL (ldKV x2))) (View.ld x1 (Rect.unit ![0, 0] ![256, 128] inb_S256x1024_S256x128_0_0))
      (View.ld x1 (Rect.unit ![0, 128] ![256, 128] inb_S256x1024_S256x128_0_128)))
    (sinks (View.ld x0 (Rect.unit ![0] ![1] inb_S16_S1_0) (Shape.Idx.first (by decide)))
      (View.ld x0 (Rect.unit ![1] ![1] inb_S16_S1_1) (Shape.Idx.first (by decide)))
      (View.ld x0 (Rect.unit ![2] ![1] inb_S16_S1_2) (Shape.Idx.first (by decide)))
      (View.ld x0 (Rect.unit ![3] ![1] inb_S16_S1_3) (Shape.Idx.first (by decide))))
def att1 (x0 : Vec F S16 .f32) (x1 : Vec F S256x1024 .bf16) (x2 x3 : Vec F S256x256 .f32) : FVec F S1024x128 .f32 :=
  att (dupHi (kvL (ldKV x3)))
    (scores (dupHi (kvL (ldKV x2))) (View.ld x1 (Rect.unit ![0, 256] ![256, 128] inb_S256x1024_S256x128_0_256))
      (View.ld x1 (Rect.unit ![0, 384] ![256, 128] inb_S256x1024_S256x128_0_384)))
    (sinks (View.ld x0 (Rect.unit ![4] ![1] inb_S16_S1_4) (Shape.Idx.first (by decide)))
      (View.ld x0 (Rect.unit ![5] ![1] inb_S16_S1_5) (Shape.Idx.first (by decide)))
      (View.ld x0 (Rect.unit ![6] ![1] inb_S16_S1_6) (Shape.Idx.first (by decide)))
      (View.ld x0 (Rect.unit ![7] ![1] inb_S16_S1_7) (Shape.Idx.first (by decide))))
def att2 (x0 : Vec F S16 .f32) (x1 : Vec F S256x1024 .bf16) (x2 x3 : Vec F S256x256 .f32) : FVec F S1024x128 .f32 :=
  att (dupLo (kvR (ldKV x3)))
    (scores (dupLo (kvR (ldKV x2))) (View.ld x1 (Rect.unit ![0, 512] ![256, 128] inb_S256x1024_S256x128_0_512))
      (View.ld x1 (Rect.unit ![0, 640] ![256, 128] inb_S256x1024_S256x128_0_640)))
    (sinks (View.ld x0 (Rect.unit ![8] ![1] inb_S16_S1_8) (Shape.Idx.first (by decide)))
      (View.ld x0 (Rect.unit ![9] ![1] inb_S16_S1_9) (Shape.Idx.first (by decide)))
      (View.ld x0 (Rect.unit ![10] ![1] inb_S16_S1_10) (Shape.Idx.first (by decide)))
      (View.ld x0 (Rect.unit ![11] ![1] inb_S16_S1_11) (Shape.Idx.first (by decide))))
def att3 (x0 : Vec F S16 .f32) (x1 : Vec F S256x1024 .bf16) (x2 x3 : Vec F S256x256 .f32) : FVec F S1024x128 .f32 :=
  att (dupHi (kvR (ldKV x3)))
    (scores (dupHi (kvR (ldKV x2))) (View.ld x1 (Rect.unit ![0, 768] ![256, 128] inb_S256x1024_S256x128_0_768))
      (View.ld x1 (Rect.unit ![0, 896] ![256, 128] inb_S256x1024_S256x128_0_896)))
    (sinks (View.ld x0 (Rect.unit ![12] ![1] inb_S16_S1_12) (Shape.Idx.first (by decide)))
      (View.ld x0 (Rect.unit ![13] ![1] inb_S16_S1_13) (Shape.Idx.first (by decide)))
      (View.ld x0 (Rect.unit ![14] ![1] inb_S16_S1_14) (Shape.Idx.first (by decide)))
      (View.ld x0 (Rect.unit ![15] ![1] inb_S16_S1_15) (Shape.Idx.first (by decide))))

/-- One grid point's block: the eight stored pieces, over the vocabulary above. -/
theorem out_eq (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x1024 .bf16) (harg5 : arg5.IsWhole)
    (x0 : Vec F S16 .f32) (x1 : Vec F S256x1024 .bf16) (x2 x3 : Vec F S256x256 .f32) :
    out0_A_4 c i arg1 harg1 arg2 harg2 arg3 harg3 arg4 harg4 arg5 harg5 x0 x1 x2 x3
      = View.canon (Val := Elt F) (s := S256x1024) (e := .bf16)
        [⟨Rect.unit ![0, 896] ![256, 128] inb_S256x1024_S256x128_0_896, pairB (att3 x0 x1 x2 x3)⟩,
         ⟨Rect.unit ![0, 768] ![256, 128] inb_S256x1024_S256x128_0_768, pairA (att3 x0 x1 x2 x3)⟩,
         ⟨Rect.unit ![0, 640] ![256, 128] inb_S256x1024_S256x128_0_640, pairB (att2 x0 x1 x2 x3)⟩,
         ⟨Rect.unit ![0, 512] ![256, 128] inb_S256x1024_S256x128_0_512, pairA (att2 x0 x1 x2 x3)⟩,
         ⟨Rect.unit ![0, 384] ![256, 128] inb_S256x1024_S256x128_0_384, pairB (att1 x0 x1 x2 x3)⟩,
         ⟨Rect.unit ![0, 256] ![256, 128] inb_S256x1024_S256x128_0_256, pairA (att1 x0 x1 x2 x3)⟩,
         ⟨Rect.unit ![0, 128] ![256, 128] inb_S256x1024_S256x128_0_128, pairB (att0 x0 x1 x2 x3)⟩,
         ⟨Rect.unit ![0, 0] ![256, 128] inb_S256x1024_S256x128_0_0, pairA (att0 x0 x1 x2 x3)⟩] := by
  unfold out0_A_4
  rw [View.read_writes_eq_canon _ _ _ (cover0_A_4 c _ _ _ _ _ _ _ _ _ _ _ x0 x1 x2 x3)]
  unfold kernelRun0_A
  dsimp only
  sl_unfold_words
  simp only [View.readAt_eq_ld, harg1.read_unread, harg2.read_unread, harg3.read_unread, harg4.read_unread]
  rfl

end Cert.KernelIdeal.Ctx
-- ==== Proof.CtxRead.lean ====
/- The context attention's block read at one index, over the extended reals: at row `r`, column `64 h + d` it is the
   attention of head `h` at query `r`, over its 256 keys and its sink, written with powers of two. -/
module

public import proofs.«01_k».proof.Proof.CtxPieces
public import Idealize.ShloMosaic.Lib.Pointwise
public import Idealize.ShloMosaic.Lib.Pipeline.ValueKit.Geometry

@[expose] public section

set_option maxRecDepth 16384

noncomputable section

namespace Cert.KernelIdeal.Ctx

open Cert.KernelIdeal Cert.KernelIdeal.Gen Idealize.ShloMosaic Idealize.ShloMosaic.TcCoe Idealize.SL.Sem

/-- One row of attention with a sink, in powers of two: scores `s`, values `v`, the sink's logit `t`. -/
def rowAtt (s v : Fin 256 → EReal) (t : EReal) : EReal :=
  Ideal.div (∑ j, Ideal.exp2 (s j - max (Finset.univ.fold max (Ideal.ofBits .f32 0xFF800000#32) s) t) * v j)
    (Ideal.exp2 (t - max (Finset.univ.fold max (Ideal.ofBits .f32 0xFF800000#32) s) t)
      + ∑ j, Ideal.exp2 (s j - max (Finset.univ.fold max (Ideal.ofBits .f32 0xFF800000#32) s) t))

theorem att_apply (V : FVec Ideal S256x128 .bf16) (s : FVec Ideal S1024x256 .f32) (sk : FVec Ideal S1024x1 .f32) (R : Fin 1024) (c : Fin 128) :
    att V s sk (ix2 R c) = rowAtt (fun j => s (ix2 R j)) (fun j => V (ix2 j c)) (sk (ix2 R 0)) := by
  pointwise [att, rowMax]
  rfl

theorem rowHead_word : ∀ R : Fin 1024, k0_pay69 (ix2 R 0) = BitVec.ofNat 32 (R.val / 256) := by decide +kernel

theorem sinks_apply (s0 s1 s2 s3 : Ideal .f32) (h : Fin 4) (r : Fin 256) :
    sinks s0 s1 s2 s3 (ix2 ⟨h.val * 256 + r.val, by omega⟩ 0) = ![sinkLog s0, sinkLog s1, sinkLog s2, sinkLog s3] h := by
  have e : (h.val * 256 + r.val) / 256 = h.val := by omega
  pointwise [sinks, rowHead_word, e]
  fin_cases h <;> rfl

theorem sel64 {α : Type} (c : Fin 128) (a b : α) :
    Scalar.select (IntOp.cmpi .slt (BitVec.ofNat 32 c.val) 64#32) a b = if c.val < 64 then a else b := by
  have h : ∀ c : Fin 128, IntOp.cmpi .slt (BitVec.ofNat 32 c.val) 64#32 = if c.val < 64 then 1#1 else 0#1 := by decide +kernel
  rw [h]; split <;> rfl

theorem stack_apply (q0 q1 : FVec Ideal S256x128 .bf16) (h : Fin 4) (r : Fin 256) (c : Fin 128) :
    stack q0 q1 (ix2 ⟨h.val * 256 + r.val, by omega⟩ c)
      = if c.val / 64 = h.val % 2 then (if h.val < 2 then q0 (ix2 r c) else q1 (ix2 r c)) else 0 := by
  fin_cases h
  all_goals pointwise [stack, k0_pay4, sel64]
  · by_cases hc : c.val < 64
    · rw [if_pos hc, if_pos (by omega)]
    · rw [if_neg hc, if_neg (by omega)]
  · by_cases hc : c.val < 64
    · rw [if_pos hc, if_neg (by omega)]
    · rw [if_neg hc, if_pos (by omega)]
  · rw [dif_neg (by omega), dif_neg (by omega), dif_pos (by omega)]
    have e : (⟨512 + r.val - 256 - 256, by omega⟩ : Fin 256) = r := Fin.ext (by show 512 + r.val - 256 - 256 = r.val; omega)
    rw [e]
    by_cases hc : c.val < 64
    · rw [if_pos hc, if_pos (by omega)]
    · rw [if_neg hc, if_neg (by omega)]
  · rw [dif_neg (by omega), dif_neg (by omega), dif_neg (by omega)]
    have e : (⟨768 + r.val - 256 - 256 - 256, by omega⟩ : Fin 256) = r := Fin.ext (by show 768 + r.val - 256 - 256 - 256 = r.val; omega)
    rw [e]
    by_cases hc : c.val < 64
    · rw [if_pos hc, if_neg (by omega)]
    · rw [if_neg hc, if_pos (by omega)]

theorem scores_apply (K : FVec Ideal S256x128 .bf16) (q0 q1 : FVec Ideal S256x128 .bf16) (R : Fin 1024) (j : Fin 256) :
    scores K q0 q1 (ix2 R j) = ∑ c : Fin 128, (stack q0 q1 (ix2 R c) : EReal) * K (ix2 j c) := by
  pointwise [scores]

theorem dupLo_apply (x : FVec Ideal S256x128 .f32) (j : Fin 256) (c : Fin 128) :
    dupLo x (ix2 j c) = x (ix2 j ⟨c.val % 64, by omega⟩) := by
  pointwise [dupLo, k0_pay4, sel64]
  split
  · exact congrArg (fun a => x (ix2 j a)) (Fin.ext (by show c.val = c.val % 64; omega))
  · exact congrArg (fun a => x (ix2 j a)) (Fin.ext (by show (c.val + 128 - 64) % 128 = c.val % 64; omega))

theorem dupHi_apply (x : FVec Ideal S256x128 .f32) (j : Fin 256) (c : Fin 128) :
    dupHi x (ix2 j c) = x (ix2 j ⟨64 + c.val % 64, by omega⟩) := by
  pointwise [dupHi, k0_pay4, sel64]
  split
  · exact congrArg (fun a => x (ix2 j a)) (Fin.ext (by show (c.val + 128 - 64) % 128 = 64 + c.val % 64; omega))
  · exact congrArg (fun a => x (ix2 j a)) (Fin.ext (by show c.val = 64 + c.val % 64; omega))

theorem pairA_apply (x : FVec Ideal S1024x128 .f32) (r : Fin 256) (c : Fin 128) :
    pairA x (ix2 r c) = x (ix2 ⟨c.val / 64 * 256 + r, by omega⟩ c) := by
  pointwise [pairA, k0_pay4, sel64]
  split
  · exact congrArg (fun a => x (ix2 a c)) (Fin.ext (by show r.val = c.val / 64 * 256 + r.val; omega))
  · exact congrArg (fun a => x (ix2 a c)) (Fin.ext (by show 256 + r.val = c.val / 64 * 256 + r.val; omega))

theorem pairB_apply (x : FVec Ideal S1024x128 .f32) (r : Fin 256) (c : Fin 128) :
    pairB x (ix2 r c) = x (ix2 ⟨(2 + c.val / 64) * 256 + r, by omega⟩ c) := by
  pointwise [pairB, k0_pay4, sel64]
  split
  · exact congrArg (fun a => x (ix2 a c)) (Fin.ext (by show 512 + r.val = (2 + c.val / 64) * 256 + r.val; omega))
  · exact congrArg (fun a => x (ix2 a c)) (Fin.ext (by show 768 + r.val = (2 + c.val / 64) * 256 + r.val; omega))

theorem kvL_apply (x : Vec Ideal S256x256 .f32) (j : Fin 256) (c : Fin 128) :
    kvL (ldKV x) (ix2 j c) = x (ix2 j ⟨c.val, by omega⟩) := by
  pointwise [kvL, ldKV]

theorem kvR_apply (x : Vec Ideal S256x256 .f32) (j : Fin 256) (c : Fin 128) :
    kvR (ldKV x) (ix2 j c) = x (ix2 j ⟨128 + c.val, by omega⟩) := by
  pointwise [kvR, ldKV]

/-- A dot over 128 lanes whose left factor is zero outside one half is the dot over that half's 64 lanes. -/
theorem sum_half (q : Fin 128 → EReal) (f : Fin 64 → EReal) (b : Fin 2) :
    ∑ c : Fin 128, (if c.val / 64 = b.val then q c else 0) * f ⟨c.val % 64, by omega⟩
      = ∑ d : Fin 64, q ⟨b.val * 64 + d.val, by omega⟩ * f d := by
  have e := Fin.sum_univ_add (a := 64) (b := 64) fun c : Fin (64 + 64) => (if c.val / 64 = b.val then q c else 0) * f ⟨c.val % 64, by omega⟩
  refine Eq.trans e ?_
  have h0 : ∀ d : Fin 64, (Fin.castAdd 64 d).val / 64 = 0 := fun d => by simp only [Fin.val_castAdd]; omega
  have h1 : ∀ d : Fin 64, (Fin.natAdd 64 d).val / 64 = 1 := fun d => by simp only [Fin.val_natAdd]; omega
  have g0 : ∀ d : Fin 64, (⟨(Fin.castAdd 64 d).val % 64, by omega⟩ : Fin 64) = d := fun d => Fin.ext (by simp only [Fin.val_castAdd]; omega)
  have g1 : ∀ d : Fin 64, (⟨(Fin.natAdd 64 d).val % 64, by omega⟩ : Fin 64) = d := fun d => Fin.ext (by simp only [Fin.val_natAdd]; omega)
  simp only [h0, h1, g0, g1]
  have k : b.val = 0 ∨ b.val = 1 := by omega
  rcases k with k | k
  · simp only [k, if_true, one_ne_zero, if_false, zero_mul, Finset.sum_const_zero, add_zero]
    exact Finset.sum_congr rfl fun d _ => congrArg (q · * f d) (Fin.ext (by simp only [Fin.val_castAdd, zero_mul, zero_add]))
  · simp only [k, if_true, zero_ne_one, if_false, zero_mul, Finset.sum_const_zero, zero_add]
    exact Finset.sum_congr rfl fun d _ => congrArg (q · * f d) (Fin.ext (by simp only [Fin.val_natAdd]; try omega))

/-- The stacked row of head `h`, query `r` against key `j`: the dot over that head's 64 lanes. -/
theorem scores_half (K : FVec Ideal S256x128 .bf16) (k : Fin 256 → Fin 64 → EReal)
    (hK : ∀ (j : Fin 256) (c : Fin 128), K (ix2 j c) = k j ⟨c.val % 64, by omega⟩)
    (q0 q1 : FVec Ideal S256x128 .bf16) (h : Fin 4) (r j : Fin 256) :
    scores K q0 q1 (ix2 ⟨h.val * 256 + r.val, by omega⟩ j)
      = ∑ d : Fin 64, ((if h.val < 2 then q0 (ix2 r ⟨h.val % 2 * 64 + d.val, by omega⟩) else q1 (ix2 r ⟨h.val % 2 * 64 + d.val, by omega⟩)) : EReal) * k j d := by
  rw [scores_apply]
  simp only [stack_apply, hK]
  exact sum_half (fun c => if h.val < 2 then q0 (ix2 r c) else q1 (ix2 r c)) (k j) ⟨h.val % 2, by omega⟩

/-- One block at row `r`, column `64 hd + d`, head `hd` attending over its key/value head `hd / 4`. -/
def cell (x0 : Vec Ideal S16 .f32) (x1 : Vec Ideal S256x1024 .bf16) (x2 x3 : Vec Ideal S256x256 .f32) (r : Fin 256) (hd : Fin 16) (d : Fin 64) : EReal :=
  rowAtt (fun j => ∑ e : Fin 64, (x1 (ix2 r ⟨hd.val * 64 + e.val, by omega⟩) : EReal) * x2 (ix2 j ⟨hd.val / 4 * 64 + e.val, by omega⟩))
    (fun j => x3 (ix2 j ⟨hd.val / 4 * 64 + d.val, by omega⟩)) (sinkLog (F := Ideal) (x0 (ix1 hd)))

theorem att0_apply (x0 : Vec Ideal S16 .f32) (x1 : Vec Ideal S256x1024 .bf16) (x2 x3 : Vec Ideal S256x256 .f32) (h : Fin 4) (r : Fin 256) (c : Fin 128) :
    att0 x0 x1 x2 x3 (ix2 ⟨h.val * 256 + r.val, by omega⟩ c) = cell x0 x1 x2 x3 r ⟨4 * 0 + h.val, by omega⟩ ⟨c.val % 64, by omega⟩ := by
  rw [att0, att_apply, cell, sinks_apply]
  congr 1
  · funext j
    rw [scores_half _ (fun j d => x2 (ix2 j ⟨d.val, by omega⟩)) (fun j c => by rw [dupLo_apply, kvL_apply])]
    fin_cases h <;> pointwise [← Nat.add_assoc]
  · funext j
    rw [dupLo_apply, kvL_apply]
    fin_cases h <;> pointwise [← Nat.add_assoc]
  · fin_cases h <;> pointwise

theorem att1_apply (x0 : Vec Ideal S16 .f32) (x1 : Vec Ideal S256x1024 .bf16) (x2 x3 : Vec Ideal S256x256 .f32) (h : Fin 4) (r : Fin 256) (c : Fin 128) :
    att1 x0 x1 x2 x3 (ix2 ⟨h.val * 256 + r.val, by omega⟩ c) = cell x0 x1 x2 x3 r ⟨4 * 1 + h.val, by omega⟩ ⟨c.val % 64, by omega⟩ := by
  rw [att1, att_apply, cell, sinks_apply]
  congr 1
  · funext j
    rw [scores_half _ (fun j d => x2 (ix2 j ⟨64 + d.val, by omega⟩)) (fun j c => by rw [dupHi_apply, kvL_apply])]
    fin_cases h <;> pointwise [← Nat.add_assoc]
  · funext j
    rw [dupHi_apply, kvL_apply]
    fin_cases h <;> pointwise [← Nat.add_assoc]
  · fin_cases h <;> pointwise

theorem att2_apply (x0 : Vec Ideal S16 .f32) (x1 : Vec Ideal S256x1024 .bf16) (x2 x3 : Vec Ideal S256x256 .f32) (h : Fin 4) (r : Fin 256) (c : Fin 128) :
    att2 x0 x1 x2 x3 (ix2 ⟨h.val * 256 + r.val, by omega⟩ c) = cell x0 x1 x2 x3 r ⟨4 * 2 + h.val, by omega⟩ ⟨c.val % 64, by omega⟩ := by
  rw [att2, att_apply, cell, sinks_apply]
  congr 1
  · funext j
    rw [scores_half _ (fun j d => x2 (ix2 j ⟨128 + d.val, by omega⟩)) (fun j c => by rw [dupLo_apply, kvR_apply])]
    fin_cases h <;> pointwise [← Nat.add_assoc]
  · funext j
    rw [dupLo_apply, kvR_apply]
    fin_cases h <;> pointwise [← Nat.add_assoc]
  · fin_cases h <;> pointwise

theorem att3_apply (x0 : Vec Ideal S16 .f32) (x1 : Vec Ideal S256x1024 .bf16) (x2 x3 : Vec Ideal S256x256 .f32) (h : Fin 4) (r : Fin 256) (c : Fin 128) :
    att3 x0 x1 x2 x3 (ix2 ⟨h.val * 256 + r.val, by omega⟩ c) = cell x0 x1 x2 x3 r ⟨4 * 3 + h.val, by omega⟩ ⟨c.val % 64, by omega⟩ := by
  rw [att3, att_apply, cell, sinks_apply]
  congr 1
  · funext j
    rw [scores_half _ (fun j d => x2 (ix2 j ⟨128 + (64 + d.val), by omega⟩)) (fun j c => by rw [dupHi_apply, kvR_apply])]
    fin_cases h <;> pointwise [← Nat.add_assoc]
  · funext j
    rw [dupHi_apply, kvR_apply]
    fin_cases h <;> pointwise [← Nat.add_assoc]
  · fin_cases h <;> pointwise

/-- The whole block, at row `r`, column `64 hd + d`. -/
def block (x0 : Vec Ideal S16 .f32) (x1 : Vec Ideal S256x1024 .bf16) (x2 x3 : Vec Ideal S256x256 .f32) : Vec Ideal S256x1024 .bf16 :=
  fun y => cell x0 x1 x2 x3 (y 0) ⟨(y 1).val / 64, by have := (y 1).isLt; change (y 1).val < 1024 at this; omega⟩ ⟨(y 1).val % 64, by omega⟩

theorem pieceA (x0 : Vec Ideal S16 .f32) (x1 : Vec Ideal S256x1024 .bf16) (x2 x3 : Vec Ideal S256x256 .f32) (A : FVec Ideal S1024x128 .f32)
    (kv : ℕ) (hkv : kv < 4) (hA : ∀ (h : Fin 4) (r : Fin 256) (c : Fin 128), A (ix2 ⟨h.val * 256 + r.val, by omega⟩ c)
      = cell x0 x1 x2 x3 r ⟨4 * kv + h.val, by omega⟩ ⟨c.val % 64, by omega⟩)
    (off : ℕ) (ho : off = kv * 256 + 0) (inb : ∀ a, (![0, off] : Fin 2 → ℕ) a + (![256, 128] : Fin 2 → ℕ) a ≤ S256x1024.size a) (x : S256x128.Idx) :
    pairA A x = block x0 x1 x2 x3 ((Rect.unit (s := S256x1024) ![0, off] ![256, 128] inb).emb x) := by
  obtain ⟨r, l, rfl⟩ : ∃ (r : Fin 256) (l : Fin 128), x = ix2 r l := ⟨x 0, x 1, eq_ix2 x⟩
  have e0 : ((Rect.unit (s := S256x1024) ![0, off] ![256, 128] inb).emb (ix2 r l) 0).val = r.val :=
    (ValueKit.rect_emb_unit_val _ _ _ _ _).trans (Nat.zero_add _)
  have e1 : ((Rect.unit (s := S256x1024) ![0, off] ![256, 128] inb).emb (ix2 r l) 1).val = off + l.val :=
    ValueKit.rect_emb_unit_val _ _ _ _ _
  rw [pairA_apply]
  refine (hA ⟨l.val / 64, by omega⟩ r l).trans ?_
  unfold block
  congr 1
  · exact Fin.ext e0.symm
  · exact Fin.ext (by show 4 * kv + (l.val / 64) = _ / 64; rw [e1]; omega)
  · exact Fin.ext (by show l.val % 64 = _ % 64; rw [e1]; omega)

theorem pieceB (x0 : Vec Ideal S16 .f32) (x1 : Vec Ideal S256x1024 .bf16) (x2 x3 : Vec Ideal S256x256 .f32) (A : FVec Ideal S1024x128 .f32)
    (kv : ℕ) (hkv : kv < 4) (hA : ∀ (h : Fin 4) (r : Fin 256) (c : Fin 128), A (ix2 ⟨h.val * 256 + r.val, by omega⟩ c)
      = cell x0 x1 x2 x3 r ⟨4 * kv + h.val, by omega⟩ ⟨c.val % 64, by omega⟩)
    (off : ℕ) (ho : off = kv * 256 + 128) (inb : ∀ a, (![0, off] : Fin 2 → ℕ) a + (![256, 128] : Fin 2 → ℕ) a ≤ S256x1024.size a) (x : S256x128.Idx) :
    pairB A x = block x0 x1 x2 x3 ((Rect.unit (s := S256x1024) ![0, off] ![256, 128] inb).emb x) := by
  obtain ⟨r, l, rfl⟩ : ∃ (r : Fin 256) (l : Fin 128), x = ix2 r l := ⟨x 0, x 1, eq_ix2 x⟩
  have e0 : ((Rect.unit (s := S256x1024) ![0, off] ![256, 128] inb).emb (ix2 r l) 0).val = r.val :=
    (ValueKit.rect_emb_unit_val _ _ _ _ _).trans (Nat.zero_add _)
  have e1 : ((Rect.unit (s := S256x1024) ![0, off] ![256, 128] inb).emb (ix2 r l) 1).val = off + l.val :=
    ValueKit.rect_emb_unit_val _ _ _ _ _
  rw [pairB_apply]
  refine (hA ⟨2 + l.val / 64, by omega⟩ r l).trans ?_
  unfold block
  congr 1
  · exact Fin.ext e0.symm
  · exact Fin.ext (by show 4 * kv + (2 + l.val / 64) = _ / 64; rw [e1]; omega)
  · exact Fin.ext (by show l.val % 64 = _ % 64; rw [e1]; omega)

/-- What the body leaves at any grid point, as one function of the point's blocks. -/
theorem out_apply (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x1024 .bf16) (harg5 : arg5.IsWhole)
    (x0 : Vec Ideal S16 .f32) (x1 : Vec Ideal S256x1024 .bf16) (x2 x3 : Vec Ideal S256x256 .f32) :
    out0_A_4 c i arg1 harg1 arg2 harg2 arg3 harg3 arg4 harg4 arg5 harg5 x0 x1 x2 x3 = block x0 x1 x2 x3 := by
  funext y
  rw [out_eq]
  refine View.canon_apply_of_pieces (Val := Elt Ideal) (S := S256x1024) (e := .bf16) (block x0 x1 x2 x3) _ ?_ y ?_
  swap
  · exact View.cover_of_tiledL (s := S256x1024) _ S256x128.size (by sl_kernel_rfl) y
  intro p hp x
  simp only [List.mem_cons, List.not_mem_nil, or_false] at hp
  rcases hp with rfl | rfl | rfl | rfl | rfl | rfl | rfl | rfl
  · exact pieceB x0 x1 x2 x3 _ 3 (by omega) (att3_apply x0 x1 x2 x3) 896 rfl inb_S256x1024_S256x128_0_896 x
  · exact pieceA x0 x1 x2 x3 _ 3 (by omega) (att3_apply x0 x1 x2 x3) 768 rfl inb_S256x1024_S256x128_0_768 x
  · exact pieceB x0 x1 x2 x3 _ 2 (by omega) (att2_apply x0 x1 x2 x3) 640 rfl inb_S256x1024_S256x128_0_640 x
  · exact pieceA x0 x1 x2 x3 _ 2 (by omega) (att2_apply x0 x1 x2 x3) 512 rfl inb_S256x1024_S256x128_0_512 x
  · exact pieceB x0 x1 x2 x3 _ 1 (by omega) (att1_apply x0 x1 x2 x3) 384 rfl inb_S256x1024_S256x128_0_384 x
  · exact pieceA x0 x1 x2 x3 _ 1 (by omega) (att1_apply x0 x1 x2 x3) 256 rfl inb_S256x1024_S256x128_0_256 x
  · exact pieceB x0 x1 x2 x3 _ 0 (by omega) (att0_apply x0 x1 x2 x3) 128 rfl inb_S256x1024_S256x128_0_128 x
  · exact pieceA x0 x1 x2 x3 _ 0 (by omega) (att0_apply x0 x1 x2 x3) 0 rfl inb_S256x1024_S256x128_0_0 x

end Cert.KernelIdeal.Ctx
-- ==== Proof.CtxMath.lean ====
/- The row of the attention in real numbers: a softmax in base two over scores multiplied by `1 / log 2`, normalised after
   the weighted sum, is the softmax in base `e` with the sink as one more column, normalised before it. -/
module

public import proofs.«01_k».proof.Proof.CtxRead

@[expose] public section

noncomputable section

namespace Cert.CtxMath

open Idealize.ShloMosaic Cert.KernelIdeal.Ctx

/-- `1 / log 2`. -/
def a : ℝ := (Real.log 2)⁻¹

theorem a_pos : 0 < a := inv_pos.mpr (Real.log_pos (by norm_num))

theorem exp2_mul (x : ℝ) : Ideal.exp2 ((x * a : ℝ) : EReal) = ((Real.exp x : ℝ) : EReal) := by
  show ((Real.rpow 2 (x * a) : ℝ) : EReal) = _
  congr 1
  show (2 : ℝ) ^ (x * a) = _
  rw [Real.rpow_def_of_pos (by norm_num)]
  congr 1
  unfold a
  have : Real.log 2 ≠ 0 := (Real.log_pos (by norm_num)).ne'
  field_simp

/-- The maximum of finitely many reals and one more, as a real. -/
def top {n : ℕ} (S : Fin n → ℝ) (T : ℝ) : ℝ := Finset.univ.fold max T S

theorem ofBits_bot : Ideal.ofBits .f32 0xFF800000#32 = (⊥ : EReal) := by
  simp [Ideal.ofBits, Ideal.ieee]

theorem max_fold_coe {n : ℕ} (S : Fin n → ℝ) (T : ℝ) :
    max (Finset.univ.fold max (⊥ : EReal) fun j => (S j : EReal)) (T : EReal) = ((top S T : ℝ) : EReal) := by
  unfold top
  induction (Finset.univ : Finset (Fin n)) using Finset.induction with
  | empty => simp
  | insert j s hj ih => rw [Finset.fold_insert hj, Finset.fold_insert hj, max_assoc, ih]; exact (EReal.coe_strictMono.monotone.map_max).symm

theorem top_mul {n : ℕ} (S : Fin n → ℝ) (T : ℝ) : top (fun j => S j * a) (T * a) = top S T * a := by
  unfold top
  induction (Finset.univ : Finset (Fin n)) using Finset.induction with
  | empty => simp
  | insert j s hj ih => rw [Finset.fold_insert hj, Finset.fold_insert hj, ih, max_mul_of_nonneg _ _ a_pos.le]

theorem sum_coe {ι : Type*} (s : Finset ι) (f : ι → ℝ) : ∑ j ∈ s, ((f j : ℝ) : EReal) = ((∑ j ∈ s, f j : ℝ) : EReal) := by
  classical
  induction s using Finset.induction with
  | empty => simp
  | insert j s hj ih => rw [Finset.sum_insert hj, Finset.sum_insert hj, ih, EReal.coe_add]

theorem sum_mul_coe {ι : Type*} (s : Finset ι) (f : ι → EReal) (c : ℝ) (hc : 0 ≤ c) : (∑ j ∈ s, f j) * (c : EReal) = ∑ j ∈ s, f j * (c : EReal) := by
  classical
  induction s using Finset.induction with
  | empty => simp
  | insert j s hj ih =>
    rw [Finset.sum_insert hj, Finset.sum_insert hj, EReal.right_distrib_of_nonneg_of_ne_top (by exact_mod_cast hc) (EReal.coe_ne_top c), ih]

/-- The weights' sum. -/
def den {n : ℕ} (S : Fin n → ℝ) (T : ℝ) : ℝ := Real.exp (T - top S T) + ∑ j, Real.exp (S j - top S T)

theorem den_pos {n : ℕ} (S : Fin n → ℝ) (T : ℝ) : 0 < den S T :=
  add_pos_of_pos_of_nonneg (Real.exp_pos _) (Finset.sum_nonneg fun _ _ => (Real.exp_pos _).le)

/-- The row in real weights. -/
def soft (S : Fin 256 → ℝ) (V : Fin 256 → EReal) (T : ℝ) : EReal :=
  ∑ j, V j * ((Real.exp (S j - top S T) * (1 / den S T) : ℝ) : EReal)

/-- The kernel's row. -/
theorem rowAtt_eq (S : Fin 256 → ℝ) (V : Fin 256 → EReal) (T : ℝ) :
    rowAtt (fun j => ((S j * a : ℝ) : EReal)) V ((T * a : ℝ) : EReal) = soft S V T := by
  unfold rowAtt
  rw [ofBits_bot, max_fold_coe (fun j => S j * a) (T * a), top_mul]
  simp only [← EReal.coe_sub, ← sub_mul, exp2_mul]
  rw [sum_coe, ← EReal.coe_add]
  change Ideal.div _ ((den S T : ℝ) : EReal) = _
  rw [Ideal.div_coe (den_pos S T).ne', sum_mul_coe _ _ _ (by have := den_pos S T; positivity)]
  refine Finset.sum_congr rfl fun j _ => ?_
  rw [EReal.coe_mul, mul_right_comm, mul_comm]

/-- The row of scores with the sink in its last place, in reals. -/
def ext (S : Fin 256 → ℝ) (T : ℝ) (x : Fin 257) : ℝ := if h : x.val < 256 then S ⟨x.val, h⟩ else T

theorem ext_cast (S : Fin 256 → ℝ) (T : ℝ) (j : Fin 256) : ext S T j.castSucc = S j := by
  simp [ext]

theorem ext_last (S : Fin 256 → ℝ) (T : ℝ) : ext S T (Fin.last 256) = T := by
  simp [ext]

theorem fold_ext (S : Fin 256 → ℝ) (T : ℝ) : (Finset.univ.fold max (⊥ : EReal) fun x : Fin 257 => ((ext S T x : ℝ) : EReal)) = ((top S T : ℝ) : EReal) := by
  rw [← max_fold_coe, Fin.univ_castSuccEmb, Finset.fold_cons, Finset.fold_map, ext_last, max_comm]
  congr 1

theorem sum_ext (S : Fin 256 → ℝ) (T : ℝ) : ∑ x : Fin 257, Real.exp (ext S T x - top S T) = den S T := by
  rw [Fin.sum_univ_castSucc, ext_last, add_comm]
  simp only [ext_cast]
  rfl

/-- The reference's row. -/
theorem ref_eq (S : Fin 256 → ℝ) (V : Fin 256 → EReal) (T : ℝ) (R : Fin 257 → EReal) (hR : ∀ x, R x = ((ext S T x : ℝ) : EReal)) (m : EReal)
    (hm : m = max (Ideal.ofBits .f32 0xFF800000#32) (Finset.univ.fold max (Ideal.ofBits .f32 0xFF800000#32) R)) :
    ∑ j : Fin 256, V j * Ideal.div (Ideal.exp (R ⟨j.val, by omega⟩ - m)) (∑ x : Fin 257, Ideal.exp (R x - m)) = soft S V T := by
  obtain rfl : R = fun x => ((ext S T x : ℝ) : EReal) := funext hR
  rw [ofBits_bot, fold_ext, max_eq_right bot_le] at hm
  subst hm
  simp only [← EReal.coe_sub, Ideal.exp_coe]
  rw [sum_coe, sum_ext]
  refine Finset.sum_congr rfl fun j _ => ?_
  rw [Ideal.div_coe (den_pos S T).ne', ← EReal.coe_mul]
  congr 4
  exact congrArg (fun z => z - top S T) (ext_cast S T j)

end Cert.CtxMath
-- ==== Proof.CtxRef.lean ====
/- The reference attention read at one index: the row of scores with the sink behind them, its maximum, the weights and
   their sum, and the result as a sum over the keys. -/
module

public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Ctx

open Cert.ReferenceIdeal Cert.ReferenceIdeal.Gen Cert.ReferenceIdeal.Read Idealize.ShloMosaic Idealize.ShloMosaic.TcCoe Idealize.SL.Sem

variable (x0 : (⟨S16384x16x64, .f32⟩ : BufTy).Contents (Elt Ideal)) (x1 x2 : (⟨S32x256x4x64, .f32⟩ : BufTy).Contents (Elt Ideal)) (x3 : (⟨S16, .f32⟩ : BufTy).Contents (Elt Ideal))

/-- The score of query `r` of batch `b`, head `(k, g)`, against key `j`. -/
def sc (b : Fin 32) (k g : Fin 4) (r j : Fin 256) : EReal :=
  (∑ x : Fin 64, (x1 (ix4 b j k x) : EReal) * x0 (ix3 ⟨b.val * 256 + r.val, by omega⟩ ⟨k.val * 4 + g.val, by omega⟩ x)) * Ideal.ofBits .f32 0x3E000000#32

/-- The row of scores with the sink's logit in its last place. -/
def row (b : Fin 32) (k g : Fin 4) (r : Fin 256) (x : Fin 257) : EReal :=
  if h : x.val < 256 then sc x0 x1 b k g r ⟨x.val, h⟩ else x3 (ix1 ⟨k.val * 4 + g.val, by omega⟩)

/-- The row's maximum. -/
def rmax (b : Fin 32) (k g : Fin 4) (r : Fin 256) : EReal :=
  max (Ideal.ofBits .f32 0xFF800000#32) (Finset.univ.fold max (Ideal.ofBits .f32 0xFF800000#32) fun x : Fin 257 => row x0 x1 x3 b k g r x)

theorem v5 (b : Fin 32) (k g : Fin 4) (r j : Fin 256) : val_main_v5 (F := Ideal) x0 x1 (ix5 b k g r j) = sc x0 x1 b k g r j := by
  pointwise [val_main_v5, val_main_v3, val_main_v2, val_main_v1, val_main_v0, val_main_v4, val_main_cst]
  rfl

theorem v9 (b : Fin 32) (k g : Fin 4) (r : Fin 256) (x : Fin 257) : val_main_v9 (F := Ideal) x0 x1 x3 (ix5 b k g r x) = row x0 x1 x3 b k g r x := by
  pointwise [val_main_v9, val_main_v8, val_main_v7, val_main_v6, v5]
  rfl

theorem v10 (b : Fin 32) (k g : Fin 4) (r : Fin 256) : val_main_v10 (F := Ideal) x0 x1 x3 (ix4 b k g r)
    = Finset.univ.fold max (Ideal.ofBits .f32 0xFF800000#32) fun x : Fin 257 => row x0 x1 x3 b k g r x := by
  have h9 := v9 x0 x1 x3 b k g r
  unfold val_main_v10
  generalize val_main_v9 (F := Ideal) x0 x1 x3 = y0 at h9 ⊢
  have key := Host.reduce_eq_fold_single (s := S32x4x4x256x257) (t := S32x4x4x256) (a := 4) (FloatOps.maximumf (F := Ideal) (φ := .f32)) y0 (val_main_cst_0 (F := Ideal))
    reducesTo_S32x4x4x256x257_S32x4x4x256_d4 (by decide) h_S_ (ix4 b k g r)
  refine key.trans (congrArg (fun w => Finset.univ.fold max (Ideal.ofBits .f32 0xFF800000#32) w) (funext fun x => ?_))
  refine Eq.trans (congrArg y0 (funext fun a => Fin.ext ?_)) (h9 x)
  match a with
  | ⟨0, _⟩ => rfl
  | ⟨1, _⟩ => rfl
  | ⟨2, _⟩ => rfl
  | ⟨3, _⟩ => rfl
  | ⟨4, _⟩ => rfl

theorem v12 (b : Fin 32) (k g : Fin 4) (r : Fin 256) : val_main_v12 (F := Ideal) x0 x1 x3 (ix4 b k g r) = rmax x0 x1 x3 b k g r := by
  rw [val_main_v12_apply, v10, val_main_v11_apply]
  rfl

theorem v16 (b : Fin 32) (k g : Fin 4) (r : Fin 256) (x : Fin 257) :
    val_main_v16 (F := Ideal) x0 x1 x3 (ix5 b k g r x) = Ideal.exp (row x0 x1 x3 b k g r x - rmax x0 x1 x3 b k g r) := by
  pointwise [val_main_v16, val_main_v15, val_main_v14, val_main_v13, v9, v12]

theorem v17 (b : Fin 32) (k g : Fin 4) (r : Fin 256) : val_main_v17 (F := Ideal) x0 x1 x3 (ix4 b k g r)
    = ∑ x : Fin 257, Ideal.exp (row x0 x1 x3 b k g r x - rmax x0 x1 x3 b k g r) := by
  pointwise [val_main_v17, val_main_cst_2, v16]

theorem v20 (b : Fin 32) (k g : Fin 4) (r : Fin 256) (x : Fin 257) : val_main_v20 (F := Ideal) x0 x1 x3 (ix5 b k g r x)
    = Ideal.div (Ideal.exp (row x0 x1 x3 b k g r x - rmax x0 x1 x3 b k g r)) (∑ x : Fin 257, Ideal.exp (row x0 x1 x3 b k g r x - rmax x0 x1 x3 b k g r)) := by
  pointwise [val_main_v20, val_main_v19, val_main_v18, v16, v17]

/-- The result at row `R`, column `c`. -/
theorem v25 (R : Fin 8192) (c : Fin 1024) : val_main_v25 (F := Ideal) x0 x1 x2 x3 (ix2 R c)
    = ∑ j : Fin 256, (x2 (ix4 ⟨R.val / 256, by omega⟩ j ⟨c.val / 256, by omega⟩ ⟨c.val % 64, by omega⟩) : EReal)
        * Ideal.div (Ideal.exp (row x0 x1 x3 ⟨R.val / 256, by omega⟩ ⟨c.val / 256, by omega⟩ ⟨c.val / 64 % 4, by omega⟩ ⟨R.val % 256, by omega⟩ ⟨j.val, by omega⟩
            - rmax x0 x1 x3 ⟨R.val / 256, by omega⟩ ⟨c.val / 256, by omega⟩ ⟨c.val / 64 % 4, by omega⟩ ⟨R.val % 256, by omega⟩))
          (∑ x : Fin 257, Ideal.exp (row x0 x1 x3 ⟨R.val / 256, by omega⟩ ⟨c.val / 256, by omega⟩ ⟨c.val / 64 % 4, by omega⟩ ⟨R.val % 256, by omega⟩ x
            - rmax x0 x1 x3 ⟨R.val / 256, by omega⟩ ⟨c.val / 256, by omega⟩ ⟨c.val / 64 % 4, by omega⟩ ⟨R.val % 256, by omega⟩)) := by
  pointwise [val_main_v25, val_main_v24, val_main_v23, val_main_v22, val_main_v21, v20]

end Cert.ReferenceIdeal.Ctx
-- ==== Proof.Finite.lean ====
/- A printed "every element has a finite absolute value", read element by element. -/
module

public import Idealize.ShloMosaic.Lib.Pointwise

@[expose] public section

noncomputable section

namespace Cert.Finite

open Idealize.ShloMosaic

instance : Std.Commutative (IntOp.andi (w := 1)) := ⟨BitVec.and_comm⟩
instance : Std.Associative (IntOp.andi (w := 1)) := ⟨BitVec.and_assoc⟩

theorem fold_andi {ι : Type} [DecidableEq ι] (S : Finset ι) (a : BitVec 1) (f : ι → BitVec 1) (h : S.fold IntOp.andi a f = 1#1) : ∀ i ∈ S, f i = 1#1 := by
  induction S using Finset.induction with
  | empty => intro i hi; exact absurd hi (Finset.notMem_empty i)
  | insert j s hj ih =>
    rw [Finset.fold_insert hj] at h
    have key : ∀ p q : BitVec 1, IntOp.andi p q = 1#1 → p = 1#1 ∧ q = 1#1 := by decide
    obtain ⟨h1, h2⟩ := key _ _ h
    intro i hi
    rcases Finset.mem_insert.mp hi with rfl | hi
    · exact h1
    · exact ih h2 i hi

theorem lt_inf {x : EReal} (h : max x (-x) < ⊤) : ∃ r : ℝ, x = (r : EReal) := by
  induction x with
  | bot => simp at h
  | top => simp at h
  | coe r => exact ⟨r, rfl⟩

theorem ofBits_top : Ideal.ofBits .f32 0x7F800000#32 = (⊤ : EReal) := by
  simp [Ideal.ofBits, Ideal.ieee]

/-- All elements whose "finite" bits are joined to one are reals. -/
theorem of_reduce {s t u w : Shape} {axes : List (Fin s.rank)} (x : FVec Ideal s .f32) (dims : Fin u.rank → Fin s.rank) (hb : u.BroadcastsInDim s dims)
    (init : IVec w 1) (h' : s.ReducesTo axes t) (hu : 0 < w.numel) (hall : ∀ i j, h'.drop i = j) (j : t.Idx)
    (h : Host.reduce IntOp.andi (cmpf .olt (Host.absf x) (broadcastInDim s dims hb (constant (F := Ideal) u .f32 0x7F800000#32))) init h' hu j = 1#1) (i : s.Idx) :
    ∃ r : ℝ, x i = (r : EReal) := by
  classical
  rw [Host.reduce_eq_fold] at h
  have hi := fold_andi _ _ _ h i (Finset.mem_filter.mpr ⟨Finset.mem_univ i, hall i j⟩)
  refine lt_inf ?_
  rw [← ofBits_top]
  by_contra hn
  have hd : BitVec.ofBool (decide (max (x i) (-x i) < Ideal.ofBits .f32 0x7F800000#32)) = 1#1 := hi
  rw [decide_eq_false hn] at hd
  exact absurd hd (by decide)

end Cert.Finite
-- ==== Proof.CtxValue.lean ====
/- The context attention's launch: its blocks as arguments read at an index, and the array it leaves as the reference's function
   of the arguments. -/
module

public import proofs.«01_k».proof.Proof.CtxMath
public import proofs.«01_k».proof.Proof.CtxRef
public import proofs.«01_k».proof.Proof.Finite
public import proofs.«01_k».proof.Proof.Gen.KernelIdeal.Value
public import proofs.«01_k».proof.Proof.Gen.Pre_finite_scores
public import proofs.«01_k».proof.Defs
public import Idealize.ShloMosaic.Lib.StableHlo.ReadAt

@[expose] public section

set_option maxRecDepth 16384

noncomputable section

namespace Cert.KernelIdeal.Ctx

open Cert.KernelIdeal Cert.KernelIdeal.Gen Idealize.ShloMosaic Idealize.ShloMosaic.TcCoe Idealize.SL.Sem Cert.CtxMath

variable (m : (ℓ : Loc nD τ sig) → Buf (Elt Ideal) ℓ) (c : Dev nD)

/-- The arguments: queries, keys, values, sinks. -/
abbrev aq : FVec Ideal S16384x16x64 .f32 := m ((c.tc : Thread nD τ).loc main_arg0)
abbrev ak : FVec Ideal S32x256x4x64 .f32 := m ((c.tc : Thread nD τ).loc main_arg1)
abbrev av : FVec Ideal S32x256x4x64 .f32 := m ((c.tc : Thread nD τ).loc main_arg2)
abbrev ask : FVec Ideal S16 .f32 := m ((c.tc : Thread nD τ).loc main_arg3)

/-! ## The host's arrays -/

theorem V7 (R : Fin 16384) (C : Fin 1024) : (V m c main_v7 : FVec Ideal S16384x1024 .bf16) (ix2 R C)
    = (aq m c (ix3 R ⟨C.val / 64, by omega⟩ ⟨C.val % 64, by omega⟩) : EReal)
      * Ideal.div (Ideal.ofBits .f32 0x3E000000#32) (Ideal.log (Ideal.ofBits .f32 0x40000000#32)) := by
  unfold V
  after_reads_at

theorem V0 (R : Fin 8192) (C : Fin 256) : (V m c main_v0 : FVec Ideal S8192x256 .f32) (ix2 R C)
    = ak m c (ix4 ⟨R.val / 256, by omega⟩ ⟨R.val % 256, by omega⟩ ⟨C.val / 64, by omega⟩ ⟨C.val % 64, by omega⟩) := by
  unfold V
  after_reads_at

theorem V1 (R : Fin 8192) (C : Fin 256) : (V m c main_v1 : FVec Ideal S8192x256 .f32) (ix2 R C)
    = av m c (ix4 ⟨R.val / 256, by omega⟩ ⟨R.val % 256, by omega⟩ ⟨C.val / 64, by omega⟩ ⟨C.val % 64, by omega⟩) := by
  unfold V
  after_reads_at

/-! ## The windows' blocks -/

theorem idx (t : Fin cfg0.N) : win0_0.index t = ![0] ∧ win0_1.index t = ![t.val, 0] ∧ win0_2.index t = ![t.val, 0] ∧ win0_3.index t = ![t.val, 0] ∧ win0_4.index t = ![t.val, 0] :=
  (by decide +kernel : ∀ t : Fin grid0.N, win0_0.index t = ![0] ∧ win0_1.index t = ![t.val, 0] ∧ win0_2.index t = ![t.val, 0] ∧ win0_3.index t = ![t.val, 0] ∧ win0_4.index t = ![t.val, 0]) t

theorem i0 (t : Fin cfg0.N) (h : Fin 16) : (iblk m c 0 t : Vec Ideal S16 .f32) (ix1 h) = ask m c (ix1 h) := by
  refine Eq.trans ?_ (congrFun (V_main_arg3 m c) (ix1 h))
  blk_ext [iblk, (idx t).1]

theorem i1 (t : Fin cfg0.N) (r : Fin 256) (C : Fin 1024) : (iblk m c 1 t : Vec Ideal S256x1024 .bf16) (ix2 r C)
    = (V m c main_v7 : FVec Ideal S16384x1024 .bf16) (ix2 ⟨t.val * 256 + r.val, by have : t.val < 32 := t.isLt; omega⟩ C) := by
  blk_ext [iblk, (idx t).2.1]

theorem i2 (t : Fin cfg0.N) (r : Fin 256) (C : Fin 256) : (iblk m c 2 t : Vec Ideal S256x256 .f32) (ix2 r C)
    = (V m c main_v0 : FVec Ideal S8192x256 .f32) (ix2 ⟨t.val * 256 + r.val, by have : t.val < 32 := t.isLt; omega⟩ C) := by
  blk_ext [iblk, (idx t).2.2.1]

theorem i3 (t : Fin cfg0.N) (r : Fin 256) (C : Fin 256) : (iblk m c 3 t : Vec Ideal S256x256 .f32) (ix2 r C)
    = (V m c main_v1 : FVec Ideal S8192x256 .f32) (ix2 ⟨t.val * 256 + r.val, by have : t.val < 32 := t.isLt; omega⟩ C) := by
  blk_ext [iblk, (idx t).2.2.2.1]

/-! ## The precondition: the arguments' elements are reals -/

theorem reals (h : Cert.Pre_KernelIdeal_finite_scores (hPre_finite_scores := Cert.Pre_finite_scores.Gen.facts) m) :
    (∀ i, ∃ r : ℝ, aq m c i = (r : EReal)) ∧ (∀ i, ∃ r : ℝ, ak m c i = (r : EReal)) ∧ (∀ i, ∃ r : ℝ, ask m c i = (r : EReal)) := by
  have key : ∀ p q : BitVec 1, IntOp.andi p q = 1#1 → p = 1#1 ∧ q = 1#1 := by decide
  have h0 := congrFun (h c) (fun a => a.elim0)
  obtain ⟨h1, h3⟩ := key _ _ h0
  obtain ⟨h1, h2⟩ := key _ _ h1
  exact ⟨Cert.Finite.of_reduce _ _ _ _ _ _ (fun _ _ => funext fun a => a.elim0) _ h1,
    Cert.Finite.of_reduce _ _ _ _ _ _ (fun _ _ => funext fun a => a.elim0) _ h2,
    Cert.Finite.of_reduce _ _ _ _ _ _ (fun _ _ => funext fun a => a.elim0) _ h3⟩

theorem ofBits_eighth : Ideal.ofBits .f32 0x3E000000#32 = (((1 : ℝ) / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem scale_eq : Ideal.div (Ideal.ofBits .f32 0x3E000000#32) (Ideal.log (Ideal.ofBits .f32 0x40000000#32)) = ((1 / 8 * a : ℝ) : EReal) := by
  rw [ofBits_eighth, ofBits_two]
  have h2 : Ideal.log ((2 : ℝ) : EReal) = ((Real.log 2 : ℝ) : EReal) := by rw [Ideal.log_coe, if_neg (by norm_num)]
  rw [h2, Ideal.div_coe (Real.log_pos (by norm_num)).ne', ← EReal.coe_mul]
  unfold a
  rw [one_div (Real.log 2)]

theorem sinkLog_eq (x : ℝ) : sinkLog (F := Ideal) ((x : ℝ) : EReal) = ((x * a : ℝ) : EReal) := by
  refine congrArg (((x : ℝ) : EReal) * ·) (IdealRules.named_const.ideal_named_scalar κ "log2e" (φ := .f32) 0x3FB8AA3B#32 ((a : ℝ) : EReal) rfl)

/-! ## The array after the run -/

theorem block_apply (x0 : Vec Ideal S16 .f32) (x1 : Vec Ideal S256x1024 .bf16) (x2 x3 : Vec Ideal S256x256 .f32) (r : Fin 256) (C : Fin 1024) :
    block x0 x1 x2 x3 (ix2 r C) = cell x0 x1 x2 x3 r ⟨C.val / 64, by omega⟩ ⟨C.val % 64, by omega⟩ := rfl

/-- What point `t` writes is the reference's rows of batch `t`. -/
theorem point (h : Cert.Pre_KernelIdeal_finite_scores (hPre_finite_scores := Cert.Pre_finite_scores.Gen.facts) m) (t : Fin cfg0.N) (r : Fin 256) (C : Fin 1024) :
    block (iblk m c 0 t) (iblk m c 1 t) (iblk m c 2 t) (iblk m c 3 t) (ix2 r C)
      = Cert.ReferenceIdeal.Read.val_main_v25 (F := Ideal) (aq m c) (ak m c) (av m c) (ask m c) (ix2 ⟨t.val * 256 + r.val, by have : t.val < 32 := t.isLt; omega⟩ C) := by
  have ht : t.val < 32 := t.isLt
  obtain ⟨hq, hk, hs⟩ := reals m c h
  choose qr hq using hq
  choose kr hk using hk
  choose sr hs using hs
  rw [Cert.ReferenceIdeal.Ctx.v25]
  have e1 : (t.val * 256 + r.val) / 256 = t.val := by omega
  have e2 : (t.val * 256 + r.val) % 256 = r.val := by omega
  simp only [e1, e2]
  -- the scores and the sink in reals
  let S : Fin 256 → ℝ := fun j => (∑ x : Fin 64, kr (ix4 ⟨t.val, ht⟩ j ⟨C.val / 256, by omega⟩ x) * qr (ix3 ⟨t.val * 256 + r.val, by omega⟩ ⟨C.val / 256 * 4 + C.val / 64 % 4, by omega⟩ x)) * (1 / 8)
  let T : ℝ := sr (ix1 ⟨C.val / 256 * 4 + C.val / 64 % 4, by omega⟩)
  let W : Fin 256 → EReal := fun j => av m c (ix4 ⟨t.val, ht⟩ j ⟨C.val / 256, by omega⟩ ⟨C.val % 64, by omega⟩)
  have hsc : ∀ j, Cert.ReferenceIdeal.Ctx.sc (aq m c) (ak m c) ⟨t.val, ht⟩ ⟨C.val / 256, by omega⟩ ⟨C.val / 64 % 4, by omega⟩ r j = ((S j : ℝ) : EReal) := by
    intro j
    unfold Cert.ReferenceIdeal.Ctx.sc
    rw [ofBits_eighth, EReal.coe_mul, ← sum_coe]
    refine congrArg (· * _) (Finset.sum_congr rfl fun x _ => ?_)
    rw [hq, hk, EReal.coe_mul]
  refine Eq.trans ?_ (ref_eq S W T _ (fun x => ?_) _ rfl).symm
  · have hC : C.val / 64 = C.val / 256 * 4 + C.val / 64 % 4 := by omega
    have hC4 : C.val / 64 / 4 = C.val / 256 := by omega
    rw [block_apply]
    unfold cell
    refine Eq.trans ?_ (rowAtt_eq S W T)
    congr 1
    · funext j
      show _ = (((∑ x : Fin 64, kr _ * qr _) * (1 / 8) * a : ℝ) : EReal)
      rw [mul_assoc, Finset.sum_mul, ← sum_coe]
      refine Finset.sum_congr rfl fun x _ => ?_
      rw [i1, i2, V7, V0, scale_eq, hq, hk, ← EReal.coe_mul, ← EReal.coe_mul, mul_right_comm, mul_comm (qr _)]
      have ex := x.isLt
      have d1 : (C.val / 64 * 64 + x.val) / 64 = C.val / 256 * 4 + C.val / 64 % 4 := by omega
      have d2 : (C.val / 64 * 64 + x.val) % 64 = x.val := by omega
      have d3 : (t.val * 256 + j.val) / 256 = t.val := by omega
      have d4 : (t.val * 256 + j.val) % 256 = j.val := by omega
      have d5 : (C.val / 64 / 4 * 64 + x.val) / 64 = C.val / 256 := by omega
      have d6 : (C.val / 64 / 4 * 64 + x.val) % 64 = x.val := by omega
      simp only [d1, d2, d3, d4, d5, d6]
    · funext j
      rw [i3, V1]
      have d3 : (t.val * 256 + j.val) / 256 = t.val := by omega
      have d4 : (t.val * 256 + j.val) % 256 = j.val := by omega
      have d5 : (C.val / 64 / 4 * 64 + C.val % 64) / 64 = C.val / 256 := by omega
      have d6 : (C.val / 64 / 4 * 64 + C.val % 64) % 64 = C.val % 64 := by omega
      simp only [d3, d4, d5, d6]
      rfl
    · rw [i0, hs]
      rw [show (⟨C.val / 64, by omega⟩ : Fin 16) = ⟨C.val / 256 * 4 + C.val / 64 % 4, by omega⟩ from Fin.ext hC]
      exact sinkLog_eq _
  · unfold Cert.ReferenceIdeal.Ctx.row ext
    split
    · exact hsc _
    · exact hs _

/-- The result array after the run: the reference's function of the arguments. -/
theorem final (h : Cert.Pre_KernelIdeal_finite_scores (hPre_finite_scores := Cert.Pre_finite_scores.Gen.facts) m) :
    (dats m 0 c).arrAt 4 cfg0.N = Cert.ReferenceIdeal.Read.val_main_v25 (F := Ideal) (aq m c) (ak m c) (av m c) (ask m c) := by
  refine (dats m 0 c).arrAt_eq_of_covers 4 _ (by decide +kernel) fun t hf y => ?_
  simp only [after0_4, outsAt0, out_apply]
  refine Eq.trans ?_ ((point m c h t (y 0) (y 1)).trans ?_)
  · blk_simp
    rfl
  · refine congrArg _ (funext fun a => Fin.ext ?_)
    match a with
    | ⟨0, _⟩ => blk_simp [(idx t).2.2.2.2]; rfl
    | ⟨1, _⟩ => blk_simp [(idx t).2.2.2.2]; rfl

end Cert.KernelIdeal.Ctx
-- ==== Proof.FfnPieces.lean ====
module

public import proofs.«01_k».proof.Proof.Gen.Kernel2Ideal.Frame
public import Idealize.ShloMosaic.Lib.Pointwise
public import Idealize.ShloMosaic.Lib.Pipeline.ValueKit

@[expose] public section

/-! The feed-forward block's tile, over named pieces: what one grid point leaves in the scratch and in
the output window. Every name below is a stage of the body, so the facts about it are read stage by stage. -/

set_option maxRecDepth 16384
noncomputable section
namespace Cert.Kernel2Ideal.Ffn
open Cert.Kernel2Ideal Cert.Kernel2Ideal.Gen Idealize.ShloMosaic Idealize.ShloMosaic.TcCoe Idealize.SL.Sem Idealize.ShloMosaic.Tactic
variable {F : FTy → Type} [FloatOps F]

/-- Is the row tile one of the lattice frames? -/
def isLat (i : grid0.Coords) : BitVec 1 := Scalar.cmpi .sge (BitVec.ofNat 32 (i 0).val) 8#32

/-- The up-projection of 256 rows of the normalised tile, from row `o`. -/
def up (xn : Vec F S1024x1024 .bf16) (w : FVec F S1024x256 .bf16) (o : ℕ)
    (inb : ∀ a, (![o, 0] : Fin 2 → ℕ) a + (![256, 1024] : Fin 2 → ℕ) a ≤ S1024x1024.size a) : FVec F S256x256 .f32 :=
  k0_pay12 (View.ld xn (Rect.unit ![o, 0] ![256, 1024] inb)) w

/-- The four row blocks of the up-projection, stored 16 rows apart. -/
def blocks (xn : Vec F S1024x1024 .bf16) (w : FVec F S1024x256 .bf16) : List (View.Piece (Elt F) S1096x256 .f32) :=
  [⟨Rect.unit ![824, 0] ![256, 256] inb_S1096x256_S256x256_824_0, up xn w 768 inb_S1024x1024_S256x1024_768_0⟩,
   ⟨Rect.unit ![552, 0] ![256, 256] inb_S1096x256_S256x256_552_0, up xn w 512 inb_S1024x1024_S256x1024_512_0⟩,
   ⟨Rect.unit ![280, 0] ![256, 256] inb_S1096x256_S256x256_280_0, up xn w 256 inb_S1024x1024_S256x1024_256_0⟩,
   ⟨Rect.unit ![8, 0] ![256, 256] inb_S1096x256_S256x256_8_0, up xn w 0 inb_S1024x1024_S256x1024_0_0⟩]

/-- A row beside a block: on a lattice tile the neighbouring block's row, else the padding row. -/
def halo (lat : BitVec 1) (xn : Vec F S1024x1024 .bf16) (w : FVec F S1024x256 .bf16) (b : Vec F S1x1x256 .f32) (o : ℕ)
    (inb : ∀ a, (![o, 0] : Fin 2 → ℕ) a + (![1, 256] : Fin 2 → ℕ) a ≤ S1096x256.size a) : FVec F S1x256 .f32 :=
  k0_pay28 (Scalar.select lat (View.ld (View.canon (blocks xn w)) (Rect.unit ![o, 0] ![1, 256] inb)) (k0_pay20 b))

/-- The scratch of one column block: the four row blocks and the rows beside them. -/
def slots (lat : BitVec 1) (xn : Vec F S1024x1024 .bf16) (w : FVec F S1024x256 .bf16) (b : Vec F S1x1x256 .f32) :
    List (View.Piece (Elt F) S1096x256 .f32) :=
  ⟨Rect.unit ![1080, 0] ![1, 256] inb_S1096x256_S1x256_1080_0, k0_pay27 (k0_pay20 b)⟩ ::
  ⟨Rect.unit ![823, 0] ![1, 256] inb_S1096x256_S1x256_823_0, halo lat xn w b 807 inb_S1096x256_S1x256_807_0⟩ ::
  ⟨Rect.unit ![808, 0] ![1, 256] inb_S1096x256_S1x256_808_0, halo lat xn w b 824 inb_S1096x256_S1x256_824_0⟩ ::
  ⟨Rect.unit ![551, 0] ![1, 256] inb_S1096x256_S1x256_551_0, halo lat xn w b 535 inb_S1096x256_S1x256_535_0⟩ ::
  ⟨Rect.unit ![536, 0] ![1, 256] inb_S1096x256_S1x256_536_0, halo lat xn w b 552 inb_S1096x256_S1x256_552_0⟩ ::
  ⟨Rect.unit ![279, 0] ![1, 256] inb_S1096x256_S1x256_279_0, halo lat xn w b 263 inb_S1096x256_S1x256_263_0⟩ ::
  ⟨Rect.unit ![264, 0] ![1, 256] inb_S1096x256_S1x256_264_0, halo lat xn w b 280 inb_S1096x256_S1x256_280_0⟩ ::
  ⟨Rect.unit ![7, 0] ![1, 256] inb_S1096x256_S1x256_7_0, k0_pay27 (k0_pay20 b)⟩ ::
  blocks xn w

/-- The three-tap convolution of 256 rows held from row `o + 1` of a scratch. -/
def conv (x : Vec F S1096x256 .f32) (k : Vec F S1x3x256 .f32) (cb b : Vec F S1x1x256 .f32) (o : ℕ)
    (h0 : ∀ a, (![o, 0] : Fin 2 → ℕ) a + (![256, 256] : Fin 2 → ℕ) a ≤ S1096x256.size a)
    (h1 : ∀ a, (![o + 1, 0] : Fin 2 → ℕ) a + (![256, 256] : Fin 2 → ℕ) a ≤ S1096x256.size a)
    (h2 : ∀ a, (![o + 2, 0] : Fin 2 → ℕ) a + (![256, 256] : Fin 2 → ℕ) a ≤ S1096x256.size a) : FVec F S256x256 .f32 :=
  k0_pay45 k cb b (View.ld x (Rect.unit ![o, 0] ![256, 256] h0)) (View.ld x (Rect.unit ![o + 1, 0] ![256, 256] h1))
    (View.ld x (Rect.unit ![o + 2, 0] ![256, 256] h2))

/-- The gate: `silu g * v`, cast for the down-projection. -/
def act (g v : FVec F S256x256 .f32) : FVec F S256x256 .bf16 :=
  truncf .bf16 (mulf (mulf g (logistic g)) v) bitsLt_bf16_f32

/-- The weights one grid point takes of the feed-forward block. -/
structure Wts (F : FTy → Type) where
  g : Vec F S1x1024x256 .f32
  v : Vec F S1x1024x256 .f32
  bg : Vec F S1x1x256 .f32
  bv : Vec F S1x1x256 .f32
  kg : Vec F S1x3x256 .f32
  kv : Vec F S1x3x256 .f32
  cg : Vec F S1x1x256 .f32
  cv : Vec F S1x1x256 .f32
  d : Vec F S1x256x1024 .f32

/-- The accumulator's rows from `r` on, with the activation of the block held from `o + 1` added. -/
def chunk (lat : BitVec 1) (xn : Vec F S1024x1024 .bf16) (acc : Vec F S1024x1024 .f32) (W : Wts F) (r o : ℕ)
    (hr : ∀ a, (![r, 0] : Fin 2 → ℕ) a + (![256, 1024] : Fin 2 → ℕ) a ≤ S1024x1024.size a)
    (h0 : ∀ a, (![o, 0] : Fin 2 → ℕ) a + (![256, 256] : Fin 2 → ℕ) a ≤ S1096x256.size a)
    (h1 : ∀ a, (![o + 1, 0] : Fin 2 → ℕ) a + (![256, 256] : Fin 2 → ℕ) a ≤ S1096x256.size a)
    (h2 : ∀ a, (![o + 2, 0] : Fin 2 → ℕ) a + (![256, 256] : Fin 2 → ℕ) a ≤ S1096x256.size a) : FVec F S256x1024 .f32 :=
  k0_pay1
    (act (conv (View.canon (slots lat xn (k0_pay9 W.g) W.bg)) W.kg W.cg W.bg o h0 h1 h2)
      (conv (View.canon (slots lat xn (k0_pay9 W.v) W.bv)) W.kv W.cv W.bv o h0 h1 h2))
    (View.ld acc (Rect.unit ![r, 0] ![256, 1024] hr)) (k0_pay11 W.d)

/-- The accumulator after one grid point, from the one before. -/
def accPieces (lat : BitVec 1) (xn : Vec F S1024x1024 .bf16) (acc : Vec F S1024x1024 .f32) (W : Wts F) :
    List (View.Piece (Elt F) S1024x1024 .f32) :=
  [⟨Rect.unit ![768, 0] ![256, 1024] inb_S1024x1024_S256x1024_768_0,
    chunk lat xn acc W 768 823 inb_S1024x1024_S256x1024_768_0 inb_S1096x256_S256x256_823_0 inb_S1096x256_S256x256_824_0 inb_S1096x256_S256x256_825_0⟩,
   ⟨Rect.unit ![512, 0] ![256, 1024] inb_S1024x1024_S256x1024_512_0,
    chunk lat xn acc W 512 551 inb_S1024x1024_S256x1024_512_0 inb_S1096x256_S256x256_551_0 inb_S1096x256_S256x256_552_0 inb_S1096x256_S256x256_553_0⟩,
   ⟨Rect.unit ![256, 0] ![256, 1024] inb_S1024x1024_S256x1024_256_0,
    chunk lat xn acc W 256 279 inb_S1024x1024_S256x1024_256_0 inb_S1096x256_S256x256_279_0 inb_S1096x256_S256x256_280_0 inb_S1096x256_S256x256_281_0⟩,
   ⟨Rect.unit ![0, 0] ![256, 1024] inb_S1024x1024_S256x1024_0_0,
    chunk lat xn acc W 0 7 inb_S1024x1024_S256x1024_0_0 inb_S1096x256_S256x256_7_0 inb_S1096x256_S256x256_8_0 inb_S1096x256_S256x256_9_0⟩]

/-! The printed body cuts the same text at other places for each row block; the cuts say the same. -/

theorem up_ties : (k0_pay13 (F := F) = k0_pay12 ∧ k0_pay14 (F := F) = k0_pay12 ∧ k0_pay15 (F := F) = k0_pay12 ∧ k0_pay16 (F := F) = k0_pay12)
    ∧ k0_pay17 (F := F) = k0_pay12 ∧ k0_pay18 (F := F) = k0_pay12 ∧ k0_pay19 (F := F) = k0_pay12 := ⟨⟨rfl, rfl, rfl, rfl⟩, rfl, rfl, rfl⟩

theorem row_ties : (k0_pay29 (F := F) = k0_pay28 ∧ k0_pay30 (F := F) = k0_pay28 ∧ k0_pay31 (F := F) = k0_pay28 ∧ k0_pay32 (F := F) = k0_pay28)
    ∧ (k0_pay33 (F := F) = k0_pay28 ∧ k0_pay34 (F := F) = k0_pay28 ∧ k0_pay37 (F := F) = k0_pay28 ∧ k0_pay44 (F := F) = k0_pay28)
    ∧ k0_pay39 (F := F) = k0_pay28 ∧ k0_pay27 (F := F) = k0_pay28 ∧ k0_pay35 (F := F) = k0_pay20 :=
  ⟨⟨rfl, rfl, rfl, rfl⟩, ⟨rfl, rfl, rfl, rfl⟩, rfl, rfl, rfl⟩

theorem halo_ties : ((∀ l b r, k0_pay21 (F := F) l b r = Scalar.select l r (k0_pay20 b)) ∧ (∀ l b r, k0_pay22 (F := F) l b r = Scalar.select l r (k0_pay20 b))
      ∧ ∀ l b r, k0_pay23 (F := F) l b r = Scalar.select l r (k0_pay20 b))
    ∧ ((∀ l b r, k0_pay24 (F := F) l b r = Scalar.select l r (k0_pay20 b)) ∧ (∀ l b r, k0_pay25 (F := F) l b r = Scalar.select l r (k0_pay20 b))
      ∧ ∀ l b r, k0_pay26 (F := F) l b r = Scalar.select l r (k0_pay20 b))
    ∧ (∀ l b r, k0_pay36 (F := F) l b r = Scalar.select l r (k0_pay20 b))
    ∧ ((∀ l p r, k0_pay38 (F := F) l p r = k0_pay28 (Scalar.select l r p)) ∧ (∀ l p r, k0_pay40 (F := F) l p r = k0_pay28 (Scalar.select l r p))
      ∧ ∀ l p r, k0_pay41 (F := F) l p r = k0_pay28 (Scalar.select l r p))
    ∧ (∀ l p r, k0_pay42 (F := F) l p r = k0_pay28 (Scalar.select l r p)) ∧ ∀ l p r, k0_pay43 (F := F) l p r = k0_pay28 (Scalar.select l r p) :=
  ⟨⟨fun _ _ _ => rfl, fun _ _ _ => rfl, fun _ _ _ => rfl⟩, ⟨fun _ _ _ => rfl, fun _ _ _ => rfl, fun _ _ _ => rfl⟩, fun _ _ _ => rfl,
    ⟨fun _ _ _ => rfl, fun _ _ _ => rfl, fun _ _ _ => rfl⟩, fun _ _ _ => rfl, fun _ _ _ => rfl⟩

theorem tie0 (g : FVec F S256x256 .f32) (kv : Vec F S1x3x256 .f32) (cv bv : Vec F S1x1x256 .f32) (a b c : Vec F S256x256 .f32)
    (acc : Vec F S256x1024 .f32) (wd : Vec F S256x1024 .bf16) :
    k0_pay48 g (k0_pay46 kv) (k0_pay47 cv) bv a b c acc wd = k0_pay1 (act g (k0_pay45 kv cv bv a b c)) acc wd := rfl

theorem tie1 (kg kv : Vec F S1x3x256 .f32) (cg bg cv bv : Vec F S1x1x256 .f32) (a' b' c' a b c : Vec F S256x256 .f32)
    (acc : Vec F S256x1024 .f32) (wd : Vec F S256x1024 .bf16) :
    k0_pay54 (k0_pay50 (k0_pay49 kg) cg bg a' b' c') (k0_pay51 kv) (k0_pay52 kv cv bv) (k0_pay53 kv) a b c acc wd
      = k0_pay1 (act (k0_pay45 kg cg bg a' b' c') (k0_pay45 kv cv bv a b c)) acc wd := rfl

theorem tie2 (kg kv : Vec F S1x3x256 .f32) (cg bg cv bv : Vec F S1x1x256 .f32) (a' b' c' a b c : Vec F S256x256 .f32)
    (acc : Vec F S256x1024 .f32) (wd : Vec F S256x1024 .bf16) :
    k0_pay63 (k0_pay59 (k0_pay55 kg) (k0_pay56 cg) (k0_pay57 bg) (k0_pay58 kg) a' b' c') (k0_pay60 kv) (k0_pay61 kv cv bv a) (k0_pay62 kv b) c acc wd
      = k0_pay1 (act (k0_pay45 kg cg bg a' b' c') (k0_pay45 kv cv bv a b c)) acc wd := rfl

theorem tie3 (kg kv : Vec F S1x3x256 .f32) (cg bg cv bv : Vec F S1x1x256 .f32) (a' b' c' a b c : Vec F S256x256 .f32) :
    k0_pay67 (k0_pay64 kg) (k0_pay65 kg cg bg a') (k0_pay66 kg) b' c' kv cv bv a b c
      = act (k0_pay45 kg cg bg a' b' c') (k0_pay45 kv cv bv a b c) := rfl

/-- A load of what earlier stores left is a load of those stores' contents. -/
theorem readCov_ld {Val : EltTy → Type} [∀ e, Nonempty (Val e)] {sig : RefSig} {κ : Kind} {sp : Space} {s : Shape} {e : EltTy} (v : View sig κ sp s e)
    (L : List (View.Piece Val s e)) (r : Rect s) : v.readCov L r.toLoadRect = View.ld (View.canon L) r :=
  View.readCov_eq_canon' v L r.toLoadRect

theorem ld_cons_skip {Val : EltTy → Type} [∀ e, Nonempty (Val e)] {s : Shape} {e : EltTy} (p : View.Piece Val s e) (L : List (View.Piece Val s e)) (r : Rect s)
    (h : ∀ x, r.idx x ∉ p.1.set) : View.ld (View.canon (p :: L)) r = View.ld (View.canon L) r :=
  funext fun x => View.canon_cons_of_not_mem p L (h x)

/-- A row of one block of 256 rows is not among the rows of an earlier block. -/
theorem not_mem_rows (o o' : ℕ) (h : ∀ a, (![o, 0] : Fin 2 → ℕ) a + (![256, 1024] : Fin 2 → ℕ) a ≤ S1024x1024.size a)
    (h' : ∀ a, (![o', 0] : Fin 2 → ℕ) a + (![256, 1024] : Fin 2 → ℕ) a ≤ S1024x1024.size a) (ho : o + 256 ≤ o')
    (x : (Rect.unit (s := S1024x1024) ![o', 0] ![256, 1024] h').shape.Idx) :
    (Rect.unit (s := S1024x1024) ![o', 0] ![256, 1024] h').idx x ∉ (Rect.unit (s := S1024x1024) ![o, 0] ![256, 1024] h).set := by
  intro hm
  obtain ⟨y, hy⟩ := (Rect.unit (s := S1024x1024) ![o, 0] ![256, 1024] h).exists_idx_of_mem hm
  have e0 := Rect.idx_unit_val (s := S1024x1024) ![o, 0] ![256, 1024] h y (0 : Fin 2)
  have e1 := Rect.idx_unit_val (s := S1024x1024) ![o', 0] ![256, 1024] h' x (0 : Fin 2)
  have hy0 : (y (0 : Fin 2)).val < 256 := (y (0 : Fin 2)).isLt
  rw [hy] at e0
  have e2 : o + (y (0 : Fin 2)).val = o' + (x (0 : Fin 2)).val := e0.symm.trans e1
  clear e0 e1 hm hy
  omega

/-- A load of rows past those the last store wrote skips it. -/
theorem ld_skip (o o' : ℕ) (h : ∀ a, (![o, 0] : Fin 2 → ℕ) a + (![256, 1024] : Fin 2 → ℕ) a ≤ S1024x1024.size a)
    (h' : ∀ a, (![o', 0] : Fin 2 → ℕ) a + (![256, 1024] : Fin 2 → ℕ) a ≤ S1024x1024.size a)
    (w : (Rect.unit (s := S1024x1024) ![o, 0] ![256, 1024] h).shape.Idx → Elt F .f32)
    (L : List (View.Piece (Elt F) S1024x1024 .f32)) (ho : o + 256 ≤ o') :
    View.ld (View.canon (⟨Rect.unit ![o, 0] ![256, 1024] h, w⟩ :: L)) (Rect.unit ![o', 0] ![256, 1024] h')
      = View.ld (View.canon L) (Rect.unit ![o', 0] ![256, 1024] h') :=
  ld_cons_skip _ L _ (not_mem_rows o o' h h' ho)

/-- The residual stream of a tile after the attention's output projection. -/
def xNew (lat : BitVec 1) (h : Vec F S1024x1024 .f32) (oc ol wo : Vec F S1024x1024 .bf16) (md : Vec F S1x1x1x6144 .f32) : FVec F S1024x1024 .f32 :=
  k0_pay4 lat md h ol oc wo

/-- Its normalised, modulated rows. -/
def xNorm (lat : BitVec 1) (h : Vec F S1024x1024 .f32) (oc ol wo : Vec F S1024x1024 .bf16) (md : Vec F S1x1x1x6144 .f32) (gain : Vec F S1x1024 .f32) :
    FVec F S1024x1024 .bf16 :=
  k0_pay7 (k0_pay5 lat md h ol oc wo gain) (k0_pay6 md)

variable (c : Dev nD) (i : grid0.Coords) (a2 : Memref sig .tc .vmem S1024x1024 .f32) (ha2 : a2.IsWhole) (a3 : Memref sig .tc .vmem S1024x1024 .bf16) (ha3 : a3.IsWhole) (a4 : Memref sig .tc .vmem S1024x1024 .bf16) (ha4 : a4.IsWhole) (a5 : Memref sig .tc .vmem S1024x1024 .bf16) (ha5 : a5.IsWhole) (a6 : Memref sig .tc .vmem S1x1x1x6144 .f32) (ha6 : a6.IsWhole) (a7 : Memref sig .tc .vmem S1x1024 .f32) (ha7 : a7.IsWhole) (a8 : Memref sig .tc .vmem S1x1024x256 .f32) (ha8 : a8.IsWhole) (a9 : Memref sig .tc .vmem S1x1024x256 .f32) (ha9 : a9.IsWhole) (a10 : Memref sig .tc .vmem S1x1x256 .f32) (ha10 : a10.IsWhole) (a11 : Memref sig .tc .vmem S1x1x256 .f32) (ha11 : a11.IsWhole) (a12 : Memref sig .tc .vmem S1x3x256 .f32) (ha12 : a12.IsWhole) (a13 : Memref sig .tc .vmem S1x3x256 .f32) (ha13 : a13.IsWhole) (a14 : Memref sig .tc .vmem S1x1x256 .f32) (ha14 : a14.IsWhole) (a15 : Memref sig .tc .vmem S1x1x256 .f32) (ha15 : a15.IsWhole) (a16 : Memref sig .tc .vmem S1x256x1024 .f32) (ha16 : a16.IsWhole) (a17 : Memref sig .tc .vmem S1024x1024 .f32) (ha17 : a17.IsWhole) (a18 : Memref sig .tc .vmem S1024x1024 .bf16) (ha18 : a18.IsWhole) (a19 : Memref sig .tc .vmem S1024x1024 .f32) (ha19 : a19.IsWhole) (a20 : Memref sig .tc .vmem S1096x256 .f32) (ha20 : a20.IsWhole) (a21 : Memref sig .tc .vmem S1096x256 .f32) (ha21 : a21.IsWhole) (a22 : Memref sig .tc .vmem S1024x256 .bf16) (ha22 : a22.IsWhole) (a23 : Memref sig .tc .vmem S1024x256 .bf16) (ha23 : a23.IsWhole) (a24 : Memref sig .tc .vmem S256x1024 .bf16) (ha24 : a24.IsWhole)
  (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32)

/-- The accumulator after a middle column block. -/
theorem acc_B (hc0 : ¬cond0_0 i) (hc1 : ¬cond0_1 i) (xs0 : Vec F S1024x1024 .bf16) (xs1 : Vec F S1024x1024 .f32) :
    sout0_B_1 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 hc0 hc1 x0 x1 x2 x3 x4 x5 x6 x7 x8 x9 x10 x11 x12 x13 x14 xs0 xs1
      = View.canon (accPieces (isLat i) xs0 xs1 ⟨x6, x7, x8, x9, x10, x11, x12, x13, x14⟩) := by
  unfold sout0_B_1
  rw [View.read_writes_eq_canon _ _ _ (scover0_B_1 c i _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _)]
  unfold kernelRun0_B
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread,
    readCov_ld]
  simp (disch := decide) only [View.ld_unit_lit', View.canon_cons_unit_lit']
  try simp only [up_ties, row_ties, halo_ties, tie0, tie1, tie2, tie3]
  rfl

/-- The accumulator after the last column block. -/
theorem acc_C (hc0 : ¬cond0_0 i) (hc1 : cond0_1 i) (xo15 : Vec F S1024x1024 .f32) (xs0 : Vec F S1024x1024 .bf16) (xs1 : Vec F S1024x1024 .f32) :
    sout0_C_1 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 hc0 hc1 x0 x1 x2 x3 x4 x5 x6 x7 x8 x9 x10 x11 x12 x13 x14 xo15 xs0 xs1
      = View.canon (accPieces (isLat i) xs0 xs1 ⟨x6, x7, x8, x9, x10, x11, x12, x13, x14⟩) := by
  unfold sout0_C_1
  rw [View.read_writes_eq_canon _ _ _ (scover0_C_1 c i _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _)]
  unfold kernelRun0_C
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread,
    readCov_ld]
  simp (disch := decide) only [View.ld_unit_lit', View.canon_cons_unit_lit']
  try simp only [up_ties, row_ties, halo_ties, tie0, tie1, tie2, tie3]
  rfl

/-- The result written after the last column block. -/
theorem out_C (hc0 : ¬cond0_0 i) (hc1 : cond0_1 i) (xo15 : Vec F S1024x1024 .f32) (xs0 : Vec F S1024x1024 .bf16) (xs1 : Vec F S1024x1024 .f32) :
    out0_C_15 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 hc0 hc1 x0 x1 x2 x3 x4 x5 x6 x7 x8 x9 x10 x11 x12 x13 x14 xo15 xs0 xs1
      = k0_pay2 xo15 (View.ld x4 (Rect.unit ![0, 0, 0, 5120] ![1, 1, 1, 1024] inb_S1x1x1x6144_S1x1x1x1024_0_0_0_5120)) (View.canon (accPieces (isLat i) xs0 xs1 ⟨x6, x7, x8, x9, x10, x11, x12, x13, x14⟩)) := by
  unfold out0_C_15
  rw [View.read_writes_eq_canon _ _ _ (cover0_C_15 c i _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _)]
  unfold kernelRun0_C
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread,
    readCov_ld]
  simp (disch := decide) only [View.ld_unit_lit', View.canon_cons_unit_lit']
  try simp only [up_ties, row_ties, halo_ties, tie0, tie1, tie2, tie3]
  rfl

/-- The residual stream kept in the output window at the first column block. -/
theorem out_A (hc0 : cond0_0 i) (hc1 : ¬cond0_1 i) :
    out0_A_15 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 hc0 hc1 x0 x1 x2 x3 x4 x5 x6 x7 x8 x9 x10 x11 x12 x13 x14
      = xNew (isLat i) x0 x1 x2 x3 x4 := by
  unfold out0_A_15
  rw [View.read_writes_eq_canon _ _ _ (cover0_A_15 c i _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _)]
  unfold kernelRun0_A
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread,
    readCov_ld]
  simp (disch := decide) only [View.ld_unit_lit', View.canon_cons_unit_lit']
  try simp only [up_ties, row_ties, halo_ties, tie0, tie1, tie2, tie3]
  rfl

/-- The normalised rows kept at the first column block. -/
theorem xn_A (hc0 : cond0_0 i) (hc1 : ¬cond0_1 i) :
    sout0_A_0 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 hc0 hc1 x0 x1 x2 x3 x4 x5 x6 x7 x8 x9 x10 x11 x12 x13 x14
      = xNorm (isLat i) x0 x1 x2 x3 x4 x5 := by
  unfold sout0_A_0
  rw [View.read_writes_eq_canon _ _ _ (scover0_A_0 c i _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _)]
  unfold kernelRun0_A
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread,
    readCov_ld]
  simp (disch := decide) only [View.ld_unit_lit', View.canon_cons_unit_lit']
  try simp only [up_ties, row_ties, halo_ties, tie0, tie1, tie2, tie3]
  rfl

/-- The accumulator after the first column block. -/
theorem acc_A (hc0 : cond0_0 i) (hc1 : ¬cond0_1 i) :
    sout0_A_1 c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 hc0 hc1 x0 x1 x2 x3 x4 x5 x6 x7 x8 x9 x10 x11 x12 x13 x14
      = View.canon (accPieces (isLat i) (xNorm (isLat i) x0 x1 x2 x3 x4 x5) k0_pay8 ⟨x6, x7, x8, x9, x10, x11, x12, x13, x14⟩ ++ [⟨Rect.unit ![0, 0] ![1024, 1024] inb_S1024x1024_S1024x1024_0_0, k0_pay8⟩]) := by
  unfold sout0_A_1
  rw [View.read_writes_eq_canon _ _ _ (scover0_A_1 c i _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _)]
  unfold kernelRun0_A
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread,
    readCov_ld]
  simp (disch := decide) only [View.ld_unit_lit', View.canon_cons_unit_lit']
  simp (disch := decide) only [ld_skip, View.canon_cons_unit_lit']
  simp only [up_ties, row_ties, halo_ties, tie0, tie1, tie2, tie3]
  rfl

end Cert.Kernel2Ideal.Ffn
-- ==== Proof.FfnRead.lean ====
module

public import proofs.«01_k».proof.Proof.FfnPieces
public import Idealize.ShloMosaic.Lib.Pipeline.CanonAppend

@[expose] public section

/-! The pieces of the feed-forward tile, read at an index over the extended reals. -/

set_option maxRecDepth 16384
noncomputable section
namespace Cert.Kernel2Ideal.Ffn
open Cert.Kernel2Ideal Cert.Kernel2Ideal.Gen Idealize.ShloMosaic Idealize.ShloMosaic.TcCoe Idealize.SL.Sem Idealize.ShloMosaic.Tactic

/-- A row number of a tile. -/
def rw4 (r : ℕ) : Fin 1024 := ⟨r % 1024, Nat.mod_lt _ (by decide)⟩

/-- The up-projection of row `r` at column `j`. -/
def U (xn : Vec Ideal S1024x1024 .bf16) (w : Vec Ideal S1x1024x256 .f32) (r : ℕ) (j : Fin 256) : EReal :=
  ∑ k : Fin 1024, (xn (ix2 (rw4 r) k) : EReal) * w (ix3 0 k j)

theorem up_apply (xn : Vec Ideal S1024x1024 .bf16) (w : Vec Ideal S1x1024x256 .f32) (o : ℕ) (inb) (ho : o + 256 ≤ 1024) (p j : Fin 256) :
    up xn (k0_pay9 w) o inb (ix2 p j) = U xn w (o + p.val) j := by
  have e : rw4 (o + p.val) = ⟨o + p.val, by omega⟩ := Fin.ext (Nat.mod_eq_of_lt (by omega))
  unfold U
  rw [e]
  pointwise [up, k0_pay12, k0_pay9]

theorem pad_apply (b : Vec Ideal S1x1x256 .f32) (j : Fin 256) :
    k0_pay28 (k0_pay20 b) (ix2 0 j) = (0 : EReal) - b (ix3 0 0 j) := by
  pointwise [k0_pay28, k0_pay20, Ideal.ofBits_zero_f32]

theorem conv_apply (x : Vec Ideal S1096x256 .f32) (k : Vec Ideal S1x3x256 .f32) (cb b : Vec Ideal S1x1x256 .f32) (o : ℕ) (h0 h1 h2)
    (ho : o + 258 ≤ 1096) (p j : Fin 256) :
    conv x k cb b o h0 h1 h2 (ix2 p j)
      = (((cb (ix3 0 0 j) + b (ix3 0 0 j) * ((k (ix3 0 0 j) + k (ix3 0 1 j)) + k (ix3 0 2 j)))
          + k (ix3 0 0 j) * x (ix2 ⟨o + p.val, by omega⟩ j)) + k (ix3 0 1 j) * x (ix2 ⟨o + 1 + p.val, by omega⟩ j)
          + k (ix3 0 2 j) * x (ix2 ⟨o + 2 + p.val, by omega⟩ j) : EReal) := by
  pointwise [conv, k0_pay45]

/-- `silu g * v`. -/
def gate (g v : EReal) : EReal := g * Ideal.logistic g * v

theorem act_apply (g v : FVec Ideal S256x256 .f32) (p j : Fin 256) : act g v (ix2 p j) = gate (g (ix2 p j)) (v (ix2 p j)) := by
  pointwise [act, gate]

theorem pay1_apply (a : FVec Ideal S256x256 .bf16) (acc : Vec Ideal S256x1024 .f32) (w : Vec Ideal S1x256x1024 .f32) (p : Fin 256) (d : Fin 1024) :
    k0_pay1 a acc (k0_pay11 w) (ix2 p d) = (acc (ix2 p d) + ∑ j : Fin 256, a (ix2 p j) * w (ix3 0 j d) : EReal) := by
  pointwise [k0_pay1, k0_pay11]

/-! ## The scratch's rows -/

/-- Row `R` of the scratch, on the blocks' rows: the up-projection of the tile's row it holds. -/
def blkVal (xn : Vec Ideal S1024x1024 .bf16) (w : Vec Ideal S1x1024x256 .f32) (y : S1096x256.Idx) : EReal :=
  U xn w (256 * ((y 0).val / 272) + ((y 0).val % 272 - 8)) (y 1)

theorem block_piece (xn : Vec Ideal S1024x1024 .bf16) (w : Vec Ideal S1x1024x256 .f32) (k : ℕ) (hk : k < 4) (o b : ℕ) (ho : o = 256 * k)
    (hb : b = 272 * k + 8) (inb) (h : ∀ a, (![b, 0] : Fin 2 → ℕ) a + (![256, 256] : Fin 2 → ℕ) a ≤ S1096x256.size a) (x : S256x256.Idx) :
    up xn (k0_pay9 w) o inb x = blkVal xn w ((Rect.unit (s := S1096x256) ![b, 0] ![256, 256] h).emb x) := by
  obtain ⟨p, j, rfl⟩ : ∃ p j : Fin 256, x = ix2 p j := ⟨x 0, x 1, eq_ix2 x⟩
  have e0 : ((Rect.unit (s := S1096x256) ![b, 0] ![256, 256] h).emb (ix2 p j) 0).val = b + p.val := ValueKit.rect_emb_unit_val _ _ _ _ _
  have e1 : ((Rect.unit (s := S1096x256) ![b, 0] ![256, 256] h).emb (ix2 p j) 1).val = j.val :=
    (ValueKit.rect_emb_unit_val _ _ _ _ _).trans (Nat.zero_add _)
  rw [up_apply _ _ _ _ (by omega)]
  unfold blkVal
  rw [e0]
  congr 1
  · omega
  · exact Fin.ext e1.symm

theorem mem_rows (b n : ℕ) (h : ∀ a, (![b, 0] : Fin 2 → ℕ) a + (![n, 256] : Fin 2 → ℕ) a ≤ S1096x256.size a) (R : Fin 1096) (j : Fin 256)
    (h0 : b ≤ R.val) (h1 : R.val < b + n) :
    (ix2 R j : S1096x256.Idx) ∈ (Rect.unit (s := S1096x256) ![b, 0] ![n, 256] h).set := by
  refine Rect.mem_set_unit.mpr fun a => ?_
  match a with
  | (0 : Fin 2) => exact ⟨h0, h1⟩
  | (1 : Fin 2) => exact ⟨Nat.zero_le _, by show j.val < 0 + 256; have := j.isLt; omega⟩

/-- The rows of the four blocks, read back. -/
theorem blocks_apply (xn : Vec Ideal S1024x1024 .bf16) (w : Vec Ideal S1x1024x256 .f32) (k : Fin 4) (p j : Fin 256) :
    View.canon (blocks xn (k0_pay9 w)) (ix2 ⟨272 * k.val + 8 + p.val, by omega⟩ j) = U xn w (256 * k.val + p.val) j := by
  rw [show U xn w (256 * k.val + p.val) j = blkVal xn w (ix2 (⟨272 * k.val + 8 + p.val, by omega⟩ : Fin 1096) j) by
    unfold blkVal; congr 1; show _ = 256 * ((272 * k.val + 8 + p.val) / 272) + ((272 * k.val + 8 + p.val) % 272 - 8); omega]
  refine View.canon_apply_of_pieces (Val := Elt Ideal) (S := S1096x256) (e := .f32) (blkVal xn w) _ ?_ _ ?_
  · intro q hq x
    unfold blocks at hq
    simp only [List.mem_cons, List.not_mem_nil, or_false] at hq
    rcases hq with rfl | rfl | rfl | rfl
    · exact block_piece xn w 3 (by omega) 768 824 rfl rfl _ inb_S1096x256_S256x256_824_0 x
    · exact block_piece xn w 2 (by omega) 512 552 rfl rfl _ inb_S1096x256_S256x256_552_0 x
    · exact block_piece xn w 1 (by omega) 256 280 rfl rfl _ inb_S1096x256_S256x256_280_0 x
    · exact block_piece xn w 0 (by omega) 0 8 rfl rfl _ inb_S1096x256_S256x256_8_0 x
  · have hj := j.isLt
    have hp := p.isLt
    unfold blocks
    fin_cases k
    · exact ⟨_, .tail _ (.tail _ (.tail _ (.head _))), mem_rows 8 256 inb_S1096x256_S256x256_8_0 _ j (by show 8 ≤ 272 * 0 + 8 + p.val; omega) (by show 272 * 0 + 8 + p.val < _; omega)⟩
    · exact ⟨_, .tail _ (.tail _ (.head _)), mem_rows 280 256 inb_S1096x256_S256x256_280_0 _ j (by show 280 ≤ 272 * 1 + 8 + p.val; omega) (by show 272 * 1 + 8 + p.val < _; omega)⟩
    · exact ⟨_, .tail _ (.head _), mem_rows 552 256 inb_S1096x256_S256x256_552_0 _ j (by show 552 ≤ 272 * 2 + 8 + p.val; omega) (by show 272 * 2 + 8 + p.val < _; omega)⟩
    · exact ⟨_, .head _, mem_rows 824 256 inb_S1096x256_S256x256_824_0 _ j (by show 824 ≤ 272 * 3 + 8 + p.val; omega) (by show 272 * 3 + 8 + p.val < _; omega)⟩

theorem select_at {ι α : Type} (l : BitVec 1) (f g : ι → α) (x : ι) : (Scalar.select l f g : ι → α) x = Scalar.select l (f x) (g x) := by
  unfold Scalar.select; split <;> rfl

theorem halo_apply (lat : BitVec 1) (xn : Vec Ideal S1024x1024 .bf16) (w : Vec Ideal S1x1024x256 .f32) (b : Vec Ideal S1x1x256 .f32) (o : ℕ) (inb)
    (k : Fin 4) (p : Fin 256) (ho : o = 272 * k.val + 8 + p.val) (j : Fin 256) :
    halo lat xn (k0_pay9 w) b o inb (ix2 0 j) = Scalar.select lat (U xn w (256 * k.val + p.val) j) ((0 : EReal) - b (ix3 0 0 j)) := by
  subst ho
  rw [← blocks_apply, ← pad_apply]
  unfold halo
  generalize View.canon (blocks xn (k0_pay9 w)) = B
  pointwise [k0_pay28, select_at]

/-- What the scratch holds in the rows the convolution reads: a block's rows, and beside them the neighbours' rows. -/
def slotRow (lat : BitVec 1) (xn : Vec Ideal S1024x1024 .bf16) (w : Vec Ideal S1x1024x256 .f32) (b : Vec Ideal S1x1x256 .f32) (R : ℕ) (j : Fin 256) : EReal :=
  if R % 272 = 7 then
    (if R / 272 = 0 then (0 : EReal) - b (ix3 0 0 j) else Scalar.select lat (U xn w (256 * (R / 272 - 1) + 255) j) ((0 : EReal) - b (ix3 0 0 j)))
  else if R % 272 = 264 then
    (if R / 272 = 3 then (0 : EReal) - b (ix3 0 0 j) else Scalar.select lat (U xn w (256 * (R / 272 + 1)) j) ((0 : EReal) - b (ix3 0 0 j)))
  else U xn w (256 * (R / 272) + (R % 272 - 8)) j

/-- The same, at an index of the scratch. -/
def slotVal (lat : BitVec 1) (xn : Vec Ideal S1024x1024 .bf16) (w : Vec Ideal S1x1024x256 .f32) (b : Vec Ideal S1x1x256 .f32) (y : S1096x256.Idx) : EReal :=
  slotRow lat xn w b (y 0).val (y 1)

theorem row_piece (lat : BitVec 1) (xn : Vec Ideal S1024x1024 .bf16) (w : Vec Ideal S1x1024x256 .f32) (b : Vec Ideal S1x1x256 .f32) (o : ℕ)
    (h : ∀ a, (![o, 0] : Fin 2 → ℕ) a + (![1, 256] : Fin 2 → ℕ) a ≤ S1096x256.size a) (row : FVec Ideal S1x256 .f32) (v : Fin 256 → EReal)
    (hv : ∀ j, row (ix2 0 j) = v j) (hs : ∀ y : S1096x256.Idx, (y 0).val = o → slotVal lat xn w b y = v (y 1)) (x : S1x256.Idx) :
    row x = slotVal lat xn w b ((Rect.unit (s := S1096x256) ![o, 0] ![1, 256] h).emb x) := by
  obtain ⟨p, j, rfl⟩ : ∃ (p : Fin 1) (j : Fin 256), x = ix2 p j := ⟨x 0, x 1, eq_ix2 x⟩
  obtain rfl : p = 0 := Subsingleton.elim _ _
  rw [hs _ ((ValueKit.rect_emb_unit_val _ _ _ _ _).trans (Nat.add_zero o)), hv]
  exact congrArg v (Fin.ext ((ValueKit.rect_emb_unit_val _ _ _ _ _).trans (Nat.zero_add _)).symm)

theorem block_slot (lat : BitVec 1) (xn : Vec Ideal S1024x1024 .bf16) (w : Vec Ideal S1x1024x256 .f32) (b : Vec Ideal S1x1x256 .f32) (k : ℕ) (hk : k < 4)
    (o c : ℕ) (ho : o = 256 * k) (hc : c = 272 * k + 8) (inb)
    (h : ∀ a, (![c, 0] : Fin 2 → ℕ) a + (![256, 256] : Fin 2 → ℕ) a ≤ S1096x256.size a) (x : S256x256.Idx) :
    up xn (k0_pay9 w) o inb x = slotVal lat xn w b ((Rect.unit (s := S1096x256) ![c, 0] ![256, 256] h).emb x) := by
  rw [block_piece xn w k hk o c ho hc inb h x]
  have e0 : ((Rect.unit (s := S1096x256) ![c, 0] ![256, 256] h).emb x 0).val = c + (x 0).val := ValueKit.rect_emb_unit_val _ _ _ _ _
  have hx : (x 0).val < 256 := (x 0).isLt
  unfold slotVal slotRow blkVal
  rw [e0, if_neg (by omega), if_neg (by omega)]

theorem slots_apply (lat : BitVec 1) (xn : Vec Ideal S1024x1024 .bf16) (w : Vec Ideal S1x1024x256 .f32) (b : Vec Ideal S1x1x256 .f32)
    (R : Fin 1096) (j : Fin 256) (hR : R.val < 1088) (h0 : 7 ≤ R.val % 272) (h1 : R.val % 272 ≤ 264) :
    View.canon (slots lat xn (k0_pay9 w) b) (ix2 R j) = slotVal lat xn w b (ix2 R j) := by
  refine View.canon_apply_of_pieces (Val := Elt Ideal) (S := S1096x256) (e := .f32) (slotVal lat xn w b) _ ?_ _ ?_
  · intro q hq x
    unfold slots blocks at hq
    simp only [List.mem_cons, List.not_mem_nil, or_false] at hq
    rcases hq with rfl | rfl | rfl | rfl | rfl | rfl | rfl | rfl | rfl | rfl | rfl | rfl
    · exact row_piece _ _ _ _ 1080 inb_S1096x256_S1x256_1080_0 _ _ (pad_apply b) (fun y hy => by unfold slotVal slotRow; rw [hy]; norm_num) x
    · exact row_piece _ _ _ _ 823 inb_S1096x256_S1x256_823_0 _ _ (halo_apply lat xn w b 807 inb_S1096x256_S1x256_807_0 2 255 rfl) (fun y hy => by unfold slotVal slotRow; rw [hy]; norm_num) x
    · exact row_piece _ _ _ _ 808 inb_S1096x256_S1x256_808_0 _ _ (halo_apply lat xn w b 824 inb_S1096x256_S1x256_824_0 3 0 rfl) (fun y hy => by unfold slotVal slotRow; rw [hy]; norm_num) x
    · exact row_piece _ _ _ _ 551 inb_S1096x256_S1x256_551_0 _ _ (halo_apply lat xn w b 535 inb_S1096x256_S1x256_535_0 1 255 rfl) (fun y hy => by unfold slotVal slotRow; rw [hy]; norm_num) x
    · exact row_piece _ _ _ _ 536 inb_S1096x256_S1x256_536_0 _ _ (halo_apply lat xn w b 552 inb_S1096x256_S1x256_552_0 2 0 rfl) (fun y hy => by unfold slotVal slotRow; rw [hy]; norm_num) x
    · exact row_piece _ _ _ _ 279 inb_S1096x256_S1x256_279_0 _ _ (halo_apply lat xn w b 263 inb_S1096x256_S1x256_263_0 0 255 rfl) (fun y hy => by unfold slotVal slotRow; rw [hy]; norm_num) x
    · exact row_piece _ _ _ _ 264 inb_S1096x256_S1x256_264_0 _ _ (halo_apply lat xn w b 280 inb_S1096x256_S1x256_280_0 1 0 rfl) (fun y hy => by unfold slotVal slotRow; rw [hy]; norm_num) x
    · exact row_piece _ _ _ _ 7 inb_S1096x256_S1x256_7_0 _ _ (pad_apply b) (fun y hy => by unfold slotVal slotRow; rw [hy]; norm_num) x
    · exact block_slot lat xn w b 3 (by omega) 768 824 rfl rfl _ inb_S1096x256_S256x256_824_0 x
    · exact block_slot lat xn w b 2 (by omega) 512 552 rfl rfl _ inb_S1096x256_S256x256_552_0 x
    · exact block_slot lat xn w b 1 (by omega) 256 280 rfl rfl _ inb_S1096x256_S256x256_280_0 x
    · exact block_slot lat xn w b 0 (by omega) 0 8 rfl rfl _ inb_S1096x256_S256x256_8_0 x
  · have hlt := R.isLt
    unfold slots blocks
    have hK : R.val / 272 < 4 := by omega
    have hd := Nat.div_add_mod R.val 272
    rcases (by omega : R.val / 272 = 0 ∨ R.val / 272 = 1 ∨ R.val / 272 = 2 ∨ R.val / 272 = 3) with hk | hk | hk | hk
    · rcases (by omega : R.val % 272 = 7 ∨ R.val % 272 = 264 ∨ (8 ≤ R.val % 272 ∧ R.val % 272 < 264)) with hq | hq | hq
      · exact ⟨_, .tail _ (.tail _ (.tail _ (.tail _ (.tail _ (.tail _ (.tail _ (.head _))))))), mem_rows 7 1 inb_S1096x256_S1x256_7_0 R j (by omega) (by omega)⟩
      · exact ⟨_, .tail _ (.tail _ (.tail _ (.tail _ (.tail _ (.tail _ (.head _)))))), mem_rows 264 1 inb_S1096x256_S1x256_264_0 R j (by omega) (by omega)⟩
      · exact ⟨_, .tail _ (.tail _ (.tail _ (.tail _ (.tail _ (.tail _ (.tail _ (.tail _ (.tail _ (.tail _ (.tail _ (.head _))))))))))), mem_rows 8 256 inb_S1096x256_S256x256_8_0 R j (by omega) (by omega)⟩
    · rcases (by omega : R.val % 272 = 7 ∨ R.val % 272 = 264 ∨ (8 ≤ R.val % 272 ∧ R.val % 272 < 264)) with hq | hq | hq
      · exact ⟨_, .tail _ (.tail _ (.tail _ (.tail _ (.tail _ (.head _))))), mem_rows 279 1 inb_S1096x256_S1x256_279_0 R j (by omega) (by omega)⟩
      · exact ⟨_, .tail _ (.tail _ (.tail _ (.tail _ (.head _)))), mem_rows 536 1 inb_S1096x256_S1x256_536_0 R j (by omega) (by omega)⟩
      · exact ⟨_, .tail _ (.tail _ (.tail _ (.tail _ (.tail _ (.tail _ (.tail _ (.tail _ (.tail _ (.tail _ (.head _)))))))))), mem_rows 280 256 inb_S1096x256_S256x256_280_0 R j (by omega) (by omega)⟩
    · rcases (by omega : R.val % 272 = 7 ∨ R.val % 272 = 264 ∨ (8 ≤ R.val % 272 ∧ R.val % 272 < 264)) with hq | hq | hq
      · exact ⟨_, .tail _ (.tail _ (.tail _ (.head _))), mem_rows 551 1 inb_S1096x256_S1x256_551_0 R j (by omega) (by omega)⟩
      · exact ⟨_, .tail _ (.tail _ (.head _)), mem_rows 808 1 inb_S1096x256_S1x256_808_0 R j (by omega) (by omega)⟩
      · exact ⟨_, .tail _ (.tail _ (.tail _ (.tail _ (.tail _ (.tail _ (.tail _ (.tail _ (.tail _ (.head _))))))))), mem_rows 552 256 inb_S1096x256_S256x256_552_0 R j (by omega) (by omega)⟩
    · rcases (by omega : R.val % 272 = 7 ∨ R.val % 272 = 264 ∨ (8 ≤ R.val % 272 ∧ R.val % 272 < 264)) with hq | hq | hq
      · exact ⟨_, .tail _ (.head _), mem_rows 823 1 inb_S1096x256_S1x256_823_0 R j (by omega) (by omega)⟩
      · exact ⟨_, .head _, mem_rows 1080 1 inb_S1096x256_S1x256_1080_0 R j (by omega) (by omega)⟩
      · exact ⟨_, .tail _ (.tail _ (.tail _ (.tail _ (.tail _ (.tail _ (.tail _ (.tail _ (.head _)))))))), mem_rows 824 256 inb_S1096x256_S256x256_824_0 R j (by omega) (by omega)⟩

/-! ## One grid point's step -/

/-- The row before row `r` of the tile, as the convolution sees it. -/
def prevU (lat : BitVec 1) (xn : Vec Ideal S1024x1024 .bf16) (w : Vec Ideal S1x1024x256 .f32) (b : Vec Ideal S1x1x256 .f32) (r : ℕ) (j : Fin 256) : EReal :=
  if r % 256 = 0 then (if r = 0 then (0 : EReal) - b (ix3 0 0 j) else Scalar.select lat (U xn w (r - 1) j) ((0 : EReal) - b (ix3 0 0 j)))
  else U xn w (r - 1) j

/-- The row after it. -/
def nextU (lat : BitVec 1) (xn : Vec Ideal S1024x1024 .bf16) (w : Vec Ideal S1x1024x256 .f32) (b : Vec Ideal S1x1x256 .f32) (r : ℕ) (j : Fin 256) : EReal :=
  if r % 256 = 255 then (if r = 1023 then (0 : EReal) - b (ix3 0 0 j) else Scalar.select lat (U xn w (r + 1) j) ((0 : EReal) - b (ix3 0 0 j)))
  else U xn w (r + 1) j

/-- The convolution at row `r`, column `j` of a column block. -/
def cv (lat : BitVec 1) (xn : Vec Ideal S1024x1024 .bf16) (w : Vec Ideal S1x1024x256 .f32) (b cb : Vec Ideal S1x1x256 .f32) (k : Vec Ideal S1x3x256 .f32)
    (r : ℕ) (j : Fin 256) : EReal :=
  (((cb (ix3 0 0 j) + b (ix3 0 0 j) * ((k (ix3 0 0 j) + k (ix3 0 1 j)) + k (ix3 0 2 j))) + k (ix3 0 0 j) * prevU lat xn w b r j)
    + k (ix3 0 1 j) * U xn w r j) + k (ix3 0 2 j) * nextU lat xn w b r j

/-- The gated activation at row `r`, column `j`. -/
def aval (lat : BitVec 1) (xn : Vec Ideal S1024x1024 .bf16) (W : Wts Ideal) (r : ℕ) (j : Fin 256) : EReal :=
  gate (cv lat xn W.g W.bg W.cg W.kg r j) (cv lat xn W.v W.bv W.cv W.kv r j)

/-- The accumulator after a grid point. -/
def stepAcc (lat : BitVec 1) (xn : Vec Ideal S1024x1024 .bf16) (acc : Vec Ideal S1024x1024 .f32) (W : Wts Ideal) : Vec Ideal S1024x1024 .f32 :=
  fun y => (acc y + ∑ j : Fin 256, aval lat xn W (y 0).val j * W.d (ix3 0 j (y 1)) : EReal)

theorem slot_prev (lat : BitVec 1) (xn : Vec Ideal S1024x1024 .bf16) (w : Vec Ideal S1x1024x256 .f32) (b : Vec Ideal S1x1x256 .f32) (k p : ℕ) (hk : k < 4)
    (hp : p < 256) (j : Fin 256) : slotRow lat xn w b (272 * k + 7 + p) j = prevU lat xn w b (256 * k + p) j := by
  unfold slotRow prevU
  rw [show (272 * k + 7 + p) / 272 = k by omega, show (272 * k + 7 + p) % 272 = 7 + p by omega, if_neg (by omega : ¬7 + p = 264)]
  by_cases hz : p = 0
  · rw [if_pos (by omega : 7 + p = 7), if_pos (by omega : (256 * k + p) % 256 = 0)]
    by_cases hk0 : k = 0
    · rw [if_pos hk0, if_pos (by omega)]
    · rw [if_neg hk0, if_neg (by omega), show 256 * k + p - 1 = 256 * (k - 1) + 255 by omega]
  · rw [if_neg (by omega), if_neg (by omega), show 256 * k + (7 + p - 8) = 256 * k + p - 1 by omega]

theorem slot_here (lat : BitVec 1) (xn : Vec Ideal S1024x1024 .bf16) (w : Vec Ideal S1x1024x256 .f32) (b : Vec Ideal S1x1x256 .f32) (k p : ℕ) (hk : k < 4)
    (hp : p < 256) (j : Fin 256) : slotRow lat xn w b (272 * k + 7 + 1 + p) j = U xn w (256 * k + p) j := by
  unfold slotRow
  rw [show (272 * k + 7 + 1 + p) / 272 = k by omega, show (272 * k + 7 + 1 + p) % 272 = 8 + p by omega, if_neg (by omega), if_neg (by omega),
    show 256 * k + (8 + p - 8) = 256 * k + p by omega]

theorem slot_next (lat : BitVec 1) (xn : Vec Ideal S1024x1024 .bf16) (w : Vec Ideal S1x1024x256 .f32) (b : Vec Ideal S1x1x256 .f32) (k p : ℕ) (hk : k < 4)
    (hp : p < 256) (j : Fin 256) : slotRow lat xn w b (272 * k + 7 + 2 + p) j = nextU lat xn w b (256 * k + p) j := by
  unfold slotRow nextU
  rw [show (272 * k + 7 + 2 + p) / 272 = k by omega, show (272 * k + 7 + 2 + p) % 272 = 9 + p by omega, if_neg (by omega : ¬9 + p = 7)]
  by_cases hz : p = 255
  · rw [if_pos (by omega : 9 + p = 264), if_pos (by omega : (256 * k + p) % 256 = 255)]
    by_cases hk0 : k = 3
    · rw [if_pos hk0, if_pos (by omega)]
    · rw [if_neg hk0, if_neg (by omega), show 256 * k + p + 1 = 256 * (k + 1) by omega]
  · rw [if_neg (by omega), if_neg (by omega), show 256 * k + (9 + p - 8) = 256 * k + p + 1 by omega]

theorem conv_slots (lat : BitVec 1) (xn : Vec Ideal S1024x1024 .bf16) (w : Vec Ideal S1x1024x256 .f32) (b cb : Vec Ideal S1x1x256 .f32)
    (k3 : Vec Ideal S1x3x256 .f32) (k : ℕ) (hk : k < 4) (o : ℕ) (ho : o = 272 * k + 7) (h0 h1 h2) (p j : Fin 256) :
    conv (View.canon (slots lat xn (k0_pay9 w) b)) k3 cb b o h0 h1 h2 (ix2 p j) = cv lat xn w b cb k3 (256 * k + p.val) j := by
  have hp := p.isLt
  subst ho
  rw [conv_apply _ _ _ _ _ _ _ _ (by omega),
    slots_apply _ _ _ _ _ _ (by show 272 * k + 7 + p.val < 1088; omega) (by show 7 ≤ (272 * k + 7 + p.val) % 272; omega) (by show (272 * k + 7 + p.val) % 272 ≤ 264; omega),
    slots_apply _ _ _ _ _ _ (by show 272 * k + 7 + 1 + p.val < 1088; omega) (by show 7 ≤ (272 * k + 7 + 1 + p.val) % 272; omega) (by show (272 * k + 7 + 1 + p.val) % 272 ≤ 264; omega),
    slots_apply _ _ _ _ _ _ (by show 272 * k + 7 + 2 + p.val < 1088; omega) (by show 7 ≤ (272 * k + 7 + 2 + p.val) % 272; omega) (by show (272 * k + 7 + 2 + p.val) % 272 ≤ 264; omega)]
  unfold cv
  rw [← slot_prev lat xn w b k p.val hk hp, ← slot_here lat xn w b k p.val hk hp, ← slot_next lat xn w b k p.val hk hp]
  rfl

theorem chunk_piece (lat : BitVec 1) (xn : Vec Ideal S1024x1024 .bf16) (acc : Vec Ideal S1024x1024 .f32) (W : Wts Ideal) (k : ℕ) (hk : k < 4) (r o : ℕ)
    (hr' : r = 256 * k) (ho : o = 272 * k + 7) (hr) (h0 h1 h2) (x : S256x1024.Idx) :
    chunk lat xn acc W r o hr h0 h1 h2 x = stepAcc lat xn acc W ((Rect.unit (s := S1024x1024) ![r, 0] ![256, 1024] hr).emb x) := by
  obtain ⟨p, d, rfl⟩ : ∃ (p : Fin 256) (d : Fin 1024), x = ix2 p d := ⟨x 0, x 1, eq_ix2 x⟩
  have e0 : ((Rect.unit (s := S1024x1024) ![r, 0] ![256, 1024] hr).emb (ix2 p d) 0).val = r + p.val := ValueKit.rect_emb_unit_val _ _ _ _ _
  have e1 : ((Rect.unit (s := S1024x1024) ![r, 0] ![256, 1024] hr).emb (ix2 p d) 1) = d :=
    Fin.ext ((ValueKit.rect_emb_unit_val _ _ _ _ _).trans (Nat.zero_add _))
  unfold chunk stepAcc
  rw [pay1_apply, e0, e1]
  refine congrArg₂ (· + ·) rfl (Finset.sum_congr rfl fun j _ => ?_)
  rw [act_apply, conv_slots _ _ _ _ _ _ k hk o ho, conv_slots _ _ _ _ _ _ k hk o ho]
  unfold aval
  rw [hr']

theorem acc_cover (lat : BitVec 1) (xn : Vec Ideal S1024x1024 .bf16) (acc : Vec Ideal S1024x1024 .f32) (W : Wts Ideal) (y : S1024x1024.Idx) :
    ∃ p ∈ accPieces lat xn acc W, y ∈ p.1.set := by
  unfold accPieces
  exact View.cover_of_tiledL (s := S1024x1024) _ S256x1024.size (by sl_kernel_rfl) y

theorem acc_pieces (lat : BitVec 1) (xn : Vec Ideal S1024x1024 .bf16) (acc : Vec Ideal S1024x1024 .f32) (W : Wts Ideal)
    (L : List (View.Piece (Elt Ideal) S1024x1024 .f32)) : View.canon (accPieces lat xn acc W ++ L) = stepAcc lat xn acc W := by
  funext y
  refine View.canon_append_of_pieces (Val := Elt Ideal) (S := S1024x1024) (e := .f32) (stepAcc lat xn acc W) L _ ?_ y (acc_cover lat xn acc W y)
  · intro q hq x
    unfold accPieces at hq
    simp only [List.mem_cons, List.not_mem_nil, or_false] at hq
    rcases hq with rfl | rfl | rfl | rfl
    · exact chunk_piece lat xn acc W 3 (by omega) 768 823 rfl rfl _ inb_S1096x256_S256x256_823_0 inb_S1096x256_S256x256_824_0 inb_S1096x256_S256x256_825_0 x
    · exact chunk_piece lat xn acc W 2 (by omega) 512 551 rfl rfl _ inb_S1096x256_S256x256_551_0 inb_S1096x256_S256x256_552_0 inb_S1096x256_S256x256_553_0 x
    · exact chunk_piece lat xn acc W 1 (by omega) 256 279 rfl rfl _ inb_S1096x256_S256x256_279_0 inb_S1096x256_S256x256_280_0 inb_S1096x256_S256x256_281_0 x
    · exact chunk_piece lat xn acc W 0 (by omega) 0 7 rfl rfl _ inb_S1096x256_S256x256_7_0 inb_S1096x256_S256x256_8_0 inb_S1096x256_S256x256_9_0 x

end Cert.Kernel2Ideal.Ffn
-- ==== Proof.FfnSweep.lean ====
module

public import proofs.«01_k».proof.Proof.FfnRead

@[expose] public section

/-! The sweep of a row tile over the eleven column blocks: the normalised rows stay, the accumulator adds one block's share
per grid point, and the last point writes the tile. -/

set_option maxRecDepth 16384
noncomputable section
namespace Cert.Kernel2Ideal.Ffn
open Cert.Kernel2Ideal Cert.Kernel2Ideal.Gen Idealize.ShloMosaic Idealize.ShloMosaic.TcCoe Idealize.SL.Sem Idealize.ShloMosaic.Tactic

variable (m : (ℓ : Loc nD τ sig) → Buf (Elt Ideal) ℓ) (c : Dev nD)

/-- The grid point of row tile `i` and column block `f`. -/
def pt (i : Fin 16) (f : ℕ) : Fin cfg0.N := ⟨(11 * i.val + f) % 176, Nat.mod_lt _ (by decide)⟩

theorem pt_val (i : Fin 16) (f : ℕ) (hf : f ≤ 10) : (pt i f).val = 11 * i.val + f := Nat.mod_eq_of_lt (by omega)

theorem isLat_eq (t : Fin cfg0.N) : isLat (grid0.coords t) = if t.val < 88 then 0#1 else 1#1 :=
  (by decide +kernel : ∀ t : Fin grid0.N, isLat (grid0.coords t) = if t.val < 88 then 0#1 else 1#1) t

/-- Is row tile `i` a lattice frame? -/
def lat (i : Fin 16) : BitVec 1 := if i.val < 8 then 0#1 else 1#1

theorem lat_pt (i : Fin 16) (f : ℕ) (hf : f ≤ 10) : isLat (grid0.coords (pt i f)) = lat i := by
  rw [isLat_eq, pt_val i f hf]
  unfold lat
  by_cases h : i.val < 8
  · rw [if_pos h, if_pos (by omega)]
  · rw [if_neg h, if_neg (by omega)]

/-- The weights' blocks at a grid point. -/
def wts (t : Fin cfg0.N) : Wts Ideal :=
  ⟨iblk m c 6 t, iblk m c 7 t, iblk m c 8 t, iblk m c 9 t, iblk m c 10 t, iblk m c 11 t, iblk m c 12 t, iblk m c 13 t, iblk m c 14 t⟩

/-- The tile's residual stream, and its normalised rows. -/
def xR (i : Fin 16) : Vec Ideal S1024x1024 .f32 :=
  xNew (lat i) (iblk m c 0 (pt i 0)) (iblk m c 1 (pt i 0)) (iblk m c 2 (pt i 0)) (iblk m c 3 (pt i 0)) (iblk m c 4 (pt i 0))
def xN (i : Fin 16) : Vec Ideal S1024x1024 .bf16 :=
  xNorm (lat i) (iblk m c 0 (pt i 0)) (iblk m c 1 (pt i 0)) (iblk m c 2 (pt i 0)) (iblk m c 3 (pt i 0)) (iblk m c 4 (pt i 0)) (iblk m c 5 (pt i 0))

/-- The share of column block `f` in the accumulator. -/
def share (i : Fin 16) (f : ℕ) (y : S1024x1024.Idx) : EReal :=
  ∑ j : Fin 256, aval (lat i) (xN m c i) (wts m c (pt i f)) (y 0).val j * (wts m c (pt i f)).d (ix3 0 j (y 1))

theorem outsAt0_congr {n n' : ℕ} (h : n = n') (hn hn') : outsAt0 m c n hn = outsAt0 m c n' hn' := by subst h; rfl

theorem pay8_apply (y : S1024x1024.Idx) : (k0_pay8 (F := Ideal) y : EReal) = 0 := by
  obtain ⟨p, d, rfl⟩ : ∃ p d : Fin 1024, y = ix2 p d := ⟨y 0, y 1, eq_ix2 y⟩
  pointwise [k0_pay8, Ideal.ofBits_zero_f32]

theorem sweep (i : Fin 16) : ∀ f, f < 10 →
    (outsAt0 m c (pt i f).val (pt i f).isLt).1 = xR m c i ∧ (outsAt0 m c (pt i f).val (pt i f).isLt).2.1 = xN m c i
      ∧ ∀ y, ((outsAt0 m c (pt i f).val (pt i f).isLt).2.2 y : EReal) = ∑ g ∈ Finset.range (f + 1), share m c i g y
  | 0, _ => by
    have h0 : (pt i 0).val % 11 = 0 := by rw [pt_val i 0 (by omega)]; omega
    have h1 : ¬(pt i 0).val % 11 = 10 := by omega
    rw [outsAt0_A m c (pt i 0) h0 h1]
    dsimp only
    refine ⟨?_, ?_, fun y => ?_⟩
    · exact (out_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (by rw [lat_pt i 0 (by omega)]; rfl)
    · exact (xn_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (by rw [lat_pt i 0 (by omega)]; rfl)
    · refine (congrFun (acc_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) y).trans ?_
      rw [acc_pieces, lat_pt i 0 (by omega), Finset.sum_range_one]
      exact (congrArg (· + _) (pay8_apply y)).trans (zero_add _)
  | f + 1, hf => by
    obtain ⟨a, b, d⟩ := sweep i f (by omega)
    have e : (pt i (f + 1)).val - 1 = (pt i f).val := by rw [pt_val i _ (by omega), pt_val i _ (by omega)]; omega
    have h0 : ¬(pt i (f + 1)).val % 11 = 0 := by rw [pt_val i _ (by omega)]; omega
    have h1 : ¬(pt i (f + 1)).val % 11 = 10 := by rw [pt_val i _ (by omega)]; omega
    rw [outsAt0_B m c (pt i (f + 1)) h0 h1, outsAt0_congr m c e _ (pt i f).isLt]
    refine ⟨a, b, fun y => ?_⟩
    dsimp only
    refine (congrFun (acc_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) y).trans ?_
    rw [← List.append_nil (accPieces _ _ _ _), acc_pieces, lat_pt i _ (by omega), Finset.sum_range_succ, ← d y, b]
    rfl

/-- What the tile's last grid point writes. -/
theorem out_last (i : Fin 16) : (outsAt0 m c (pt i 10).val (pt i 10).isLt).1
    = k0_pay2 (xR m c i) (View.ld (iblk m c 4 (pt i 10) : Vec Ideal S1x1x1x6144 .f32) (Rect.unit ![0, 0, 0, 5120] ![1, 1, 1, 1024] inb_S1x1x1x6144_S1x1x1x1024_0_0_0_5120))
        (fun y => (∑ g ∈ Finset.range 11, share m c i g y : EReal)) := by
  obtain ⟨a, b, d⟩ := sweep m c i 9 (by omega)
  have e : (pt i 10).val - 1 = (pt i 9).val := by rw [pt_val i _ (by omega), pt_val i _ (by omega)]; omega
  have h0 : ¬(pt i 10).val % 11 = 0 := by rw [pt_val i _ (by omega)]; omega
  have h1 : (pt i 10).val % 11 = 10 := by rw [pt_val i _ (by omega)]; omega
  rw [outsAt0_C m c (pt i 10) h0 h1, outsAt0_congr m c e _ (pt i 9).isLt]
  dsimp only
  refine (out_C c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  rw [← List.append_nil (accPieces _ _ _ _), acc_pieces, lat_pt i _ (by omega), a, b]
  refine congrArg (k0_pay2 (F := Ideal) _ _) (funext fun y => ?_)
  rw [Finset.sum_range_succ, ← d y]
  rfl

end Cert.Kernel2Ideal.Ffn
-- ==== Proof.FfnBlocks.lean ====
module

public import proofs.«01_k».proof.Proof.FfnSweep
public import Idealize.ShloMosaic.Lib.StableHlo.ReadAt

@[expose] public section

/-! The feed-forward launch's blocks, read at an index as elements of the arguments. -/

set_option maxRecDepth 100000
noncomputable section
namespace Cert.Kernel2Ideal.Ffn
open Cert.Kernel2Ideal Cert.Kernel2Ideal.Gen Idealize.ShloMosaic Idealize.ShloMosaic.TcCoe Idealize.SL.Sem Idealize.ShloMosaic.Tactic

variable (m : (ℓ : Loc nD τ sig) → Buf (Elt Ideal) ℓ) (c : Dev nD)

/-! The arguments: the two streams, the heads' outputs, the output projection, the modulations, the norm's gain, and the block's weights. -/
abbrev aHC : FVec Ideal S32x256x1024 .f32 := m ((c.tc : Thread nD τ).loc main_arg0)
abbrev aHL : FVec Ideal S8x1024x1024 .f32 := m ((c.tc : Thread nD τ).loc main_arg1)
abbrev aOC : FVec Ideal S32x256x1024 .f32 := m ((c.tc : Thread nD τ).loc main_arg2)
abbrev aOL : FVec Ideal S8x1024x1024 .f32 := m ((c.tc : Thread nD τ).loc main_arg3)
abbrev aWo : FVec Ideal S1024x1024 .f32 := m ((c.tc : Thread nD τ).loc main_arg4)
abbrev aMC : FVec Ideal S4x6144 .f32 := m ((c.tc : Thread nD τ).loc main_arg5)
abbrev aML : FVec Ideal S4x8x6144 .f32 := m ((c.tc : Thread nD τ).loc main_arg6)
abbrev aN2 : FVec Ideal S4x1024 .f32 := m ((c.tc : Thread nD τ).loc main_arg7)
abbrev aWu : FVec Ideal S4x1024x5632 .f32 := m ((c.tc : Thread nD τ).loc main_arg8)
abbrev aBu : FVec Ideal S4x5632 .f32 := m ((c.tc : Thread nD τ).loc main_arg9)
abbrev aCk : FVec Ideal S4x3x5632 .f32 := m ((c.tc : Thread nD τ).loc main_arg10)
abbrev aCb : FVec Ideal S4x5632 .f32 := m ((c.tc : Thread nD τ).loc main_arg11)
abbrev aWd : FVec Ideal S4x2816x1024 .f32 := m ((c.tc : Thread nD τ).loc main_arg12)

/-! ## The host's arrays -/

theorem V2 (R : Fin 16384) (d : Fin 1024) : (V m c main_v2 : FVec Ideal S16384x1024 .f32) (ix2 R d)
    = if h : R.val < 8192 then aHC m c (ix3 ⟨R.val / 256, by omega⟩ ⟨R.val % 256, by omega⟩ d)
      else aHL m c (ix3 ⟨(R.val - 8192) / 1024, by omega⟩ ⟨(R.val - 8192) % 1024, by omega⟩ d) := by
  unfold V
  after_reads_at

theorem V7 (R : Fin 8192) (d : Fin 1024) : (V m c main_v7 : FVec Ideal S8192x1024 .bf16) (ix2 R d)
    = aOC m c (ix3 ⟨R.val / 256, by omega⟩ ⟨R.val % 256, by omega⟩ d) := by
  unfold V
  after_reads_at

theorem V9 (R : Fin 8192) (d : Fin 1024) : (V m c main_v9 : FVec Ideal S8192x1024 .bf16) (ix2 R d)
    = aOL m c (ix3 ⟨R.val / 1024, by omega⟩ ⟨R.val % 1024, by omega⟩ d) := by
  unfold V
  after_reads_at

theorem V14 (e d : Fin 1024) : (V m c main_v14 : FVec Ideal S1024x1024 .bf16) (ix2 e d) = aWo m c (ix2 e d) := by
  unfold V
  after_reads_at

theorem V15c (d : Fin 6144) : (V m c main_v15 : FVec Ideal S4x16x1x6144 .f32) (ix4 2 0 0 d) = aMC m c (ix2 2 d) := by
  unfold V
  after_reads_at
  unfold StableHlo.upto
  after_reads_at

theorem V15l (r : Fin 8) (d : Fin 6144) : (V m c main_v15 : FVec Ideal S4x16x1x6144 .f32) (ix4 2 ⟨8 + r.val, by omega⟩ 0 d) = aML m c (ix3 2 r d) := by
  unfold V
  after_reads_at
  rw [dif_neg (by omega), dif_neg (by omega)]
  have e : (⟨8 + r.val - 1 - 7, by omega⟩ : Fin 8) = r := Fin.ext (by show 8 + r.val - 1 - 7 = r.val; omega)
  rw [e]
  unfold StableHlo.upto
  after_reads_at

theorem V16 (d : Fin 1024) : (V m c main_v16 : FVec Ideal S1x1024 .f32) (ix2 0 d) = aN2 m c (ix2 2 d) := by
  unfold V
  after_reads_at

theorem V12 (d : Fin 5632) : (V m c main_v12 : FVec Ideal S4x1x5632 .f32) (ix3 2 0 d) = aBu m c (ix2 2 d) := by
  unfold V
  after_reads_at

theorem V13 (d : Fin 5632) : (V m c main_v13 : FVec Ideal S4x1x5632 .f32) (ix3 2 0 d) = aCb m c (ix2 2 d) := by
  unfold V
  after_reads_at

/-! ## The windows' blocks -/

theorem idx (t : Fin cfg0.N) : win0_0.index t = ![t.val / 11, 0] ∧ win0_1.index t = ![min (t.val / 11) 7, 0] ∧ win0_2.index t = ![t.val / 11 - 8, 0] ∧ win0_3.index t = ![0, 0]
    ∧ win0_4.index t = ![2, if t.val / 11 < 8 then 0 else t.val / 11, 0, 0] ∧ win0_5.index t = ![0, 0] ∧ win0_6.index t = ![2, 0, t.val % 11]
    ∧ win0_7.index t = ![2, 0, 11 + t.val % 11] ∧ win0_8.index t = ![2, 0, t.val % 11] ∧ win0_9.index t = ![2, 0, 11 + t.val % 11] ∧ win0_10.index t = ![2, 0, t.val % 11]
    ∧ win0_11.index t = ![2, 0, 11 + t.val % 11] ∧ win0_12.index t = ![2, 0, t.val % 11] ∧ win0_13.index t = ![2, 0, 11 + t.val % 11] ∧ win0_14.index t = ![2, t.val % 11, 0] ∧ win0_15.index t = ![t.val / 11, 0] :=
  (by decide +kernel : ∀ t : Fin grid0.N, win0_0.index t = ![t.val / 11, 0] ∧ win0_1.index t = ![min (t.val / 11) 7, 0] ∧ win0_2.index t = ![t.val / 11 - 8, 0] ∧ win0_3.index t = ![0, 0]
    ∧ win0_4.index t = ![2, if t.val / 11 < 8 then 0 else t.val / 11, 0, 0] ∧ win0_5.index t = ![0, 0] ∧ win0_6.index t = ![2, 0, t.val % 11]
    ∧ win0_7.index t = ![2, 0, 11 + t.val % 11] ∧ win0_8.index t = ![2, 0, t.val % 11] ∧ win0_9.index t = ![2, 0, 11 + t.val % 11] ∧ win0_10.index t = ![2, 0, t.val % 11]
    ∧ win0_11.index t = ![2, 0, 11 + t.val % 11] ∧ win0_12.index t = ![2, 0, t.val % 11] ∧ win0_13.index t = ![2, 0, 11 + t.val % 11] ∧ win0_14.index t = ![2, t.val % 11, 0] ∧ win0_15.index t = ![t.val / 11, 0]) t

theorem t_lt (t : Fin cfg0.N) : t.val < 176 := t.isLt

theorem i0 (t : Fin cfg0.N) (r d : Fin 1024) : (iblk m c 0 t : Vec Ideal S1024x1024 .f32) (ix2 r d)
    = (V m c main_v2 : FVec Ideal S16384x1024 .f32) (ix2 ⟨t.val / 11 * 1024 + r.val, by have := t_lt t; omega⟩ d) := by
  blk_ext [iblk, (idx t).1]

theorem i1 (t : Fin cfg0.N) (r d : Fin 1024) : (iblk m c 1 t : Vec Ideal S1024x1024 .bf16) (ix2 r d)
    = (V m c main_v7 : FVec Ideal S8192x1024 .bf16) (ix2 ⟨min (t.val / 11) 7 * 1024 + r.val, by omega⟩ d) := by
  blk_ext [iblk, (idx t).2.1]

theorem i2 (t : Fin cfg0.N) (r d : Fin 1024) : (iblk m c 2 t : Vec Ideal S1024x1024 .bf16) (ix2 r d)
    = (V m c main_v9 : FVec Ideal S8192x1024 .bf16) (ix2 ⟨(t.val / 11 - 8) * 1024 + r.val, by have := t_lt t; omega⟩ d) := by
  blk_ext [iblk, (idx t).2.2.1]

theorem i3 (t : Fin cfg0.N) (r d : Fin 1024) : (iblk m c 3 t : Vec Ideal S1024x1024 .bf16) (ix2 r d) = aWo m c (ix2 r d) := by
  rw [← V14]
  blk_ext [iblk, (idx t).2.2.2.1]

theorem i4 (t : Fin cfg0.N) (q : Fin 6144) : (iblk m c 4 t : Vec Ideal S1x1x1x6144 .f32) (ix4 0 0 0 q)
    = (V m c main_v15 : FVec Ideal S4x16x1x6144 .f32) (ix4 2 ⟨if t.val / 11 < 8 then 0 else t.val / 11, by have := t_lt t; split <;> omega⟩ 0 q) := by
  blk_ext [iblk, (idx t).2.2.2.2.1]

theorem i5 (t : Fin cfg0.N) (d : Fin 1024) : (iblk m c 5 t : Vec Ideal S1x1024 .f32) (ix2 0 d) = aN2 m c (ix2 2 d) := by
  rw [← V16]
  blk_ext [iblk, (idx t).2.2.2.2.2.1]

theorem i6 (t : Fin cfg0.N) (k : Fin 1024) (j : Fin 256) : (iblk m c 6 t : Vec Ideal S1x1024x256 .f32) (ix3 0 k j)
    = aWu m c (ix3 2 k ⟨t.val % 11 * 256 + j.val, by omega⟩) := by
  refine Eq.trans ?_ (congrFun (V_main_arg8 m c) _)
  blk_ext [iblk, (idx t).2.2.2.2.2.2.1]

theorem i7 (t : Fin cfg0.N) (k : Fin 1024) (j : Fin 256) : (iblk m c 7 t : Vec Ideal S1x1024x256 .f32) (ix3 0 k j)
    = aWu m c (ix3 2 k ⟨(11 + t.val % 11) * 256 + j.val, by omega⟩) := by
  refine Eq.trans ?_ (congrFun (V_main_arg8 m c) _)
  blk_ext [iblk, (idx t).2.2.2.2.2.2.2.1]

theorem i8 (t : Fin cfg0.N) (j : Fin 256) : (iblk m c 8 t : Vec Ideal S1x1x256 .f32) (ix3 0 0 j)
    = aBu m c (ix2 2 ⟨t.val % 11 * 256 + j.val, by omega⟩) := by
  rw [← V12]
  blk_ext [iblk, (idx t).2.2.2.2.2.2.2.2.1]

theorem i9 (t : Fin cfg0.N) (j : Fin 256) : (iblk m c 9 t : Vec Ideal S1x1x256 .f32) (ix3 0 0 j)
    = aBu m c (ix2 2 ⟨(11 + t.val % 11) * 256 + j.val, by omega⟩) := by
  rw [← V12]
  blk_ext [iblk, (idx t).2.2.2.2.2.2.2.2.2.1]

theorem i10 (t : Fin cfg0.N) (a : Fin 3) (j : Fin 256) : (iblk m c 10 t : Vec Ideal S1x3x256 .f32) (ix3 0 a j)
    = aCk m c (ix3 2 a ⟨t.val % 11 * 256 + j.val, by omega⟩) := by
  refine Eq.trans ?_ (congrFun (V_main_arg10 m c) _)
  blk_ext [iblk, (idx t).2.2.2.2.2.2.2.2.2.2.1]

theorem i11 (t : Fin cfg0.N) (a : Fin 3) (j : Fin 256) : (iblk m c 11 t : Vec Ideal S1x3x256 .f32) (ix3 0 a j)
    = aCk m c (ix3 2 a ⟨(11 + t.val % 11) * 256 + j.val, by omega⟩) := by
  refine Eq.trans ?_ (congrFun (V_main_arg10 m c) _)
  blk_ext [iblk, (idx t).2.2.2.2.2.2.2.2.2.2.2.1]

theorem i12 (t : Fin cfg0.N) (j : Fin 256) : (iblk m c 12 t : Vec Ideal S1x1x256 .f32) (ix3 0 0 j)
    = aCb m c (ix2 2 ⟨t.val % 11 * 256 + j.val, by omega⟩) := by
  rw [← V13]
  blk_ext [iblk, (idx t).2.2.2.2.2.2.2.2.2.2.2.2.1]

theorem i13 (t : Fin cfg0.N) (j : Fin 256) : (iblk m c 13 t : Vec Ideal S1x1x256 .f32) (ix3 0 0 j)
    = aCb m c (ix2 2 ⟨(11 + t.val % 11) * 256 + j.val, by omega⟩) := by
  rw [← V13]
  blk_ext [iblk, (idx t).2.2.2.2.2.2.2.2.2.2.2.2.2.1]

theorem i14 (t : Fin cfg0.N) (j : Fin 256) (d : Fin 1024) : (iblk m c 14 t : Vec Ideal S1x256x1024 .f32) (ix3 0 j d)
    = aWd m c (ix3 2 ⟨t.val % 11 * 256 + j.val, by omega⟩ d) := by
  refine Eq.trans ?_ (congrFun (V_main_arg12 m c) _)
  blk_ext [iblk, (idx t).2.2.2.2.2.2.2.2.2.2.2.2.2.2.1]

end Cert.Kernel2Ideal.Ffn
-- ==== Proof.FfnMath.lean ====
module

public import Idealize.ShloMosaic.Lib.Pointwise

@[expose] public section

/-! The feed-forward layer's arithmetic on one token row, over the extended reals, and the identities between the two orders
in which the convolution and the column sums are taken. -/

noncomputable section
namespace Cert.FfnMath
open Idealize.ShloMosaic

/-- The residual stream after the output projection: `h + g1 * (o @ w_o)`. -/
def yRow (h o : Fin 1024 → EReal) (md : Fin 6144 → EReal) (wo : Fin 1024 → Fin 1024 → EReal) : Fin 1024 → EReal :=
  fun d => h d + md ⟨2048 + d.val, by omega⟩ * ∑ e, o e * wo e d

/-- The normalised, modulated row. -/
def nRow (y : Fin 1024 → EReal) (md : Fin 6144 → EReal) (g : Fin 1024 → EReal) : Fin 1024 → EReal :=
  fun d => y d * Ideal.rsqrt (Ideal.div (∑ k, y k * y k) (Ideal.ofBits .f32 0x44800000#32) + Ideal.ofBits .f32 0x358637BD#32) * g d
    * (Ideal.ofBits .f32 0x3F800000#32 + md ⟨4096 + d.val, by omega⟩) + md ⟨3072 + d.val, by omega⟩

/-- The up-projection of row `t` at column `j`. -/
def upR (n : ℕ → Fin 1024 → EReal) (wu : Fin 1024 → Fin 5632 → EReal) (t : ℕ) (j : Fin 5632) : EReal := ∑ k, n t k * wu k j

/-- The convolution over the sequence of `T` rows, zero outside it. -/
def cvR (T : ℕ) (n : ℕ → Fin 1024 → EReal) (wu : Fin 1024 → Fin 5632 → EReal) (bu cb : Fin 5632 → EReal) (ck : Fin 3 → Fin 5632 → EReal) (t : ℕ) (j : Fin 5632) : EReal :=
  cb j + (((if t = 0 then 0 else upR n wu (t - 1) j + bu j) * ck 0 j + (upR n wu t j + bu j) * ck 1 j) + (if t + 1 = T then 0 else upR n wu (t + 1) j + bu j) * ck 2 j)

/-- `silu a * v`. -/
def gateS (a v : EReal) : EReal := a * Ideal.logistic a * v

/-- The layer's result at row `t` of a sequence of `T` rows. -/
def outR (T : ℕ) (h o : ℕ → Fin 1024 → EReal) (md : Fin 6144 → EReal) (wo : Fin 1024 → Fin 1024 → EReal) (g : Fin 1024 → EReal)
    (wu : Fin 1024 → Fin 5632 → EReal) (bu cb : Fin 5632 → EReal) (ck : Fin 3 → Fin 5632 → EReal) (wd : Fin 2816 → Fin 1024 → EReal) (t : ℕ) (d : Fin 1024) : EReal :=
  yRow (h t) (o t) md wo d + md ⟨5120 + d.val, by omega⟩ *
    ∑ q : Fin 2816, gateS (cvR T (fun t => nRow (yRow (h t) (o t) md wo) md g) wu bu cb ck t ⟨q.val, by omega⟩)
      (cvR T (fun t => nRow (yRow (h t) (o t) md wo) md g) wu bu cb ck t ⟨2816 + q.val, by omega⟩) * wd q d

/-- The convolution of three neighbours without their bias, the bias gathered in the constant. -/
def cvS (cb b k0 k1 k2 p u n : EReal) : EReal := ((cb + b * ((k0 + k1) + k2)) + k0 * p + k1 * u) + k2 * n

/-- The same convolution with each neighbour's bias added to it. -/
theorem cvS_eq (cb p u n : EReal) (b k0 k1 k2 : ℝ) :
    cvS cb b k0 k1 k2 p u n = cb + (((p + b) * k0 + (u + b) * k1) + (n + b) * k2) := by
  have hd : ∀ (x : EReal) (k : ℝ), (x + b) * (k : EReal) = k * x + ((b * k : ℝ) : EReal) := by
    intro x k
    rw [EReal.coe_mul]
    induction x using EReal.rec with
    | coe x => norm_cast; ring
    | bot =>
      rcases lt_trichotomy k 0 with h | h | h
      · rw [EReal.bot_add, EReal.bot_mul_coe_of_neg h, EReal.coe_mul_bot_of_neg h, ← EReal.coe_mul, EReal.top_add_coe]
      · subst h; simp
      · rw [EReal.bot_add, EReal.bot_mul_coe_of_pos h, EReal.coe_mul_bot_of_pos h, EReal.bot_add]
    | top =>
      rcases lt_trichotomy k 0 with h | h | h
      · rw [EReal.top_add_coe, EReal.top_mul_coe_of_neg h, EReal.coe_mul_top_of_neg h, EReal.bot_add]
      · subst h; simp
      · rw [EReal.top_add_coe, EReal.top_mul_coe_of_pos h, EReal.coe_mul_top_of_pos h, ← EReal.coe_mul, EReal.top_add_coe]
  have hb : (b : EReal) * (((k0 : EReal) + k1) + k2) = ((b * k0 : ℝ) : EReal) + ((b * k1 : ℝ) : EReal) + ((b * k2 : ℝ) : EReal) := by
    norm_cast; ring
  unfold cvS
  rw [hd, hd, hd, hb]
  abel

/-- The kernel's stand-in for a missing neighbour is a zero once the bias is added. -/
theorem pad_eq (b : ℝ) : ((0 : EReal) - b) + b = 0 := by
  norm_cast; ring

/-- Eleven blocks of 256 columns are the 2816 columns. -/
theorem sum_blocks (f : ℕ → EReal) : ∑ g ∈ Finset.range 11, ∑ j : Fin 256, f (g * 256 + j.val) = ∑ q : Fin 2816, f q.val := by
  rw [Finset.sum_range, ← Finset.sum_product', Finset.univ_product_univ]
  exact Fintype.sum_equiv (finProdFinEquiv.trans (finCongr (by norm_num : 11 * 256 = 2816))) _ _ fun x => by
    congr 1; simp [finProdFinEquiv]; ring

end Cert.FfnMath
-- ==== Proof.FfnTile.lean ====
module

public import proofs.«01_k».proof.Proof.FfnBlocks
public import proofs.«01_k».proof.Proof.FfnMath

@[expose] public section

/-! A row of the feed-forward tile, read as the layer's arithmetic on one token row. -/

set_option maxRecDepth 16384
noncomputable section
namespace Cert.Kernel2Ideal.Ffn
open Cert.Kernel2Ideal Cert.Kernel2Ideal.Gen Idealize.ShloMosaic Idealize.ShloMosaic.TcCoe Idealize.SL.Sem Idealize.ShloMosaic.Tactic Cert.FfnMath

variable (m : (ℓ : Loc nD τ sig) → Buf (Elt Ideal) ℓ) (c : Dev nD)

theorem xNew_apply (l : BitVec 1) (h : Vec Ideal S1024x1024 .f32) (oc ol wo : Vec Ideal S1024x1024 .bf16) (md : Vec Ideal S1x1x1x6144 .f32) (r d : Fin 1024) :
    xNew l h oc ol wo md (ix2 r d)
      = yRow (fun d => h (ix2 r d)) (fun e => Scalar.select l (ol (ix2 r e) : EReal) (oc (ix2 r e))) (fun q => md (ix4 0 0 0 q)) (fun e d => wo (ix2 e d)) d := by
  unfold yRow
  pointwise [xNew, k0_pay4, k0_pay3, select_at]

theorem xNorm_apply (l : BitVec 1) (h : Vec Ideal S1024x1024 .f32) (oc ol wo : Vec Ideal S1024x1024 .bf16) (md : Vec Ideal S1x1x1x6144 .f32)
    (g : Vec Ideal S1x1024 .f32) (r d : Fin 1024) :
    xNorm l h oc ol wo md g (ix2 r d)
      = nRow (fun d => xNew l h oc ol wo md (ix2 r d)) (fun q => md (ix4 0 0 0 q)) (fun d => g (ix2 0 d)) d := by
  unfold nRow xNorm xNew k0_pay5
  generalize k0_pay4 l md h ol oc wo = y
  pointwise [k0_pay7, k0_pay6, k0_pay3]

theorem pay2_apply (x acc : Vec Ideal S1024x1024 .f32) (md : Vec Ideal S1x1x1x6144 .f32) (r d : Fin 1024) :
    k0_pay2 x (View.ld md (Rect.unit ![0, 0, 0, 5120] ![1, 1, 1, 1024] inb_S1x1x1x6144_S1x1x1x1024_0_0_0_5120)) acc (ix2 r d)
      = (x (ix2 r d) + md (ix4 0 0 0 ⟨5120 + d.val, by omega⟩) * acc (ix2 r d) : EReal) := by
  pointwise [k0_pay2]

end Cert.Kernel2Ideal.Ffn
-- ==== Proof.FfnRef.lean ====
module

public import proofs.«01_k».proof.Proof.Gen.Reference2Ideal.Run
public import proofs.«01_k».proof.Proof.Gen.Reference2Ideal.Read
public import proofs.«01_k».proof.Proof.FfnMath

@[expose] public section

/-! The reference's feed-forward layer read at an index, as the layer's arithmetic on the rows of a sequence. -/

set_option maxRecDepth 16384
noncomputable section
namespace Cert.Reference2Ideal.Ffn
open Cert.Reference2Ideal Cert.Reference2Ideal.Gen Cert.Reference2Ideal.Read Idealize.ShloMosaic Idealize.ShloMosaic.TcCoe Idealize.SL.Sem Cert.FfnMath

variable (x4 : (⟨S1024x1024, .f32⟩ : BufTy).Contents (Elt Ideal)) (x7 : (⟨S4x1024, .f32⟩ : BufTy).Contents (Elt Ideal)) (x8 : (⟨S4x1024x5632, .f32⟩ : BufTy).Contents (Elt Ideal))
  (x9 x11 : (⟨S4x5632, .f32⟩ : BufTy).Contents (Elt Ideal)) (x10 : (⟨S4x3x5632, .f32⟩ : BufTy).Contents (Elt Ideal)) (x12 : (⟨S4x2816x1024, .f32⟩ : BufTy).Contents (Elt Ideal))

/-- The weights of the layer, by coordinates. -/
def wo (e d : Fin 1024) : EReal := x4 (ix2 e d)
def gn (d : Fin 1024) : EReal := x7 (ix2 2 d)
def wu (k : Fin 1024) (j : Fin 5632) : EReal := x8 (ix3 2 k j)
def bu (j : Fin 5632) : EReal := x9 (ix2 2 j)
def cbR (j : Fin 5632) : EReal := x11 (ix2 2 j)
def ck (a : Fin 3) (j : Fin 5632) : EReal := x10 (ix3 2 a j)
def wd (q : Fin 2816) (d : Fin 1024) : EReal := x12 (ix3 2 q d)

/-- The integer zero the padding converts. -/
theorem pad_zero : (FloatOps.sitofp (F := Ideal) .f32 (0#32 : BitVec 32) : EReal) = 0 := by
  show (((0#32 : BitVec 32).toInt : ℝ) : EReal) = 0
  simp

/-- A row of the padded sequence, under its bounds. -/
theorem pad_row (T s : ℕ) (hs : s < T + 2) (f : ℕ → EReal) :
    (if _h : 1 ≤ s ∧ s - 1 < T then f (s - 1) else 0) = if s = 0 ∨ s = T + 1 then 0 else f (s - 1) := by
  by_cases h : s = 0 ∨ s = T + 1
  · rw [if_pos h, dif_neg (by omega)]
  · rw [if_neg h, dif_pos (by omega)]

/-! ## The context -/

section
variable (x0 x2 : (⟨S32x256x1024, .f32⟩ : BufTy).Contents (Elt Ideal)) (x5 : (⟨S4x6144, .f32⟩ : BufTy).Contents (Elt Ideal))

/-- A sequence's rows, and its modulation. -/
def hC (b : Fin 32) (t : ℕ) (d : Fin 1024) : EReal := x0 (ix3 b ⟨t % 256, Nat.mod_lt _ (by decide)⟩ d)
def mC (q : Fin 6144) : EReal := x5 (ix2 2 q)

theorem v23 (b : Fin 32) (t : Fin 256) (d : Fin 1024) : val_main_v23 (F := Ideal) x0 x2 x4 x5 (ix3 b t d)
    = yRow (hC x0 b t) (hC x2 b t) (mC x5) (wo x4) d := by
  unfold yRow hC mC wo
  simp only [Nat.mod_eq_of_lt t.isLt]
  pointwise [val_main_v23, val_main_v22, val_main_v21, val_main_v20, val_main_v19, val_main_v15, val_main_v12, val_main_v11, val_main_v10]

/-- The normalised rows of sequence `b`. -/
def nC (b : Fin 32) (t : ℕ) : Fin 1024 → EReal := nRow (yRow (hC x0 b t) (hC x2 b t) (mC x5) (wo x4)) (mC x5) (gn x7)

theorem v46 (b : Fin 32) (t : Fin 256) (d : Fin 1024) : val_main_v46 (F := Ideal) x0 x2 x4 x5 x7 (ix3 b t d) = nC x4 x7 x0 x2 x5 b t d := by
  unfold nC nRow gn
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v16, val_main_v17, val_main_v12, val_main_v11, val_main_v10, val_main_cst, val_main_cst_0, val_main_cst_1, val_main_cst_2, v23, Ideal.ofBits_zero_f32]
  rfl

theorem v50 (b : Fin 32) (t : Fin 256) (j : Fin 5632) : val_main_v50 (F := Ideal) x0 x2 x4 x5 x7 x8 x9 (ix3 b t j)
    = upR (nC x4 x7 x0 x2 x5 b) (wu x8) t j + bu x9 j := by
  unfold upR wu bu
  pointwise [val_main_v50, val_main_v49, val_main_v48, val_main_v47, val_main_v3, val_main_v2, val_main_v1, val_main_v0, v46]

theorem v51 (b : Fin 32) (s : Fin 258) (j : Fin 5632) : val_main_v51 (F := Ideal) x0 x2 x4 x5 x7 x8 x9 (ix3 b s j)
    = if s.val = 0 ∨ s.val = 256 + 1 then 0 else upR (nC x4 x7 x0 x2 x5 b) (wu x8) (s.val - 1) j + bu x9 j := by
  rw [← pad_row 256 s.val s.isLt fun r => upR (nC x4 x7 x0 x2 x5 b) (wu x8) r j + bu x9 j, ← pad_zero]
  pointwise [val_main_v51, val_main_call0_v0, val_main_c, v50]

theorem v76 (b : Fin 32) (t : Fin 256) (j : Fin 5632) : val_main_v76 (F := Ideal) x0 x2 x4 x5 x7 x8 x9 x10 x11 (ix3 b t j)
    = cvR 256 (nC x4 x7 x0 x2 x5 b) (wu x8) (bu x9) (cbR x11) (ck x10) t j := by
  have ht := t.isLt
  have a0 : (t.val = 0 ∨ t.val = 256 + 1) = (t.val = 0) := propext (by omega)
  have a1 : ¬(1 + t.val = 0 ∨ 1 + t.val = 256 + 1) := by omega
  have a2 : (2 + t.val = 0 ∨ 2 + t.val = 256 + 1) = (t.val + 1 = 256) := propext (by omega)
  have e1 : 1 + t.val - 1 = t.val := by omega
  have e2 : 2 + t.val - 1 = t.val + 1 := by omega
  have key : val_main_v76 (F := Ideal) x0 x2 x4 x5 x7 x8 x9 x10 x11 (ix3 b t j)
      = x11 (ix2 2 j) + ((val_main_v51 (F := Ideal) x0 x2 x4 x5 x7 x8 x9 (ix3 b ⟨t, by omega⟩ j) * x10 (ix3 2 0 j)
        + val_main_v51 (F := Ideal) x0 x2 x4 x5 x7 x8 x9 (ix3 b ⟨1 + t, by omega⟩ j) * x10 (ix3 2 1 j))
        + val_main_v51 (F := Ideal) x0 x2 x4 x5 x7 x8 x9 (ix3 b ⟨2 + t, by omega⟩ j) * x10 (ix3 2 2 j) : EReal) := by
    unfold val_main_v76 val_main_v73 val_main_v66 val_main_v59 val_main_v57 val_main_v52 val_main_v65 val_main_v60 val_main_v72 val_main_v67
    generalize val_main_v51 (F := Ideal) x0 x2 x4 x5 x7 x8 x9 = P
    pointwise [val_main_v75, val_main_v74, val_main_v71, val_main_v70, val_main_v69, val_main_v68, val_main_v64, val_main_v63, val_main_v62, val_main_v61, val_main_v58, val_main_v56, val_main_v55, val_main_v54, val_main_v53, val_main_v7, val_main_v6, val_main_v5, val_main_v4, val_main_cst_3, Ideal.ofBits_zero_f32]
  rw [key, v51, v51, v51]
  unfold cvR
  simp only [a0, a1, a2, e1, e2, if_false]
  rfl

theorem v80 (b : Fin 32) (t : Fin 256) (q : Fin 2816) : val_main_v80 (F := Ideal) x0 x2 x4 x5 x7 x8 x9 x10 x11 (ix3 b t q)
    = gateS (cvR 256 (nC x4 x7 x0 x2 x5 b) (wu x8) (bu x9) (cbR x11) (ck x10) t ⟨q.val, by omega⟩)
        (cvR 256 (nC x4 x7 x0 x2 x5 b) (wu x8) (bu x9) (cbR x11) (ck x10) t ⟨2816 + q.val, by omega⟩) := by
  unfold gateS Ideal.logistic
  pointwise [val_main_v80, val_main_v79, val_main_v78, val_main_v77, val_main_call1_v5, val_main_call1_v4, val_main_call1_cst_0, val_main_call1_v3, val_main_call1_v2, val_main_call1_cst, val_main_call1_v1, val_main_call1_v0, v76, Ideal.ofBits_one_f32]

theorem v85 (b : Fin 32) (t : Fin 256) (d : Fin 1024) : val_main_v85 (F := Ideal) x0 x2 x4 x5 x7 x8 x9 x10 x11 x12 (ix3 b t d)
    = outR 256 (hC x0 b) (hC x2 b) (mC x5) (wo x4) (gn x7) (wu x8) (bu x9) (cbR x11) (ck x10) (wd x12) t d := by
  unfold outR wd
  pointwise [val_main_v85, val_main_v84, val_main_v83, val_main_v82, val_main_v81, val_main_v18, val_main_v12, val_main_v11, val_main_v10, val_main_v9, val_main_v8, v23, v80]
  rfl

end

/-! ## The lattice -/

section
variable (x1 x3 : (⟨S8x1024x1024, .f32⟩ : BufTy).Contents (Elt Ideal)) (x6 : (⟨S4x8x6144, .f32⟩ : BufTy).Contents (Elt Ideal))

/-- A sequence's rows, and its modulation. -/
def hL (b : Fin 8) (t : ℕ) (d : Fin 1024) : EReal := x1 (ix3 b ⟨t % 1024, Nat.mod_lt _ (by decide)⟩ d)
def mL (b : Fin 8) (q : Fin 6144) : EReal := x6 (ix3 2 b q)

theorem v98 (b : Fin 8) (t : Fin 1024) (d : Fin 1024) : val_main_v98 (F := Ideal) x1 x3 x4 x6 (ix3 b t d)
    = yRow (hL x1 b t) (hL x3 b t) (mL x6 b) (wo x4) d := by
  unfold yRow hL mL wo
  simp only [Nat.mod_eq_of_lt t.isLt]
  pointwise [val_main_v98, val_main_v97, val_main_v96, val_main_v95, val_main_v91, val_main_v88, val_main_v87, val_main_v86]

/-- The normalised rows of sequence `b`. -/
def nL (b : Fin 8) (t : ℕ) : Fin 1024 → EReal := nRow (yRow (hL x1 b t) (hL x3 b t) (mL x6 b) (wo x4)) (mL x6 b) (gn x7)

theorem v119 (b : Fin 8) (t : Fin 1024) (d : Fin 1024) : val_main_v119 (F := Ideal) x1 x3 x4 x6 x7 (ix3 b t d) = nL x4 x7 x1 x3 x6 b t d := by
  unfold nL nRow gn
  pointwise [val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v93, val_main_v92, val_main_v88, val_main_v87, val_main_v86, val_main_cst_4, val_main_cst_5, val_main_cst_6, val_main_cst_7, v98, Ideal.ofBits_zero_f32]
  rfl

theorem v123 (b : Fin 8) (t : Fin 1024) (j : Fin 5632) : val_main_v123 (F := Ideal) x1 x3 x4 x6 x7 x8 x9 (ix3 b t j)
    = upR (nL x4 x7 x1 x3 x6 b) (wu x8) t j + bu x9 j := by
  unfold upR wu bu
  pointwise [val_main_v123, val_main_v122, val_main_v121, val_main_v120, val_main_v3, val_main_v2, val_main_v1, val_main_v0, v119]

theorem v124 (b : Fin 8) (s : Fin 1026) (j : Fin 5632) : val_main_v124 (F := Ideal) x1 x3 x4 x6 x7 x8 x9 (ix3 b s j)
    = if s.val = 0 ∨ s.val = 1024 + 1 then 0 else upR (nL x4 x7 x1 x3 x6 b) (wu x8) (s.val - 1) j + bu x9 j := by
  rw [← pad_row 1024 s.val s.isLt fun r => upR (nL x4 x7 x1 x3 x6 b) (wu x8) r j + bu x9 j, ← pad_zero]
  pointwise [val_main_v124, val_main_call2_v0, val_main_c_8, v123]

theorem v149 (b : Fin 8) (t : Fin 1024) (j : Fin 5632) : val_main_v149 (F := Ideal) x1 x3 x4 x6 x7 x8 x9 x10 x11 (ix3 b t j)
    = cvR 1024 (nL x4 x7 x1 x3 x6 b) (wu x8) (bu x9) (cbR x11) (ck x10) t j := by
  have ht := t.isLt
  have a0 : (t.val = 0 ∨ t.val = 1024 + 1) = (t.val = 0) := propext (by omega)
  have a1 : ¬(1 + t.val = 0 ∨ 1 + t.val = 1024 + 1) := by omega
  have a2 : (2 + t.val = 0 ∨ 2 + t.val = 1024 + 1) = (t.val + 1 = 1024) := propext (by omega)
  have e1 : 1 + t.val - 1 = t.val := by omega
  have e2 : 2 + t.val - 1 = t.val + 1 := by omega
  have key : val_main_v149 (F := Ideal) x1 x3 x4 x6 x7 x8 x9 x10 x11 (ix3 b t j)
      = x11 (ix2 2 j) + ((val_main_v124 (F := Ideal) x1 x3 x4 x6 x7 x8 x9 (ix3 b ⟨t, by omega⟩ j) * x10 (ix3 2 0 j)
        + val_main_v124 (F := Ideal) x1 x3 x4 x6 x7 x8 x9 (ix3 b ⟨1 + t, by omega⟩ j) * x10 (ix3 2 1 j))
        + val_main_v124 (F := Ideal) x1 x3 x4 x6 x7 x8 x9 (ix3 b ⟨2 + t, by omega⟩ j) * x10 (ix3 2 2 j) : EReal) := by
    unfold val_main_v149 val_main_v146 val_main_v139 val_main_v132 val_main_v130 val_main_v125 val_main_v138 val_main_v133 val_main_v145 val_main_v140
    generalize val_main_v124 (F := Ideal) x1 x3 x4 x6 x7 x8 x9 = P
    pointwise [val_main_v148, val_main_v147, val_main_v144, val_main_v143, val_main_v142, val_main_v141, val_main_v137, val_main_v136, val_main_v135, val_main_v134, val_main_v131, val_main_v129, val_main_v128, val_main_v127, val_main_v126, val_main_v7, val_main_v6, val_main_v5, val_main_v4, val_main_cst_9, Ideal.ofBits_zero_f32]
  rw [key, v124, v124, v124]
  unfold cvR
  simp only [a0, a1, a2, e1, e2, if_false]
  rfl

theorem v153 (b : Fin 8) (t : Fin 1024) (q : Fin 2816) : val_main_v153 (F := Ideal) x1 x3 x4 x6 x7 x8 x9 x10 x11 (ix3 b t q)
    = gateS (cvR 1024 (nL x4 x7 x1 x3 x6 b) (wu x8) (bu x9) (cbR x11) (ck x10) t ⟨q.val, by omega⟩)
        (cvR 1024 (nL x4 x7 x1 x3 x6 b) (wu x8) (bu x9) (cbR x11) (ck x10) t ⟨2816 + q.val, by omega⟩) := by
  unfold gateS Ideal.logistic
  pointwise [val_main_v153, val_main_v152, val_main_v151, val_main_v150, val_main_call3_v5, val_main_call3_v4, val_main_call3_cst_0, val_main_call3_v3, val_main_call3_v2, val_main_call3_cst, val_main_call3_v1, val_main_call3_v0, v149, Ideal.ofBits_one_f32]

theorem v157 (b : Fin 8) (t : Fin 1024) (d : Fin 1024) : val_main_v157 (F := Ideal) x1 x3 x4 x6 x7 x8 x9 x10 x11 x12 (ix3 b t d)
    = outR 1024 (hL x1 b) (hL x3 b) (mL x6 b) (wo x4) (gn x7) (wu x8) (bu x9) (cbR x11) (ck x10) (wd x12) t d := by
  unfold outR wd
  pointwise [val_main_v157, val_main_v156, val_main_v155, val_main_v154, val_main_v94, val_main_v88, val_main_v87, val_main_v86, val_main_v9, val_main_v8, v98, v153]
  rfl

end

/-! ## The result -/

theorem v160 (x0 x2 : (⟨S32x256x1024, .f32⟩ : BufTy).Contents (Elt Ideal)) (x1 x3 : (⟨S8x1024x1024, .f32⟩ : BufTy).Contents (Elt Ideal))
    (x5 : (⟨S4x6144, .f32⟩ : BufTy).Contents (Elt Ideal)) (x6 : (⟨S4x8x6144, .f32⟩ : BufTy).Contents (Elt Ideal)) (R : Fin 16384) (d : Fin 1024) :
    val_main_v160 (F := Ideal) x0 x1 x2 x3 x4 x5 x6 x7 x8 x9 x10 x11 x12 (ix2 R d)
      = if h : R.val < 8192 then
          outR 256 (hC x0 ⟨R.val / 256, by omega⟩) (hC x2 ⟨R.val / 256, by omega⟩) (mC x5) (wo x4) (gn x7) (wu x8) (bu x9) (cbR x11) (ck x10) (wd x12) (R.val % 256) d
        else
          outR 1024 (hL x1 ⟨(R.val - 8192) / 1024, by omega⟩) (hL x3 ⟨(R.val - 8192) / 1024, by omega⟩) (mL x6 ⟨(R.val - 8192) / 1024, by omega⟩) (wo x4) (gn x7)
            (wu x8) (bu x9) (cbR x11) (ck x10) (wd x12) ((R.val - 8192) % 1024) d := by
  pointwise [val_main_v160, val_main_v159, val_main_v158, v85, v157]

end Cert.Reference2Ideal.Ffn
-- ==== Proof.FfnRows.lean ====
module

public import proofs.«01_k».proof.Proof.FfnTile
public import proofs.«01_k».proof.Proof.FfnRef

@[expose] public section

/-! The tile's normalised rows and its convolution, as the reference's rows of a sequence: a context tile holds four sequences of
256 rows, a lattice tile one sequence of 1024. -/

set_option maxRecDepth 16384
noncomputable section
namespace Cert.Kernel2Ideal.Ffn
open Cert.Kernel2Ideal Cert.Kernel2Ideal.Gen Idealize.ShloMosaic Idealize.ShloMosaic.TcCoe Idealize.SL.Sem Idealize.ShloMosaic.Tactic Cert.FfnMath
open Cert.Reference2Ideal.Ffn (hC mC hL mL nC nL wo gn wu bu cbR ck wd)

variable (m : (ℓ : Loc nD τ sig) → Buf (Elt Ideal) ℓ) (c : Dev nD)

/-- The sequence and the row in it of row `s` of tile `i`. -/
def seqC (i : Fin 16) (s : ℕ) : Fin 32 := ⟨(4 * i.val + s / 256) % 32, Nat.mod_lt _ (by decide)⟩
def seqL (i : Fin 16) : Fin 8 := ⟨(i.val - 8) % 8, Nat.mod_lt _ (by decide)⟩

/-! ## The tile's inputs by rows -/

theorem wo_eq (t : Fin cfg0.N) (e d : Fin 1024) : (iblk m c 3 t : Vec Ideal S1024x1024 .bf16) (ix2 e d) = wo (aWo m c) e d := i3 m c t e d

theorem gn_eq (t : Fin cfg0.N) (d : Fin 1024) : (iblk m c 5 t : Vec Ideal S1x1024 .f32) (ix2 0 d) = gn (aN2 m c) d := i5 m c t d

theorem pt_div (i : Fin 16) (f : ℕ) (hf : f ≤ 10) : (pt i f).val / 11 = i.val := by rw [pt_val i f hf]; omega

theorem md_ctx (i : Fin 16) (hi : i.val < 8) (f : ℕ) (hf : f ≤ 10) (q : Fin 6144) :
    (iblk m c 4 (pt i f) : Vec Ideal S1x1x1x6144 .f32) (ix4 0 0 0 q) = mC (aMC m c) q := by
  have e := pt_div i f hf
  refine (i4 m c (pt i f) q).trans (Eq.trans ?_ (V15c m c q))
  refine congrArg (fun x => (V m c main_v15 : FVec Ideal S4x16x1x6144 .f32) (ix4 2 x 0 q)) (Fin.ext ?_)
  show (if (pt i f).val / 11 < 8 then 0 else _) = 0
  rw [if_pos (by omega)]

theorem md_lat (i : Fin 16) (hi : 8 ≤ i.val) (f : ℕ) (hf : f ≤ 10) (q : Fin 6144) :
    (iblk m c 4 (pt i f) : Vec Ideal S1x1x1x6144 .f32) (ix4 0 0 0 q) = mL (aML m c) (seqL i) q := by
  have e := pt_div i f hf
  refine (i4 m c (pt i f) q).trans (Eq.trans ?_ (V15l m c (seqL i) q))
  refine congrArg (fun x => (V m c main_v15 : FVec Ideal S4x16x1x6144 .f32) (ix4 2 x 0 q)) (Fin.ext ?_)
  show (if (pt i f).val / 11 < 8 then 0 else (pt i f).val / 11) = 8 + (i.val - 8) % 8
  rw [if_neg (by omega)]
  omega

theorem h_ctx (i : Fin 16) (hi : i.val < 8) (f : ℕ) (hf : f ≤ 10) (r d : Fin 1024) :
    (iblk m c 0 (pt i f) : Vec Ideal S1024x1024 .f32) (ix2 r d) = hC (aHC m c) (seqC i r) (r.val % 256) d := by
  have e := pt_div i f hf
  refine (i0 m c (pt i f) r d).trans ((V2 m c _ d).trans ?_)
  rw [dif_pos (by show (pt i f).val / 11 * 1024 + r.val < 8192; omega)]
  refine congrArg₂ (fun x y => aHC m c (ix3 x y d)) (Fin.ext ?_) (Fin.ext ?_)
  · show ((pt i f).val / 11 * 1024 + r.val) / 256 = (4 * i.val + r.val / 256) % 32; omega
  · show ((pt i f).val / 11 * 1024 + r.val) % 256 = r.val % 256 % 256; omega

theorem h_lat (i : Fin 16) (hi : 8 ≤ i.val) (f : ℕ) (hf : f ≤ 10) (r d : Fin 1024) :
    (iblk m c 0 (pt i f) : Vec Ideal S1024x1024 .f32) (ix2 r d) = hL (aHL m c) (seqL i) r d := by
  have e := pt_div i f hf
  refine (i0 m c (pt i f) r d).trans ((V2 m c _ d).trans ?_)
  rw [dif_neg (by show ¬(pt i f).val / 11 * 1024 + r.val < 8192; omega)]
  refine congrArg₂ (fun x y => aHL m c (ix3 x y d)) (Fin.ext ?_) (Fin.ext ?_)
  · show ((pt i f).val / 11 * 1024 + r.val - 8192) / 1024 = (i.val - 8) % 8; omega
  · show ((pt i f).val / 11 * 1024 + r.val - 8192) % 1024 = r.val % 1024; omega

theorem o_ctx (i : Fin 16) (hi : i.val < 8) (f : ℕ) (hf : f ≤ 10) (r d : Fin 1024) :
    Scalar.select (lat i) ((iblk m c 2 (pt i f) : Vec Ideal S1024x1024 .bf16) (ix2 r d) : EReal) ((iblk m c 1 (pt i f) : Vec Ideal S1024x1024 .bf16) (ix2 r d))
      = hC (aOC m c) (seqC i r) (r.val % 256) d := by
  have e := pt_div i f hf
  have hl : lat i = 0#1 := if_pos hi
  rw [hl]
  refine Eq.trans (if_neg (by decide)) ((i1 m c (pt i f) r d).trans ((V7 m c _ d).trans ?_))
  refine congrArg₂ (fun x y => aOC m c (ix3 x y d)) (Fin.ext ?_) (Fin.ext ?_)
  · show (min ((pt i f).val / 11) 7 * 1024 + r.val) / 256 = (4 * i.val + r.val / 256) % 32; omega
  · show (min ((pt i f).val / 11) 7 * 1024 + r.val) % 256 = r.val % 256 % 256; omega

theorem o_lat (i : Fin 16) (hi : 8 ≤ i.val) (f : ℕ) (hf : f ≤ 10) (r d : Fin 1024) :
    Scalar.select (lat i) ((iblk m c 2 (pt i f) : Vec Ideal S1024x1024 .bf16) (ix2 r d) : EReal) ((iblk m c 1 (pt i f) : Vec Ideal S1024x1024 .bf16) (ix2 r d))
      = hL (aOL m c) (seqL i) r d := by
  have e := pt_div i f hf
  have hl : lat i = 1#1 := if_neg (by omega)
  rw [hl]
  refine Eq.trans (if_pos rfl) ((i2 m c (pt i f) r d).trans ((V9 m c _ d).trans ?_))
  refine congrArg₂ (fun x y => aOL m c (ix3 x y d)) (Fin.ext ?_) (Fin.ext ?_)
  · show (((pt i f).val / 11 - 8) * 1024 + r.val) / 1024 = (i.val - 8) % 8; omega
  · show (((pt i f).val / 11 - 8) * 1024 + r.val) % 1024 = r.val % 1024; omega

/-! ## The residual stream and the normalised rows -/

theorem xNew_eq (l : BitVec 1) (h : Vec Ideal S1024x1024 .f32) (oc ol w : Vec Ideal S1024x1024 .bf16) (md : Vec Ideal S1x1x1x6144 .f32) (r d : Fin 1024)
    (h' o' : Fin 1024 → EReal) (md' : Fin 6144 → EReal) (w' : Fin 1024 → Fin 1024 → EReal)
    (hh : ∀ d, h (ix2 r d) = h' d) (ho : ∀ e, Scalar.select l (ol (ix2 r e) : EReal) (oc (ix2 r e)) = o' e) (hm : ∀ q, md (ix4 0 0 0 q) = md' q)
    (hw : ∀ e d, w (ix2 e d) = w' e d) : xNew l h oc ol w md (ix2 r d) = yRow h' o' md' w' d := by
  obtain rfl : (fun d => h (ix2 r d)) = h' := funext hh
  obtain rfl : (fun e => Scalar.select l (ol (ix2 r e) : EReal) (oc (ix2 r e))) = o' := funext ho
  obtain rfl : (fun q => md (ix4 0 0 0 q)) = md' := funext hm
  obtain rfl : (fun e d => w (ix2 e d)) = w' := funext fun e => funext fun d => hw e d
  exact xNew_apply l h oc ol w md r d

theorem xNorm_eq (l : BitVec 1) (h : Vec Ideal S1024x1024 .f32) (oc ol w : Vec Ideal S1024x1024 .bf16) (md : Vec Ideal S1x1x1x6144 .f32) (g : Vec Ideal S1x1024 .f32)
    (r d : Fin 1024) (y' : Fin 1024 → EReal) (md' : Fin 6144 → EReal) (g' : Fin 1024 → EReal)
    (hy : ∀ d, xNew l h oc ol w md (ix2 r d) = y' d) (hm : ∀ q, md (ix4 0 0 0 q) = md' q) (hg : ∀ d, g (ix2 0 d) = g' d) :
    xNorm l h oc ol w md g (ix2 r d) = nRow y' md' g' d := by
  obtain rfl : (fun d => xNew l h oc ol w md (ix2 r d)) = y' := funext hy
  obtain rfl : (fun q => md (ix4 0 0 0 q)) = md' := funext hm
  obtain rfl : (fun d => g (ix2 0 d)) = g' := funext hg
  exact xNorm_apply l h oc ol w md g r d

theorem x_ctx (i : Fin 16) (hi : i.val < 8) (r d : Fin 1024) :
    xR m c i (ix2 r d) = yRow (hC (aHC m c) (seqC i r) (r.val % 256)) (hC (aOC m c) (seqC i r) (r.val % 256)) (mC (aMC m c)) (wo (aWo m c)) d :=
  xNew_eq _ _ _ _ _ _ r d _ _ _ _ (h_ctx m c i hi 0 (by omega) r) (o_ctx m c i hi 0 (by omega) r) (md_ctx m c i hi 0 (by omega)) (wo_eq m c (pt i 0))

theorem x_lat (i : Fin 16) (hi : 8 ≤ i.val) (r d : Fin 1024) :
    xR m c i (ix2 r d) = yRow (hL (aHL m c) (seqL i) r) (hL (aOL m c) (seqL i) r) (mL (aML m c) (seqL i)) (wo (aWo m c)) d :=
  xNew_eq _ _ _ _ _ _ r d _ _ _ _ (h_lat m c i hi 0 (by omega) r) (o_lat m c i hi 0 (by omega) r) (md_lat m c i hi 0 (by omega)) (wo_eq m c (pt i 0))

theorem n_ctx (i : Fin 16) (hi : i.val < 8) (r d : Fin 1024) :
    xN m c i (ix2 r d) = nC (aWo m c) (aN2 m c) (aHC m c) (aOC m c) (aMC m c) (seqC i r) (r.val % 256) d :=
  xNorm_eq _ _ _ _ _ _ _ r d _ _ _ (x_ctx m c i hi r) (md_ctx m c i hi 0 (by omega)) (gn_eq m c (pt i 0))

theorem n_lat (i : Fin 16) (hi : 8 ≤ i.val) (r d : Fin 1024) :
    xN m c i (ix2 r d) = nL (aWo m c) (aN2 m c) (aHL m c) (aOL m c) (aML m c) (seqL i) r d :=
  xNorm_eq _ _ _ _ _ _ _ r d _ _ _ (x_lat m c i hi r) (md_lat m c i hi 0 (by omega)) (gn_eq m c (pt i 0))

/-! ## The up-projection and the convolution -/

theorem U_eq (xn : Vec Ideal S1024x1024 .bf16) (w : Vec Ideal S1x1024x256 .f32) (s : ℕ) (hs : s < 1024) (j : Fin 256) (n : ℕ → Fin 1024 → EReal) (t : ℕ)
    (w' : Fin 1024 → Fin 5632 → EReal) (J : Fin 5632) (hn : ∀ k, xn (ix2 ⟨s, hs⟩ k) = n t k) (hw : ∀ k, w (ix3 0 k j) = w' k J) : U xn w s j = upR n w' t J := by
  have e : rw4 s = ⟨s, hs⟩ := Fin.ext (Nat.mod_eq_of_lt hs)
  unfold U upR
  rw [e]
  exact Finset.sum_congr rfl fun k _ => by rw [hn, hw]

/-- One row's convolution, given what its three neighbours hold. -/
theorem cv_eq (l : BitVec 1) (xn : Vec Ideal S1024x1024 .bf16) (w : Vec Ideal S1x1024x256 .f32) (b cb : Vec Ideal S1x1x256 .f32) (k : Vec Ideal S1x3x256 .f32)
    (r : ℕ) (j : Fin 256) (T : ℕ) (n : ℕ → Fin 1024 → EReal) (w' : Fin 1024 → Fin 5632 → EReal) (b' cb' : Fin 5632 → EReal) (k' : Fin 3 → Fin 5632 → EReal)
    (t : ℕ) (J : Fin 5632) (hb : b (ix3 0 0 j) = b' J) (hcb : cb (ix3 0 0 j) = cb' J) (hk : ∀ a, k (ix3 0 a j) = k' a J)
    (rb : ∃ x : ℝ, b' J = x) (rk : ∀ a, ∃ x : ℝ, k' a J = x)
    (hp : prevU l xn w b r j = if t = 0 then (0 : EReal) - b (ix3 0 0 j) else upR n w' (t - 1) J) (hu : U xn w r j = upR n w' t J)
    (hn : nextU l xn w b r j = if t + 1 = T then (0 : EReal) - b (ix3 0 0 j) else upR n w' (t + 1) J) :
    cv l xn w b cb k r j = cvR T n w' b' cb' k' t J := by
  obtain ⟨β, hβ⟩ := rb
  obtain ⟨k0, h0⟩ := rk 0
  obtain ⟨k1, h1⟩ := rk 1
  obtain ⟨k2, h2⟩ := rk 2
  have key := cvS_eq (cb' J) (if t = 0 then (0 : EReal) - β else upR n w' (t - 1) J) (upR n w' t J) (if t + 1 = T then (0 : EReal) - β else upR n w' (t + 1) J) β k0 k1 k2
  unfold cv cvR
  rw [hp, hu, hn, hb, hcb, hk, hk, hk, hβ, h0, h1, h2]
  refine key.trans ?_
  have e1 : (if t = 0 then (0 : EReal) - β else upR n w' (t - 1) J) + β = if t = 0 then 0 else upR n w' (t - 1) J + β := by
    split
    · exact pad_eq β
    · rfl
  have e2 : (if t + 1 = T then (0 : EReal) - β else upR n w' (t + 1) J) + β = if t + 1 = T then 0 else upR n w' (t + 1) J + β := by
    split
    · exact pad_eq β
    · rfl
  rw [e1, e2]

theorem cv_ctx (i : Fin 16) (hi : i.val < 8) (w : Vec Ideal S1x1024x256 .f32) (b cb : Vec Ideal S1x1x256 .f32) (k : Vec Ideal S1x3x256 .f32)
    (r : Fin 1024) (j : Fin 256) (w' : Fin 1024 → Fin 5632 → EReal) (b' cb' : Fin 5632 → EReal) (k' : Fin 3 → Fin 5632 → EReal) (J : Fin 5632)
    (hw : ∀ k, w (ix3 0 k j) = w' k J) (hb : b (ix3 0 0 j) = b' J) (hcb : cb (ix3 0 0 j) = cb' J) (hk : ∀ a, k (ix3 0 a j) = k' a J)
    (rb : ∃ x : ℝ, b' J = x) (rk : ∀ a, ∃ x : ℝ, k' a J = x) :
    cv (lat i) (xN m c i) w b cb k r j = cvR 256 (nC (aWo m c) (aN2 m c) (aHC m c) (aOC m c) (aMC m c) (seqC i r)) w' b' cb' k' (r.val % 256) J := by
  have hl : lat i = 0#1 := if_pos hi
  have hU : ∀ (s : ℕ), s < 1024 → s / 256 = r.val / 256 → U (xN m c i) w s j = upR (nC (aWo m c) (aN2 m c) (aHC m c) (aOC m c) (aMC m c) (seqC i r)) w' (s % 256) J := by
    intro s hs hq
    refine U_eq _ _ s hs j _ _ _ J (fun k => ?_) hw
    have e : seqC i s = seqC i r := Fin.ext (by show (4 * i.val + s / 256) % 32 = (4 * i.val + r.val / 256) % 32; rw [hq])
    rw [← e]
    exact n_ctx m c i hi ⟨s, hs⟩ k
  refine cv_eq _ _ _ _ _ _ _ _ _ _ _ _ _ _ _ J hb hcb hk rb rk ?_ (hU r r.isLt rfl) ?_
  · unfold prevU
    rw [hl]
    by_cases h : r.val % 256 = 0
    · rw [if_pos h, if_pos h]
      split
      · rfl
      · exact if_neg (by decide)
    · rw [if_neg h, if_neg h, hU (r.val - 1) (by omega) (by omega)]
      congr 1; omega
  · unfold nextU
    rw [hl]
    by_cases h : r.val % 256 = 255
    · rw [if_pos h, if_pos (by omega : r.val % 256 + 1 = 256)]
      split
      · rfl
      · exact if_neg (by decide)
    · rw [if_neg h, if_neg (by omega : ¬r.val % 256 + 1 = 256), hU (r.val + 1) (by omega) (by omega)]
      congr 1; omega

theorem cv_lat (i : Fin 16) (hi : 8 ≤ i.val) (w : Vec Ideal S1x1024x256 .f32) (b cb : Vec Ideal S1x1x256 .f32) (k : Vec Ideal S1x3x256 .f32)
    (r : Fin 1024) (j : Fin 256) (w' : Fin 1024 → Fin 5632 → EReal) (b' cb' : Fin 5632 → EReal) (k' : Fin 3 → Fin 5632 → EReal) (J : Fin 5632)
    (hw : ∀ k, w (ix3 0 k j) = w' k J) (hb : b (ix3 0 0 j) = b' J) (hcb : cb (ix3 0 0 j) = cb' J) (hk : ∀ a, k (ix3 0 a j) = k' a J)
    (rb : ∃ x : ℝ, b' J = x) (rk : ∀ a, ∃ x : ℝ, k' a J = x) :
    cv (lat i) (xN m c i) w b cb k r j = cvR 1024 (nL (aWo m c) (aN2 m c) (aHL m c) (aOL m c) (aML m c) (seqL i)) w' b' cb' k' r J := by
  have hl : lat i = 1#1 := if_neg (by omega)
  have hU : ∀ (s : ℕ), s < 1024 → U (xN m c i) w s j = upR (nL (aWo m c) (aN2 m c) (aHL m c) (aOL m c) (aML m c) (seqL i)) w' s J := by
    intro s hs
    exact U_eq _ _ s hs j _ _ _ J (fun k => n_lat m c i hi ⟨s, hs⟩ k) hw
  refine cv_eq _ _ _ _ _ _ _ _ _ _ _ _ _ _ _ J hb hcb hk rb rk ?_ (hU r r.isLt) ?_
  · unfold prevU
    rw [hl]
    by_cases h : r.val = 0
    · rw [if_pos (by omega : r.val % 256 = 0), if_pos h, if_pos h]
    · rw [if_neg h, if_neg h, ← hU (r.val - 1) (by omega)]
      split
      · exact if_pos rfl
      · rfl
  · unfold nextU
    rw [hl]
    by_cases h : r.val = 1023
    · rw [if_pos (by omega : r.val % 256 = 255), if_pos h, if_pos (by omega : r.val + 1 = 1024)]
    · rw [if_neg h, if_neg (by omega : ¬r.val + 1 = 1024), ← hU (r.val + 1) (by omega)]
      split
      · exact if_pos rfl
      · rfl

end Cert.Kernel2Ideal.Ffn
-- ==== Proof.FfnValue.lean ====
module

public import proofs.«01_k».proof.Proof.FfnRows
public import proofs.«01_k».proof.Proof.Finite
public import proofs.«01_k».proof.Proof.Gen.Pre_finite_conv
public import proofs.«01_k».proof.Defs

@[expose] public section

/-! The array the feed-forward launch leaves is the reference's. -/

set_option maxRecDepth 16384
noncomputable section
namespace Cert.Kernel2Ideal.Ffn
open Cert.Kernel2Ideal Cert.Kernel2Ideal.Gen Idealize.ShloMosaic Idealize.ShloMosaic.TcCoe Idealize.SL.Sem Idealize.ShloMosaic.Tactic Cert.FfnMath
open Cert.Reference2Ideal.Ffn (hC mC hL mL nC nL wo gn wu bu cbR ck wd)

variable (m : (ℓ : Loc nD τ sig) → Buf (Elt Ideal) ℓ) (c : Dev nD)

/-! ## The precondition: the up-projection's bias and the taps are reals -/

theorem reals (h : Cert.Pre_Kernel2Ideal_finite_conv (hPre_finite_conv := Cert.Pre_finite_conv.Gen.facts) m) :
    (∀ i, ∃ r : ℝ, aBu m c i = (r : EReal)) ∧ (∀ i, ∃ r : ℝ, aCk m c i = (r : EReal)) := by
  have key : ∀ p q : BitVec 1, IntOp.andi p q = 1#1 → p = 1#1 ∧ q = 1#1 := by decide
  have h0 := congrFun (h c) (fun a => a.elim0)
  obtain ⟨h1, h2⟩ := key _ _ h0
  exact ⟨Cert.Finite.of_reduce _ _ _ _ _ _ (fun _ _ => funext fun a => a.elim0) _ h1,
    Cert.Finite.of_reduce _ _ _ _ _ _ (fun _ _ => funext fun a => a.elim0) _ h2⟩

/-! ## The columns' shares -/

theorem pt_mod (i : Fin 16) (f : ℕ) (hf : f ≤ 10) : (pt i f).val % 11 = f := by rw [pt_val i f hf]; omega

/-- A tile's row, given its convolution: the eleven shares are the sum over the 2816 hidden columns. -/
theorem shares (i : Fin 16) (r d : Fin 1024) (C : Fin 5632 → EReal)
    (hg : ∀ f : ℕ, ∀ hf : f ≤ 10, ∀ j : Fin 256, cv (lat i) (xN m c i) (wts m c (pt i f)).g (wts m c (pt i f)).bg (wts m c (pt i f)).cg (wts m c (pt i f)).kg r j
      = C ⟨f * 256 + j.val, by omega⟩)
    (hv : ∀ f : ℕ, ∀ hf : f ≤ 10, ∀ j : Fin 256, cv (lat i) (xN m c i) (wts m c (pt i f)).v (wts m c (pt i f)).bv (wts m c (pt i f)).cv (wts m c (pt i f)).kv r j
      = C ⟨(11 + f) * 256 + j.val, by omega⟩) :
    ∑ g ∈ Finset.range 11, share m c i g (ix2 r d)
      = ∑ q : Fin 2816, gateS (C ⟨q.val, by omega⟩) (C ⟨2816 + q.val, by omega⟩) * wd (aWd m c) q d := by
  have key := sum_blocks fun q => if h : q < 2816 then gateS (C ⟨q, by omega⟩) (C ⟨2816 + q, by omega⟩) * wd (aWd m c) ⟨q, h⟩ d else 0
  refine Eq.trans (Finset.sum_congr rfl fun f hf => ?_) (key.trans (Finset.sum_congr rfl fun q _ => dif_pos q.isLt))
  have hf' : f ≤ 10 := by have := Finset.mem_range.mp hf; omega
  unfold share
  refine Finset.sum_congr rfl fun j _ => ?_
  rw [dif_pos (by omega : f * 256 + j.val < 2816)]
  refine congrArg₂ (· * ·) ?_ ?_
  · show gate _ _ = gateS _ _
    refine congrArg₂ gateS ((hg f hf' j).trans rfl) ((hv f hf' j).trans (congrArg C (Fin.ext ?_)))
    show (11 + f) * 256 + j.val = 2816 + (f * 256 + j.val)
    omega
  · refine (i14 m c (pt i f) j d).trans (congrArg (fun x => aWd m c (ix3 2 x d)) (Fin.ext ?_))
    show (pt i f).val % 11 * 256 + j.val = f * 256 + j.val
    rw [pt_mod i f hf']

/-- A column of the gate half, and of the value half, at column block `f`. -/
theorem colG (i : Fin 16) (f : ℕ) (hf : f ≤ 10) (j : Fin 256) : (⟨(pt i f).val % 11 * 256 + j.val, by omega⟩ : Fin 5632) = ⟨f * 256 + j.val, by omega⟩ :=
  Fin.ext (by show (pt i f).val % 11 * 256 + j.val = f * 256 + j.val; rw [pt_mod i f hf])
theorem colV (i : Fin 16) (f : ℕ) (hf : f ≤ 10) (j : Fin 256) : (⟨(11 + (pt i f).val % 11) * 256 + j.val, by omega⟩ : Fin 5632) = ⟨(11 + f) * 256 + j.val, by omega⟩ :=
  Fin.ext (by show (11 + (pt i f).val % 11) * 256 + j.val = (11 + f) * 256 + j.val; rw [pt_mod i f hf])

variable (h : Cert.Pre_Kernel2Ideal_finite_conv (hPre_finite_conv := Cert.Pre_finite_conv.Gen.facts) m)
include h

theorem out_ctx (i : Fin 16) (hi : i.val < 8) (r d : Fin 1024) : (outsAt0 m c (pt i 10).val (pt i 10).isLt).1 (ix2 r d)
    = outR 256 (hC (aHC m c) (seqC i r)) (hC (aOC m c) (seqC i r)) (mC (aMC m c)) (wo (aWo m c)) (gn (aN2 m c)) (wu (aWu m c)) (bu (aBu m c)) (cbR (aCb m c))
        (ck (aCk m c)) (wd (aWd m c)) (r.val % 256) d := by
  obtain ⟨rb, rk⟩ := reals m c h
  rw [out_last, pay2_apply, x_ctx m c i hi, md_ctx m c i hi 10 (by omega)]
  unfold outR
  refine congrArg (fun z => yRow _ _ _ _ d + mC (aMC m c) ⟨5120 + d.val, by omega⟩ * z) ?_
  refine shares m c i r d (cvR 256 (nC (aWo m c) (aN2 m c) (aHC m c) (aOC m c) (aMC m c) (seqC i r)) (wu (aWu m c)) (bu (aBu m c)) (cbR (aCb m c)) (ck (aCk m c)) (r.val % 256)) ?_ ?_
  · intro f hf j
    rw [← colG i f hf j]
    exact cv_ctx m c i hi _ _ _ _ r j _ _ _ _ _ (fun k => i6 m c (pt i f) k j) (i8 m c (pt i f) j) (i12 m c (pt i f) j) (fun a => i10 m c (pt i f) a j) (rb _) (fun a => rk _)
  · intro f hf j
    rw [← colV i f hf j]
    exact cv_ctx m c i hi _ _ _ _ r j _ _ _ _ _ (fun k => i7 m c (pt i f) k j) (i9 m c (pt i f) j) (i13 m c (pt i f) j) (fun a => i11 m c (pt i f) a j) (rb _) (fun a => rk _)

theorem out_lat (i : Fin 16) (hi : 8 ≤ i.val) (r d : Fin 1024) : (outsAt0 m c (pt i 10).val (pt i 10).isLt).1 (ix2 r d)
    = outR 1024 (hL (aHL m c) (seqL i)) (hL (aOL m c) (seqL i)) (mL (aML m c) (seqL i)) (wo (aWo m c)) (gn (aN2 m c)) (wu (aWu m c)) (bu (aBu m c)) (cbR (aCb m c))
        (ck (aCk m c)) (wd (aWd m c)) r d := by
  obtain ⟨rb, rk⟩ := reals m c h
  rw [out_last, pay2_apply, x_lat m c i hi, md_lat m c i hi 10 (by omega)]
  unfold outR
  refine congrArg (fun z => yRow _ _ _ _ d + mL (aML m c) (seqL i) ⟨5120 + d.val, by omega⟩ * z) ?_
  refine shares m c i r d (cvR 1024 (nL (aWo m c) (aN2 m c) (aHL m c) (aOL m c) (aML m c) (seqL i)) (wu (aWu m c)) (bu (aBu m c)) (cbR (aCb m c)) (ck (aCk m c)) r) ?_ ?_
  · intro f hf j
    rw [← colG i f hf j]
    exact cv_lat m c i hi _ _ _ _ r j _ _ _ _ _ (fun k => i6 m c (pt i f) k j) (i8 m c (pt i f) j) (i12 m c (pt i f) j) (fun a => i10 m c (pt i f) a j) (rb _) (fun a => rk _)
  · intro f hf j
    rw [← colV i f hf j]
    exact cv_lat m c i hi _ _ _ _ r j _ _ _ _ _ (fun k => i7 m c (pt i f) k j) (i9 m c (pt i f) j) (i13 m c (pt i f) j) (fun a => i11 m c (pt i f) a j) (rb _) (fun a => rk _)

/-- Row `r` of the tile that the last column block of tile `i` writes is the reference's row `1024 i + r`. -/
theorem out_row (i : Fin 16) (r d : Fin 1024) (R : Fin 16384) (hR : R.val = i.val * 1024 + r.val) : (outsAt0 m c (pt i 10).val (pt i 10).isLt).1 (ix2 r d)
    = Cert.Reference2Ideal.Read.val_main_v160 (F := Ideal) (aHC m c) (aHL m c) (aOC m c) (aOL m c) (aWo m c) (aMC m c) (aML m c) (aN2 m c) (aWu m c) (aBu m c) (aCk m c)
        (aCb m c) (aWd m c) (ix2 R d) := by
  rw [Cert.Reference2Ideal.Ffn.v160]
  by_cases hi : i.val < 8
  · rw [dif_pos (by omega), out_ctx m c h i hi]
    have e : seqC i r = ⟨R.val / 256, by omega⟩ := Fin.ext (by show (4 * i.val + r.val / 256) % 32 = R.val / 256; omega)
    rw [e, show R.val % 256 = r.val % 256 by omega]
  · rw [dif_neg (by omega), out_lat m c h i (by omega)]
    have e : seqL i = ⟨(R.val - 8192) / 1024, by omega⟩ := Fin.ext (by show (i.val - 8) % 8 = (R.val - 8192) / 1024; omega)
    rw [e, show (R.val - 8192) % 1024 = r.val by omega]

theorem final : (dats m 0 c).arrAt 15 cfg0.N
    = Cert.Reference2Ideal.Read.val_main_v160 (F := Ideal) (aHC m c) (aHL m c) (aOC m c) (aOL m c) (aWo m c) (aMC m c) (aML m c) (aN2 m c) (aWu m c) (aBu m c) (aCk m c)
        (aCb m c) (aWd m c) := by
  refine (dats m 0 c).arrAt_eq_of_covers 15 _ (by decide +kernel) fun t hf y => ?_
  have h10 : t.val % 11 = 10 := (flush0_15 t).mp hf
  have ht := t_lt t
  have e : pt ⟨t.val / 11, by omega⟩ 10 = t := Fin.ext (by rw [pt_val _ _ (by omega)]; show 11 * (t.val / 11) + 10 = t.val; omega)
  have key := out_row m c h ⟨t.val / 11, by omega⟩ (y 0) (y 1) ⟨t.val / 11 * 1024 + (y 0).val, by have : (y 0).val < 1024 := (y 0).isLt; omega⟩ rfl
  rw [e] at key
  simp only [after0_15]
  refine Eq.trans ?_ (key.trans ?_)
  · blk_simp
    exact congrArg (outsAt0 m c t.val t.isLt).1 (eq_ix2 (y : S1024x1024.Idx))
  · refine congrArg _ (funext fun a => Fin.ext ?_)
    match a with
    | ⟨0, _⟩ => blk_simp [(idx t).2.2.2.2.2.2.2.2.2.2.2.2.2.2.2]; rfl
    | ⟨1, _⟩ => blk_simp [(idx t).2.2.2.2.2.2.2.2.2.2.2.2.2.2.2]; rfl

omit h in
/-- The launch's run, with the output array named and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v17) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1 15,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c))),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).2 main_arg11 (Pipeline.mem_restRefs_of main_arg11 (by decide) (by decide))).trans (V_main_arg11 m c),
      ((h c).1 14).trans (((dats m 0 c).arrAt_in 14 rfl _).trans ((A_eq m c 14).trans (V_main_arg12 m c)))⟩)
    (run_main m ρ)

end Cert.Kernel2Ideal.Ffn
-- ==== Proof.FfnLastPoints.lean ====
/- Layer 3 of the feed-forward call: which branches are taken at each point, where the two output windows are idle, and the memrefs at a point. -/
module

public import proofs.«01_k».proof.Proof.Gen.Kernel3Ideal.Frame
public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev cond0_0 (i : grid0.Coords) : Prop := k0_cond1 i = 1#1

theorem hcond0_0 : ∀ t : Fin cfg0.N, cond0_0 (grid0.coords t) ↔ t.val / 11 % 16 + 8 * (t.val % 11) ≤ 7 :=
  (by decide +kernel : ∀ t : Fin grid0.N, cond0_0 (grid0.coords t) ↔ t.val / 11 % 16 + 8 * (t.val % 11) ≤ 7)

abbrev cond0_1 (i : grid0.Coords) : Prop := k0_cond2 i = 1#1

theorem hcond0_1 : ∀ t : Fin cfg0.N, cond0_1 (grid0.coords t) ↔ 8 * (t.val % 11) + 8 ≤ t.val / 11 % 16 :=
  (by decide +kernel : ∀ t : Fin grid0.N, cond0_1 (grid0.coords t) ↔ 8 * (t.val % 11) + 8 ≤ t.val / 11 % 16)

abbrev cond0_2 (i : grid0.Coords) : Prop := k0_cond3 i = 1#1

theorem hcond0_2 : ∀ t : Fin cfg0.N, cond0_2 (grid0.coords t) ↔ t.val / 11 % 16 + 73 ≤ 8 * (t.val % 11) :=
  (by decide +kernel : ∀ t : Fin grid0.N, cond0_2 (grid0.coords t) ↔ t.val / 11 % 16 + 73 ≤ 8 * (t.val % 11))

abbrev cond0_3 (i : grid0.Coords) : Prop := k0_cond4 i = 1#1

theorem hcond0_3 : ∀ t : Fin cfg0.N, cond0_3 (grid0.coords t) ↔ 88 ≤ t.val / 11 % 16 + 8 * (t.val % 11) :=
  (by decide +kernel : ∀ t : Fin grid0.N, cond0_3 (grid0.coords t) ↔ 88 ≤ t.val / 11 % 16 + 8 * (t.val % 11))

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem liveAt0_4 : ∀ t : Fin cfg0.N, cfg0.idle 4 (grid0.coords t) = false := fun _ => rfl

theorem liveAt0_5 : ∀ t : Fin cfg0.N, cfg0.idle 5 (grid0.coords t) = false := fun _ => rfl

theorem liveAt0_6 : ∀ t : Fin cfg0.N, cfg0.idle 6 (grid0.coords t) = false := fun _ => rfl

theorem liveAt0_7 : ∀ t : Fin cfg0.N, cfg0.idle 7 (grid0.coords t) = false := fun _ => rfl

theorem liveAt0_8 : ∀ t : Fin cfg0.N, cfg0.idle 8 (grid0.coords t) = false := fun _ => rfl

theorem liveAt0_9 : ∀ t : Fin cfg0.N, cfg0.idle 9 (grid0.coords t) = false := fun _ => rfl

theorem liveAt0_10 : ∀ t : Fin cfg0.N, cfg0.idle 10 (grid0.coords t) = false := fun _ => rfl

theorem liveAt0_11 : ∀ t : Fin cfg0.N, cfg0.idle 11 (grid0.coords t) = false := fun _ => rfl

theorem liveAt0_12 : ∀ t : Fin cfg0.N, cfg0.idle 12 (grid0.coords t) = false := fun _ => rfl

theorem liveAt0_13 : ∀ t : Fin cfg0.N, cfg0.idle 13 (grid0.coords t) = false := fun _ => rfl

theorem liveAt0_14 : ∀ t : Fin cfg0.N, cfg0.idle 14 (grid0.coords t) = false := fun _ => rfl

abbrev conds0_A (i : grid0.Coords) : Prop := cond0_0 i ∧ ¬cond0_1 i ∧ ¬cond0_2 i ∧ ¬cond0_3 i

abbrev conds0_B (i : grid0.Coords) : Prop := ¬cond0_0 i ∧ ¬cond0_1 i ∧ ¬cond0_2 i ∧ ¬cond0_3 i

abbrev conds0_C (i : grid0.Coords) : Prop := ¬cond0_0 i ∧ ¬cond0_1 i ∧ cond0_2 i ∧ ¬cond0_3 i

abbrev conds0_D (i : grid0.Coords) : Prop := ¬cond0_0 i ∧ cond0_1 i ∧ ¬cond0_2 i ∧ ¬cond0_3 i

abbrev conds0_E (i : grid0.Coords) : Prop := ¬cond0_0 i ∧ ¬cond0_1 i ∧ ¬cond0_2 i ∧ cond0_3 i

def freshTab0_15 : ℕ → Bool
  | 0 => true
  | n + 1 => (0x80000000000000000000000010020040080100200400 : ℕ).testBit n

theorem freshTab0_15_step : ∀ t : Fin cfg0.N,
    freshTab0_15 (t.val + 1) = ((cfg0.win 15).flush t || (cfg0.idle 15 (cfg0.grid.coords t) && freshTab0_15 t.val)) := by decide +kernel

theorem fresh0_15_eq (t : Fin cfg0.N) : cfg0.fresh 15 t.val = freshTab0_15 t.val :=
  Pipeline.Cfg.fresh_tab cfg0 15 freshTab0_15 rfl freshTab0_15_step t.val (Nat.le_of_lt t.isLt)

theorem liveAt0_15_A : ∀ t : Fin cfg0.N, cond0_0 (grid0.coords t) → ¬cond0_1 (grid0.coords t) → ¬cond0_2 (grid0.coords t) → ¬cond0_3 (grid0.coords t) → cfg0.idle 15 (grid0.coords t) = false :=
  fun t h0 h1 h2 h3 => (by decide +kernel : ∀ t : Fin cfg0.N, conds0_A (grid0.coords t) → cfg0.idle 15 (grid0.coords t) = false) t ⟨h0, h1, h2, h3⟩

theorem idleAt0_15_B : ∀ t : Fin cfg0.N, ¬cond0_0 (grid0.coords t) → ¬cond0_1 (grid0.coords t) → ¬cond0_2 (grid0.coords t) → ¬cond0_3 (grid0.coords t) → cfg0.idle 15 (grid0.coords t) = true :=
  fun t h0 h1 h2 h3 => (by decide +kernel : ∀ t : Fin cfg0.N, conds0_B (grid0.coords t) → cfg0.idle 15 (grid0.coords t) = true) t ⟨h0, h1, h2, h3⟩

theorem noFlush0_15_B : ∀ t : Fin cfg0.N, ¬cond0_0 (grid0.coords t) → ¬cond0_1 (grid0.coords t) → ¬cond0_2 (grid0.coords t) → ¬cond0_3 (grid0.coords t) → (cfg0.win 15).flush t = false :=
  fun t h0 h1 h2 h3 => (by decide +kernel : ∀ t : Fin cfg0.N, conds0_B (grid0.coords t) → (cfg0.win 15).flush t = false) t ⟨h0, h1, h2, h3⟩

theorem liveAt0_15_C : ∀ t : Fin cfg0.N, ¬cond0_0 (grid0.coords t) → ¬cond0_1 (grid0.coords t) → cond0_2 (grid0.coords t) → ¬cond0_3 (grid0.coords t) → cfg0.idle 15 (grid0.coords t) = false :=
  fun t h0 h1 h2 h3 => (by decide +kernel : ∀ t : Fin cfg0.N, conds0_C (grid0.coords t) → cfg0.idle 15 (grid0.coords t) = false) t ⟨h0, h1, h2, h3⟩

theorem notFresh0_15_C : ∀ t : Fin cfg0.N, ¬cond0_0 (grid0.coords t) → ¬cond0_1 (grid0.coords t) → cond0_2 (grid0.coords t) → ¬cond0_3 (grid0.coords t) → cfg0.fresh 15 t.val = false :=
  fun t h0 h1 h2 h3 => (by intro t; rw [fresh0_15_eq t]; revert t; decide +kernel : ∀ t : Fin cfg0.N, conds0_C (grid0.coords t) → cfg0.fresh 15 t.val = false) t ⟨h0, h1, h2, h3⟩

theorem idleAt0_15_D : ∀ t : Fin cfg0.N, ¬cond0_0 (grid0.coords t) → cond0_1 (grid0.coords t) → ¬cond0_2 (grid0.coords t) → ¬cond0_3 (grid0.coords t) → cfg0.idle 15 (grid0.coords t) = true :=
  fun t h0 h1 h2 h3 => (by decide +kernel : ∀ t : Fin cfg0.N, conds0_D (grid0.coords t) → cfg0.idle 15 (grid0.coords t) = true) t ⟨h0, h1, h2, h3⟩

theorem noFlush0_15_D : ∀ t : Fin cfg0.N, ¬cond0_0 (grid0.coords t) → cond0_1 (grid0.coords t) → ¬cond0_2 (grid0.coords t) → ¬cond0_3 (grid0.coords t) → (cfg0.win 15).flush t = false :=
  fun t h0 h1 h2 h3 => (by decide +kernel : ∀ t : Fin cfg0.N, conds0_D (grid0.coords t) → (cfg0.win 15).flush t = false) t ⟨h0, h1, h2, h3⟩

theorem idleAt0_15_E : ∀ t : Fin cfg0.N, ¬cond0_0 (grid0.coords t) → ¬cond0_1 (grid0.coords t) → ¬cond0_2 (grid0.coords t) → cond0_3 (grid0.coords t) → cfg0.idle 15 (grid0.coords t) = true :=
  fun t h0 h1 h2 h3 => (by decide +kernel : ∀ t : Fin cfg0.N, conds0_E (grid0.coords t) → cfg0.idle 15 (grid0.coords t) = true) t ⟨h0, h1, h2, h3⟩

def freshTab0_16 : ℕ → Bool
  | 0 => true
  | n + 1 => (0x8010020040080100200400ffffffffffffffffffffff : ℕ).testBit n

theorem freshTab0_16_step : ∀ t : Fin cfg0.N,
    freshTab0_16 (t.val + 1) = ((cfg0.win 16).flush t || (cfg0.idle 16 (cfg0.grid.coords t) && freshTab0_16 t.val)) := by decide +kernel

theorem fresh0_16_eq (t : Fin cfg0.N) : cfg0.fresh 16 t.val = freshTab0_16 t.val :=
  Pipeline.Cfg.fresh_tab cfg0 16 freshTab0_16 rfl freshTab0_16_step t.val (Nat.le_of_lt t.isLt)

theorem idleAt0_16_A : ∀ t : Fin cfg0.N, cond0_0 (grid0.coords t) → ¬cond0_1 (grid0.coords t) → ¬cond0_2 (grid0.coords t) → ¬cond0_3 (grid0.coords t) → cfg0.idle 16 (grid0.coords t) = true :=
  fun t h0 h1 h2 h3 => (by decide +kernel : ∀ t : Fin cfg0.N, conds0_A (grid0.coords t) → cfg0.idle 16 (grid0.coords t) = true) t ⟨h0, h1, h2, h3⟩

theorem noFlush0_16_A : ∀ t : Fin cfg0.N, cond0_0 (grid0.coords t) → ¬cond0_1 (grid0.coords t) → ¬cond0_2 (grid0.coords t) → ¬cond0_3 (grid0.coords t) → (cfg0.win 16).flush t = false :=
  fun t h0 h1 h2 h3 => (by decide +kernel : ∀ t : Fin cfg0.N, conds0_A (grid0.coords t) → (cfg0.win 16).flush t = false) t ⟨h0, h1, h2, h3⟩

theorem idleAt0_16_B : ∀ t : Fin cfg0.N, ¬cond0_0 (grid0.coords t) → ¬cond0_1 (grid0.coords t) → ¬cond0_2 (grid0.coords t) → ¬cond0_3 (grid0.coords t) → cfg0.idle 16 (grid0.coords t) = true :=
  fun t h0 h1 h2 h3 => (by decide +kernel : ∀ t : Fin cfg0.N, conds0_B (grid0.coords t) → cfg0.idle 16 (grid0.coords t) = true) t ⟨h0, h1, h2, h3⟩

theorem noFlush0_16_B : ∀ t : Fin cfg0.N, ¬cond0_0 (grid0.coords t) → ¬cond0_1 (grid0.coords t) → ¬cond0_2 (grid0.coords t) → ¬cond0_3 (grid0.coords t) → (cfg0.win 16).flush t = false :=
  fun t h0 h1 h2 h3 => (by decide +kernel : ∀ t : Fin cfg0.N, conds0_B (grid0.coords t) → (cfg0.win 16).flush t = false) t ⟨h0, h1, h2, h3⟩

theorem idleAt0_16_C : ∀ t : Fin cfg0.N, ¬cond0_0 (grid0.coords t) → ¬cond0_1 (grid0.coords t) → cond0_2 (grid0.coords t) → ¬cond0_3 (grid0.coords t) → cfg0.idle 16 (grid0.coords t) = true :=
  fun t h0 h1 h2 h3 => (by decide +kernel : ∀ t : Fin cfg0.N, conds0_C (grid0.coords t) → cfg0.idle 16 (grid0.coords t) = true) t ⟨h0, h1, h2, h3⟩

theorem noFlush0_16_C : ∀ t : Fin cfg0.N, ¬cond0_0 (grid0.coords t) → ¬cond0_1 (grid0.coords t) → cond0_2 (grid0.coords t) → ¬cond0_3 (grid0.coords t) → (cfg0.win 16).flush t = false :=
  fun t h0 h1 h2 h3 => (by decide +kernel : ∀ t : Fin cfg0.N, conds0_C (grid0.coords t) → (cfg0.win 16).flush t = false) t ⟨h0, h1, h2, h3⟩

theorem liveAt0_16_D : ∀ t : Fin cfg0.N, ¬cond0_0 (grid0.coords t) → cond0_1 (grid0.coords t) → ¬cond0_2 (grid0.coords t) → ¬cond0_3 (grid0.coords t) → cfg0.idle 16 (grid0.coords t) = false :=
  fun t h0 h1 h2 h3 => (by decide +kernel : ∀ t : Fin cfg0.N, conds0_D (grid0.coords t) → cfg0.idle 16 (grid0.coords t) = false) t ⟨h0, h1, h2, h3⟩

theorem liveAt0_16_E : ∀ t : Fin cfg0.N, ¬cond0_0 (grid0.coords t) → ¬cond0_1 (grid0.coords t) → ¬cond0_2 (grid0.coords t) → cond0_3 (grid0.coords t) → cfg0.idle 16 (grid0.coords t) = false :=
  fun t h0 h1 h2 h3 => (by decide +kernel : ∀ t : Fin cfg0.N, conds0_E (grid0.coords t) → cfg0.idle 16 (grid0.coords t) = false) t ⟨h0, h1, h2, h3⟩

theorem notFresh0_16_E : ∀ t : Fin cfg0.N, ¬cond0_0 (grid0.coords t) → ¬cond0_1 (grid0.coords t) → ¬cond0_2 (grid0.coords t) → cond0_3 (grid0.coords t) → cfg0.fresh 16 t.val = false :=
  fun t h0 h1 h2 h3 => (by intro t; rw [fresh0_16_eq t]; revert t; decide +kernel : ∀ t : Fin cfg0.N, conds0_E (grid0.coords t) → cfg0.fresh 16 t.val = false) t ⟨h0, h1, h2, h3⟩

abbrev VO0_15 : View sig .tc .vmem S1024x1024 .f32 := (Memref.whole cc0_stg15_0 : Memref sig .tc .vmem S1024x1024 .f32).view

abbrev VO0_16 : View sig .tc .vmem S1024x1024 .f32 := (Memref.whole cc0_stg16_0 : Memref sig .tc .vmem S1024x1024 .f32).view

abbrev ms0_0 (t : Fin cfg0.N) : Memref sig .tc .vmem S1024x1024 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S1024x1024 .bf16 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S1024x1024 .bf16 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S1024x1024 .bf16 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S1x1x1x6144 .f32 := win0_4.stage (cfg0.slots t 4)

abbrev hs0_4 (t : Fin cfg0.N) : (ms0_4 t).IsWhole := hstage0_4 ((cfg0.slots t 4).cast nbuf0_4)

abbrev ms0_5 (t : Fin cfg0.N) : Memref sig .tc .vmem S1x1024 .f32 := win0_5.stage (cfg0.slots t 5)

abbrev hs0_5 (t : Fin cfg0.N) : (ms0_5 t).IsWhole := hstage0_5 ((cfg0.slots t 5).cast nbuf0_5)

abbrev ms0_6 (t : Fin cfg0.N) : Memref sig .tc .vmem S1x1024x256 .f32 := win0_6.stage (cfg0.slots t 6)

abbrev hs0_6 (t : Fin cfg0.N) : (ms0_6 t).IsWhole := hstage0_6 ((cfg0.slots t 6).cast nbuf0_6)

abbrev ms0_7 (t : Fin cfg0.N) : Memref sig .tc .vmem S1x1024x256 .f32 := win0_7.stage (cfg0.slots t 7)

abbrev hs0_7 (t : Fin cfg0.N) : (ms0_7 t).IsWhole := hstage0_7 ((cfg0.slots t 7).cast nbuf0_7)

abbrev ms0_8 (t : Fin cfg0.N) : Memref sig .tc .vmem S1x1x256 .f32 := win0_8.stage (cfg0.slots t 8)

abbrev hs0_8 (t : Fin cfg0.N) : (ms0_8 t).IsWhole := hstage0_8 ((cfg0.slots t 8).cast nbuf0_8)

abbrev ms0_9 (t : Fin cfg0.N) : Memref sig .tc .vmem S1x1x256 .f32 := win0_9.stage (cfg0.slots t 9)

abbrev hs0_9 (t : Fin cfg0.N) : (ms0_9 t).IsWhole := hstage0_9 ((cfg0.slots t 9).cast nbuf0_9)

abbrev ms0_10 (t : Fin cfg0.N) : Memref sig .tc .vmem S1x3x256 .f32 := win0_10.stage (cfg0.slots t 10)

abbrev hs0_10 (t : Fin cfg0.N) : (ms0_10 t).IsWhole := hstage0_10 ((cfg0.slots t 10).cast nbuf0_10)

abbrev ms0_11 (t : Fin cfg0.N) : Memref sig .tc .vmem S1x3x256 .f32 := win0_11.stage (cfg0.slots t 11)

abbrev hs0_11 (t : Fin cfg0.N) : (ms0_11 t).IsWhole := hstage0_11 ((cfg0.slots t 11).cast nbuf0_11)

abbrev ms0_12 (t : Fin cfg0.N) : Memref sig .tc .vmem S1x1x256 .f32 := win0_12.stage (cfg0.slots t 12)

abbrev hs0_12 (t : Fin cfg0.N) : (ms0_12 t).IsWhole := hstage0_12 ((cfg0.slots t 12).cast nbuf0_12)

abbrev ms0_13 (t : Fin cfg0.N) : Memref sig .tc .vmem S1x1x256 .f32 := win0_13.stage (cfg0.slots t 13)

abbrev hs0_13 (t : Fin cfg0.N) : (ms0_13 t).IsWhole := hstage0_13 ((cfg0.slots t 13).cast nbuf0_13)

abbrev ms0_14 (t : Fin cfg0.N) : Memref sig .tc .vmem S1x256x1024 .f32 := win0_14.stage (cfg0.slots t 14)

abbrev hs0_14 (t : Fin cfg0.N) : (ms0_14 t).IsWhole := hstage0_14 ((cfg0.slots t 14).cast nbuf0_14)

abbrev ms0_15 (t : Fin cfg0.N) : Memref sig .tc .vmem S1024x1024 .f32 := win0_15.stage (cfg0.slots t 15)

abbrev hs0_15 (t : Fin cfg0.N) : (ms0_15 t).IsWhole := hstage0_15 ((cfg0.slots t 15).cast nbuf0_15)

abbrev ms0_16 (t : Fin cfg0.N) : Memref sig .tc .vmem S1024x1024 .f32 := win0_16.stage (cfg0.slots t 16)

abbrev hs0_16 (t : Fin cfg0.N) : (ms0_16 t).IsWhole := hstage0_16 ((cfg0.slots t 16).cast nbuf0_16)

abbrev scM0_0 : Memref sig .tc .vmem S1024x1024 .bf16 := Memref.whole cc0_scratch0

abbrev scM0_1 : Memref sig .tc .vmem S1024x1024 .f32 := Memref.whole cc0_scratch1

abbrev scM0_2 : Memref sig .tc .vmem S1096x256 .f32 := Memref.whole cc0_scratch2

abbrev scM0_3 : Memref sig .tc .vmem S1096x256 .f32 := Memref.whole cc0_scratch3

abbrev scM0_4 : Memref sig .tc .vmem S1024x256 .bf16 := Memref.whole cc0_scratch4

abbrev scM0_5 : Memref sig .tc .vmem S1024x256 .bf16 := Memref.whole cc0_scratch5

abbrev scM0_6 : Memref sig .tc .vmem S256x1024 .bf16 := Memref.whole cc0_scratch6

abbrev VS0_0 : View sig .tc .vmem S1024x1024 .bf16 := scM0_0.view

abbrev VS0_1 : View sig .tc .vmem S1024x1024 .f32 := scM0_1.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel3Ideal.Ffn

end
-- ==== Proof.FfnLastRunA.lean ====
/- Layer 3 of the feed-forward call: the whole body run once, in one of its five cases. -/
module

public import proofs.«01_k».proof.Proof.FfnLastPoints

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- The body, run at the first hidden block of a context tile. -/
noncomputable def kernelRun0_A (c : Dev nD) (i : grid0.Coords) (a2 : Memref sig .tc .vmem S1024x1024 .f32) (ha2 : a2.IsWhole) (a3 : Memref sig .tc .vmem S1024x1024 .bf16) (ha3 : a3.IsWhole) (a4 : Memref sig .tc .vmem S1024x1024 .bf16) (ha4 : a4.IsWhole) (a5 : Memref sig .tc .vmem S1024x1024 .bf16) (ha5 : a5.IsWhole) (a6 : Memref sig .tc .vmem S1x1x1x6144 .f32) (ha6 : a6.IsWhole) (a7 : Memref sig .tc .vmem S1x1024 .f32) (ha7 : a7.IsWhole) (a8 : Memref sig .tc .vmem S1x1024x256 .f32) (ha8 : a8.IsWhole) (a9 : Memref sig .tc .vmem S1x1024x256 .f32) (ha9 : a9.IsWhole) (a10 : Memref sig .tc .vmem S1x1x256 .f32) (ha10 : a10.IsWhole) (a11 : Memref sig .tc .vmem S1x1x256 .f32) (ha11 : a11.IsWhole) (a12 : Memref sig .tc .vmem S1x3x256 .f32) (ha12 : a12.IsWhole) (a13 : Memref sig .tc .vmem S1x3x256 .f32) (ha13 : a13.IsWhole) (a14 : Memref sig .tc .vmem S1x1x256 .f32) (ha14 : a14.IsWhole) (a15 : Memref sig .tc .vmem S1x1x256 .f32) (ha15 : a15.IsWhole) (a16 : Memref sig .tc .vmem S1x256x1024 .f32) (ha16 : a16.IsWhole) (a17 : Memref sig .tc .vmem S1024x1024 .f32) (ha17 : a17.IsWhole) (a18 : Memref sig .tc .vmem S1024x1024 .f32) (ha18 : a18.IsWhole) (a19 : Memref sig .tc .vmem S1024x1024 .bf16) (ha19 : a19.IsWhole) (a20 : Memref sig .tc .vmem S1024x1024 .f32) (ha20 : a20.IsWhole) (a21 : Memref sig .tc .vmem S1096x256 .f32) (ha21 : a21.IsWhole) (a22 : Memref sig .tc .vmem S1096x256 .f32) (ha22 : a22.IsWhole) (a23 : Memref sig .tc .vmem S1024x256 .bf16) (ha23 : a23.IsWhole) (a24 : Memref sig .tc .vmem S1024x256 .bf16) (ha24 : a24.IsWhole) (a25 : Memref sig .tc .vmem S256x1024 .bf16) (ha25 : a25.IsWhole) (hc0 : cond0_0 i) (hc1 : ¬cond0_1 i) (hc2 : ¬cond0_2 i) (hc3 : ¬cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) :
    Σ' (L15 : List (View.Piece (Elt F) S1024x1024 .f32)), Σ' (L16 : List (View.Piece (Elt F) S1024x1024 .f32)), Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (xi16 : Vec F S1024x1024 .f32) (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ owns (c : Thread nD τ) a18 fullShare xi16 ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ f, a17.view.loc (c : Thread nD τ) ↦[a17.view.set]{fullShare} a17.view.writes (Elt F) f L15) ∗ owns (c : Thread nD τ) a18 fullShare xi16 ∗ (∃ f, a19.view.loc (c : Thread nD τ) ↦[a19.view.set]{fullShare} a19.view.writes (Elt F) f LS0) ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨?_, [], ?_, ?_, ?_, ?_, ?_, ?_, ?_, fun xi16 E K => ?run⟩
  case run =>
    simp only [cc0_ffn_l3_eq_skeleton]; unfold cc0_ffn_l3_skel
    simp only [k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14; obtain rfl := ha18.eq_unread hf16
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]; · iexists _; iexact H15
    isplitl [H16]
    · iexists _; isplitr; · ipureintro; exact ha18.read_unread _
      iexact H16
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel3Ideal.Ffn

end
-- ==== Proof.FfnLastRunB.lean ====
/- Layer 3 of the feed-forward call: the whole body run once, in one of its five cases. -/
module

public import proofs.«01_k».proof.Proof.FfnLastPoints

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- The body, run at the a hidden block in the middle. -/
noncomputable def kernelRun0_B (c : Dev nD) (i : grid0.Coords) (a2 : Memref sig .tc .vmem S1024x1024 .f32) (ha2 : a2.IsWhole) (a3 : Memref sig .tc .vmem S1024x1024 .bf16) (ha3 : a3.IsWhole) (a4 : Memref sig .tc .vmem S1024x1024 .bf16) (ha4 : a4.IsWhole) (a5 : Memref sig .tc .vmem S1024x1024 .bf16) (ha5 : a5.IsWhole) (a6 : Memref sig .tc .vmem S1x1x1x6144 .f32) (ha6 : a6.IsWhole) (a7 : Memref sig .tc .vmem S1x1024 .f32) (ha7 : a7.IsWhole) (a8 : Memref sig .tc .vmem S1x1024x256 .f32) (ha8 : a8.IsWhole) (a9 : Memref sig .tc .vmem S1x1024x256 .f32) (ha9 : a9.IsWhole) (a10 : Memref sig .tc .vmem S1x1x256 .f32) (ha10 : a10.IsWhole) (a11 : Memref sig .tc .vmem S1x1x256 .f32) (ha11 : a11.IsWhole) (a12 : Memref sig .tc .vmem S1x3x256 .f32) (ha12 : a12.IsWhole) (a13 : Memref sig .tc .vmem S1x3x256 .f32) (ha13 : a13.IsWhole) (a14 : Memref sig .tc .vmem S1x1x256 .f32) (ha14 : a14.IsWhole) (a15 : Memref sig .tc .vmem S1x1x256 .f32) (ha15 : a15.IsWhole) (a16 : Memref sig .tc .vmem S1x256x1024 .f32) (ha16 : a16.IsWhole) (a17 : Memref sig .tc .vmem S1024x1024 .f32) (ha17 : a17.IsWhole) (a18 : Memref sig .tc .vmem S1024x1024 .f32) (ha18 : a18.IsWhole) (a19 : Memref sig .tc .vmem S1024x1024 .bf16) (ha19 : a19.IsWhole) (a20 : Memref sig .tc .vmem S1024x1024 .f32) (ha20 : a20.IsWhole) (a21 : Memref sig .tc .vmem S1096x256 .f32) (ha21 : a21.IsWhole) (a22 : Memref sig .tc .vmem S1096x256 .f32) (ha22 : a22.IsWhole) (a23 : Memref sig .tc .vmem S1024x256 .bf16) (ha23 : a23.IsWhole) (a24 : Memref sig .tc .vmem S1024x256 .bf16) (ha24 : a24.IsWhole) (a25 : Memref sig .tc .vmem S256x1024 .bf16) (ha25 : a25.IsWhole) (hc0 : ¬cond0_0 i) (hc1 : ¬cond0_1 i) (hc2 : ¬cond0_2 i) (hc3 : ¬cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) (xs0 : Vec F S1024x1024 .bf16) (xs1 : Vec F S1024x1024 .f32) :
    Σ' (L15 : List (View.Piece (Elt F) S1024x1024 .f32)), Σ' (L16 : List (View.Piece (Elt F) S1024x1024 .f32)), Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (xi15 xi16 : Vec F S1024x1024 .f32) (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ owns (c : Thread nD τ) a17 fullShare xi15 ∗ owns (c : Thread nD τ) a18 fullShare xi16 ∗ owns (c : Thread nD τ) a19 fullShare xs0 ∗ owns (c : Thread nD τ) a20 fullShare xs1 ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ owns (c : Thread nD τ) a17 fullShare xi15 ∗ owns (c : Thread nD τ) a18 fullShare xi16 ∗ owns (c : Thread nD τ) a19 fullShare xs0 ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨[], [], [], ?_, ?_, ?_, ?_, ?_, ?_, fun xi15 xi16 E K => ?run⟩
  case run =>
    simp only [cc0_ffn_l3_eq_skeleton]; unfold cc0_ffn_l3_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14; obtain rfl := ha17.eq_unread hf15; obtain rfl := ha18.eq_unread hf16; obtain rfl := ha19.eq_unread hfs0; obtain rfl := ha20.eq_unread hfs1
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]
    · iexists _; isplitr; · ipureintro; exact ha17.read_unread _
      iexact H15
    isplitl [H16]
    · iexists _; isplitr; · ipureintro; exact ha18.read_unread _
      iexact H16
    isplitl [HS0]
    · iexists _; isplitr; · ipureintro; exact ha19.read_unread _
      iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel3Ideal.Ffn

end
-- ==== Proof.FfnLastRunC.lean ====
/- Layer 3 of the feed-forward call: the whole body run once, in one of its five cases. -/
module

public import proofs.«01_k».proof.Proof.FfnLastPoints

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- The body, run at the last hidden block of a context tile. -/
noncomputable def kernelRun0_C (c : Dev nD) (i : grid0.Coords) (a2 : Memref sig .tc .vmem S1024x1024 .f32) (ha2 : a2.IsWhole) (a3 : Memref sig .tc .vmem S1024x1024 .bf16) (ha3 : a3.IsWhole) (a4 : Memref sig .tc .vmem S1024x1024 .bf16) (ha4 : a4.IsWhole) (a5 : Memref sig .tc .vmem S1024x1024 .bf16) (ha5 : a5.IsWhole) (a6 : Memref sig .tc .vmem S1x1x1x6144 .f32) (ha6 : a6.IsWhole) (a7 : Memref sig .tc .vmem S1x1024 .f32) (ha7 : a7.IsWhole) (a8 : Memref sig .tc .vmem S1x1024x256 .f32) (ha8 : a8.IsWhole) (a9 : Memref sig .tc .vmem S1x1024x256 .f32) (ha9 : a9.IsWhole) (a10 : Memref sig .tc .vmem S1x1x256 .f32) (ha10 : a10.IsWhole) (a11 : Memref sig .tc .vmem S1x1x256 .f32) (ha11 : a11.IsWhole) (a12 : Memref sig .tc .vmem S1x3x256 .f32) (ha12 : a12.IsWhole) (a13 : Memref sig .tc .vmem S1x3x256 .f32) (ha13 : a13.IsWhole) (a14 : Memref sig .tc .vmem S1x1x256 .f32) (ha14 : a14.IsWhole) (a15 : Memref sig .tc .vmem S1x1x256 .f32) (ha15 : a15.IsWhole) (a16 : Memref sig .tc .vmem S1x256x1024 .f32) (ha16 : a16.IsWhole) (a17 : Memref sig .tc .vmem S1024x1024 .f32) (ha17 : a17.IsWhole) (a18 : Memref sig .tc .vmem S1024x1024 .f32) (ha18 : a18.IsWhole) (a19 : Memref sig .tc .vmem S1024x1024 .bf16) (ha19 : a19.IsWhole) (a20 : Memref sig .tc .vmem S1024x1024 .f32) (ha20 : a20.IsWhole) (a21 : Memref sig .tc .vmem S1096x256 .f32) (ha21 : a21.IsWhole) (a22 : Memref sig .tc .vmem S1096x256 .f32) (ha22 : a22.IsWhole) (a23 : Memref sig .tc .vmem S1024x256 .bf16) (ha23 : a23.IsWhole) (a24 : Memref sig .tc .vmem S1024x256 .bf16) (ha24 : a24.IsWhole) (a25 : Memref sig .tc .vmem S256x1024 .bf16) (ha25 : a25.IsWhole) (hc0 : ¬cond0_0 i) (hc1 : ¬cond0_1 i) (hc2 : cond0_2 i) (hc3 : ¬cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) (xo15 : Vec F S1024x1024 .f32) (xs0 : Vec F S1024x1024 .bf16) (xs1 : Vec F S1024x1024 .f32) :
    Σ' (L15 : List (View.Piece (Elt F) S1024x1024 .f32)), Σ' (L16 : List (View.Piece (Elt F) S1024x1024 .f32)), Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (xi16 : Vec F S1024x1024 .f32) (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ owns (c : Thread nD τ) a17 fullShare xo15 ∗ owns (c : Thread nD τ) a18 fullShare xi16 ∗ owns (c : Thread nD τ) a19 fullShare xs0 ∗ owns (c : Thread nD τ) a20 fullShare xs1 ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ f, a17.view.loc (c : Thread nD τ) ↦[a17.view.set]{fullShare} a17.view.writes (Elt F) f L15) ∗ owns (c : Thread nD τ) a18 fullShare xi16 ∗ owns (c : Thread nD τ) a19 fullShare xs0 ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨?_, [], [], ?_, ?_, ?_, ?_, ?_, ?_, fun xi16 E K => ?run⟩
  case run =>
    simp only [cc0_ffn_l3_eq_skeleton]; unfold cc0_ffn_l3_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14; obtain rfl := ha17.eq_unread hf15; obtain rfl := ha18.eq_unread hf16; obtain rfl := ha19.eq_unread hfs0; obtain rfl := ha20.eq_unread hfs1
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]; · iexists _; iexact H15
    isplitl [H16]
    · iexists _; isplitr; · ipureintro; exact ha18.read_unread _
      iexact H16
    isplitl [HS0]
    · iexists _; isplitr; · ipureintro; exact ha19.read_unread _
      iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel3Ideal.Ffn

end
-- ==== Proof.FfnLastRunD.lean ====
/- Layer 3 of the feed-forward call: the whole body run once, in one of its five cases. -/
module

public import proofs.«01_k».proof.Proof.FfnLastPoints

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- The body, run at the first hidden block of a latent tile. -/
noncomputable def kernelRun0_D (c : Dev nD) (i : grid0.Coords) (a2 : Memref sig .tc .vmem S1024x1024 .f32) (ha2 : a2.IsWhole) (a3 : Memref sig .tc .vmem S1024x1024 .bf16) (ha3 : a3.IsWhole) (a4 : Memref sig .tc .vmem S1024x1024 .bf16) (ha4 : a4.IsWhole) (a5 : Memref sig .tc .vmem S1024x1024 .bf16) (ha5 : a5.IsWhole) (a6 : Memref sig .tc .vmem S1x1x1x6144 .f32) (ha6 : a6.IsWhole) (a7 : Memref sig .tc .vmem S1x1024 .f32) (ha7 : a7.IsWhole) (a8 : Memref sig .tc .vmem S1x1024x256 .f32) (ha8 : a8.IsWhole) (a9 : Memref sig .tc .vmem S1x1024x256 .f32) (ha9 : a9.IsWhole) (a10 : Memref sig .tc .vmem S1x1x256 .f32) (ha10 : a10.IsWhole) (a11 : Memref sig .tc .vmem S1x1x256 .f32) (ha11 : a11.IsWhole) (a12 : Memref sig .tc .vmem S1x3x256 .f32) (ha12 : a12.IsWhole) (a13 : Memref sig .tc .vmem S1x3x256 .f32) (ha13 : a13.IsWhole) (a14 : Memref sig .tc .vmem S1x1x256 .f32) (ha14 : a14.IsWhole) (a15 : Memref sig .tc .vmem S1x1x256 .f32) (ha15 : a15.IsWhole) (a16 : Memref sig .tc .vmem S1x256x1024 .f32) (ha16 : a16.IsWhole) (a17 : Memref sig .tc .vmem S1024x1024 .f32) (ha17 : a17.IsWhole) (a18 : Memref sig .tc .vmem S1024x1024 .f32) (ha18 : a18.IsWhole) (a19 : Memref sig .tc .vmem S1024x1024 .bf16) (ha19 : a19.IsWhole) (a20 : Memref sig .tc .vmem S1024x1024 .f32) (ha20 : a20.IsWhole) (a21 : Memref sig .tc .vmem S1096x256 .f32) (ha21 : a21.IsWhole) (a22 : Memref sig .tc .vmem S1096x256 .f32) (ha22 : a22.IsWhole) (a23 : Memref sig .tc .vmem S1024x256 .bf16) (ha23 : a23.IsWhole) (a24 : Memref sig .tc .vmem S1024x256 .bf16) (ha24 : a24.IsWhole) (a25 : Memref sig .tc .vmem S256x1024 .bf16) (ha25 : a25.IsWhole) (hc0 : ¬cond0_0 i) (hc1 : cond0_1 i) (hc2 : ¬cond0_2 i) (hc3 : ¬cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) :
    Σ' (L15 : List (View.Piece (Elt F) S1024x1024 .f32)), Σ' (L16 : List (View.Piece (Elt F) S1024x1024 .f32)), Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (xi15 : Vec F S1024x1024 .f32) (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ owns (c : Thread nD τ) a17 fullShare xi15 ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ owns (c : Thread nD τ) a17 fullShare xi15 ∗ (∃ f, a18.view.loc (c : Thread nD τ) ↦[a18.view.set]{fullShare} a18.view.writes (Elt F) f L16) ∗ (∃ f, a19.view.loc (c : Thread nD τ) ↦[a19.view.set]{fullShare} a19.view.writes (Elt F) f LS0) ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨[], ?_, ?_, ?_, ?_, ?_, ?_, ?_, ?_, fun xi15 E K => ?run⟩
  case run =>
    simp only [cc0_ffn_l3_eq_skeleton]; unfold cc0_ffn_l3_skel
    simp only [k0_part3_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14; obtain rfl := ha17.eq_unread hf15
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]
    · iexists _; isplitr; · ipureintro; exact ha17.read_unread _
      iexact H15
    isplitl [H16]; · iexists _; iexact H16
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel3Ideal.Ffn

end
-- ==== Proof.FfnLastRunE.lean ====
/- Layer 3 of the feed-forward call: the whole body run once, in one of its five cases. -/
module

public import proofs.«01_k».proof.Proof.FfnLastPoints

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- The body, run at the last hidden block of a latent tile. -/
noncomputable def kernelRun0_E (c : Dev nD) (i : grid0.Coords) (a2 : Memref sig .tc .vmem S1024x1024 .f32) (ha2 : a2.IsWhole) (a3 : Memref sig .tc .vmem S1024x1024 .bf16) (ha3 : a3.IsWhole) (a4 : Memref sig .tc .vmem S1024x1024 .bf16) (ha4 : a4.IsWhole) (a5 : Memref sig .tc .vmem S1024x1024 .bf16) (ha5 : a5.IsWhole) (a6 : Memref sig .tc .vmem S1x1x1x6144 .f32) (ha6 : a6.IsWhole) (a7 : Memref sig .tc .vmem S1x1024 .f32) (ha7 : a7.IsWhole) (a8 : Memref sig .tc .vmem S1x1024x256 .f32) (ha8 : a8.IsWhole) (a9 : Memref sig .tc .vmem S1x1024x256 .f32) (ha9 : a9.IsWhole) (a10 : Memref sig .tc .vmem S1x1x256 .f32) (ha10 : a10.IsWhole) (a11 : Memref sig .tc .vmem S1x1x256 .f32) (ha11 : a11.IsWhole) (a12 : Memref sig .tc .vmem S1x3x256 .f32) (ha12 : a12.IsWhole) (a13 : Memref sig .tc .vmem S1x3x256 .f32) (ha13 : a13.IsWhole) (a14 : Memref sig .tc .vmem S1x1x256 .f32) (ha14 : a14.IsWhole) (a15 : Memref sig .tc .vmem S1x1x256 .f32) (ha15 : a15.IsWhole) (a16 : Memref sig .tc .vmem S1x256x1024 .f32) (ha16 : a16.IsWhole) (a17 : Memref sig .tc .vmem S1024x1024 .f32) (ha17 : a17.IsWhole) (a18 : Memref sig .tc .vmem S1024x1024 .f32) (ha18 : a18.IsWhole) (a19 : Memref sig .tc .vmem S1024x1024 .bf16) (ha19 : a19.IsWhole) (a20 : Memref sig .tc .vmem S1024x1024 .f32) (ha20 : a20.IsWhole) (a21 : Memref sig .tc .vmem S1096x256 .f32) (ha21 : a21.IsWhole) (a22 : Memref sig .tc .vmem S1096x256 .f32) (ha22 : a22.IsWhole) (a23 : Memref sig .tc .vmem S1024x256 .bf16) (ha23 : a23.IsWhole) (a24 : Memref sig .tc .vmem S1024x256 .bf16) (ha24 : a24.IsWhole) (a25 : Memref sig .tc .vmem S256x1024 .bf16) (ha25 : a25.IsWhole) (hc0 : ¬cond0_0 i) (hc1 : ¬cond0_1 i) (hc2 : ¬cond0_2 i) (hc3 : cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) (xo16 : Vec F S1024x1024 .f32) (xs0 : Vec F S1024x1024 .bf16) (xs1 : Vec F S1024x1024 .f32) :
    Σ' (L15 : List (View.Piece (Elt F) S1024x1024 .f32)), Σ' (L16 : List (View.Piece (Elt F) S1024x1024 .f32)), Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (xi15 : Vec F S1024x1024 .f32) (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ owns (c : Thread nD τ) a17 fullShare xi15 ∗ owns (c : Thread nD τ) a18 fullShare xo16 ∗ owns (c : Thread nD τ) a19 fullShare xs0 ∗ owns (c : Thread nD τ) a20 fullShare xs1 ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ owns (c : Thread nD τ) a17 fullShare xi15 ∗ (∃ f, a18.view.loc (c : Thread nD τ) ↦[a18.view.set]{fullShare} a18.view.writes (Elt F) f L16) ∗ owns (c : Thread nD τ) a19 fullShare xs0 ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨[], ?_, [], ?_, ?_, ?_, ?_, ?_, ?_, fun xi15 E K => ?run⟩
  case run =>
    simp only [cc0_ffn_l3_eq_skeleton]; unfold cc0_ffn_l3_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14; obtain rfl := ha17.eq_unread hf15; obtain rfl := ha18.eq_unread hf16; obtain rfl := ha19.eq_unread hfs0; obtain rfl := ha20.eq_unread hfs1
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]
    · iexists _; isplitr; · ipureintro; exact ha17.read_unread _
      iexact H15
    isplitl [H16]; · iexists _; iexact H16
    isplitl [HS0]
    · iexists _; isplitr; · ipureintro; exact ha19.read_unread _
      iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel3Ideal.Ffn

end
-- ==== Proof.FfnLastState.lean ====
/- Layer 3 of the feed-forward call: what the outputs and the carried scratch hold after each point. -/
module

public import proofs.«01_k».proof.Proof.FfnLastRunA
public import proofs.«01_k».proof.Proof.FfnLastRunB
public import proofs.«01_k».proof.Proof.FfnLastRunC
public import proofs.«01_k».proof.Proof.FfnLastRunD
public import proofs.«01_k».proof.Proof.FfnLastRunE
public import Idealize.ShloMosaic.Lib.Claim

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem tl (t : Fin cfg0.N) : t.val - 1 < cfg0.N := Nat.lt_of_le_of_lt (Nat.sub_le _ _) t.isLt

variable (m : (ℓ : Loc nD τ sig) → Buf (Elt F) ℓ) (ρ : Dev nD → PrngReg)

/-- The run at point `t`, at the first hidden block of a context tile. -/
abbrev runA (c : Dev nD) (t : Fin cfg0.N) (hc0 : cond0_0 (grid0.coords t)) (hc1 : ¬cond0_1 (grid0.coords t)) (hc2 : ¬cond0_2 (grid0.coords t)) (hc3 : ¬cond0_3 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The run at point `t`, at the a hidden block in the middle. -/
abbrev runB (c : Dev nD) (t : Fin cfg0.N) (hc0 : ¬cond0_0 (grid0.coords t)) (hc1 : ¬cond0_1 (grid0.coords t)) (hc2 : ¬cond0_2 (grid0.coords t)) (hc3 : ¬cond0_3 (grid0.coords t)) (xs0 : Vec F S1024x1024 .bf16) (xs1 : Vec F S1024x1024 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs0 xs1

/-- The run at point `t`, at the last hidden block of a context tile. -/
abbrev runC (c : Dev nD) (t : Fin cfg0.N) (hc0 : ¬cond0_0 (grid0.coords t)) (hc1 : ¬cond0_1 (grid0.coords t)) (hc2 : cond0_2 (grid0.coords t)) (hc3 : ¬cond0_3 (grid0.coords t)) (xo15 : Vec F S1024x1024 .f32) (xs0 : Vec F S1024x1024 .bf16) (xs1 : Vec F S1024x1024 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xo15 xs0 xs1

/-- The run at point `t`, at the first hidden block of a latent tile. -/
abbrev runD (c : Dev nD) (t : Fin cfg0.N) (hc0 : ¬cond0_0 (grid0.coords t)) (hc1 : cond0_1 (grid0.coords t)) (hc2 : ¬cond0_2 (grid0.coords t)) (hc3 : ¬cond0_3 (grid0.coords t)) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The run at point `t`, at the last hidden block of a latent tile. -/
abbrev runE (c : Dev nD) (t : Fin cfg0.N) (hc0 : ¬cond0_0 (grid0.coords t)) (hc1 : ¬cond0_1 (grid0.coords t)) (hc2 : ¬cond0_2 (grid0.coords t)) (hc3 : cond0_3 (grid0.coords t)) (xo16 : Vec F S1024x1024 .f32) (xs0 : Vec F S1024x1024 .bf16) (xs1 : Vec F S1024x1024 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xo16 xs0 xs1

theorem cover0_A_15 (c : Dev nD) (t : Fin cfg0.N) (hc0 : cond0_0 (grid0.coords t)) (hc1 : ¬cond0_1 (grid0.coords t)) (hc2 : ¬cond0_2 (grid0.coords t)) (hc3 : ¬cond0_3 (grid0.coords t))
    (y : S1024x1024.Idx) :
    ∃ pc ∈ (runA m c t hc0 hc1 hc2 hc3).1, y ∈ pc.1.set :=
  View.cover_of_tiledL (runA m c t hc0 hc1 hc2 hc3).1 S1024x1024.size (by sl_kernel_rfl) y

/-- Output window 15 after a point of case A. -/
def out0_A_15 (c : Dev nD) (t : Fin cfg0.N) (hc0 : cond0_0 (grid0.coords t)) (hc1 : ¬cond0_1 (grid0.coords t)) (hc2 : ¬cond0_2 (grid0.coords t)) (hc3 : ¬cond0_3 (grid0.coords t))
    : Vec F S1024x1024 .f32 :=
  VO0_15.read (Elt F) (VO0_15.writes (Elt F) VO0_15.junk (runA m c t hc0 hc1 hc2 hc3).1)

/-- Output window 16 after a point of case A. -/
def out0_A_16 (m : (ℓ : Loc nD τ sig) → Buf (Elt F) ℓ) (c : Dev nD) (t : Fin cfg0.N) (hc0 : cond0_0 (grid0.coords t)) (hc1 : ¬cond0_1 (grid0.coords t)) (hc2 : ¬cond0_2 (grid0.coords t)) (hc3 : ¬cond0_3 (grid0.coords t))
    (xo16 : Vec F S1024x1024 .f32) : Vec F S1024x1024 .f32 := xo16

theorem scover0_A_0 (c : Dev nD) (t : Fin cfg0.N) (hc0 : cond0_0 (grid0.coords t)) (hc1 : ¬cond0_1 (grid0.coords t)) (hc2 : ¬cond0_2 (grid0.coords t)) (hc3 : ¬cond0_3 (grid0.coords t))
    (y : S1024x1024.Idx) :
    ∃ pc ∈ (runA m c t hc0 hc1 hc2 hc3).2.2.1, y ∈ pc.1.set :=
  View.cover_of_tiledL (runA m c t hc0 hc1 hc2 hc3).2.2.1 S1024x1024.size (by sl_kernel_rfl) y

/-- Scratch 0 after a point of case A. -/
def sout0_A_0 (c : Dev nD) (t : Fin cfg0.N) (hc0 : cond0_0 (grid0.coords t)) (hc1 : ¬cond0_1 (grid0.coords t)) (hc2 : ¬cond0_2 (grid0.coords t)) (hc3 : ¬cond0_3 (grid0.coords t))
    : Vec F S1024x1024 .bf16 :=
  VS0_0.read (Elt F) (VS0_0.writes (Elt F) VS0_0.junk (runA m c t hc0 hc1 hc2 hc3).2.2.1)

theorem scover0_A_1 (c : Dev nD) (t : Fin cfg0.N) (hc0 : cond0_0 (grid0.coords t)) (hc1 : ¬cond0_1 (grid0.coords t)) (hc2 : ¬cond0_2 (grid0.coords t)) (hc3 : ¬cond0_3 (grid0.coords t))
    (y : S1024x1024.Idx) :
    ∃ pc ∈ (runA m c t hc0 hc1 hc2 hc3).2.2.2.1, y ∈ pc.1.set :=
  View.cover_of_wholeMem (runA m c t hc0 hc1 hc2 hc3).2.2.2.1 (by sl_whole_mem) y

/-- Scratch 1 after a point of case A. -/
def sout0_A_1 (c : Dev nD) (t : Fin cfg0.N) (hc0 : cond0_0 (grid0.coords t)) (hc1 : ¬cond0_1 (grid0.coords t)) (hc2 : ¬cond0_2 (grid0.coords t)) (hc3 : ¬cond0_3 (grid0.coords t))
    : Vec F S1024x1024 .f32 :=
  VS0_1.read (Elt F) (VS0_1.writes (Elt F) VS0_1.junk (runA m c t hc0 hc1 hc2 hc3).2.2.2.1)

/-- Output window 15 after a point of case B. -/
def out0_B_15 (m : (ℓ : Loc nD τ sig) → Buf (Elt F) ℓ) (c : Dev nD) (t : Fin cfg0.N) (hc0 : ¬cond0_0 (grid0.coords t)) (hc1 : ¬cond0_1 (grid0.coords t)) (hc2 : ¬cond0_2 (grid0.coords t)) (hc3 : ¬cond0_3 (grid0.coords t))
    (xs0 : Vec F S1024x1024 .bf16) (xs1 xo15 : Vec F S1024x1024 .f32) : Vec F S1024x1024 .f32 := xo15

/-- Output window 16 after a point of case B. -/
def out0_B_16 (m : (ℓ : Loc nD τ sig) → Buf (Elt F) ℓ) (c : Dev nD) (t : Fin cfg0.N) (hc0 : ¬cond0_0 (grid0.coords t)) (hc1 : ¬cond0_1 (grid0.coords t)) (hc2 : ¬cond0_2 (grid0.coords t)) (hc3 : ¬cond0_3 (grid0.coords t))
    (xs0 : Vec F S1024x1024 .bf16) (xs1 xo16 : Vec F S1024x1024 .f32) : Vec F S1024x1024 .f32 := xo16

/-- Scratch 0 after a point of case B. -/
def sout0_B_0 (m : (ℓ : Loc nD τ sig) → Buf (Elt F) ℓ) (c : Dev nD) (t : Fin cfg0.N) (hc0 : ¬cond0_0 (grid0.coords t)) (hc1 : ¬cond0_1 (grid0.coords t)) (hc2 : ¬cond0_2 (grid0.coords t)) (hc3 : ¬cond0_3 (grid0.coords t))
    (xs0 : Vec F S1024x1024 .bf16) (xs1 : Vec F S1024x1024 .f32) : Vec F S1024x1024 .bf16 := xs0

theorem scover0_B_1 (c : Dev nD) (t : Fin cfg0.N) (hc0 : ¬cond0_0 (grid0.coords t)) (hc1 : ¬cond0_1 (grid0.coords t)) (hc2 : ¬cond0_2 (grid0.coords t)) (hc3 : ¬cond0_3 (grid0.coords t))
    (xs0 : Vec F S1024x1024 .bf16) (xs1 : Vec F S1024x1024 .f32) (y : S1024x1024.Idx) :
    ∃ pc ∈ (runB m c t hc0 hc1 hc2 hc3 xs0 xs1).2.2.2.1, y ∈ pc.1.set :=
  View.cover_of_tiledL (runB m c t hc0 hc1 hc2 hc3 xs0 xs1).2.2.2.1 S256x1024.size (by sl_kernel_rfl) y

/-- Scratch 1 after a point of case B. -/
def sout0_B_1 (c : Dev nD) (t : Fin cfg0.N) (hc0 : ¬cond0_0 (grid0.coords t)) (hc1 : ¬cond0_1 (grid0.coords t)) (hc2 : ¬cond0_2 (grid0.coords t)) (hc3 : ¬cond0_3 (grid0.coords t))
    (xs0 : Vec F S1024x1024 .bf16) (xs1 : Vec F S1024x1024 .f32) : Vec F S1024x1024 .f32 :=
  VS0_1.read (Elt F) (VS0_1.writes (Elt F) VS0_1.junk (runB m c t hc0 hc1 hc2 hc3 xs0 xs1).2.2.2.1)

theorem cover0_C_15 (c : Dev nD) (t : Fin cfg0.N) (hc0 : ¬cond0_0 (grid0.coords t)) (hc1 : ¬cond0_1 (grid0.coords t)) (hc2 : cond0_2 (grid0.coords t)) (hc3 : ¬cond0_3 (grid0.coords t))
    (xo15 : Vec F S1024x1024 .f32) (xs0 : Vec F S1024x1024 .bf16) (xs1 : Vec F S1024x1024 .f32) (y : S1024x1024.Idx) :
    ∃ pc ∈ (runC m c t hc0 hc1 hc2 hc3 xo15 xs0 xs1).1, y ∈ pc.1.set :=
  View.cover_of_tiledL (runC m c t hc0 hc1 hc2 hc3 xo15 xs0 xs1).1 S1024x1024.size (by sl_kernel_rfl) y

/-- Output window 15 after a point of case C. -/
def out0_C_15 (c : Dev nD) (t : Fin cfg0.N) (hc0 : ¬cond0_0 (grid0.coords t)) (hc1 : ¬cond0_1 (grid0.coords t)) (hc2 : cond0_2 (grid0.coords t)) (hc3 : ¬cond0_3 (grid0.coords t))
    (xo15 : Vec F S1024x1024 .f32) (xs0 : Vec F S1024x1024 .bf16) (xs1 : Vec F S1024x1024 .f32) : Vec F S1024x1024 .f32 :=
  VO0_15.read (Elt F) (VO0_15.writes (Elt F) VO0_15.junk (runC m c t hc0 hc1 hc2 hc3 xo15 xs0 xs1).1)

/-- Output window 16 after a point of case C. -/
def out0_C_16 (m : (ℓ : Loc nD τ sig) → Buf (Elt F) ℓ) (c : Dev nD) (t : Fin cfg0.N) (hc0 : ¬cond0_0 (grid0.coords t)) (hc1 : ¬cond0_1 (grid0.coords t)) (hc2 : cond0_2 (grid0.coords t)) (hc3 : ¬cond0_3 (grid0.coords t))
    (xo15 : Vec F S1024x1024 .f32) (xs0 : Vec F S1024x1024 .bf16) (xs1 xo16 : Vec F S1024x1024 .f32) : Vec F S1024x1024 .f32 := xo16

/-- Scratch 0 after a point of case C. -/
def sout0_C_0 (m : (ℓ : Loc nD τ sig) → Buf (Elt F) ℓ) (c : Dev nD) (t : Fin cfg0.N) (hc0 : ¬cond0_0 (grid0.coords t)) (hc1 : ¬cond0_1 (grid0.coords t)) (hc2 : cond0_2 (grid0.coords t)) (hc3 : ¬cond0_3 (grid0.coords t))
    (xo15 : Vec F S1024x1024 .f32) (xs0 : Vec F S1024x1024 .bf16) (xs1 : Vec F S1024x1024 .f32) : Vec F S1024x1024 .bf16 := xs0

theorem scover0_C_1 (c : Dev nD) (t : Fin cfg0.N) (hc0 : ¬cond0_0 (grid0.coords t)) (hc1 : ¬cond0_1 (grid0.coords t)) (hc2 : cond0_2 (grid0.coords t)) (hc3 : ¬cond0_3 (grid0.coords t))
    (xo15 : Vec F S1024x1024 .f32) (xs0 : Vec F S1024x1024 .bf16) (xs1 : Vec F S1024x1024 .f32) (y : S1024x1024.Idx) :
    ∃ pc ∈ (runC m c t hc0 hc1 hc2 hc3 xo15 xs0 xs1).2.2.2.1, y ∈ pc.1.set :=
  View.cover_of_tiledL (runC m c t hc0 hc1 hc2 hc3 xo15 xs0 xs1).2.2.2.1 S256x1024.size (by sl_kernel_rfl) y

/-- Scratch 1 after a point of case C. -/
def sout0_C_1 (c : Dev nD) (t : Fin cfg0.N) (hc0 : ¬cond0_0 (grid0.coords t)) (hc1 : ¬cond0_1 (grid0.coords t)) (hc2 : cond0_2 (grid0.coords t)) (hc3 : ¬cond0_3 (grid0.coords t))
    (xo15 : Vec F S1024x1024 .f32) (xs0 : Vec F S1024x1024 .bf16) (xs1 : Vec F S1024x1024 .f32) : Vec F S1024x1024 .f32 :=
  VS0_1.read (Elt F) (VS0_1.writes (Elt F) VS0_1.junk (runC m c t hc0 hc1 hc2 hc3 xo15 xs0 xs1).2.2.2.1)

/-- Output window 15 after a point of case D. -/
def out0_D_15 (m : (ℓ : Loc nD τ sig) → Buf (Elt F) ℓ) (c : Dev nD) (t : Fin cfg0.N) (hc0 : ¬cond0_0 (grid0.coords t)) (hc1 : cond0_1 (grid0.coords t)) (hc2 : ¬cond0_2 (grid0.coords t)) (hc3 : ¬cond0_3 (grid0.coords t))
    (xo15 : Vec F S1024x1024 .f32) : Vec F S1024x1024 .f32 := xo15

theorem cover0_D_16 (c : Dev nD) (t : Fin cfg0.N) (hc0 : ¬cond0_0 (grid0.coords t)) (hc1 : cond0_1 (grid0.coords t)) (hc2 : ¬cond0_2 (grid0.coords t)) (hc3 : ¬cond0_3 (grid0.coords t))
    (y : S1024x1024.Idx) :
    ∃ pc ∈ (runD m c t hc0 hc1 hc2 hc3).2.1, y ∈ pc.1.set :=
  View.cover_of_tiledL (runD m c t hc0 hc1 hc2 hc3).2.1 S1024x1024.size (by sl_kernel_rfl) y

/-- Output window 16 after a point of case D. -/
def out0_D_16 (c : Dev nD) (t : Fin cfg0.N) (hc0 : ¬cond0_0 (grid0.coords t)) (hc1 : cond0_1 (grid0.coords t)) (hc2 : ¬cond0_2 (grid0.coords t)) (hc3 : ¬cond0_3 (grid0.coords t))
    : Vec F S1024x1024 .f32 :=
  VO0_16.read (Elt F) (VO0_16.writes (Elt F) VO0_16.junk (runD m c t hc0 hc1 hc2 hc3).2.1)

theorem scover0_D_0 (c : Dev nD) (t : Fin cfg0.N) (hc0 : ¬cond0_0 (grid0.coords t)) (hc1 : cond0_1 (grid0.coords t)) (hc2 : ¬cond0_2 (grid0.coords t)) (hc3 : ¬cond0_3 (grid0.coords t))
    (y : S1024x1024.Idx) :
    ∃ pc ∈ (runD m c t hc0 hc1 hc2 hc3).2.2.1, y ∈ pc.1.set :=
  View.cover_of_tiledL (runD m c t hc0 hc1 hc2 hc3).2.2.1 S1024x1024.size (by sl_kernel_rfl) y

/-- Scratch 0 after a point of case D. -/
def sout0_D_0 (c : Dev nD) (t : Fin cfg0.N) (hc0 : ¬cond0_0 (grid0.coords t)) (hc1 : cond0_1 (grid0.coords t)) (hc2 : ¬cond0_2 (grid0.coords t)) (hc3 : ¬cond0_3 (grid0.coords t))
    : Vec F S1024x1024 .bf16 :=
  VS0_0.read (Elt F) (VS0_0.writes (Elt F) VS0_0.junk (runD m c t hc0 hc1 hc2 hc3).2.2.1)

theorem scover0_D_1 (c : Dev nD) (t : Fin cfg0.N) (hc0 : ¬cond0_0 (grid0.coords t)) (hc1 : cond0_1 (grid0.coords t)) (hc2 : ¬cond0_2 (grid0.coords t)) (hc3 : ¬cond0_3 (grid0.coords t))
    (y : S1024x1024.Idx) :
    ∃ pc ∈ (runD m c t hc0 hc1 hc2 hc3).2.2.2.1, y ∈ pc.1.set :=
  View.cover_of_wholeMem (runD m c t hc0 hc1 hc2 hc3).2.2.2.1 (by sl_whole_mem) y

/-- Scratch 1 after a point of case D. -/
def sout0_D_1 (c : Dev nD) (t : Fin cfg0.N) (hc0 : ¬cond0_0 (grid0.coords t)) (hc1 : cond0_1 (grid0.coords t)) (hc2 : ¬cond0_2 (grid0.coords t)) (hc3 : ¬cond0_3 (grid0.coords t))
    : Vec F S1024x1024 .f32 :=
  VS0_1.read (Elt F) (VS0_1.writes (Elt F) VS0_1.junk (runD m c t hc0 hc1 hc2 hc3).2.2.2.1)

/-- Output window 15 after a point of case E. -/
def out0_E_15 (m : (ℓ : Loc nD τ sig) → Buf (Elt F) ℓ) (c : Dev nD) (t : Fin cfg0.N) (hc0 : ¬cond0_0 (grid0.coords t)) (hc1 : ¬cond0_1 (grid0.coords t)) (hc2 : ¬cond0_2 (grid0.coords t)) (hc3 : cond0_3 (grid0.coords t))
    (xo16 : Vec F S1024x1024 .f32) (xs0 : Vec F S1024x1024 .bf16) (xs1 xo15 : Vec F S1024x1024 .f32) : Vec F S1024x1024 .f32 := xo15

theorem cover0_E_16 (c : Dev nD) (t : Fin cfg0.N) (hc0 : ¬cond0_0 (grid0.coords t)) (hc1 : ¬cond0_1 (grid0.coords t)) (hc2 : ¬cond0_2 (grid0.coords t)) (hc3 : cond0_3 (grid0.coords t))
    (xo16 : Vec F S1024x1024 .f32) (xs0 : Vec F S1024x1024 .bf16) (xs1 : Vec F S1024x1024 .f32) (y : S1024x1024.Idx) :
    ∃ pc ∈ (runE m c t hc0 hc1 hc2 hc3 xo16 xs0 xs1).2.1, y ∈ pc.1.set :=
  View.cover_of_tiledL (runE m c t hc0 hc1 hc2 hc3 xo16 xs0 xs1).2.1 S1024x1024.size (by sl_kernel_rfl) y

/-- Output window 16 after a point of case E. -/
def out0_E_16 (c : Dev nD) (t : Fin cfg0.N) (hc0 : ¬cond0_0 (grid0.coords t)) (hc1 : ¬cond0_1 (grid0.coords t)) (hc2 : ¬cond0_2 (grid0.coords t)) (hc3 : cond0_3 (grid0.coords t))
    (xo16 : Vec F S1024x1024 .f32) (xs0 : Vec F S1024x1024 .bf16) (xs1 : Vec F S1024x1024 .f32) : Vec F S1024x1024 .f32 :=
  VO0_16.read (Elt F) (VO0_16.writes (Elt F) VO0_16.junk (runE m c t hc0 hc1 hc2 hc3 xo16 xs0 xs1).2.1)

/-- Scratch 0 after a point of case E. -/
def sout0_E_0 (m : (ℓ : Loc nD τ sig) → Buf (Elt F) ℓ) (c : Dev nD) (t : Fin cfg0.N) (hc0 : ¬cond0_0 (grid0.coords t)) (hc1 : ¬cond0_1 (grid0.coords t)) (hc2 : ¬cond0_2 (grid0.coords t)) (hc3 : cond0_3 (grid0.coords t))
    (xo16 : Vec F S1024x1024 .f32) (xs0 : Vec F S1024x1024 .bf16) (xs1 : Vec F S1024x1024 .f32) : Vec F S1024x1024 .bf16 := xs0

theorem scover0_E_1 (c : Dev nD) (t : Fin cfg0.N) (hc0 : ¬cond0_0 (grid0.coords t)) (hc1 : ¬cond0_1 (grid0.coords t)) (hc2 : ¬cond0_2 (grid0.coords t)) (hc3 : cond0_3 (grid0.coords t))
    (xo16 : Vec F S1024x1024 .f32) (xs0 : Vec F S1024x1024 .bf16) (xs1 : Vec F S1024x1024 .f32) (y : S1024x1024.Idx) :
    ∃ pc ∈ (runE m c t hc0 hc1 hc2 hc3 xo16 xs0 xs1).2.2.2.1, y ∈ pc.1.set :=
  View.cover_of_tiledL (runE m c t hc0 hc1 hc2 hc3 xo16 xs0 xs1).2.2.2.1 S256x1024.size (by sl_kernel_rfl) y

/-- Scratch 1 after a point of case E. -/
def sout0_E_1 (c : Dev nD) (t : Fin cfg0.N) (hc0 : ¬cond0_0 (grid0.coords t)) (hc1 : ¬cond0_1 (grid0.coords t)) (hc2 : ¬cond0_2 (grid0.coords t)) (hc3 : cond0_3 (grid0.coords t))
    (xo16 : Vec F S1024x1024 .f32) (xs0 : Vec F S1024x1024 .bf16) (xs1 : Vec F S1024x1024 .f32) : Vec F S1024x1024 .f32 :=
  VS0_1.read (Elt F) (VS0_1.writes (Elt F) VS0_1.junk (runE m c t hc0 hc1 hc2 hc3 xo16 xs0 xs1).2.2.2.1)

/-- What the carried memrefs hold after each point. -/
def outsAt0 (c : Dev nD) : (n : ℕ) → n < cfg0.N → Vec F S1024x1024 .f32 × Vec F S1024x1024 .f32 × Vec F S1024x1024 .bf16 × Vec F S1024x1024 .f32
  | 0, hn => (out0_A_15 m c ⟨0, hn⟩ ((hcond0_0 ⟨0, hn⟩).mpr (by (try dsimp only) <;> omega)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)), out0_A_16 m c ⟨0, hn⟩ ((hcond0_0 ⟨0, hn⟩).mpr (by (try dsimp only) <;> omega)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) ((VO0_15.read (Elt F) VO0_15.junk, VO0_16.read (Elt F) VO0_16.junk, VS0_0.read (Elt F) VS0_0.junk, VS0_1.read (Elt F) VS0_1.junk) : Vec F S1024x1024 .f32 × Vec F S1024x1024 .f32 × Vec F S1024x1024 .bf16 × Vec F S1024x1024 .f32).2.1, sout0_A_0 m c ⟨0, hn⟩ ((hcond0_0 ⟨0, hn⟩).mpr (by (try dsimp only) <;> omega)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)), sout0_A_1 m c ⟨0, hn⟩ ((hcond0_0 ⟨0, hn⟩).mpr (by (try dsimp only) <;> omega)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)))
  | n + 1, hn =>
    if h0 : (n + 1) / 11 % 16 + 8 * ((n + 1) % 11) ≤ 7 then
      if h1 : 8 * ((n + 1) % 11) + 8 ≤ (n + 1) / 11 % 16 then
        False.elim (by have hN : n + 1 < 176 := lt_of_lt_of_eq hn (show cfg0.N = 176 from N_0); omega)
      else
        if h2 : (n + 1) / 11 % 16 + 73 ≤ 8 * ((n + 1) % 11) then
          False.elim (by have hN : n + 1 < 176 := lt_of_lt_of_eq hn (show cfg0.N = 176 from N_0); omega)
        else
          if h3 : 88 ≤ (n + 1) / 11 % 16 + 8 * ((n + 1) % 11) then
            False.elim (by have hN : n + 1 < 176 := lt_of_lt_of_eq hn (show cfg0.N = 176 from N_0); omega)
          else
            (out0_A_15 m c ⟨n + 1, hn⟩ ((hcond0_0 ⟨n + 1, hn⟩).mpr h0) (mt (hcond0_1 ⟨n + 1, hn⟩).mp h1) (mt (hcond0_2 ⟨n + 1, hn⟩).mp h2) (mt (hcond0_3 ⟨n + 1, hn⟩).mp h3), out0_A_16 m c ⟨n + 1, hn⟩ ((hcond0_0 ⟨n + 1, hn⟩).mpr h0) (mt (hcond0_1 ⟨n + 1, hn⟩).mp h1) (mt (hcond0_2 ⟨n + 1, hn⟩).mp h2) (mt (hcond0_3 ⟨n + 1, hn⟩).mp h3) (outsAt0 c n (Nat.lt_of_succ_lt hn)).2.1, sout0_A_0 m c ⟨n + 1, hn⟩ ((hcond0_0 ⟨n + 1, hn⟩).mpr h0) (mt (hcond0_1 ⟨n + 1, hn⟩).mp h1) (mt (hcond0_2 ⟨n + 1, hn⟩).mp h2) (mt (hcond0_3 ⟨n + 1, hn⟩).mp h3), sout0_A_1 m c ⟨n + 1, hn⟩ ((hcond0_0 ⟨n + 1, hn⟩).mpr h0) (mt (hcond0_1 ⟨n + 1, hn⟩).mp h1) (mt (hcond0_2 ⟨n + 1, hn⟩).mp h2) (mt (hcond0_3 ⟨n + 1, hn⟩).mp h3))
    else
      if h1 : 8 * ((n + 1) % 11) + 8 ≤ (n + 1) / 11 % 16 then
        if h2 : (n + 1) / 11 % 16 + 73 ≤ 8 * ((n + 1) % 11) then
          False.elim (by have hN : n + 1 < 176 := lt_of_lt_of_eq hn (show cfg0.N = 176 from N_0); omega)
        else
          if h3 : 88 ≤ (n + 1) / 11 % 16 + 8 * ((n + 1) % 11) then
            False.elim (by have hN : n + 1 < 176 := lt_of_lt_of_eq hn (show cfg0.N = 176 from N_0); omega)
          else
            (out0_D_15 m c ⟨n + 1, hn⟩ (mt (hcond0_0 ⟨n + 1, hn⟩).mp h0) ((hcond0_1 ⟨n + 1, hn⟩).mpr h1) (mt (hcond0_2 ⟨n + 1, hn⟩).mp h2) (mt (hcond0_3 ⟨n + 1, hn⟩).mp h3) (outsAt0 c n (Nat.lt_of_succ_lt hn)).1, out0_D_16 m c ⟨n + 1, hn⟩ (mt (hcond0_0 ⟨n + 1, hn⟩).mp h0) ((hcond0_1 ⟨n + 1, hn⟩).mpr h1) (mt (hcond0_2 ⟨n + 1, hn⟩).mp h2) (mt (hcond0_3 ⟨n + 1, hn⟩).mp h3), sout0_D_0 m c ⟨n + 1, hn⟩ (mt (hcond0_0 ⟨n + 1, hn⟩).mp h0) ((hcond0_1 ⟨n + 1, hn⟩).mpr h1) (mt (hcond0_2 ⟨n + 1, hn⟩).mp h2) (mt (hcond0_3 ⟨n + 1, hn⟩).mp h3), sout0_D_1 m c ⟨n + 1, hn⟩ (mt (hcond0_0 ⟨n + 1, hn⟩).mp h0) ((hcond0_1 ⟨n + 1, hn⟩).mpr h1) (mt (hcond0_2 ⟨n + 1, hn⟩).mp h2) (mt (hcond0_3 ⟨n + 1, hn⟩).mp h3))
      else
        if h2 : (n + 1) / 11 % 16 + 73 ≤ 8 * ((n + 1) % 11) then
          if h3 : 88 ≤ (n + 1) / 11 % 16 + 8 * ((n + 1) % 11) then
            False.elim (by have hN : n + 1 < 176 := lt_of_lt_of_eq hn (show cfg0.N = 176 from N_0); omega)
          else
            (out0_C_15 m c ⟨n + 1, hn⟩ (mt (hcond0_0 ⟨n + 1, hn⟩).mp h0) (mt (hcond0_1 ⟨n + 1, hn⟩).mp h1) ((hcond0_2 ⟨n + 1, hn⟩).mpr h2) (mt (hcond0_3 ⟨n + 1, hn⟩).mp h3) (outsAt0 c n (Nat.lt_of_succ_lt hn)).1 (outsAt0 c n (Nat.lt_of_succ_lt hn)).2.2.1 (outsAt0 c n (Nat.lt_of_succ_lt hn)).2.2.2, out0_C_16 m c ⟨n + 1, hn⟩ (mt (hcond0_0 ⟨n + 1, hn⟩).mp h0) (mt (hcond0_1 ⟨n + 1, hn⟩).mp h1) ((hcond0_2 ⟨n + 1, hn⟩).mpr h2) (mt (hcond0_3 ⟨n + 1, hn⟩).mp h3) (outsAt0 c n (Nat.lt_of_succ_lt hn)).1 (outsAt0 c n (Nat.lt_of_succ_lt hn)).2.2.1 (outsAt0 c n (Nat.lt_of_succ_lt hn)).2.2.2 (outsAt0 c n (Nat.lt_of_succ_lt hn)).2.1, sout0_C_0 m c ⟨n + 1, hn⟩ (mt (hcond0_0 ⟨n + 1, hn⟩).mp h0) (mt (hcond0_1 ⟨n + 1, hn⟩).mp h1) ((hcond0_2 ⟨n + 1, hn⟩).mpr h2) (mt (hcond0_3 ⟨n + 1, hn⟩).mp h3) (outsAt0 c n (Nat.lt_of_succ_lt hn)).1 (outsAt0 c n (Nat.lt_of_succ_lt hn)).2.2.1 (outsAt0 c n (Nat.lt_of_succ_lt hn)).2.2.2, sout0_C_1 m c ⟨n + 1, hn⟩ (mt (hcond0_0 ⟨n + 1, hn⟩).mp h0) (mt (hcond0_1 ⟨n + 1, hn⟩).mp h1) ((hcond0_2 ⟨n + 1, hn⟩).mpr h2) (mt (hcond0_3 ⟨n + 1, hn⟩).mp h3) (outsAt0 c n (Nat.lt_of_succ_lt hn)).1 (outsAt0 c n (Nat.lt_of_succ_lt hn)).2.2.1 (outsAt0 c n (Nat.lt_of_succ_lt hn)).2.2.2)
        else
          if h3 : 88 ≤ (n + 1) / 11 % 16 + 8 * ((n + 1) % 11) then
            (out0_E_15 m c ⟨n + 1, hn⟩ (mt (hcond0_0 ⟨n + 1, hn⟩).mp h0) (mt (hcond0_1 ⟨n + 1, hn⟩).mp h1) (mt (hcond0_2 ⟨n + 1, hn⟩).mp h2) ((hcond0_3 ⟨n + 1, hn⟩).mpr h3) (outsAt0 c n (Nat.lt_of_succ_lt hn)).2.1 (outsAt0 c n (Nat.lt_of_succ_lt hn)).2.2.1 (outsAt0 c n (Nat.lt_of_succ_lt hn)).2.2.2 (outsAt0 c n (Nat.lt_of_succ_lt hn)).1, out0_E_16 m c ⟨n + 1, hn⟩ (mt (hcond0_0 ⟨n + 1, hn⟩).mp h0) (mt (hcond0_1 ⟨n + 1, hn⟩).mp h1) (mt (hcond0_2 ⟨n + 1, hn⟩).mp h2) ((hcond0_3 ⟨n + 1, hn⟩).mpr h3) (outsAt0 c n (Nat.lt_of_succ_lt hn)).2.1 (outsAt0 c n (Nat.lt_of_succ_lt hn)).2.2.1 (outsAt0 c n (Nat.lt_of_succ_lt hn)).2.2.2, sout0_E_0 m c ⟨n + 1, hn⟩ (mt (hcond0_0 ⟨n + 1, hn⟩).mp h0) (mt (hcond0_1 ⟨n + 1, hn⟩).mp h1) (mt (hcond0_2 ⟨n + 1, hn⟩).mp h2) ((hcond0_3 ⟨n + 1, hn⟩).mpr h3) (outsAt0 c n (Nat.lt_of_succ_lt hn)).2.1 (outsAt0 c n (Nat.lt_of_succ_lt hn)).2.2.1 (outsAt0 c n (Nat.lt_of_succ_lt hn)).2.2.2, sout0_E_1 m c ⟨n + 1, hn⟩ (mt (hcond0_0 ⟨n + 1, hn⟩).mp h0) (mt (hcond0_1 ⟨n + 1, hn⟩).mp h1) (mt (hcond0_2 ⟨n + 1, hn⟩).mp h2) ((hcond0_3 ⟨n + 1, hn⟩).mpr h3) (outsAt0 c n (Nat.lt_of_succ_lt hn)).2.1 (outsAt0 c n (Nat.lt_of_succ_lt hn)).2.2.1 (outsAt0 c n (Nat.lt_of_succ_lt hn)).2.2.2)
          else
            (out0_B_15 m c ⟨n + 1, hn⟩ (mt (hcond0_0 ⟨n + 1, hn⟩).mp h0) (mt (hcond0_1 ⟨n + 1, hn⟩).mp h1) (mt (hcond0_2 ⟨n + 1, hn⟩).mp h2) (mt (hcond0_3 ⟨n + 1, hn⟩).mp h3) (outsAt0 c n (Nat.lt_of_succ_lt hn)).2.2.1 (outsAt0 c n (Nat.lt_of_succ_lt hn)).2.2.2 (outsAt0 c n (Nat.lt_of_succ_lt hn)).1, out0_B_16 m c ⟨n + 1, hn⟩ (mt (hcond0_0 ⟨n + 1, hn⟩).mp h0) (mt (hcond0_1 ⟨n + 1, hn⟩).mp h1) (mt (hcond0_2 ⟨n + 1, hn⟩).mp h2) (mt (hcond0_3 ⟨n + 1, hn⟩).mp h3) (outsAt0 c n (Nat.lt_of_succ_lt hn)).2.2.1 (outsAt0 c n (Nat.lt_of_succ_lt hn)).2.2.2 (outsAt0 c n (Nat.lt_of_succ_lt hn)).2.1, sout0_B_0 m c ⟨n + 1, hn⟩ (mt (hcond0_0 ⟨n + 1, hn⟩).mp h0) (mt (hcond0_1 ⟨n + 1, hn⟩).mp h1) (mt (hcond0_2 ⟨n + 1, hn⟩).mp h2) (mt (hcond0_3 ⟨n + 1, hn⟩).mp h3) (outsAt0 c n (Nat.lt_of_succ_lt hn)).2.2.1 (outsAt0 c n (Nat.lt_of_succ_lt hn)).2.2.2, sout0_B_1 m c ⟨n + 1, hn⟩ (mt (hcond0_0 ⟨n + 1, hn⟩).mp h0) (mt (hcond0_1 ⟨n + 1, hn⟩).mp h1) (mt (hcond0_2 ⟨n + 1, hn⟩).mp h2) (mt (hcond0_3 ⟨n + 1, hn⟩).mp h3) (outsAt0 c n (Nat.lt_of_succ_lt hn)).2.2.1 (outsAt0 c n (Nat.lt_of_succ_lt hn)).2.2.2)

theorem outsAt0_A (c : Dev nD) (t : Fin cfg0.N) (h0 : t.val / 11 % 16 + 8 * (t.val % 11) ≤ 7) (h1 : ¬8 * (t.val % 11) + 8 ≤ t.val / 11 % 16) (h2 : ¬t.val / 11 % 16 + 73 ≤ 8 * (t.val % 11)) (h3 : ¬88 ≤ t.val / 11 % 16 + 8 * (t.val % 11)) :
    outsAt0 m c t.val t.isLt = (out0_A_15 m c t ((hcond0_0 t).mpr h0) (mt (hcond0_1 t).mp h1) (mt (hcond0_2 t).mp h2) (mt (hcond0_3 t).mp h3), out0_A_16 m c t ((hcond0_0 t).mpr h0) (mt (hcond0_1 t).mp h1) (mt (hcond0_2 t).mp h2) (mt (hcond0_3 t).mp h3) (outsAt0 m c (t.val - 1) (tl t)).2.1, sout0_A_0 m c t ((hcond0_0 t).mpr h0) (mt (hcond0_1 t).mp h1) (mt (hcond0_2 t).mp h2) (mt (hcond0_3 t).mp h3), sout0_A_1 m c t ((hcond0_0 t).mpr h0) (mt (hcond0_1 t).mp h1) (mt (hcond0_2 t).mp h2) (mt (hcond0_3 t).mp h3)) := by
  obtain ⟨n, hn⟩ := t
  cases n with
  | zero => exact rfl
  | succ n => exact (dif_pos h0).trans ((dif_neg h1).trans ((dif_neg h2).trans ((dif_neg h3).trans rfl)))

theorem outsAt0_B (c : Dev nD) (t : Fin cfg0.N) (h0 : ¬t.val / 11 % 16 + 8 * (t.val % 11) ≤ 7) (h1 : ¬8 * (t.val % 11) + 8 ≤ t.val / 11 % 16) (h2 : ¬t.val / 11 % 16 + 73 ≤ 8 * (t.val % 11)) (h3 : ¬88 ≤ t.val / 11 % 16 + 8 * (t.val % 11)) :
    outsAt0 m c t.val t.isLt = (out0_B_15 m c t (mt (hcond0_0 t).mp h0) (mt (hcond0_1 t).mp h1) (mt (hcond0_2 t).mp h2) (mt (hcond0_3 t).mp h3) (outsAt0 m c (t.val - 1) (tl t)).2.2.1 (outsAt0 m c (t.val - 1) (tl t)).2.2.2 (outsAt0 m c (t.val - 1) (tl t)).1, out0_B_16 m c t (mt (hcond0_0 t).mp h0) (mt (hcond0_1 t).mp h1) (mt (hcond0_2 t).mp h2) (mt (hcond0_3 t).mp h3) (outsAt0 m c (t.val - 1) (tl t)).2.2.1 (outsAt0 m c (t.val - 1) (tl t)).2.2.2 (outsAt0 m c (t.val - 1) (tl t)).2.1, sout0_B_0 m c t (mt (hcond0_0 t).mp h0) (mt (hcond0_1 t).mp h1) (mt (hcond0_2 t).mp h2) (mt (hcond0_3 t).mp h3) (outsAt0 m c (t.val - 1) (tl t)).2.2.1 (outsAt0 m c (t.val - 1) (tl t)).2.2.2, sout0_B_1 m c t (mt (hcond0_0 t).mp h0) (mt (hcond0_1 t).mp h1) (mt (hcond0_2 t).mp h2) (mt (hcond0_3 t).mp h3) (outsAt0 m c (t.val - 1) (tl t)).2.2.1 (outsAt0 m c (t.val - 1) (tl t)).2.2.2) := by
  obtain ⟨n, hn⟩ := t
  cases n with
  | zero => exact (by exfalso; (try dsimp only at h0); exact by omega)
  | succ n => exact (dif_neg h0).trans ((dif_neg h1).trans ((dif_neg h2).trans ((dif_neg h3).trans rfl)))

theorem outsAt0_C (c : Dev nD) (t : Fin cfg0.N) (h0 : ¬t.val / 11 % 16 + 8 * (t.val % 11) ≤ 7) (h1 : ¬8 * (t.val % 11) + 8 ≤ t.val / 11 % 16) (h2 : t.val / 11 % 16 + 73 ≤ 8 * (t.val % 11)) (h3 : ¬88 ≤ t.val / 11 % 16 + 8 * (t.val % 11)) :
    outsAt0 m c t.val t.isLt = (out0_C_15 m c t (mt (hcond0_0 t).mp h0) (mt (hcond0_1 t).mp h1) ((hcond0_2 t).mpr h2) (mt (hcond0_3 t).mp h3) (outsAt0 m c (t.val - 1) (tl t)).1 (outsAt0 m c (t.val - 1) (tl t)).2.2.1 (outsAt0 m c (t.val - 1) (tl t)).2.2.2, out0_C_16 m c t (mt (hcond0_0 t).mp h0) (mt (hcond0_1 t).mp h1) ((hcond0_2 t).mpr h2) (mt (hcond0_3 t).mp h3) (outsAt0 m c (t.val - 1) (tl t)).1 (outsAt0 m c (t.val - 1) (tl t)).2.2.1 (outsAt0 m c (t.val - 1) (tl t)).2.2.2 (outsAt0 m c (t.val - 1) (tl t)).2.1, sout0_C_0 m c t (mt (hcond0_0 t).mp h0) (mt (hcond0_1 t).mp h1) ((hcond0_2 t).mpr h2) (mt (hcond0_3 t).mp h3) (outsAt0 m c (t.val - 1) (tl t)).1 (outsAt0 m c (t.val - 1) (tl t)).2.2.1 (outsAt0 m c (t.val - 1) (tl t)).2.2.2, sout0_C_1 m c t (mt (hcond0_0 t).mp h0) (mt (hcond0_1 t).mp h1) ((hcond0_2 t).mpr h2) (mt (hcond0_3 t).mp h3) (outsAt0 m c (t.val - 1) (tl t)).1 (outsAt0 m c (t.val - 1) (tl t)).2.2.1 (outsAt0 m c (t.val - 1) (tl t)).2.2.2) := by
  obtain ⟨n, hn⟩ := t
  cases n with
  | zero => exact (by exfalso; (try dsimp only at h0); exact by omega)
  | succ n => exact (dif_neg h0).trans ((dif_neg h1).trans ((dif_pos h2).trans ((dif_neg h3).trans rfl)))

theorem outsAt0_D (c : Dev nD) (t : Fin cfg0.N) (h0 : ¬t.val / 11 % 16 + 8 * (t.val % 11) ≤ 7) (h1 : 8 * (t.val % 11) + 8 ≤ t.val / 11 % 16) (h2 : ¬t.val / 11 % 16 + 73 ≤ 8 * (t.val % 11)) (h3 : ¬88 ≤ t.val / 11 % 16 + 8 * (t.val % 11)) :
    outsAt0 m c t.val t.isLt = (out0_D_15 m c t (mt (hcond0_0 t).mp h0) ((hcond0_1 t).mpr h1) (mt (hcond0_2 t).mp h2) (mt (hcond0_3 t).mp h3) (outsAt0 m c (t.val - 1) (tl t)).1, out0_D_16 m c t (mt (hcond0_0 t).mp h0) ((hcond0_1 t).mpr h1) (mt (hcond0_2 t).mp h2) (mt (hcond0_3 t).mp h3), sout0_D_0 m c t (mt (hcond0_0 t).mp h0) ((hcond0_1 t).mpr h1) (mt (hcond0_2 t).mp h2) (mt (hcond0_3 t).mp h3), sout0_D_1 m c t (mt (hcond0_0 t).mp h0) ((hcond0_1 t).mpr h1) (mt (hcond0_2 t).mp h2) (mt (hcond0_3 t).mp h3)) := by
  obtain ⟨n, hn⟩ := t
  cases n with
  | zero => exact (by exfalso; (try dsimp only at h0); exact by omega)
  | succ n => exact (dif_neg h0).trans ((dif_pos h1).trans ((dif_neg h2).trans ((dif_neg h3).trans rfl)))

theorem outsAt0_E (c : Dev nD) (t : Fin cfg0.N) (h0 : ¬t.val / 11 % 16 + 8 * (t.val % 11) ≤ 7) (h1 : ¬8 * (t.val % 11) + 8 ≤ t.val / 11 % 16) (h2 : ¬t.val / 11 % 16 + 73 ≤ 8 * (t.val % 11)) (h3 : 88 ≤ t.val / 11 % 16 + 8 * (t.val % 11)) :
    outsAt0 m c t.val t.isLt = (out0_E_15 m c t (mt (hcond0_0 t).mp h0) (mt (hcond0_1 t).mp h1) (mt (hcond0_2 t).mp h2) ((hcond0_3 t).mpr h3) (outsAt0 m c (t.val - 1) (tl t)).2.1 (outsAt0 m c (t.val - 1) (tl t)).2.2.1 (outsAt0 m c (t.val - 1) (tl t)).2.2.2 (outsAt0 m c (t.val - 1) (tl t)).1, out0_E_16 m c t (mt (hcond0_0 t).mp h0) (mt (hcond0_1 t).mp h1) (mt (hcond0_2 t).mp h2) ((hcond0_3 t).mpr h3) (outsAt0 m c (t.val - 1) (tl t)).2.1 (outsAt0 m c (t.val - 1) (tl t)).2.2.1 (outsAt0 m c (t.val - 1) (tl t)).2.2.2, sout0_E_0 m c t (mt (hcond0_0 t).mp h0) (mt (hcond0_1 t).mp h1) (mt (hcond0_2 t).mp h2) ((hcond0_3 t).mpr h3) (outsAt0 m c (t.val - 1) (tl t)).2.1 (outsAt0 m c (t.val - 1) (tl t)).2.2.1 (outsAt0 m c (t.val - 1) (tl t)).2.2.2, sout0_E_1 m c t (mt (hcond0_0 t).mp h0) (mt (hcond0_1 t).mp h1) (mt (hcond0_2 t).mp h2) ((hcond0_3 t).mpr h3) (outsAt0 m c (t.val - 1) (tl t)).2.1 (outsAt0 m c (t.val - 1) (tl t)).2.2.1 (outsAt0 m c (t.val - 1) (tl t)).2.2.2) := by
  obtain ⟨n, hn⟩ := t
  cases n with
  | zero => exact (by exfalso; (try dsimp only at h0); exact by omega)
  | succ n => exact (dif_neg h0).trans ((dif_neg h1).trans ((dif_neg h2).trans ((dif_pos h3).trans rfl)))

/-- What the sweep keeps between two points. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-- The sweep's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]

theorem after0_1 (c : Dev nD) (t : Fin cfg0.N) : (dats m 0 c).after 1 t = iblk m c 1 t := by dsimp only [dats]

theorem after0_2 (c : Dev nD) (t : Fin cfg0.N) : (dats m 0 c).after 2 t = iblk m c 2 t := by dsimp only [dats]

theorem after0_3 (c : Dev nD) (t : Fin cfg0.N) : (dats m 0 c).after 3 t = iblk m c 3 t := by dsimp only [dats]

theorem after0_4 (c : Dev nD) (t : Fin cfg0.N) : (dats m 0 c).after 4 t = iblk m c 4 t := by dsimp only [dats]

theorem after0_5 (c : Dev nD) (t : Fin cfg0.N) : (dats m 0 c).after 5 t = iblk m c 5 t := by dsimp only [dats]

theorem after0_6 (c : Dev nD) (t : Fin cfg0.N) : (dats m 0 c).after 6 t = iblk m c 6 t := by dsimp only [dats]

theorem after0_7 (c : Dev nD) (t : Fin cfg0.N) : (dats m 0 c).after 7 t = iblk m c 7 t := by dsimp only [dats]

theorem after0_8 (c : Dev nD) (t : Fin cfg0.N) : (dats m 0 c).after 8 t = iblk m c 8 t := by dsimp only [dats]

theorem after0_9 (c : Dev nD) (t : Fin cfg0.N) : (dats m 0 c).after 9 t = iblk m c 9 t := by dsimp only [dats]

theorem after0_10 (c : Dev nD) (t : Fin cfg0.N) : (dats m 0 c).after 10 t = iblk m c 10 t := by dsimp only [dats]

theorem after0_11 (c : Dev nD) (t : Fin cfg0.N) : (dats m 0 c).after 11 t = iblk m c 11 t := by dsimp only [dats]

theorem after0_12 (c : Dev nD) (t : Fin cfg0.N) : (dats m 0 c).after 12 t = iblk m c 12 t := by dsimp only [dats]

theorem after0_13 (c : Dev nD) (t : Fin cfg0.N) : (dats m 0 c).after 13 t = iblk m c 13 t := by dsimp only [dats]

theorem after0_14 (c : Dev nD) (t : Fin cfg0.N) : (dats m 0 c).after 14 t = iblk m c 14 t := by dsimp only [dats]

theorem after0_15 (c : Dev nD) (t : Fin cfg0.N) : (dats m 0 c).after 15 t = (outsAt0 m c t.val t.isLt).1 := by dsimp only [dats]

theorem after0_16 (c : Dev nD) (t : Fin cfg0.N) : (dats m 0 c).after 16 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

theorem before0_2 (c : Dev nD) (t : Fin cfg0.N) (d) : (dats m 0 c).before 2 t d = iblk m c 2 t :=
  before0_2_of m (dats m 0 c) (A_eq m c 2) (after0_2 m c) t d

theorem before0_3 (c : Dev nD) (t : Fin cfg0.N) (d) : (dats m 0 c).before 3 t d = iblk m c 3 t :=
  before0_3_of m (dats m 0 c) (A_eq m c 3) (after0_3 m c) t d

theorem before0_4 (c : Dev nD) (t : Fin cfg0.N) (d) : (dats m 0 c).before 4 t d = iblk m c 4 t :=
  before0_4_of m (dats m 0 c) (A_eq m c 4) (after0_4 m c) t d

theorem before0_5 (c : Dev nD) (t : Fin cfg0.N) (d) : (dats m 0 c).before 5 t d = iblk m c 5 t :=
  before0_5_of m (dats m 0 c) (A_eq m c 5) (after0_5 m c) t d

theorem before0_6 (c : Dev nD) (t : Fin cfg0.N) (d) : (dats m 0 c).before 6 t d = iblk m c 6 t :=
  before0_6_of m (dats m 0 c) (A_eq m c 6) (after0_6 m c) t d

theorem before0_7 (c : Dev nD) (t : Fin cfg0.N) (d) : (dats m 0 c).before 7 t d = iblk m c 7 t :=
  before0_7_of m (dats m 0 c) (A_eq m c 7) (after0_7 m c) t d

theorem before0_8 (c : Dev nD) (t : Fin cfg0.N) (d) : (dats m 0 c).before 8 t d = iblk m c 8 t :=
  before0_8_of m (dats m 0 c) (A_eq m c 8) (after0_8 m c) t d

theorem before0_9 (c : Dev nD) (t : Fin cfg0.N) (d) : (dats m 0 c).before 9 t d = iblk m c 9 t :=
  before0_9_of m (dats m 0 c) (A_eq m c 9) (after0_9 m c) t d

theorem before0_10 (c : Dev nD) (t : Fin cfg0.N) (d) : (dats m 0 c).before 10 t d = iblk m c 10 t :=
  before0_10_of m (dats m 0 c) (A_eq m c 10) (after0_10 m c) t d

theorem before0_11 (c : Dev nD) (t : Fin cfg0.N) (d) : (dats m 0 c).before 11 t d = iblk m c 11 t :=
  before0_11_of m (dats m 0 c) (A_eq m c 11) (after0_11 m c) t d

theorem before0_12 (c : Dev nD) (t : Fin cfg0.N) (d) : (dats m 0 c).before 12 t d = iblk m c 12 t :=
  before0_12_of m (dats m 0 c) (A_eq m c 12) (after0_12 m c) t d

theorem before0_13 (c : Dev nD) (t : Fin cfg0.N) (d) : (dats m 0 c).before 13 t d = iblk m c 13 t :=
  before0_13_of m (dats m 0 c) (A_eq m c 13) (after0_13 m c) t d

theorem before0_14 (c : Dev nD) (t : Fin cfg0.N) (d) : (dats m 0 c).before 14 t d = iblk m c 14 t :=
  before0_14_of m (dats m 0 c) (A_eq m c 14) (after0_14 m c) t d

theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 176 := lt_of_lt_of_eq t.isLt (show cfg0.N = 176 from N_0)
  rw [after0_15, after0_15]
  by_cases h0 : t.val / 11 % 16 + 8 * (t.val % 11) ≤ 7
  · by_cases h1 : 8 * (t.val % 11) + 8 ≤ t.val / 11 % 16
    · exfalso; omega
    · by_cases h2 : t.val / 11 % 16 + 73 ≤ 8 * (t.val % 11)
      · exfalso; omega
      · by_cases h3 : 88 ≤ t.val / 11 % 16 + 8 * (t.val % 11)
        · exfalso; omega
        · rw [liveAt0_15_A t ((hcond0_0 t).mpr h0) (mt (hcond0_1 t).mp h1) (mt (hcond0_2 t).mp h2) (mt (hcond0_3 t).mp h3)] at hi
          exact absurd hi Bool.false_ne_true
  · by_cases h1 : 8 * (t.val % 11) + 8 ≤ t.val / 11 % 16
    · by_cases h2 : t.val / 11 % 16 + 73 ≤ 8 * (t.val % 11)
      · exfalso; omega
      · by_cases h3 : 88 ≤ t.val / 11 % 16 + 8 * (t.val % 11)
        · exfalso; omega
        · rw [outsAt0_D m c t h0 h1 h2 h3]
          dsimp only
          unfold out0_D_15
          rfl
    · by_cases h2 : t.val / 11 % 16 + 73 ≤ 8 * (t.val % 11)
      · by_cases h3 : 88 ≤ t.val / 11 % 16 + 8 * (t.val % 11)
        · exfalso; omega
        · rw [liveAt0_15_C t (mt (hcond0_0 t).mp h0) (mt (hcond0_1 t).mp h1) ((hcond0_2 t).mpr h2) (mt (hcond0_3 t).mp h3)] at hi
          exact absurd hi Bool.false_ne_true
      · by_cases h3 : 88 ≤ t.val / 11 % 16 + 8 * (t.val % 11)
        · rw [outsAt0_E m c t h0 h1 h2 h3]
          dsimp only
          unfold out0_E_15
          rfl
        · rw [outsAt0_B m c t h0 h1 h2 h3]
          dsimp only
          unfold out0_B_15
          rfl

theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 176 := lt_of_lt_of_eq t.isLt (show cfg0.N = 176 from N_0)
  rw [after0_16, after0_16]
  by_cases h0 : t.val / 11 % 16 + 8 * (t.val % 11) ≤ 7
  · by_cases h1 : 8 * (t.val % 11) + 8 ≤ t.val / 11 % 16
    · exfalso; omega
    · by_cases h2 : t.val / 11 % 16 + 73 ≤ 8 * (t.val % 11)
      · exfalso; omega
      · by_cases h3 : 88 ≤ t.val / 11 % 16 + 8 * (t.val % 11)
        · exfalso; omega
        · rw [outsAt0_A m c t h0 h1 h2 h3]
          dsimp only
          unfold out0_A_16
          rfl
  · by_cases h1 : 8 * (t.val % 11) + 8 ≤ t.val / 11 % 16
    · by_cases h2 : t.val / 11 % 16 + 73 ≤ 8 * (t.val % 11)
      · exfalso; omega
      · by_cases h3 : 88 ≤ t.val / 11 % 16 + 8 * (t.val % 11)
        · exfalso; omega
        · rw [liveAt0_16_D t (mt (hcond0_0 t).mp h0) ((hcond0_1 t).mpr h1) (mt (hcond0_2 t).mp h2) (mt (hcond0_3 t).mp h3)] at hi
          exact absurd hi Bool.false_ne_true
    · by_cases h2 : t.val / 11 % 16 + 73 ≤ 8 * (t.val % 11)
      · by_cases h3 : 88 ≤ t.val / 11 % 16 + 8 * (t.val % 11)
        · exfalso; omega
        · rw [outsAt0_C m c t h0 h1 h2 h3]
          dsimp only
          unfold out0_C_16
          rfl
      · by_cases h3 : 88 ≤ t.val / 11 % 16 + 8 * (t.val % 11)
        · rw [liveAt0_16_E t (mt (hcond0_0 t).mp h0) (mt (hcond0_1 t).mp h1) (mt (hcond0_2 t).mp h2) ((hcond0_3 t).mpr h3)] at hi
          exact absurd hi Bool.false_ne_true
        · rw [outsAt0_B m c t h0 h1 h2 h3]
          dsimp only
          unfold out0_B_16
          rfl

theorem before0_15_C (c : Dev nD) (t : Fin cfg0.N) (h0 : ¬t.val / 11 % 16 + 8 * (t.val % 11) ≤ 7) (h1 : ¬8 * (t.val % 11) + 8 ≤ t.val / 11 % 16) (h2 : t.val / 11 % 16 + 73 ≤ 8 * (t.val % 11)) (h3 : ¬88 ≤ t.val / 11 % 16 + 8 * (t.val % 11)) (d) :
    (dats m 0 c).before 15 t d = (outsAt0 m c (t.val - 1) (tl t)).1 := by
  rw [Dat.before_out_traj _ 15 rfl (fun _ _ => rfl) (hcarry0_15 m c) t.val t rfl d,
    if_neg (by rw [notFresh0_15_C t (mt (hcond0_0 t).mp h0) (mt (hcond0_1 t).mp h1) ((hcond0_2 t).mpr h2) (mt (hcond0_3 t).mp h3)]; exact Bool.false_ne_true)]
  dsimp only [dats]

theorem before0_16_E (c : Dev nD) (t : Fin cfg0.N) (h0 : ¬t.val / 11 % 16 + 8 * (t.val % 11) ≤ 7) (h1 : ¬8 * (t.val % 11) + 8 ≤ t.val / 11 % 16) (h2 : ¬t.val / 11 % 16 + 73 ≤ 8 * (t.val % 11)) (h3 : 88 ≤ t.val / 11 % 16 + 8 * (t.val % 11)) (d) :
    (dats m 0 c).before 16 t d = (outsAt0 m c (t.val - 1) (tl t)).2.1 := by
  rw [Dat.before_out_traj _ 16 rfl (fun _ _ => rfl) (hcarry0_16 m c) t.val t rfl d,
    if_neg (by rw [notFresh0_16_E t (mt (hcond0_0 t).mp h0) (mt (hcond0_1 t).mp h1) (mt (hcond0_2 t).mp h2) ((hcond0_3 t).mpr h3)]; exact Bool.false_ne_true)]
  dsimp only [dats]

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]
theorem leaves0_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after0_7]
theorem leaves0_8 (c : Dev nD) (t : Fin cfg0.N) : (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by
    unfold Dat.leavesExact; rw [liveAt0_8 t], after0_8]
theorem leaves0_9 (c : Dev nD) (t : Fin cfg0.N) : (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by
    unfold Dat.leavesExact; rw [liveAt0_9 t], after0_9]
theorem leaves0_10 (c : Dev nD) (t : Fin cfg0.N) : (dats m 0 c).leavesExact 10 t = owns (c : Thread nD τ) (ms0_10 t) fullShare (iblk m c 10 t) := by
  rw [show (dats m 0 c).leavesExact 10 t = owns (c : Thread nD τ) (ms0_10 t) fullShare ((dats m 0 c).after 10 t) from by
    unfold Dat.leavesExact; rw [liveAt0_10 t], after0_10]
theorem leaves0_11 (c : Dev nD) (t : Fin cfg0.N) : (dats m 0 c).leavesExact 11 t = owns (c : Thread nD τ) (ms0_11 t) fullShare (iblk m c 11 t) := by
  rw [show (dats m 0 c).leavesExact 11 t = owns (c : Thread nD τ) (ms0_11 t) fullShare ((dats m 0 c).after 11 t) from by
    unfold Dat.leavesExact; rw [liveAt0_11 t], after0_11]
theorem leaves0_12 (c : Dev nD) (t : Fin cfg0.N) : (dats m 0 c).leavesExact 12 t = owns (c : Thread nD τ) (ms0_12 t) fullShare (iblk m c 12 t) := by
  rw [show (dats m 0 c).leavesExact 12 t = owns (c : Thread nD τ) (ms0_12 t) fullShare ((dats m 0 c).after 12 t) from by
    unfold Dat.leavesExact; rw [liveAt0_12 t], after0_12]
theorem leaves0_13 (c : Dev nD) (t : Fin cfg0.N) : (dats m 0 c).leavesExact 13 t = owns (c : Thread nD τ) (ms0_13 t) fullShare (iblk m c 13 t) := by
  rw [show (dats m 0 c).leavesExact 13 t = owns (c : Thread nD τ) (ms0_13 t) fullShare ((dats m 0 c).after 13 t) from by
    unfold Dat.leavesExact; rw [liveAt0_13 t], after0_13]
theorem leaves0_14 (c : Dev nD) (t : Fin cfg0.N) : (dats m 0 c).leavesExact 14 t = owns (c : Thread nD τ) (ms0_14 t) fullShare (iblk m c 14 t) := by
  rw [show (dats m 0 c).leavesExact 14 t = owns (c : Thread nD τ) (ms0_14 t) fullShare ((dats m 0 c).after 14 t) from by
    unfold Dat.leavesExact; rw [liveAt0_14 t], after0_14]

end Cert.Kernel3Ideal.Ffn

end
-- ==== Proof.FfnLastFrame.lean ====
/- Layer 3 of the feed-forward call: the body at any point, the whole run, and the frame. -/
module

public import proofs.«01_k».proof.Proof.FfnLastState

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem notFresh0_15_E : ∀ t : Fin cfg0.N, ¬cond0_0 (grid0.coords t) → ¬cond0_1 (grid0.coords t) → ¬cond0_2 (grid0.coords t) → cond0_3 (grid0.coords t) → cfg0.fresh 15 t.val = false :=
  fun t h0 h1 h2 h3 => (by intro t; rw [fresh0_15_eq t]; revert t; decide +kernel : ∀ t : Fin cfg0.N, conds0_E (grid0.coords t) → cfg0.fresh 15 t.val = false) t ⟨h0, h1, h2, h3⟩

/-- At the last hidden block of a latent tile the context output keeps its contents, whether or not it is written back there. -/
theorem leaves0_15_E (c : Dev nD) (t : Fin cfg0.N) (h0 : ¬t.val / 11 % 16 + 8 * (t.val % 11) ≤ 7) (h1 : ¬8 * (t.val % 11) + 8 ≤ t.val / 11 % 16) (h2 : ¬t.val / 11 % 16 + 73 ≤ 8 * (t.val % 11)) (h3 : 88 ≤ t.val / 11 % 16 + 8 * (t.val % 11)) (d) :
    owns (c : Thread nD τ) (ms0_15 t) fullShare ((dats m 0 c).before 15 t d) ⊢ (dats m 0 c).leavesExact 15 t := by
  have hi := idleAt0_15_E t (mt (hcond0_0 t).mp h0) (mt (hcond0_1 t).mp h1) (mt (hcond0_2 t).mp h2) ((hcond0_3 t).mpr h3)
  have hr := notFresh0_15_E t (mt (hcond0_0 t).mp h0) (mt (hcond0_1 t).mp h1) (mt (hcond0_2 t).mp h2) ((hcond0_3 t).mpr h3)
  cases hf : (cfg0.win 15).flush t with
  | false =>
    rw [Dat.leavesExact_idle (dats m 0 c) 15 t hi hf]
    iintro H; iexists _; iexact H
  | true =>
    have e : (dats m 0 c).leavesExact 15 t = owns (c : Thread nD τ) (ms0_15 t) fullShare ((dats m 0 c).after 15 t) := by
      unfold Dat.leavesExact; rw [hi, hf]
    rw [e, Dat.before_out_traj _ 15 rfl (fun _ _ => rfl) (hcarry0_15 m c) t.val t rfl d, hr, if_neg Bool.false_ne_true,
      hcarry0_15 m c t (by omega) hi hr]

/-- What a point starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What a point leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 48000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  by_cases h0 : t.val / 11 % 16 + 8 * (t.val % 11) ≤ 7
  · by_cases h1 : 8 * (t.val % 11) + 8 ≤ t.val / 11 % 16
    · exfalso; omega
    · by_cases h2 : t.val / 11 % 16 + 73 ≤ 8 * (t.val % 11)
      · exfalso; omega
      · by_cases h3 : 88 ≤ t.val / 11 % 16 + 8 * (t.val % 11)
        · exfalso; omega
        · rw [leaves0_0, leaves0_1, leaves0_2, leaves0_3, leaves0_4, leaves0_5, leaves0_6, leaves0_7, leaves0_8, leaves0_9, leaves0_10, leaves0_11, leaves0_12, leaves0_13, leaves0_14]
          rw [show (dats m 0 c).leavesExact 15 t = owns (c : Thread nD τ) (ms0_15 t) fullShare ((dats m 0 c).after 15 t) from by
      unfold Dat.leavesExact; rw [liveAt0_15_A t ((hcond0_0 t).mpr h0) (mt (hcond0_1 t).mp h1) (mt (hcond0_2 t).mp h2) (mt (hcond0_3 t).mp h3)], after0_15]
          rw [Dat.leavesExact_idle (dats m 0 c) 16 t (idleAt0_16_A t ((hcond0_0 t).mpr h0) (mt (hcond0_1 t).mp h1) (mt (hcond0_2 t).mp h2) (mt (hcond0_3 t).mp h3)) (noFlush0_16_A t ((hcond0_0 t).mpr h0) (mt (hcond0_1 t).mp h1) (mt (hcond0_2 t).mp h2) (mt (hcond0_3 t).mp h3))]
          by_cases hz : t.val = 0
          · rw [PhiS_castSucc m c t, PhiS_zero m c _ _ hz, PhiA0_eq]
            rw [outsAt0_A m c t h0 h1 h2 h3]
            unfold out0_A_15 sout0_A_0 sout0_A_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runA m c t ((hcond0_0 t).mpr h0) (mt (hcond0_1 t).mp h1) (mt (hcond0_2 t).mp h2) (mt (hcond0_3 t).mp h3)).2.2.2.2.2.2.2.2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexact H16
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, ⟨%e15, H15⟩, H16, ⟨%es0, HS0⟩, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · unfold owns; iexists _; isplitr
                  swap; · iexact HS0
                  ipureintro; exact View.read_writes_of_cover _ _ _ _ _ (scover0_A_0 m c t _ _ _ _)
                isplitl [HS1]
                · unfold owns; iexists _; isplitr
                  swap; · iexact HS1
                  ipureintro; exact View.read_writes_of_cover _ _ _ _ _ (scover0_A_1 m c t _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]
            · unfold owns; iexists _; isplitr
              swap; · iexact H15
              ipureintro; exact View.read_writes_of_cover _ _ _ _ _ (cover0_A_15 m c t _ _ _ _)
            iexists _; iexact H16
          · rw [PhiS_castSucc m c t, PhiS_pos m c _ _ hz]
            rw [outsAt0_A m c t h0 h1 h2 h3]
            unfold out0_A_15 sout0_A_0 sout0_A_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runA m c t ((hcond0_0 t).mpr h0) (mt (hcond0_1 t).mp h1) (mt (hcond0_2 t).mp h2) (mt (hcond0_3 t).mp h3)).2.2.2.2.2.2.2.2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexact H16
            isplitl [HS0]; · iexists _; iexact HS0
            isplitl [HS1]; · iexists _; iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, ⟨%e15, H15⟩, H16, ⟨%es0, HS0⟩, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · unfold owns; iexists _; isplitr
                  swap; · iexact HS0
                  ipureintro; exact View.read_writes_of_cover _ _ _ _ _ (scover0_A_0 m c t _ _ _ _)
                isplitl [HS1]
                · unfold owns; iexists _; isplitr
                  swap; · iexact HS1
                  ipureintro; exact View.read_writes_of_cover _ _ _ _ _ (scover0_A_1 m c t _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]
            · unfold owns; iexists _; isplitr
              swap; · iexact H15
              ipureintro; exact View.read_writes_of_cover _ _ _ _ _ (cover0_A_15 m c t _ _ _ _)
            iexists _; iexact H16
  · by_cases h1 : 8 * (t.val % 11) + 8 ≤ t.val / 11 % 16
    · by_cases h2 : t.val / 11 % 16 + 73 ≤ 8 * (t.val % 11)
      · exfalso; omega
      · by_cases h3 : 88 ≤ t.val / 11 % 16 + 8 * (t.val % 11)
        · exfalso; omega
        · rw [leaves0_0, leaves0_1, leaves0_2, leaves0_3, leaves0_4, leaves0_5, leaves0_6, leaves0_7, leaves0_8, leaves0_9, leaves0_10, leaves0_11, leaves0_12, leaves0_13, leaves0_14]
          rw [Dat.leavesExact_idle (dats m 0 c) 15 t (idleAt0_15_D t (mt (hcond0_0 t).mp h0) ((hcond0_1 t).mpr h1) (mt (hcond0_2 t).mp h2) (mt (hcond0_3 t).mp h3)) (noFlush0_15_D t (mt (hcond0_0 t).mp h0) ((hcond0_1 t).mpr h1) (mt (hcond0_2 t).mp h2) (mt (hcond0_3 t).mp h3))]
          rw [show (dats m 0 c).leavesExact 16 t = owns (c : Thread nD τ) (ms0_16 t) fullShare ((dats m 0 c).after 16 t) from by
      unfold Dat.leavesExact; rw [liveAt0_16_D t (mt (hcond0_0 t).mp h0) ((hcond0_1 t).mpr h1) (mt (hcond0_2 t).mp h2) (mt (hcond0_3 t).mp h3)], after0_16]
          by_cases hz : t.val = 0
          · exfalso; have hN : t.val < 176 := lt_of_lt_of_eq t.isLt (show cfg0.N = 176 from N_0); omega
          · rw [PhiS_castSucc m c t, PhiS_pos m c _ _ hz]
            rw [outsAt0_D m c t h0 h1 h2 h3]
            unfold out0_D_16 sout0_D_0 sout0_D_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runD m c t (mt (hcond0_0 t).mp h0) ((hcond0_1 t).mpr h1) (mt (hcond0_2 t).mp h2) (mt (hcond0_3 t).mp h3)).2.2.2.2.2.2.2.2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexists _; iexact H16
            isplitl [HS0]; · iexists _; iexact HS0
            isplitl [HS1]; · iexists _; iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, ⟨%e16, H16⟩, ⟨%es0, HS0⟩, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · unfold owns; iexists _; isplitr
                  swap; · iexact HS0
                  ipureintro; exact View.read_writes_of_cover _ _ _ _ _ (scover0_D_0 m c t _ _ _ _)
                isplitl [HS1]
                · unfold owns; iexists _; isplitr
                  swap; · iexact HS1
                  ipureintro; exact View.read_writes_of_cover _ _ _ _ _ (scover0_D_1 m c t _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            unfold owns; iexists _; isplitr
            swap; · iexact H16
            ipureintro; exact View.read_writes_of_cover _ _ _ _ _ (cover0_D_16 m c t _ _ _ _)
    · by_cases h2 : t.val / 11 % 16 + 73 ≤ 8 * (t.val % 11)
      · by_cases h3 : 88 ≤ t.val / 11 % 16 + 8 * (t.val % 11)
        · exfalso; omega
        · rw [leaves0_0, leaves0_1, leaves0_2, leaves0_3, leaves0_4, leaves0_5, leaves0_6, leaves0_7, leaves0_8, leaves0_9, leaves0_10, leaves0_11, leaves0_12, leaves0_13, leaves0_14]
          rw [show (dats m 0 c).leavesExact 15 t = owns (c : Thread nD τ) (ms0_15 t) fullShare ((dats m 0 c).after 15 t) from by
      unfold Dat.leavesExact; rw [liveAt0_15_C t (mt (hcond0_0 t).mp h0) (mt (hcond0_1 t).mp h1) ((hcond0_2 t).mpr h2) (mt (hcond0_3 t).mp h3)], after0_15]
          rw [Dat.leavesExact_idle (dats m 0 c) 16 t (idleAt0_16_C t (mt (hcond0_0 t).mp h0) (mt (hcond0_1 t).mp h1) ((hcond0_2 t).mpr h2) (mt (hcond0_3 t).mp h3)) (noFlush0_16_C t (mt (hcond0_0 t).mp h0) (mt (hcond0_1 t).mp h1) ((hcond0_2 t).mpr h2) (mt (hcond0_3 t).mp h3))]
          by_cases hz : t.val = 0
          · exfalso; have hN : t.val < 176 := lt_of_lt_of_eq t.isLt (show cfg0.N = 176 from N_0); omega
          · rw [PhiS_castSucc m c t, PhiS_pos m c _ _ hz]
            rw [outsAt0_C m c t h0 h1 h2 h3]
            simp only [before0_15_C m c t h0 h1 h2 h3]
            unfold out0_C_15 sout0_C_0 sout0_C_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runC m c t (mt (hcond0_0 t).mp h0) (mt (hcond0_1 t).mp h1) ((hcond0_2 t).mpr h2) (mt (hcond0_3 t).mp h3) _ _ _).2.2.2.2.2.2.2.2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, ⟨%e15, H15⟩, H16, HS0, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · iexact HS0
                isplitl [HS1]
                · unfold owns; iexists _; isplitr
                  swap; · iexact HS1
                  ipureintro; exact View.read_writes_of_cover _ _ _ _ _ (scover0_C_1 m c t _ _ _ _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]
            · unfold owns; iexists _; isplitr
              swap; · iexact H15
              ipureintro; exact View.read_writes_of_cover _ _ _ _ _ (cover0_C_15 m c t _ _ _ _ _ _ _)
            iexists _; iexact H16
      · by_cases h3 : 88 ≤ t.val / 11 % 16 + 8 * (t.val % 11)
        · rw [leaves0_0, leaves0_1, leaves0_2, leaves0_3, leaves0_4, leaves0_5, leaves0_6, leaves0_7, leaves0_8, leaves0_9, leaves0_10, leaves0_11, leaves0_12, leaves0_13, leaves0_14]
          rw [show (dats m 0 c).leavesExact 16 t = owns (c : Thread nD τ) (ms0_16 t) fullShare ((dats m 0 c).after 16 t) from by
      unfold Dat.leavesExact; rw [liveAt0_16_E t (mt (hcond0_0 t).mp h0) (mt (hcond0_1 t).mp h1) (mt (hcond0_2 t).mp h2) ((hcond0_3 t).mpr h3)], after0_16]
          by_cases hz : t.val = 0
          · exfalso; have hN : t.val < 176 := lt_of_lt_of_eq t.isLt (show cfg0.N = 176 from N_0); omega
          · rw [PhiS_castSucc m c t, PhiS_pos m c _ _ hz]
            rw [outsAt0_E m c t h0 h1 h2 h3]
            simp only [before0_16_E m c t h0 h1 h2 h3]
            unfold out0_E_16 sout0_E_0 sout0_E_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runE m c t (mt (hcond0_0 t).mp h0) (mt (hcond0_1 t).mp h1) (mt (hcond0_2 t).mp h2) ((hcond0_3 t).mpr h3) _ _ _).2.2.2.2.2.2.2.2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, ⟨%e16, H16⟩, HS0, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · iexact HS0
                isplitl [HS1]
                · unfold owns; iexists _; isplitr
                  swap; · iexact HS1
                  ipureintro; exact View.read_writes_of_cover _ _ _ _ _ (scover0_E_1 m c t _ _ _ _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iapply (leaves0_15_E m c t h0 h1 h2 h3 _); iexact H15
            unfold owns; iexists _; isplitr
            swap; · iexact H16
            ipureintro; exact View.read_writes_of_cover _ _ _ _ _ (cover0_E_16 m c t _ _ _ _ _ _ _)
        · rw [leaves0_0, leaves0_1, leaves0_2, leaves0_3, leaves0_4, leaves0_5, leaves0_6, leaves0_7, leaves0_8, leaves0_9, leaves0_10, leaves0_11, leaves0_12, leaves0_13, leaves0_14]
          rw [Dat.leavesExact_idle (dats m 0 c) 15 t (idleAt0_15_B t (mt (hcond0_0 t).mp h0) (mt (hcond0_1 t).mp h1) (mt (hcond0_2 t).mp h2) (mt (hcond0_3 t).mp h3)) (noFlush0_15_B t (mt (hcond0_0 t).mp h0) (mt (hcond0_1 t).mp h1) (mt (hcond0_2 t).mp h2) (mt (hcond0_3 t).mp h3))]
          rw [Dat.leavesExact_idle (dats m 0 c) 16 t (idleAt0_16_B t (mt (hcond0_0 t).mp h0) (mt (hcond0_1 t).mp h1) (mt (hcond0_2 t).mp h2) (mt (hcond0_3 t).mp h3)) (noFlush0_16_B t (mt (hcond0_0 t).mp h0) (mt (hcond0_1 t).mp h1) (mt (hcond0_2 t).mp h2) (mt (hcond0_3 t).mp h3))]
          by_cases hz : t.val = 0
          · exfalso; have hN : t.val < 176 := lt_of_lt_of_eq t.isLt (show cfg0.N = 176 from N_0); omega
          · rw [PhiS_castSucc m c t, PhiS_pos m c _ _ hz]
            rw [outsAt0_B m c t h0 h1 h2 h3]
            unfold sout0_B_0 sout0_B_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runB m c t (mt (hcond0_0 t).mp h0) (mt (hcond0_1 t).mp h1) (mt (hcond0_2 t).mp h2) (mt (hcond0_3 t).mp h3) _ _).2.2.2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, H16, HS0, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · iexact HS0
                isplitl [HS1]
                · unfold owns; iexists _; isplitr
                  swap; · iexact HS1
                  ipureintro; exact View.read_writes_of_cover _ _ _ _ _ (scover0_B_1 m c t _ _ _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            iexists _; iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    iexact HS6
  iexact Hg

theorem hout (c : Dev nD) : (dats m 0 c).Φ (Fin.last cfg0.N) ⊢ Pipeline.ΦA spec0 c :=
  Phi_out m c _ (by rw [Fin.val_last]; have : cfg0.N = 176 := N_0; omega)

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel3Ideal.Ffn

end
-- ==== Proof.FfnLastBitsPoints.lean ====
/- Layer 3 of the feed-forward call at the machine formats: which branches are taken at each point, where the two output windows are idle, and the memrefs at a point. -/
module

public import proofs.«01_k».proof.Proof.Gen.Kernel3.Frame
public import proofs.«01_k».proof.Proof.Gen.Kernel3.Launch
public import proofs.«01_k».proof.Proof.Gen.Kernel3.Skeleton
public import proofs.«01_k».proof.Proof.Gen.Kernel3.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel3.Ffn

open Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev cond0_0 (i : grid0.Coords) : Prop := k0_cond1 i = 1#1

theorem hcond0_0 : ∀ t : Fin cfg0.N, cond0_0 (grid0.coords t) ↔ t.val / 11 % 16 + 8 * (t.val % 11) ≤ 7 :=
  (by decide +kernel : ∀ t : Fin grid0.N, cond0_0 (grid0.coords t) ↔ t.val / 11 % 16 + 8 * (t.val % 11) ≤ 7)

abbrev cond0_1 (i : grid0.Coords) : Prop := k0_cond2 i = 1#1

theorem hcond0_1 : ∀ t : Fin cfg0.N, cond0_1 (grid0.coords t) ↔ 8 * (t.val % 11) + 8 ≤ t.val / 11 % 16 :=
  (by decide +kernel : ∀ t : Fin grid0.N, cond0_1 (grid0.coords t) ↔ 8 * (t.val % 11) + 8 ≤ t.val / 11 % 16)

abbrev cond0_2 (i : grid0.Coords) : Prop := k0_cond3 i = 1#1

theorem hcond0_2 : ∀ t : Fin cfg0.N, cond0_2 (grid0.coords t) ↔ t.val / 11 % 16 + 73 ≤ 8 * (t.val % 11) :=
  (by decide +kernel : ∀ t : Fin grid0.N, cond0_2 (grid0.coords t) ↔ t.val / 11 % 16 + 73 ≤ 8 * (t.val % 11))

abbrev cond0_3 (i : grid0.Coords) : Prop := k0_cond4 i = 1#1

theorem hcond0_3 : ∀ t : Fin cfg0.N, cond0_3 (grid0.coords t) ↔ 88 ≤ t.val / 11 % 16 + 8 * (t.val % 11) :=
  (by decide +kernel : ∀ t : Fin grid0.N, cond0_3 (grid0.coords t) ↔ 88 ≤ t.val / 11 % 16 + 8 * (t.val % 11))

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem liveAt0_4 : ∀ t : Fin cfg0.N, cfg0.idle 4 (grid0.coords t) = false := fun _ => rfl

theorem liveAt0_5 : ∀ t : Fin cfg0.N, cfg0.idle 5 (grid0.coords t) = false := fun _ => rfl

theorem liveAt0_6 : ∀ t : Fin cfg0.N, cfg0.idle 6 (grid0.coords t) = false := fun _ => rfl

theorem liveAt0_7 : ∀ t : Fin cfg0.N, cfg0.idle 7 (grid0.coords t) = false := fun _ => rfl

theorem liveAt0_8 : ∀ t : Fin cfg0.N, cfg0.idle 8 (grid0.coords t) = false := fun _ => rfl

theorem liveAt0_9 : ∀ t : Fin cfg0.N, cfg0.idle 9 (grid0.coords t) = false := fun _ => rfl

theorem liveAt0_10 : ∀ t : Fin cfg0.N, cfg0.idle 10 (grid0.coords t) = false := fun _ => rfl

theorem liveAt0_11 : ∀ t : Fin cfg0.N, cfg0.idle 11 (grid0.coords t) = false := fun _ => rfl

theorem liveAt0_12 : ∀ t : Fin cfg0.N, cfg0.idle 12 (grid0.coords t) = false := fun _ => rfl

theorem liveAt0_13 : ∀ t : Fin cfg0.N, cfg0.idle 13 (grid0.coords t) = false := fun _ => rfl

theorem liveAt0_14 : ∀ t : Fin cfg0.N, cfg0.idle 14 (grid0.coords t) = false := fun _ => rfl

abbrev ms0_0 (t : Fin cfg0.N) : Memref sig .tc .vmem S1024x1024 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S1024x1024 .bf16 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S1024x1024 .bf16 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S1024x1024 .bf16 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S1x1x1x6144 .f32 := win0_4.stage (cfg0.slots t 4)

abbrev hs0_4 (t : Fin cfg0.N) : (ms0_4 t).IsWhole := hstage0_4 ((cfg0.slots t 4).cast nbuf0_4)

abbrev ms0_5 (t : Fin cfg0.N) : Memref sig .tc .vmem S1x1024 .f32 := win0_5.stage (cfg0.slots t 5)

abbrev hs0_5 (t : Fin cfg0.N) : (ms0_5 t).IsWhole := hstage0_5 ((cfg0.slots t 5).cast nbuf0_5)

abbrev ms0_6 (t : Fin cfg0.N) : Memref sig .tc .vmem S1x1024x256 .f32 := win0_6.stage (cfg0.slots t 6)

abbrev hs0_6 (t : Fin cfg0.N) : (ms0_6 t).IsWhole := hstage0_6 ((cfg0.slots t 6).cast nbuf0_6)

abbrev ms0_7 (t : Fin cfg0.N) : Memref sig .tc .vmem S1x1024x256 .f32 := win0_7.stage (cfg0.slots t 7)

abbrev hs0_7 (t : Fin cfg0.N) : (ms0_7 t).IsWhole := hstage0_7 ((cfg0.slots t 7).cast nbuf0_7)

abbrev ms0_8 (t : Fin cfg0.N) : Memref sig .tc .vmem S1x1x256 .f32 := win0_8.stage (cfg0.slots t 8)

abbrev hs0_8 (t : Fin cfg0.N) : (ms0_8 t).IsWhole := hstage0_8 ((cfg0.slots t 8).cast nbuf0_8)

abbrev ms0_9 (t : Fin cfg0.N) : Memref sig .tc .vmem S1x1x256 .f32 := win0_9.stage (cfg0.slots t 9)

abbrev hs0_9 (t : Fin cfg0.N) : (ms0_9 t).IsWhole := hstage0_9 ((cfg0.slots t 9).cast nbuf0_9)

abbrev ms0_10 (t : Fin cfg0.N) : Memref sig .tc .vmem S1x3x256 .f32 := win0_10.stage (cfg0.slots t 10)

abbrev hs0_10 (t : Fin cfg0.N) : (ms0_10 t).IsWhole := hstage0_10 ((cfg0.slots t 10).cast nbuf0_10)

abbrev ms0_11 (t : Fin cfg0.N) : Memref sig .tc .vmem S1x3x256 .f32 := win0_11.stage (cfg0.slots t 11)

abbrev hs0_11 (t : Fin cfg0.N) : (ms0_11 t).IsWhole := hstage0_11 ((cfg0.slots t 11).cast nbuf0_11)

abbrev ms0_12 (t : Fin cfg0.N) : Memref sig .tc .vmem S1x1x256 .f32 := win0_12.stage (cfg0.slots t 12)

abbrev hs0_12 (t : Fin cfg0.N) : (ms0_12 t).IsWhole := hstage0_12 ((cfg0.slots t 12).cast nbuf0_12)

abbrev ms0_13 (t : Fin cfg0.N) : Memref sig .tc .vmem S1x1x256 .f32 := win0_13.stage (cfg0.slots t 13)

abbrev hs0_13 (t : Fin cfg0.N) : (ms0_13 t).IsWhole := hstage0_13 ((cfg0.slots t 13).cast nbuf0_13)

abbrev ms0_14 (t : Fin cfg0.N) : Memref sig .tc .vmem S1x256x1024 .f32 := win0_14.stage (cfg0.slots t 14)

abbrev hs0_14 (t : Fin cfg0.N) : (ms0_14 t).IsWhole := hstage0_14 ((cfg0.slots t 14).cast nbuf0_14)

abbrev ms0_15 (t : Fin cfg0.N) : Memref sig .tc .vmem S1024x1024 .f32 := win0_15.stage (cfg0.slots t 15)

abbrev hs0_15 (t : Fin cfg0.N) : (ms0_15 t).IsWhole := hstage0_15 ((cfg0.slots t 15).cast nbuf0_15)

abbrev ms0_16 (t : Fin cfg0.N) : Memref sig .tc .vmem S1024x1024 .f32 := win0_16.stage (cfg0.slots t 16)

abbrev hs0_16 (t : Fin cfg0.N) : (ms0_16 t).IsWhole := hstage0_16 ((cfg0.slots t 16).cast nbuf0_16)

abbrev scM0_0 : Memref sig .tc .vmem S1024x1024 .bf16 := Memref.whole cc0_scratch0

abbrev scM0_1 : Memref sig .tc .vmem S1024x1024 .f32 := Memref.whole cc0_scratch1

abbrev scM0_2 : Memref sig .tc .vmem S1096x256 .f32 := Memref.whole cc0_scratch2

abbrev scM0_3 : Memref sig .tc .vmem S1096x256 .f32 := Memref.whole cc0_scratch3

abbrev scM0_4 : Memref sig .tc .vmem S1024x256 .bf16 := Memref.whole cc0_scratch4

abbrev scM0_5 : Memref sig .tc .vmem S1024x256 .bf16 := Memref.whole cc0_scratch5

abbrev scM0_6 : Memref sig .tc .vmem S256x1024 .bf16 := Memref.whole cc0_scratch6

abbrev VS0_0 : View sig .tc .vmem S1024x1024 .bf16 := scM0_0.view

abbrev VS0_1 : View sig .tc .vmem S1024x1024 .f32 := scM0_1.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel3.Ffn

end
-- ==== Proof.FfnLastBitsRuns.lean ====
/- Layer 3 of the feed-forward call at the machine formats: the whole body run once, in each of its five cases. -/
module

public import proofs.«01_k».proof.Proof.FfnLastBitsPoints

@[expose] public section

set_option maxRecDepth 16384

noncomputable section

namespace Cert.Kernel3.Ffn

open Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

variable (c : Dev nD) (i : grid0.Coords) (a2 : Memref sig .tc .vmem S1024x1024 .f32) (ha2 : a2.IsWhole) (a3 : Memref sig .tc .vmem S1024x1024 .bf16) (ha3 : a3.IsWhole) (a4 : Memref sig .tc .vmem S1024x1024 .bf16) (ha4 : a4.IsWhole) (a5 : Memref sig .tc .vmem S1024x1024 .bf16) (ha5 : a5.IsWhole) (a6 : Memref sig .tc .vmem S1x1x1x6144 .f32) (ha6 : a6.IsWhole) (a7 : Memref sig .tc .vmem S1x1024 .f32) (ha7 : a7.IsWhole) (a8 : Memref sig .tc .vmem S1x1024x256 .f32) (ha8 : a8.IsWhole) (a9 : Memref sig .tc .vmem S1x1024x256 .f32) (ha9 : a9.IsWhole) (a10 : Memref sig .tc .vmem S1x1x256 .f32) (ha10 : a10.IsWhole) (a11 : Memref sig .tc .vmem S1x1x256 .f32) (ha11 : a11.IsWhole) (a12 : Memref sig .tc .vmem S1x3x256 .f32) (ha12 : a12.IsWhole) (a13 : Memref sig .tc .vmem S1x3x256 .f32) (ha13 : a13.IsWhole) (a14 : Memref sig .tc .vmem S1x1x256 .f32) (ha14 : a14.IsWhole) (a15 : Memref sig .tc .vmem S1x1x256 .f32) (ha15 : a15.IsWhole) (a16 : Memref sig .tc .vmem S1x256x1024 .f32) (ha16 : a16.IsWhole) (a17 : Memref sig .tc .vmem S1024x1024 .f32) (ha17 : a17.IsWhole) (a18 : Memref sig .tc .vmem S1024x1024 .f32) (ha18 : a18.IsWhole) (a19 : Memref sig .tc .vmem S1024x1024 .bf16) (ha19 : a19.IsWhole) (a20 : Memref sig .tc .vmem S1024x1024 .f32) (ha20 : a20.IsWhole) (a21 : Memref sig .tc .vmem S1096x256 .f32) (ha21 : a21.IsWhole) (a22 : Memref sig .tc .vmem S1096x256 .f32) (ha22 : a22.IsWhole) (a23 : Memref sig .tc .vmem S1024x256 .bf16) (ha23 : a23.IsWhole) (a24 : Memref sig .tc .vmem S1024x256 .bf16) (ha24 : a24.IsWhole) (a25 : Memref sig .tc .vmem S256x1024 .bf16) (ha25 : a25.IsWhole)

set_option maxHeartbeats 1000000 in
/-- The body, run at the first hidden block of a context tile. -/
noncomputable def kernelRun0_A (hc0 : cond0_0 i) (hc1 : ¬cond0_1 i) (hc2 : ¬cond0_2 i) (hc3 : ¬cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) :
    Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ (∃ f, a19.view.loc (c : Thread nD τ) ↦[a19.view.set]{fullShare} a19.view.writes (Elt F) f LS0) ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨?_, ?_, ?_, ?_, ?_, ?_, ?_, fun E K => ?run⟩
  case run =>
    simp only [cc0_ffn_l3_eq_skeleton]; unfold cc0_ffn_l3_skel
    simp only [k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]
    · iexists _, _; isplitr; swap; · iexact H15
      ipureintro; rfl
    isplitl [H16]
    · iexists _, _; isplitr; swap; · iexact H16
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

set_option maxHeartbeats 1000000 in
/-- The body, run at the a hidden block in the middle. -/
noncomputable def kernelRun0_B (hc0 : ¬cond0_0 i) (hc1 : ¬cond0_1 i) (hc2 : ¬cond0_2 i) (hc3 : ¬cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) (xs0 : Vec F S1024x1024 .bf16) (xs1 : Vec F S1024x1024 .f32) :
    Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ owns (c : Thread nD τ) a19 fullShare xs0 ∗ owns (c : Thread nD τ) a20 fullShare xs1 ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ owns (c : Thread nD τ) a19 fullShare xs0 ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨[], ?_, ?_, ?_, ?_, ?_, ?_, fun E K => ?run⟩
  case run =>
    simp only [cc0_ffn_l3_eq_skeleton]; unfold cc0_ffn_l3_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14; obtain rfl := ha19.eq_unread hfs0; obtain rfl := ha20.eq_unread hfs1
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]
    · iexists _, _; isplitr; swap; · iexact H15
      ipureintro; rfl
    isplitl [H16]
    · iexists _, _; isplitr; swap; · iexact H16
      ipureintro; rfl
    isplitl [HS0]
    · iexists _; isplitr; · ipureintro; exact ha19.read_unread _
      iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

set_option maxHeartbeats 1000000 in
/-- The body, run at the last hidden block of a context tile. -/
noncomputable def kernelRun0_C (hc0 : ¬cond0_0 i) (hc1 : ¬cond0_1 i) (hc2 : cond0_2 i) (hc3 : ¬cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) (xs0 : Vec F S1024x1024 .bf16) (xs1 : Vec F S1024x1024 .f32) :
    Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ owns (c : Thread nD τ) a19 fullShare xs0 ∗ owns (c : Thread nD τ) a20 fullShare xs1 ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ owns (c : Thread nD τ) a19 fullShare xs0 ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨[], ?_, ?_, ?_, ?_, ?_, ?_, fun E K => ?run⟩
  case run =>
    simp only [cc0_ffn_l3_eq_skeleton]; unfold cc0_ffn_l3_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14; obtain rfl := ha19.eq_unread hfs0; obtain rfl := ha20.eq_unread hfs1
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]
    · iexists _, _; isplitr; swap; · iexact H15
      ipureintro; rfl
    isplitl [H16]
    · iexists _, _; isplitr; swap; · iexact H16
      ipureintro; rfl
    isplitl [HS0]
    · iexists _; isplitr; · ipureintro; exact ha19.read_unread _
      iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

set_option maxHeartbeats 1000000 in
/-- The body, run at the first hidden block of a latent tile. -/
noncomputable def kernelRun0_D (hc0 : ¬cond0_0 i) (hc1 : cond0_1 i) (hc2 : ¬cond0_2 i) (hc3 : ¬cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) :
    Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ (∃ f, a19.view.loc (c : Thread nD τ) ↦[a19.view.set]{fullShare} a19.view.writes (Elt F) f LS0) ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨?_, ?_, ?_, ?_, ?_, ?_, ?_, fun E K => ?run⟩
  case run =>
    simp only [cc0_ffn_l3_eq_skeleton]; unfold cc0_ffn_l3_skel
    simp only [k0_part3_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]
    · iexists _, _; isplitr; swap; · iexact H15
      ipureintro; rfl
    isplitl [H16]
    · iexists _, _; isplitr; swap; · iexact H16
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

set_option maxHeartbeats 1000000 in
/-- The body, run at the last hidden block of a latent tile. -/
noncomputable def kernelRun0_E (hc0 : ¬cond0_0 i) (hc1 : ¬cond0_1 i) (hc2 : ¬cond0_2 i) (hc3 : cond0_3 i)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32) (xs0 : Vec F S1024x1024 .bf16) (xs1 : Vec F S1024x1024 .f32) :
    Σ' (LS0 : List (View.Piece (Elt F) S1024x1024 .bf16)), Σ' (LS1 : List (View.Piece (Elt F) S1024x1024 .f32)), Σ' (LT2 : List (View.Piece (Elt F) S1096x256 .f32)), Σ' (LT3 : List (View.Piece (Elt F) S1096x256 .f32)), Σ' (LT4 : List (View.Piece (Elt F) S1024x256 .bf16)), Σ' (LT5 : List (View.Piece (Elt F) S1024x256 .bf16)), { LT6 : List (View.Piece (Elt F) S256x1024 .bf16) //
      ∀ (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ owns (c : Thread nD τ) a19 fullShare xs0 ∗ owns (c : Thread nD τ) a20 fullShare xs1 ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ owns (c : Thread nD τ) a16 fullShare x14 ∗ (∃ d, owns (c : Thread nD τ) a17 fullShare d) ∗ (∃ d, owns (c : Thread nD τ) a18 fullShare d) ∗ owns (c : Thread nD τ) a19 fullShare xs0 ∗ (∃ f, a20.view.loc (c : Thread nD τ) ↦[a20.view.set]{fullShare} a20.view.writes (Elt F) f LS1) ∗ (∃ f, a21.view.loc (c : Thread nD τ) ↦[a21.view.set]{fullShare} a21.view.writes (Elt F) f LT2) ∗ (∃ f, a22.view.loc (c : Thread nD τ) ↦[a22.view.set]{fullShare} a22.view.writes (Elt F) f LT3) ∗ (∃ f, a23.view.loc (c : Thread nD τ) ↦[a23.view.set]{fullShare} a23.view.writes (Elt F) f LT4) ∗ (∃ f, a24.view.loc (c : Thread nD τ) ↦[a24.view.set]{fullShare} a24.view.writes (Elt F) f LT5) ∗ (∃ f, a25.view.loc (c : Thread nD τ) ↦[a25.view.set]{fullShare} a25.view.writes (Elt F) f LT6)) -∗ K ⟨⟩))
          ⊢ wp frame (wpE (defs₀ (F := F)) Variants.none c none) E (cc0_ffn_l3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K } := by
  refine ⟨[], ?_, ?_, ?_, ?_, ?_, ?_, fun E K => ?run⟩
  case run =>
    simp only [cc0_ffn_l3_eq_skeleton]; unfold cc0_ffn_l3_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha11.eq_unread hf9; obtain rfl := ha12.eq_unread hf10; obtain rfl := ha13.eq_unread hf11; obtain rfl := ha14.eq_unread hf12; obtain rfl := ha15.eq_unread hf13; obtain rfl := ha16.eq_unread hf14; obtain rfl := ha19.eq_unread hfs0; obtain rfl := ha20.eq_unread hfs1
    sl_exec (disch := first | sl_exact hc0 | sl_exact hc1 | sl_exact hc2 | sl_exact hc3)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]
    · iexists _; isplitr; · ipureintro; exact ha11.read_unread _
      iexact H9
    isplitl [H10]
    · iexists _; isplitr; · ipureintro; exact ha12.read_unread _
      iexact H10
    isplitl [H11]
    · iexists _; isplitr; · ipureintro; exact ha13.read_unread _
      iexact H11
    isplitl [H12]
    · iexists _; isplitr; · ipureintro; exact ha14.read_unread _
      iexact H12
    isplitl [H13]
    · iexists _; isplitr; · ipureintro; exact ha15.read_unread _
      iexact H13
    isplitl [H14]
    · iexists _; isplitr; · ipureintro; exact ha16.read_unread _
      iexact H14
    isplitl [H15]
    · iexists _, _; isplitr; swap; · iexact H15
      ipureintro; rfl
    isplitl [H16]
    · iexists _, _; isplitr; swap; · iexact H16
      ipureintro; rfl
    isplitl [HS0]
    · iexists _; isplitr; · ipureintro; exact ha19.read_unread _
      iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel3.Ffn

end
-- ==== Proof.FfnLastBitsState.lean ====
/- Layer 3 of the feed-forward call at the machine formats: what the outputs and the carried scratch hold after each point. -/
module

public import proofs.«01_k».proof.Proof.FfnLastBitsRuns
public import Idealize.ShloMosaic.Lib.Claim

@[expose] public section

set_option maxRecDepth 16384

noncomputable section

namespace Cert.Kernel3.Ffn

open Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem tl (t : Fin cfg0.N) : t.val - 1 < cfg0.N := Nat.lt_of_le_of_lt (Nat.sub_le _ _) t.isLt

variable (m : (ℓ : Loc nD τ sig) → Buf (Elt F) ℓ) (ρ : Dev nD → PrngReg)

/-- The run at point `t`, at the first hidden block of a context tile. -/
abbrev runA (c : Dev nD) (t : Fin cfg0.N) (hc0 : cond0_0 (grid0.coords t)) (hc1 : ¬cond0_1 (grid0.coords t)) (hc2 : ¬cond0_2 (grid0.coords t)) (hc3 : ¬cond0_3 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The run at point `t`, at the a hidden block in the middle. -/
abbrev runB (c : Dev nD) (t : Fin cfg0.N) (hc0 : ¬cond0_0 (grid0.coords t)) (hc1 : ¬cond0_1 (grid0.coords t)) (hc2 : ¬cond0_2 (grid0.coords t)) (hc3 : ¬cond0_3 (grid0.coords t)) (xs0 : Vec F S1024x1024 .bf16) (xs1 : Vec F S1024x1024 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs0 xs1

/-- The run at point `t`, at the last hidden block of a context tile. -/
abbrev runC (c : Dev nD) (t : Fin cfg0.N) (hc0 : ¬cond0_0 (grid0.coords t)) (hc1 : ¬cond0_1 (grid0.coords t)) (hc2 : cond0_2 (grid0.coords t)) (hc3 : ¬cond0_3 (grid0.coords t)) (xs0 : Vec F S1024x1024 .bf16) (xs1 : Vec F S1024x1024 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs0 xs1

/-- The run at point `t`, at the first hidden block of a latent tile. -/
abbrev runD (c : Dev nD) (t : Fin cfg0.N) (hc0 : ¬cond0_0 (grid0.coords t)) (hc1 : cond0_1 (grid0.coords t)) (hc2 : ¬cond0_2 (grid0.coords t)) (hc3 : ¬cond0_3 (grid0.coords t)) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The run at point `t`, at the last hidden block of a latent tile. -/
abbrev runE (c : Dev nD) (t : Fin cfg0.N) (hc0 : ¬cond0_0 (grid0.coords t)) (hc1 : ¬cond0_1 (grid0.coords t)) (hc2 : ¬cond0_2 (grid0.coords t)) (hc3 : cond0_3 (grid0.coords t)) (xs0 : Vec F S1024x1024 .bf16) (xs1 : Vec F S1024x1024 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs0 xs1

theorem scover0_A_0 (c : Dev nD) (t : Fin cfg0.N) (hc0 : cond0_0 (grid0.coords t)) (hc1 : ¬cond0_1 (grid0.coords t)) (hc2 : ¬cond0_2 (grid0.coords t)) (hc3 : ¬cond0_3 (grid0.coords t))
    (y : S1024x1024.Idx) :
    ∃ pc ∈ (runA m c t hc0 hc1 hc2 hc3).1, y ∈ pc.1.set :=
  View.cover_of_tiledL (runA m c t hc0 hc1 hc2 hc3).1 S1024x1024.size (by sl_kernel_rfl) y

/-- Scratch 0 after a point of case A. -/
def sout0_A_0 (c : Dev nD) (t : Fin cfg0.N) (hc0 : cond0_0 (grid0.coords t)) (hc1 : ¬cond0_1 (grid0.coords t)) (hc2 : ¬cond0_2 (grid0.coords t)) (hc3 : ¬cond0_3 (grid0.coords t))
    : Vec F S1024x1024 .bf16 :=
  VS0_0.read (Elt F) (VS0_0.writes (Elt F) VS0_0.junk (runA m c t hc0 hc1 hc2 hc3).1)

theorem scover0_A_1 (c : Dev nD) (t : Fin cfg0.N) (hc0 : cond0_0 (grid0.coords t)) (hc1 : ¬cond0_1 (grid0.coords t)) (hc2 : ¬cond0_2 (grid0.coords t)) (hc3 : ¬cond0_3 (grid0.coords t))
    (y : S1024x1024.Idx) :
    ∃ pc ∈ (runA m c t hc0 hc1 hc2 hc3).2.1, y ∈ pc.1.set :=
  View.cover_of_wholeMem (runA m c t hc0 hc1 hc2 hc3).2.1 (by sl_whole_mem) y

/-- Scratch 1 after a point of case A. -/
def sout0_A_1 (c : Dev nD) (t : Fin cfg0.N) (hc0 : cond0_0 (grid0.coords t)) (hc1 : ¬cond0_1 (grid0.coords t)) (hc2 : ¬cond0_2 (grid0.coords t)) (hc3 : ¬cond0_3 (grid0.coords t))
    : Vec F S1024x1024 .f32 :=
  VS0_1.read (Elt F) (VS0_1.writes (Elt F) VS0_1.junk (runA m c t hc0 hc1 hc2 hc3).2.1)

/-- Scratch 0 after a point of case B. -/
def sout0_B_0 (m : (ℓ : Loc nD τ sig) → Buf (Elt F) ℓ) (c : Dev nD) (t : Fin cfg0.N) (hc0 : ¬cond0_0 (grid0.coords t)) (hc1 : ¬cond0_1 (grid0.coords t)) (hc2 : ¬cond0_2 (grid0.coords t)) (hc3 : ¬cond0_3 (grid0.coords t))
    (xs0 : Vec F S1024x1024 .bf16) (xs1 : Vec F S1024x1024 .f32) : Vec F S1024x1024 .bf16 := xs0

theorem scover0_B_1 (c : Dev nD) (t : Fin cfg0.N) (hc0 : ¬cond0_0 (grid0.coords t)) (hc1 : ¬cond0_1 (grid0.coords t)) (hc2 : ¬cond0_2 (grid0.coords t)) (hc3 : ¬cond0_3 (grid0.coords t))
    (xs0 : Vec F S1024x1024 .bf16) (xs1 : Vec F S1024x1024 .f32) (y : S1024x1024.Idx) :
    ∃ pc ∈ (runB m c t hc0 hc1 hc2 hc3 xs0 xs1).2.1, y ∈ pc.1.set :=
  View.cover_of_tiledL (runB m c t hc0 hc1 hc2 hc3 xs0 xs1).2.1 S256x1024.size (by sl_kernel_rfl) y

/-- Scratch 1 after a point of case B. -/
def sout0_B_1 (c : Dev nD) (t : Fin cfg0.N) (hc0 : ¬cond0_0 (grid0.coords t)) (hc1 : ¬cond0_1 (grid0.coords t)) (hc2 : ¬cond0_2 (grid0.coords t)) (hc3 : ¬cond0_3 (grid0.coords t))
    (xs0 : Vec F S1024x1024 .bf16) (xs1 : Vec F S1024x1024 .f32) : Vec F S1024x1024 .f32 :=
  VS0_1.read (Elt F) (VS0_1.writes (Elt F) VS0_1.junk (runB m c t hc0 hc1 hc2 hc3 xs0 xs1).2.1)

/-- Scratch 0 after a point of case C. -/
def sout0_C_0 (m : (ℓ : Loc nD τ sig) → Buf (Elt F) ℓ) (c : Dev nD) (t : Fin cfg0.N) (hc0 : ¬cond0_0 (grid0.coords t)) (hc1 : ¬cond0_1 (grid0.coords t)) (hc2 : cond0_2 (grid0.coords t)) (hc3 : ¬cond0_3 (grid0.coords t))
    (xs0 : Vec F S1024x1024 .bf16) (xs1 : Vec F S1024x1024 .f32) : Vec F S1024x1024 .bf16 := xs0

theorem scover0_C_1 (c : Dev nD) (t : Fin cfg0.N) (hc0 : ¬cond0_0 (grid0.coords t)) (hc1 : ¬cond0_1 (grid0.coords t)) (hc2 : cond0_2 (grid0.coords t)) (hc3 : ¬cond0_3 (grid0.coords t))
    (xs0 : Vec F S1024x1024 .bf16) (xs1 : Vec F S1024x1024 .f32) (y : S1024x1024.Idx) :
    ∃ pc ∈ (runC m c t hc0 hc1 hc2 hc3 xs0 xs1).2.1, y ∈ pc.1.set :=
  View.cover_of_tiledL (runC m c t hc0 hc1 hc2 hc3 xs0 xs1).2.1 S256x1024.size (by sl_kernel_rfl) y

/-- Scratch 1 after a point of case C. -/
def sout0_C_1 (c : Dev nD) (t : Fin cfg0.N) (hc0 : ¬cond0_0 (grid0.coords t)) (hc1 : ¬cond0_1 (grid0.coords t)) (hc2 : cond0_2 (grid0.coords t)) (hc3 : ¬cond0_3 (grid0.coords t))
    (xs0 : Vec F S1024x1024 .bf16) (xs1 : Vec F S1024x1024 .f32) : Vec F S1024x1024 .f32 :=
  VS0_1.read (Elt F) (VS0_1.writes (Elt F) VS0_1.junk (runC m c t hc0 hc1 hc2 hc3 xs0 xs1).2.1)

theorem scover0_D_0 (c : Dev nD) (t : Fin cfg0.N) (hc0 : ¬cond0_0 (grid0.coords t)) (hc1 : cond0_1 (grid0.coords t)) (hc2 : ¬cond0_2 (grid0.coords t)) (hc3 : ¬cond0_3 (grid0.coords t))
    (y : S1024x1024.Idx) :
    ∃ pc ∈ (runD m c t hc0 hc1 hc2 hc3).1, y ∈ pc.1.set :=
  View.cover_of_tiledL (runD m c t hc0 hc1 hc2 hc3).1 S1024x1024.size (by sl_kernel_rfl) y

/-- Scratch 0 after a point of case D. -/
def sout0_D_0 (c : Dev nD) (t : Fin cfg0.N) (hc0 : ¬cond0_0 (grid0.coords t)) (hc1 : cond0_1 (grid0.coords t)) (hc2 : ¬cond0_2 (grid0.coords t)) (hc3 : ¬cond0_3 (grid0.coords t))
    : Vec F S1024x1024 .bf16 :=
  VS0_0.read (Elt F) (VS0_0.writes (Elt F) VS0_0.junk (runD m c t hc0 hc1 hc2 hc3).1)

theorem scover0_D_1 (c : Dev nD) (t : Fin cfg0.N) (hc0 : ¬cond0_0 (grid0.coords t)) (hc1 : cond0_1 (grid0.coords t)) (hc2 : ¬cond0_2 (grid0.coords t)) (hc3 : ¬cond0_3 (grid0.coords t))
    (y : S1024x1024.Idx) :
    ∃ pc ∈ (runD m c t hc0 hc1 hc2 hc3).2.1, y ∈ pc.1.set :=
  View.cover_of_wholeMem (runD m c t hc0 hc1 hc2 hc3).2.1 (by sl_whole_mem) y

/-- Scratch 1 after a point of case D. -/
def sout0_D_1 (c : Dev nD) (t : Fin cfg0.N) (hc0 : ¬cond0_0 (grid0.coords t)) (hc1 : cond0_1 (grid0.coords t)) (hc2 : ¬cond0_2 (grid0.coords t)) (hc3 : ¬cond0_3 (grid0.coords t))
    : Vec F S1024x1024 .f32 :=
  VS0_1.read (Elt F) (VS0_1.writes (Elt F) VS0_1.junk (runD m c t hc0 hc1 hc2 hc3).2.1)

/-- Scratch 0 after a point of case E. -/
def sout0_E_0 (m : (ℓ : Loc nD τ sig) → Buf (Elt F) ℓ) (c : Dev nD) (t : Fin cfg0.N) (hc0 : ¬cond0_0 (grid0.coords t)) (hc1 : ¬cond0_1 (grid0.coords t)) (hc2 : ¬cond0_2 (grid0.coords t)) (hc3 : cond0_3 (grid0.coords t))
    (xs0 : Vec F S1024x1024 .bf16) (xs1 : Vec F S1024x1024 .f32) : Vec F S1024x1024 .bf16 := xs0

theorem scover0_E_1 (c : Dev nD) (t : Fin cfg0.N) (hc0 : ¬cond0_0 (grid0.coords t)) (hc1 : ¬cond0_1 (grid0.coords t)) (hc2 : ¬cond0_2 (grid0.coords t)) (hc3 : cond0_3 (grid0.coords t))
    (xs0 : Vec F S1024x1024 .bf16) (xs1 : Vec F S1024x1024 .f32) (y : S1024x1024.Idx) :
    ∃ pc ∈ (runE m c t hc0 hc1 hc2 hc3 xs0 xs1).2.1, y ∈ pc.1.set :=
  View.cover_of_tiledL (runE m c t hc0 hc1 hc2 hc3 xs0 xs1).2.1 S256x1024.size (by sl_kernel_rfl) y

/-- Scratch 1 after a point of case E. -/
def sout0_E_1 (c : Dev nD) (t : Fin cfg0.N) (hc0 : ¬cond0_0 (grid0.coords t)) (hc1 : ¬cond0_1 (grid0.coords t)) (hc2 : ¬cond0_2 (grid0.coords t)) (hc3 : cond0_3 (grid0.coords t))
    (xs0 : Vec F S1024x1024 .bf16) (xs1 : Vec F S1024x1024 .f32) : Vec F S1024x1024 .f32 :=
  VS0_1.read (Elt F) (VS0_1.writes (Elt F) VS0_1.junk (runE m c t hc0 hc1 hc2 hc3 xs0 xs1).2.1)

/-- What the carried memrefs hold after each point. -/
def outsAt0 (c : Dev nD) : (n : ℕ) → n < cfg0.N → Vec F S1024x1024 .bf16 × Vec F S1024x1024 .f32
  | 0, hn => (sout0_A_0 m c ⟨0, hn⟩ ((hcond0_0 ⟨0, hn⟩).mpr (by (try dsimp only) <;> omega)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)), sout0_A_1 m c ⟨0, hn⟩ ((hcond0_0 ⟨0, hn⟩).mpr (by (try dsimp only) <;> omega)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)))
  | n + 1, hn =>
    if h0 : (n + 1) / 11 % 16 + 8 * ((n + 1) % 11) ≤ 7 then
      if h1 : 8 * ((n + 1) % 11) + 8 ≤ (n + 1) / 11 % 16 then
        False.elim (by have hN : n + 1 < 176 := lt_of_lt_of_eq hn (show cfg0.N = 176 from N_0); omega)
      else
        if h2 : (n + 1) / 11 % 16 + 73 ≤ 8 * ((n + 1) % 11) then
          False.elim (by have hN : n + 1 < 176 := lt_of_lt_of_eq hn (show cfg0.N = 176 from N_0); omega)
        else
          if h3 : 88 ≤ (n + 1) / 11 % 16 + 8 * ((n + 1) % 11) then
            False.elim (by have hN : n + 1 < 176 := lt_of_lt_of_eq hn (show cfg0.N = 176 from N_0); omega)
          else
            (sout0_A_0 m c ⟨n + 1, hn⟩ ((hcond0_0 ⟨n + 1, hn⟩).mpr h0) (mt (hcond0_1 ⟨n + 1, hn⟩).mp h1) (mt (hcond0_2 ⟨n + 1, hn⟩).mp h2) (mt (hcond0_3 ⟨n + 1, hn⟩).mp h3), sout0_A_1 m c ⟨n + 1, hn⟩ ((hcond0_0 ⟨n + 1, hn⟩).mpr h0) (mt (hcond0_1 ⟨n + 1, hn⟩).mp h1) (mt (hcond0_2 ⟨n + 1, hn⟩).mp h2) (mt (hcond0_3 ⟨n + 1, hn⟩).mp h3))
    else
      if h1 : 8 * ((n + 1) % 11) + 8 ≤ (n + 1) / 11 % 16 then
        if h2 : (n + 1) / 11 % 16 + 73 ≤ 8 * ((n + 1) % 11) then
          False.elim (by have hN : n + 1 < 176 := lt_of_lt_of_eq hn (show cfg0.N = 176 from N_0); omega)
        else
          if h3 : 88 ≤ (n + 1) / 11 % 16 + 8 * ((n + 1) % 11) then
            False.elim (by have hN : n + 1 < 176 := lt_of_lt_of_eq hn (show cfg0.N = 176 from N_0); omega)
          else
            (sout0_D_0 m c ⟨n + 1, hn⟩ (mt (hcond0_0 ⟨n + 1, hn⟩).mp h0) ((hcond0_1 ⟨n + 1, hn⟩).mpr h1) (mt (hcond0_2 ⟨n + 1, hn⟩).mp h2) (mt (hcond0_3 ⟨n + 1, hn⟩).mp h3), sout0_D_1 m c ⟨n + 1, hn⟩ (mt (hcond0_0 ⟨n + 1, hn⟩).mp h0) ((hcond0_1 ⟨n + 1, hn⟩).mpr h1) (mt (hcond0_2 ⟨n + 1, hn⟩).mp h2) (mt (hcond0_3 ⟨n + 1, hn⟩).mp h3))
      else
        if h2 : (n + 1) / 11 % 16 + 73 ≤ 8 * ((n + 1) % 11) then
          if h3 : 88 ≤ (n + 1) / 11 % 16 + 8 * ((n + 1) % 11) then
            False.elim (by have hN : n + 1 < 176 := lt_of_lt_of_eq hn (show cfg0.N = 176 from N_0); omega)
          else
            (sout0_C_0 m c ⟨n + 1, hn⟩ (mt (hcond0_0 ⟨n + 1, hn⟩).mp h0) (mt (hcond0_1 ⟨n + 1, hn⟩).mp h1) ((hcond0_2 ⟨n + 1, hn⟩).mpr h2) (mt (hcond0_3 ⟨n + 1, hn⟩).mp h3) (outsAt0 c n (Nat.lt_of_succ_lt hn)).1 (outsAt0 c n (Nat.lt_of_succ_lt hn)).2, sout0_C_1 m c ⟨n + 1, hn⟩ (mt (hcond0_0 ⟨n + 1, hn⟩).mp h0) (mt (hcond0_1 ⟨n + 1, hn⟩).mp h1) ((hcond0_2 ⟨n + 1, hn⟩).mpr h2) (mt (hcond0_3 ⟨n + 1, hn⟩).mp h3) (outsAt0 c n (Nat.lt_of_succ_lt hn)).1 (outsAt0 c n (Nat.lt_of_succ_lt hn)).2)
        else
          if h3 : 88 ≤ (n + 1) / 11 % 16 + 8 * ((n + 1) % 11) then
            (sout0_E_0 m c ⟨n + 1, hn⟩ (mt (hcond0_0 ⟨n + 1, hn⟩).mp h0) (mt (hcond0_1 ⟨n + 1, hn⟩).mp h1) (mt (hcond0_2 ⟨n + 1, hn⟩).mp h2) ((hcond0_3 ⟨n + 1, hn⟩).mpr h3) (outsAt0 c n (Nat.lt_of_succ_lt hn)).1 (outsAt0 c n (Nat.lt_of_succ_lt hn)).2, sout0_E_1 m c ⟨n + 1, hn⟩ (mt (hcond0_0 ⟨n + 1, hn⟩).mp h0) (mt (hcond0_1 ⟨n + 1, hn⟩).mp h1) (mt (hcond0_2 ⟨n + 1, hn⟩).mp h2) ((hcond0_3 ⟨n + 1, hn⟩).mpr h3) (outsAt0 c n (Nat.lt_of_succ_lt hn)).1 (outsAt0 c n (Nat.lt_of_succ_lt hn)).2)
          else
            (sout0_B_0 m c ⟨n + 1, hn⟩ (mt (hcond0_0 ⟨n + 1, hn⟩).mp h0) (mt (hcond0_1 ⟨n + 1, hn⟩).mp h1) (mt (hcond0_2 ⟨n + 1, hn⟩).mp h2) (mt (hcond0_3 ⟨n + 1, hn⟩).mp h3) (outsAt0 c n (Nat.lt_of_succ_lt hn)).1 (outsAt0 c n (Nat.lt_of_succ_lt hn)).2, sout0_B_1 m c ⟨n + 1, hn⟩ (mt (hcond0_0 ⟨n + 1, hn⟩).mp h0) (mt (hcond0_1 ⟨n + 1, hn⟩).mp h1) (mt (hcond0_2 ⟨n + 1, hn⟩).mp h2) (mt (hcond0_3 ⟨n + 1, hn⟩).mp h3) (outsAt0 c n (Nat.lt_of_succ_lt hn)).1 (outsAt0 c n (Nat.lt_of_succ_lt hn)).2)

theorem outsAt0_A (c : Dev nD) (t : Fin cfg0.N) (h0 : t.val / 11 % 16 + 8 * (t.val % 11) ≤ 7) (h1 : ¬8 * (t.val % 11) + 8 ≤ t.val / 11 % 16) (h2 : ¬t.val / 11 % 16 + 73 ≤ 8 * (t.val % 11)) (h3 : ¬88 ≤ t.val / 11 % 16 + 8 * (t.val % 11)) :
    outsAt0 m c t.val t.isLt = (sout0_A_0 m c t ((hcond0_0 t).mpr h0) (mt (hcond0_1 t).mp h1) (mt (hcond0_2 t).mp h2) (mt (hcond0_3 t).mp h3), sout0_A_1 m c t ((hcond0_0 t).mpr h0) (mt (hcond0_1 t).mp h1) (mt (hcond0_2 t).mp h2) (mt (hcond0_3 t).mp h3)) := by
  obtain ⟨n, hn⟩ := t
  cases n with
  | zero => exact rfl
  | succ n => exact (dif_pos h0).trans ((dif_neg h1).trans ((dif_neg h2).trans ((dif_neg h3).trans rfl)))

theorem outsAt0_B (c : Dev nD) (t : Fin cfg0.N) (h0 : ¬t.val / 11 % 16 + 8 * (t.val % 11) ≤ 7) (h1 : ¬8 * (t.val % 11) + 8 ≤ t.val / 11 % 16) (h2 : ¬t.val / 11 % 16 + 73 ≤ 8 * (t.val % 11)) (h3 : ¬88 ≤ t.val / 11 % 16 + 8 * (t.val % 11)) :
    outsAt0 m c t.val t.isLt = (sout0_B_0 m c t (mt (hcond0_0 t).mp h0) (mt (hcond0_1 t).mp h1) (mt (hcond0_2 t).mp h2) (mt (hcond0_3 t).mp h3) (outsAt0 m c (t.val - 1) (tl t)).1 (outsAt0 m c (t.val - 1) (tl t)).2, sout0_B_1 m c t (mt (hcond0_0 t).mp h0) (mt (hcond0_1 t).mp h1) (mt (hcond0_2 t).mp h2) (mt (hcond0_3 t).mp h3) (outsAt0 m c (t.val - 1) (tl t)).1 (outsAt0 m c (t.val - 1) (tl t)).2) := by
  obtain ⟨n, hn⟩ := t
  cases n with
  | zero => exact (by exfalso; (try dsimp only at h0); exact by omega)
  | succ n => exact (dif_neg h0).trans ((dif_neg h1).trans ((dif_neg h2).trans ((dif_neg h3).trans rfl)))

theorem outsAt0_C (c : Dev nD) (t : Fin cfg0.N) (h0 : ¬t.val / 11 % 16 + 8 * (t.val % 11) ≤ 7) (h1 : ¬8 * (t.val % 11) + 8 ≤ t.val / 11 % 16) (h2 : t.val / 11 % 16 + 73 ≤ 8 * (t.val % 11)) (h3 : ¬88 ≤ t.val / 11 % 16 + 8 * (t.val % 11)) :
    outsAt0 m c t.val t.isLt = (sout0_C_0 m c t (mt (hcond0_0 t).mp h0) (mt (hcond0_1 t).mp h1) ((hcond0_2 t).mpr h2) (mt (hcond0_3 t).mp h3) (outsAt0 m c (t.val - 1) (tl t)).1 (outsAt0 m c (t.val - 1) (tl t)).2, sout0_C_1 m c t (mt (hcond0_0 t).mp h0) (mt (hcond0_1 t).mp h1) ((hcond0_2 t).mpr h2) (mt (hcond0_3 t).mp h3) (outsAt0 m c (t.val - 1) (tl t)).1 (outsAt0 m c (t.val - 1) (tl t)).2) := by
  obtain ⟨n, hn⟩ := t
  cases n with
  | zero => exact (by exfalso; (try dsimp only at h0); exact by omega)
  | succ n => exact (dif_neg h0).trans ((dif_neg h1).trans ((dif_pos h2).trans ((dif_neg h3).trans rfl)))

theorem outsAt0_D (c : Dev nD) (t : Fin cfg0.N) (h0 : ¬t.val / 11 % 16 + 8 * (t.val % 11) ≤ 7) (h1 : 8 * (t.val % 11) + 8 ≤ t.val / 11 % 16) (h2 : ¬t.val / 11 % 16 + 73 ≤ 8 * (t.val % 11)) (h3 : ¬88 ≤ t.val / 11 % 16 + 8 * (t.val % 11)) :
    outsAt0 m c t.val t.isLt = (sout0_D_0 m c t (mt (hcond0_0 t).mp h0) ((hcond0_1 t).mpr h1) (mt (hcond0_2 t).mp h2) (mt (hcond0_3 t).mp h3), sout0_D_1 m c t (mt (hcond0_0 t).mp h0) ((hcond0_1 t).mpr h1) (mt (hcond0_2 t).mp h2) (mt (hcond0_3 t).mp h3)) := by
  obtain ⟨n, hn⟩ := t
  cases n with
  | zero => exact (by exfalso; (try dsimp only at h0); exact by omega)
  | succ n => exact (dif_neg h0).trans ((dif_pos h1).trans ((dif_neg h2).trans ((dif_neg h3).trans rfl)))

theorem outsAt0_E (c : Dev nD) (t : Fin cfg0.N) (h0 : ¬t.val / 11 % 16 + 8 * (t.val % 11) ≤ 7) (h1 : ¬8 * (t.val % 11) + 8 ≤ t.val / 11 % 16) (h2 : ¬t.val / 11 % 16 + 73 ≤ 8 * (t.val % 11)) (h3 : 88 ≤ t.val / 11 % 16 + 8 * (t.val % 11)) :
    outsAt0 m c t.val t.isLt = (sout0_E_0 m c t (mt (hcond0_0 t).mp h0) (mt (hcond0_1 t).mp h1) (mt (hcond0_2 t).mp h2) ((hcond0_3 t).mpr h3) (outsAt0 m c (t.val - 1) (tl t)).1 (outsAt0 m c (t.val - 1) (tl t)).2, sout0_E_1 m c t (mt (hcond0_0 t).mp h0) (mt (hcond0_1 t).mp h1) (mt (hcond0_2 t).mp h2) ((hcond0_3 t).mpr h3) (outsAt0 m c (t.val - 1) (tl t)).1 (outsAt0 m c (t.val - 1) (tl t)).2) := by
  obtain ⟨n, hn⟩ := t
  cases n with
  | zero => exact (by exfalso; (try dsimp only at h0); exact by omega)
  | succ n => exact (dif_neg h0).trans ((dif_neg h1).trans ((dif_neg h2).trans ((dif_pos h3).trans rfl)))

/-- What the sweep keeps between two points. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

def forgets0 : Fin 17 → Bool := fun w => w.val == 15 || w.val == 16

/-- The sweep's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]

theorem after0_1 (c : Dev nD) (t : Fin cfg0.N) : (dats m 0 c).after 1 t = iblk m c 1 t := by dsimp only [dats]

theorem after0_2 (c : Dev nD) (t : Fin cfg0.N) : (dats m 0 c).after 2 t = iblk m c 2 t := by dsimp only [dats]

theorem after0_3 (c : Dev nD) (t : Fin cfg0.N) : (dats m 0 c).after 3 t = iblk m c 3 t := by dsimp only [dats]

theorem after0_4 (c : Dev nD) (t : Fin cfg0.N) : (dats m 0 c).after 4 t = iblk m c 4 t := by dsimp only [dats]

theorem after0_5 (c : Dev nD) (t : Fin cfg0.N) : (dats m 0 c).after 5 t = iblk m c 5 t := by dsimp only [dats]

theorem after0_6 (c : Dev nD) (t : Fin cfg0.N) : (dats m 0 c).after 6 t = iblk m c 6 t := by dsimp only [dats]

theorem after0_7 (c : Dev nD) (t : Fin cfg0.N) : (dats m 0 c).after 7 t = iblk m c 7 t := by dsimp only [dats]

theorem after0_8 (c : Dev nD) (t : Fin cfg0.N) : (dats m 0 c).after 8 t = iblk m c 8 t := by dsimp only [dats]

theorem after0_9 (c : Dev nD) (t : Fin cfg0.N) : (dats m 0 c).after 9 t = iblk m c 9 t := by dsimp only [dats]

theorem after0_10 (c : Dev nD) (t : Fin cfg0.N) : (dats m 0 c).after 10 t = iblk m c 10 t := by dsimp only [dats]

theorem after0_11 (c : Dev nD) (t : Fin cfg0.N) : (dats m 0 c).after 11 t = iblk m c 11 t := by dsimp only [dats]

theorem after0_12 (c : Dev nD) (t : Fin cfg0.N) : (dats m 0 c).after 12 t = iblk m c 12 t := by dsimp only [dats]

theorem after0_13 (c : Dev nD) (t : Fin cfg0.N) : (dats m 0 c).after 13 t = iblk m c 13 t := by dsimp only [dats]

theorem after0_14 (c : Dev nD) (t : Fin cfg0.N) : (dats m 0 c).after 14 t = iblk m c 14 t := by dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

theorem before0_2 (c : Dev nD) (t : Fin cfg0.N) (d) : (dats m 0 c).before 2 t d = iblk m c 2 t :=
  before0_2_of m (dats m 0 c) (A_eq m c 2) (after0_2 m c) t d

theorem before0_3 (c : Dev nD) (t : Fin cfg0.N) (d) : (dats m 0 c).before 3 t d = iblk m c 3 t :=
  before0_3_of m (dats m 0 c) (A_eq m c 3) (after0_3 m c) t d

theorem before0_4 (c : Dev nD) (t : Fin cfg0.N) (d) : (dats m 0 c).before 4 t d = iblk m c 4 t :=
  before0_4_of m (dats m 0 c) (A_eq m c 4) (after0_4 m c) t d

theorem before0_5 (c : Dev nD) (t : Fin cfg0.N) (d) : (dats m 0 c).before 5 t d = iblk m c 5 t :=
  before0_5_of m (dats m 0 c) (A_eq m c 5) (after0_5 m c) t d

theorem before0_6 (c : Dev nD) (t : Fin cfg0.N) (d) : (dats m 0 c).before 6 t d = iblk m c 6 t :=
  before0_6_of m (dats m 0 c) (A_eq m c 6) (after0_6 m c) t d

theorem before0_7 (c : Dev nD) (t : Fin cfg0.N) (d) : (dats m 0 c).before 7 t d = iblk m c 7 t :=
  before0_7_of m (dats m 0 c) (A_eq m c 7) (after0_7 m c) t d

theorem before0_8 (c : Dev nD) (t : Fin cfg0.N) (d) : (dats m 0 c).before 8 t d = iblk m c 8 t :=
  before0_8_of m (dats m 0 c) (A_eq m c 8) (after0_8 m c) t d

theorem before0_9 (c : Dev nD) (t : Fin cfg0.N) (d) : (dats m 0 c).before 9 t d = iblk m c 9 t :=
  before0_9_of m (dats m 0 c) (A_eq m c 9) (after0_9 m c) t d

theorem before0_10 (c : Dev nD) (t : Fin cfg0.N) (d) : (dats m 0 c).before 10 t d = iblk m c 10 t :=
  before0_10_of m (dats m 0 c) (A_eq m c 10) (after0_10 m c) t d

theorem before0_11 (c : Dev nD) (t : Fin cfg0.N) (d) : (dats m 0 c).before 11 t d = iblk m c 11 t :=
  before0_11_of m (dats m 0 c) (A_eq m c 11) (after0_11 m c) t d

theorem before0_12 (c : Dev nD) (t : Fin cfg0.N) (d) : (dats m 0 c).before 12 t d = iblk m c 12 t :=
  before0_12_of m (dats m 0 c) (A_eq m c 12) (after0_12 m c) t d

theorem before0_13 (c : Dev nD) (t : Fin cfg0.N) (d) : (dats m 0 c).before 13 t d = iblk m c 13 t :=
  before0_13_of m (dats m 0 c) (A_eq m c 13) (after0_13 m c) t d

theorem before0_14 (c : Dev nD) (t : Fin cfg0.N) (d) : (dats m 0 c).before 14 t d = iblk m c 14 t :=
  before0_14_of m (dats m 0 c) (A_eq m c 14) (after0_14 m c) t d

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]
theorem leaves0_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after0_7]
theorem leaves0_8 (c : Dev nD) (t : Fin cfg0.N) : (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by
    unfold Dat.leavesExact; rw [liveAt0_8 t], after0_8]
theorem leaves0_9 (c : Dev nD) (t : Fin cfg0.N) : (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by
    unfold Dat.leavesExact; rw [liveAt0_9 t], after0_9]
theorem leaves0_10 (c : Dev nD) (t : Fin cfg0.N) : (dats m 0 c).leavesExact 10 t = owns (c : Thread nD τ) (ms0_10 t) fullShare (iblk m c 10 t) := by
  rw [show (dats m 0 c).leavesExact 10 t = owns (c : Thread nD τ) (ms0_10 t) fullShare ((dats m 0 c).after 10 t) from by
    unfold Dat.leavesExact; rw [liveAt0_10 t], after0_10]
theorem leaves0_11 (c : Dev nD) (t : Fin cfg0.N) : (dats m 0 c).leavesExact 11 t = owns (c : Thread nD τ) (ms0_11 t) fullShare (iblk m c 11 t) := by
  rw [show (dats m 0 c).leavesExact 11 t = owns (c : Thread nD τ) (ms0_11 t) fullShare ((dats m 0 c).after 11 t) from by
    unfold Dat.leavesExact; rw [liveAt0_11 t], after0_11]
theorem leaves0_12 (c : Dev nD) (t : Fin cfg0.N) : (dats m 0 c).leavesExact 12 t = owns (c : Thread nD τ) (ms0_12 t) fullShare (iblk m c 12 t) := by
  rw [show (dats m 0 c).leavesExact 12 t = owns (c : Thread nD τ) (ms0_12 t) fullShare ((dats m 0 c).after 12 t) from by
    unfold Dat.leavesExact; rw [liveAt0_12 t], after0_12]
theorem leaves0_13 (c : Dev nD) (t : Fin cfg0.N) : (dats m 0 c).leavesExact 13 t = owns (c : Thread nD τ) (ms0_13 t) fullShare (iblk m c 13 t) := by
  rw [show (dats m 0 c).leavesExact 13 t = owns (c : Thread nD τ) (ms0_13 t) fullShare ((dats m 0 c).after 13 t) from by
    unfold Dat.leavesExact; rw [liveAt0_13 t], after0_13]
theorem leaves0_14 (c : Dev nD) (t : Fin cfg0.N) : (dats m 0 c).leavesExact 14 t = owns (c : Thread nD τ) (ms0_14 t) fullShare (iblk m c 14 t) := by
  rw [show (dats m 0 c).leavesExact 14 t = owns (c : Thread nD τ) (ms0_14 t) fullShare ((dats m 0 c).after 14 t) from by
    unfold Dat.leavesExact; rw [liveAt0_14 t], after0_14]

end Cert.Kernel3.Ffn

end
-- ==== Proof.FfnLastBitsFrame.lean ====
/- Layer 3 of the feed-forward call at the machine formats: the body at any point, the whole run, and the frame. -/
module

public import proofs.«01_k».proof.Proof.FfnLastBitsState

@[expose] public section

set_option maxRecDepth 16384

noncomputable section

namespace Cert.Kernel3.Ffn

open Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What a point starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d))

/-- What a point leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d)
    ∗ (∃ d, owns (c : Thread nD τ) (ms0_16 t) fullShare d))

set_option maxHeartbeats 48000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  by_cases h0 : t.val / 11 % 16 + 8 * (t.val % 11) ≤ 7
  · by_cases h1 : 8 * (t.val % 11) + 8 ≤ t.val / 11 % 16
    · exfalso; omega
    · by_cases h2 : t.val / 11 % 16 + 73 ≤ 8 * (t.val % 11)
      · exfalso; omega
      · by_cases h3 : 88 ≤ t.val / 11 % 16 + 8 * (t.val % 11)
        · exfalso; omega
        · rw [leaves0_0, leaves0_1, leaves0_2, leaves0_3, leaves0_4, leaves0_5, leaves0_6, leaves0_7, leaves0_8, leaves0_9, leaves0_10, leaves0_11, leaves0_12, leaves0_13, leaves0_14]
          by_cases hz : t.val = 0
          · rw [PhiS_castSucc m c t, PhiS_zero m c _ _ hz, PhiA0_eq]
            rw [outsAt0_A m c t h0 h1 h2 h3]
            unfold sout0_A_0 sout0_A_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runA m c t ((hcond0_0 t).mpr h0) (mt (hcond0_1 t).mp h1) (mt (hcond0_2 t).mp h2) (mt (hcond0_3 t).mp h3)).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexists _; iexact H16
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, H16, ⟨%es0, HS0⟩, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · unfold owns; iexists _; isplitr
                  swap; · iexact HS0
                  ipureintro; exact View.read_writes_of_cover _ _ _ _ _ (scover0_A_0 m c t _ _ _ _)
                isplitl [HS1]
                · unfold owns; iexists _; isplitr
                  swap; · iexact HS1
                  ipureintro; exact View.read_writes_of_cover _ _ _ _ _ (scover0_A_1 m c t _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            iexact H16
          · rw [PhiS_castSucc m c t, PhiS_pos m c _ _ hz]
            rw [outsAt0_A m c t h0 h1 h2 h3]
            unfold sout0_A_0 sout0_A_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runA m c t ((hcond0_0 t).mpr h0) (mt (hcond0_1 t).mp h1) (mt (hcond0_2 t).mp h2) (mt (hcond0_3 t).mp h3)).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexists _; iexact H16
            isplitl [HS0]; · iexists _; iexact HS0
            isplitl [HS1]; · iexists _; iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, H16, ⟨%es0, HS0⟩, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · unfold owns; iexists _; isplitr
                  swap; · iexact HS0
                  ipureintro; exact View.read_writes_of_cover _ _ _ _ _ (scover0_A_0 m c t _ _ _ _)
                isplitl [HS1]
                · unfold owns; iexists _; isplitr
                  swap; · iexact HS1
                  ipureintro; exact View.read_writes_of_cover _ _ _ _ _ (scover0_A_1 m c t _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            iexact H16
  · by_cases h1 : 8 * (t.val % 11) + 8 ≤ t.val / 11 % 16
    · by_cases h2 : t.val / 11 % 16 + 73 ≤ 8 * (t.val % 11)
      · exfalso; omega
      · by_cases h3 : 88 ≤ t.val / 11 % 16 + 8 * (t.val % 11)
        · exfalso; omega
        · rw [leaves0_0, leaves0_1, leaves0_2, leaves0_3, leaves0_4, leaves0_5, leaves0_6, leaves0_7, leaves0_8, leaves0_9, leaves0_10, leaves0_11, leaves0_12, leaves0_13, leaves0_14]
          by_cases hz : t.val = 0
          · exfalso; have hN : t.val < 176 := lt_of_lt_of_eq t.isLt (show cfg0.N = 176 from N_0); omega
          · rw [PhiS_castSucc m c t, PhiS_pos m c _ _ hz]
            rw [outsAt0_D m c t h0 h1 h2 h3]
            unfold sout0_D_0 sout0_D_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runD m c t (mt (hcond0_0 t).mp h0) ((hcond0_1 t).mpr h1) (mt (hcond0_2 t).mp h2) (mt (hcond0_3 t).mp h3)).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexists _; iexact H16
            isplitl [HS0]; · iexists _; iexact HS0
            isplitl [HS1]; · iexists _; iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, H16, ⟨%es0, HS0⟩, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · unfold owns; iexists _; isplitr
                  swap; · iexact HS0
                  ipureintro; exact View.read_writes_of_cover _ _ _ _ _ (scover0_D_0 m c t _ _ _ _)
                isplitl [HS1]
                · unfold owns; iexists _; isplitr
                  swap; · iexact HS1
                  ipureintro; exact View.read_writes_of_cover _ _ _ _ _ (scover0_D_1 m c t _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            iexact H16
    · by_cases h2 : t.val / 11 % 16 + 73 ≤ 8 * (t.val % 11)
      · by_cases h3 : 88 ≤ t.val / 11 % 16 + 8 * (t.val % 11)
        · exfalso; omega
        · rw [leaves0_0, leaves0_1, leaves0_2, leaves0_3, leaves0_4, leaves0_5, leaves0_6, leaves0_7, leaves0_8, leaves0_9, leaves0_10, leaves0_11, leaves0_12, leaves0_13, leaves0_14]
          by_cases hz : t.val = 0
          · exfalso; have hN : t.val < 176 := lt_of_lt_of_eq t.isLt (show cfg0.N = 176 from N_0); omega
          · rw [PhiS_castSucc m c t, PhiS_pos m c _ _ hz]
            rw [outsAt0_C m c t h0 h1 h2 h3]
            unfold sout0_C_0 sout0_C_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runC m c t (mt (hcond0_0 t).mp h0) (mt (hcond0_1 t).mp h1) ((hcond0_2 t).mpr h2) (mt (hcond0_3 t).mp h3) _ _).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexists _; iexact H16
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, H16, HS0, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · iexact HS0
                isplitl [HS1]
                · unfold owns; iexists _; isplitr
                  swap; · iexact HS1
                  ipureintro; exact View.read_writes_of_cover _ _ _ _ _ (scover0_C_1 m c t _ _ _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            iexact H16
      · by_cases h3 : 88 ≤ t.val / 11 % 16 + 8 * (t.val % 11)
        · rw [leaves0_0, leaves0_1, leaves0_2, leaves0_3, leaves0_4, leaves0_5, leaves0_6, leaves0_7, leaves0_8, leaves0_9, leaves0_10, leaves0_11, leaves0_12, leaves0_13, leaves0_14]
          by_cases hz : t.val = 0
          · exfalso; have hN : t.val < 176 := lt_of_lt_of_eq t.isLt (show cfg0.N = 176 from N_0); omega
          · rw [PhiS_castSucc m c t, PhiS_pos m c _ _ hz]
            rw [outsAt0_E m c t h0 h1 h2 h3]
            unfold sout0_E_0 sout0_E_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runE m c t (mt (hcond0_0 t).mp h0) (mt (hcond0_1 t).mp h1) (mt (hcond0_2 t).mp h2) ((hcond0_3 t).mpr h3) _ _).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexists _; iexact H16
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, H16, HS0, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · iexact HS0
                isplitl [HS1]
                · unfold owns; iexists _; isplitr
                  swap; · iexact HS1
                  ipureintro; exact View.read_writes_of_cover _ _ _ _ _ (scover0_E_1 m c t _ _ _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            iexact H16
        · rw [leaves0_0, leaves0_1, leaves0_2, leaves0_3, leaves0_4, leaves0_5, leaves0_6, leaves0_7, leaves0_8, leaves0_9, leaves0_10, leaves0_11, leaves0_12, leaves0_13, leaves0_14]
          by_cases hz : t.val = 0
          · exfalso; have hN : t.val < 176 := lt_of_lt_of_eq t.isLt (show cfg0.N = 176 from N_0); omega
          · rw [PhiS_castSucc m c t, PhiS_pos m c _ _ hz]
            rw [outsAt0_B m c t h0 h1 h2 h3]
            unfold sout0_B_0 sout0_B_1; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((runB m c t (mt (hcond0_0 t).mp h0) (mt (hcond0_1 t).mp h1) (mt (hcond0_2 t).mp h2) (mt (hcond0_3 t).mp h3) _ _).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexists _; iexact H16
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, H15, H16, HS0, ⟨%es1, HS1⟩, ⟨%fT2, HS2⟩, ⟨%fT3, HS3⟩, ⟨%fT4, HS4⟩, ⟨%fT5, HS5⟩, ⟨%fT6, HS6⟩⟩
            isplitl [HS0 HS1 HS2 HS3 HS4 HS5 HS6 Hg]
            · isplitl [HS0 HS1 HS2 HS3 HS4 HS5 HS6]
              · isplitl [HS0]
                · iexact HS0
                isplitl [HS1]
                · unfold owns; iexists _; isplitr
                  swap; · iexact HS1
                  ipureintro; exact View.read_writes_of_cover _ _ _ _ _ (scover0_B_1 m c t _ _ _ _ _ _)
                isplitl [HS2]
                · iexists _; unfold owns; iexists _; isplitr
                  swap; · iexact HS2
                  ipureintro; rfl
                isplitl [HS3]
                · iexists _; unfold owns; iexists _; isplitr
                  swap; · iexact HS3
                  ipureintro; rfl
                isplitl [HS4]
                · iexists _; unfold owns; iexists _; isplitr
                  swap; · iexact HS4
                  ipureintro; rfl
                isplitl [HS5]
                · iexists _; unfold owns; iexists _; isplitr
                  swap; · iexact HS5
                  ipureintro; rfl
                iexists _; unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    iexact HS6
  iexact Hg

theorem hout (c : Dev nD) : (dats m 0 c).Φ (Fin.last cfg0.N) ⊢ Pipeline.ΦA spec0 c :=
  Phi_out m c _ (by rw [Fin.val_last]; have : cfg0.N = 176 := N_0; omega)

set_option backward.isDefEq.respectTransparency.types false in

theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r (h : Pipeline.RDat.FramePost (cfgs 0) (fun c => (dats m 0 c).toRForget forgets0) (V m) r) c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 7 rfl).trans ((A_eq m c 7).trans (V_main_arg8 m c)),
      ((h c).2 main_arg9 (Pipeline.mem_restRefs_of main_arg9 (by decide) (by decide))).trans (V_main_arg9 m c),
      (Pipeline.RDat.FramePost.arr_in h c 11 rfl).trans ((A_eq m c 11).trans (V_main_arg10 m c)),
      ((h c).2 main_arg11 (Pipeline.mem_restRefs_of main_arg11 (by decide) (by decide))).trans (V_main_arg11 m c),
      (Pipeline.RDat.FramePost.arr_in h c 14 rfl).trans ((A_eq m c 14).trans (V_main_arg12 m c))⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel3.Ffn

end
-- ==== Proof.FfnLastPieces.lean ====
module

public import proofs.«01_k».proof.Proof.FfnLastState
public import proofs.«01_k».proof.Proof.FfnRead

@[expose] public section

/-! Layer 3 of the feed-forward call: what a grid point leaves in its buffers, in the terms already used for layer 2. -/

set_option maxRecDepth 16384
noncomputable section
namespace Cert.Kernel3Ideal.Ffn
open Cert.Kernel3Ideal Cert.Kernel3Ideal.Gen Idealize.ShloMosaic Idealize.ShloMosaic.TcCoe Idealize.SL.Sem Idealize.ShloMosaic.Tactic
open Cert.Kernel2Ideal.Ffn (accPieces xNew xNorm act Wts readCov_ld ld_skip)

variable {F : FTy → Type} [FloatOps F]

/-- Is the row tile one of the lattice frames? -/
def isLat (i : grid0.Coords) : BitVec 1 := Scalar.cmpi .sge (BitVec.ofNat 32 (i 0).val) 8#32

/-! The body's text is cut elsewhere than in layer 2; the cuts say the same. -/

theorem up_ties : ((k0_pay19 (F := F) = Kernel2Ideal.Gen.k0_pay12 ∧ k0_pay20 (F := F) = Kernel2Ideal.Gen.k0_pay12 ∧ k0_pay21 (F := F) = Kernel2Ideal.Gen.k0_pay12)
      ∧ k0_pay22 (F := F) = Kernel2Ideal.Gen.k0_pay12 ∧ k0_pay23 (F := F) = Kernel2Ideal.Gen.k0_pay12 ∧ k0_pay24 (F := F) = Kernel2Ideal.Gen.k0_pay12)
    ∧ (k0_pay25 (F := F) = Kernel2Ideal.Gen.k0_pay12 ∧ k0_pay26 (F := F) = Kernel2Ideal.Gen.k0_pay12)
    ∧ (k0_pay16 (F := F) = Kernel2Ideal.Gen.k0_pay9 ∧ k0_pay17 (F := F) = Kernel2Ideal.Gen.k0_pay9 ∧ k0_pay18 (F := F) = Kernel2Ideal.Gen.k0_pay11) :=
  ⟨⟨⟨rfl, rfl, rfl⟩, rfl, rfl, rfl⟩, ⟨rfl, rfl⟩, rfl, rfl, rfl⟩

theorem row_ties : ((k0_pay33 (F := F) = Kernel2Ideal.Gen.k0_pay28 ∧ k0_pay34 (F := F) = Kernel2Ideal.Gen.k0_pay28 ∧ k0_pay36 (F := F) = Kernel2Ideal.Gen.k0_pay28)
      ∧ k0_pay38 (F := F) = Kernel2Ideal.Gen.k0_pay28 ∧ k0_pay48 (F := F) = Kernel2Ideal.Gen.k0_pay28 ∧ k0_pay49 (F := F) = Kernel2Ideal.Gen.k0_pay28)
    ∧ (k0_pay32 (F := F) = Kernel2Ideal.Gen.k0_pay28 ∧ k0_pay39 (F := F) = Kernel2Ideal.Gen.k0_pay28 ∧ k0_pay50 (F := F) = Kernel2Ideal.Gen.k0_pay28)
    ∧ (k0_pay27 (F := F) = Kernel2Ideal.Gen.k0_pay20 ∧ k0_pay40 (F := F) = Kernel2Ideal.Gen.k0_pay20
      ∧ Kernel2Ideal.Gen.k0_pay27 (F := F) = Kernel2Ideal.Gen.k0_pay28) :=
  ⟨⟨⟨rfl, rfl, rfl⟩, rfl, rfl, rfl⟩, ⟨rfl, rfl, rfl⟩, rfl, rfl, rfl⟩

theorem halo_ties (l : BitVec 1) (b : Vec F S1x1x256 .f32) (r p : Vec F S1x256 .f32) :
    ((k0_pay28 l b r = Scalar.select l r (Kernel2Ideal.Gen.k0_pay20 b) ∧ k0_pay29 l b r = Scalar.select l r (Kernel2Ideal.Gen.k0_pay20 b))
      ∧ k0_pay30 l b r = Scalar.select l r (Kernel2Ideal.Gen.k0_pay20 b) ∧ k0_pay31 l b r = Scalar.select l r (Kernel2Ideal.Gen.k0_pay20 b))
    ∧ ((k0_pay41 l b r = Scalar.select l r (Kernel2Ideal.Gen.k0_pay20 b) ∧ k0_pay42 l b r = Scalar.select l r (Kernel2Ideal.Gen.k0_pay20 b))
      ∧ k0_pay35 l p r = Kernel2Ideal.Gen.k0_pay28 (Scalar.select l r p) ∧ k0_pay37 l p r = Kernel2Ideal.Gen.k0_pay28 (Scalar.select l r p))
    ∧ k0_pay43 b = Kernel2Ideal.Gen.k0_pay28 (Kernel2Ideal.Gen.k0_pay20 b)
    ∧ (k0_pay44 l b r = Kernel2Ideal.Gen.k0_pay28 (Scalar.select l r (Kernel2Ideal.Gen.k0_pay20 b))
      ∧ k0_pay45 l b r = Kernel2Ideal.Gen.k0_pay28 (Scalar.select l r (Kernel2Ideal.Gen.k0_pay20 b)))
    ∧ k0_pay46 l b r = Kernel2Ideal.Gen.k0_pay28 (Scalar.select l r (Kernel2Ideal.Gen.k0_pay20 b))
    ∧ k0_pay47 l b r = Kernel2Ideal.Gen.k0_pay28 (Scalar.select l r (Kernel2Ideal.Gen.k0_pay20 b)) :=
  ⟨⟨⟨rfl, rfl⟩, rfl, rfl⟩, ⟨⟨rfl, rfl⟩, rfl, rfl⟩, rfl, ⟨rfl, rfl⟩, rfl, rfl⟩

theorem head_ties : ((k0_pay5 (F := F) = Kernel2Ideal.Gen.k0_pay4 ∧ k0_pay9 (F := F) = Kernel2Ideal.Gen.k0_pay4) ∧ k0_pay6 (F := F) = Kernel2Ideal.Gen.k0_pay5 ∧ k0_pay10 (F := F) = Kernel2Ideal.Gen.k0_pay5)
    ∧ ((k0_pay7 (F := F) = Kernel2Ideal.Gen.k0_pay6 ∧ k0_pay11 (F := F) = Kernel2Ideal.Gen.k0_pay6) ∧ k0_pay12 (F := F) = Kernel2Ideal.Gen.k0_pay7 ∧ k0_pay14 (F := F) = Kernel2Ideal.Gen.k0_pay7)
    ∧ (k0_pay13 (F := F) = Kernel2Ideal.Gen.k0_pay8 ∧ k0_pay15 (F := F) = Kernel2Ideal.Gen.k0_pay8) ∧ k0_pay2 (F := F) = Kernel2Ideal.Gen.k0_pay2 ∧ k0_pay3 (F := F) = Kernel2Ideal.Gen.k0_pay2 :=
  ⟨⟨⟨rfl, rfl⟩, rfl, rfl⟩, ⟨⟨rfl, rfl⟩, rfl, rfl⟩, ⟨rfl, rfl⟩, rfl, rfl⟩

section
variable (g : FVec F S256x256 .f32) (k : Vec F S1x3x256 .f32) (cb b : Vec F S1x1x256 .f32) (p u n : Vec F S256x256 .f32)
    (acc : Vec F S256x1024 .f32) (wd : Vec F S256x1024 .bf16)

theorem tie_conv : (k0_pay51 k cb b p u n = Kernel2Ideal.Gen.k0_pay45 k cb b p u n ∧ k0_pay54 k cb b p u n = Kernel2Ideal.Gen.k0_pay45 k cb b p u n)
    ∧ k0_pay60 (k0_pay58 k) (k0_pay59 cb) b p u n = Kernel2Ideal.Gen.k0_pay45 k cb b p u n
    ∧ k0_pay68 (k0_pay65 k) (k0_pay66 k cb b) (k0_pay67 k) p u n = Kernel2Ideal.Gen.k0_pay45 k cb b p u n := ⟨⟨rfl, rfl⟩, rfl, rfl⟩

theorem tie0 : k0_pay53 (k0_pay52 g k cb b p u n acc wd) = Kernel2Ideal.Gen.k0_pay1 (act g (Kernel2Ideal.Gen.k0_pay45 k cb b p u n)) acc wd := rfl

theorem tie1 : k0_pay57 g (k0_pay55 k) (k0_pay56 cb) b p u n acc wd = Kernel2Ideal.Gen.k0_pay1 (act g (Kernel2Ideal.Gen.k0_pay45 k cb b p u n)) acc wd := rfl

theorem tie2 : k0_pay64 g (k0_pay61 k) (k0_pay62 k cb b) (k0_pay63 k) p u n acc wd = Kernel2Ideal.Gen.k0_pay1 (act g (Kernel2Ideal.Gen.k0_pay45 k cb b p u n)) acc wd := rfl

theorem tie3 : k0_pay1 g (k0_pay70 k cb b p u) (k0_pay71 k) n acc wd = Kernel2Ideal.Gen.k0_pay1 (act g (Kernel2Ideal.Gen.k0_pay45 k cb b p u n)) acc wd := rfl
end

section
variable (c : Dev nD) (i : grid0.Coords) (a2 : Memref sig .tc .vmem S1024x1024 .f32) (ha2 : a2.IsWhole) (a3 : Memref sig .tc .vmem S1024x1024 .bf16) (ha3 : a3.IsWhole) (a4 : Memref sig .tc .vmem S1024x1024 .bf16) (ha4 : a4.IsWhole) (a5 : Memref sig .tc .vmem S1024x1024 .bf16) (ha5 : a5.IsWhole) (a6 : Memref sig .tc .vmem S1x1x1x6144 .f32) (ha6 : a6.IsWhole) (a7 : Memref sig .tc .vmem S1x1024 .f32) (ha7 : a7.IsWhole) (a8 : Memref sig .tc .vmem S1x1024x256 .f32) (ha8 : a8.IsWhole) (a9 : Memref sig .tc .vmem S1x1024x256 .f32) (ha9 : a9.IsWhole) (a10 : Memref sig .tc .vmem S1x1x256 .f32) (ha10 : a10.IsWhole) (a11 : Memref sig .tc .vmem S1x1x256 .f32) (ha11 : a11.IsWhole) (a12 : Memref sig .tc .vmem S1x3x256 .f32) (ha12 : a12.IsWhole) (a13 : Memref sig .tc .vmem S1x3x256 .f32) (ha13 : a13.IsWhole) (a14 : Memref sig .tc .vmem S1x1x256 .f32) (ha14 : a14.IsWhole) (a15 : Memref sig .tc .vmem S1x1x256 .f32) (ha15 : a15.IsWhole) (a16 : Memref sig .tc .vmem S1x256x1024 .f32) (ha16 : a16.IsWhole) (a17 : Memref sig .tc .vmem S1024x1024 .f32) (ha17 : a17.IsWhole) (a18 : Memref sig .tc .vmem S1024x1024 .f32) (ha18 : a18.IsWhole) (a19 : Memref sig .tc .vmem S1024x1024 .bf16) (ha19 : a19.IsWhole) (a20 : Memref sig .tc .vmem S1024x1024 .f32) (ha20 : a20.IsWhole) (a21 : Memref sig .tc .vmem S1096x256 .f32) (ha21 : a21.IsWhole) (a22 : Memref sig .tc .vmem S1096x256 .f32) (ha22 : a22.IsWhole) (a23 : Memref sig .tc .vmem S1024x256 .bf16) (ha23 : a23.IsWhole) (a24 : Memref sig .tc .vmem S1024x256 .bf16) (ha24 : a24.IsWhole) (a25 : Memref sig .tc .vmem S256x1024 .bf16) (ha25 : a25.IsWhole)
    (x0 : Vec F S1024x1024 .f32) (x1 x2 x3 : Vec F S1024x1024 .bf16) (x4 : Vec F S1x1x1x6144 .f32) (x5 : Vec F S1x1024 .f32) (x6 x7 : Vec F S1x1024x256 .f32) (x8 x9 : Vec F S1x1x256 .f32) (x10 x11 : Vec F S1x3x256 .f32) (x12 x13 : Vec F S1x1x256 .f32) (x14 : Vec F S1x256x1024 .f32)

/-- The accumulator after a middle column block. -/
theorem accB (hc0 : ¬cond0_0 i) (hc1 : ¬cond0_1 i) (hc2 : ¬cond0_2 i) (hc3 : ¬cond0_3 i) (xs0 : Vec F S1024x1024 .bf16) (xs1 : Vec F S1024x1024 .f32) :
    View.canon (kernelRun0_B c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14 xs0 xs1).2.2.2.1
      = View.canon (accPieces (isLat i) xs0 xs1 ⟨x6, x7, x8, x9, x10, x11, x12, x13, x14⟩) := by
  unfold kernelRun0_B
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The accumulator after the last column block of a context tile. -/
theorem accC (hc0 : ¬cond0_0 i) (hc1 : ¬cond0_1 i) (hc2 : cond0_2 i) (hc3 : ¬cond0_3 i) (xo15 : Vec F S1024x1024 .f32) (xs0 : Vec F S1024x1024 .bf16) (xs1 : Vec F S1024x1024 .f32) :
    View.canon (kernelRun0_C c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14 xo15 xs0 xs1).2.2.2.1
      = View.canon (accPieces (isLat i) xs0 xs1 ⟨x6, x7, x8, x9, x10, x11, x12, x13, x14⟩) := by
  unfold kernelRun0_C
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The accumulator after the last column block of a lattice tile. -/
theorem accE (hc0 : ¬cond0_0 i) (hc1 : ¬cond0_1 i) (hc2 : ¬cond0_2 i) (hc3 : cond0_3 i) (xo16 : Vec F S1024x1024 .f32) (xs0 : Vec F S1024x1024 .bf16) (xs1 : Vec F S1024x1024 .f32) :
    View.canon (kernelRun0_E c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14 xo16 xs0 xs1).2.2.2.1
      = View.canon (accPieces (isLat i) xs0 xs1 ⟨x6, x7, x8, x9, x10, x11, x12, x13, x14⟩) := by
  unfold kernelRun0_E
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The output tile after the last column block of a context tile. -/
theorem outC (hc0 : ¬cond0_0 i) (hc1 : ¬cond0_1 i) (hc2 : cond0_2 i) (hc3 : ¬cond0_3 i) (xo15 : Vec F S1024x1024 .f32) (xs0 : Vec F S1024x1024 .bf16) (xs1 : Vec F S1024x1024 .f32) :
    View.canon (kernelRun0_C c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14 xo15 xs0 xs1).1
      = Kernel2Ideal.Gen.k0_pay2 xo15 (View.ld x4 (Rect.unit ![0, 0, 0, 5120] ![1, 1, 1, 1024] inb_S1x1x1x6144_S1x1x1x1024_0_0_0_5120)) (View.canon (accPieces (isLat i) xs0 xs1 ⟨x6, x7, x8, x9, x10, x11, x12, x13, x14⟩)) := by
  unfold kernelRun0_C
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The output tile after the last column block of a lattice tile. -/
theorem outE (hc0 : ¬cond0_0 i) (hc1 : ¬cond0_1 i) (hc2 : ¬cond0_2 i) (hc3 : cond0_3 i) (xo16 : Vec F S1024x1024 .f32) (xs0 : Vec F S1024x1024 .bf16) (xs1 : Vec F S1024x1024 .f32) :
    View.canon (kernelRun0_E c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14 xo16 xs0 xs1).2.1
      = Kernel2Ideal.Gen.k0_pay2 xo16 (View.ld x4 (Rect.unit ![0, 0, 0, 5120] ![1, 1, 1, 1024] inb_S1x1x1x6144_S1x1x1x1024_0_0_0_5120)) (View.canon (accPieces (isLat i) xs0 xs1 ⟨x6, x7, x8, x9, x10, x11, x12, x13, x14⟩)) := by
  unfold kernelRun0_E
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The output tile after the first column block of a context tile. -/
theorem outA (hc0 : cond0_0 i) (hc1 : ¬cond0_1 i) (hc2 : ¬cond0_2 i) (hc3 : ¬cond0_3 i) :
    View.canon (kernelRun0_A c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14).1
      = xNew (isLat i) x0 x1 x2 x3 x4 := by
  unfold kernelRun0_A
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The output tile after the first column block of a lattice tile. -/
theorem outD (hc0 : ¬cond0_0 i) (hc1 : cond0_1 i) (hc2 : ¬cond0_2 i) (hc3 : ¬cond0_3 i) :
    View.canon (kernelRun0_D c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14).2.1
      = xNew (isLat i) x0 x1 x2 x3 x4 := by
  unfold kernelRun0_D
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The normalised rows after the first column block of a context tile. -/
theorem xnA (hc0 : cond0_0 i) (hc1 : ¬cond0_1 i) (hc2 : ¬cond0_2 i) (hc3 : ¬cond0_3 i) :
    View.canon (kernelRun0_A c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14).2.2.1
      = xNorm (isLat i) x0 x1 x2 x3 x4 x5 := by
  unfold kernelRun0_A
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The normalised rows after the first column block of a lattice tile. -/
theorem xnD (hc0 : ¬cond0_0 i) (hc1 : cond0_1 i) (hc2 : ¬cond0_2 i) (hc3 : ¬cond0_3 i) :
    View.canon (kernelRun0_D c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14).2.2.1
      = xNorm (isLat i) x0 x1 x2 x3 x4 x5 := by
  unfold kernelRun0_D
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  try simp only [up_ties, row_ties, halo_ties, head_ties, tie_conv, tie0, tie1, tie2, tie3]
  rfl

/-- The accumulator after the first column block of a context tile. -/
theorem accA (hc0 : cond0_0 i) (hc1 : ¬cond0_1 i) (hc2 : ¬cond0_2 i) (hc3 : ¬cond0_3 i) :
    View.canon (kernelRun0_A c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14).2.2.2.1
      = View.canon (accPieces (isLat i) (xNorm (isLat i) x0 x1 x2 x3 x4 x5) Kernel2Ideal.Gen.k0_pay8 ⟨x6, x7, x8, x9, x10, x11, x12, x13, x14⟩ ++ [⟨Rect.unit ![0, 0] ![1024, 1024] inb_S1024x1024_S1024x1024_0_0, Kernel2Ideal.Gen.k0_pay8⟩]) := by
  unfold kernelRun0_A
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  simp (disch := decide) only [ld_skip, View.canon_cons_unit_lit']
  try simp only [up_ties, row_ties, halo_ties, head_ties, tie_conv, tie0, tie1, tie2, tie3]
  rfl

/-- The accumulator after the first column block of a lattice tile. -/
theorem accD (hc0 : ¬cond0_0 i) (hc1 : cond0_1 i) (hc2 : ¬cond0_2 i) (hc3 : ¬cond0_3 i) :
    View.canon (kernelRun0_D c i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 hc2 hc3 x0 x1 x2 x3 x4 x5 x6 x7 x8 x9 x10 x11 x12 x13 x14).2.2.2.1
      = View.canon (accPieces (isLat i) (xNorm (isLat i) x0 x1 x2 x3 x4 x5) Kernel2Ideal.Gen.k0_pay8 ⟨x6, x7, x8, x9, x10, x11, x12, x13, x14⟩ ++ [⟨Rect.unit ![0, 0] ![1024, 1024] inb_S1024x1024_S1024x1024_0_0, Kernel2Ideal.Gen.k0_pay8⟩]) := by
  unfold kernelRun0_D
  dsimp only
  sl_unfold_words
  simp only [View.readAt_eq_ld, ha2.read_unread, ha3.read_unread, ha4.read_unread, ha5.read_unread, ha6.read_unread, ha7.read_unread, ha8.read_unread, ha9.read_unread, ha10.read_unread, ha11.read_unread, ha12.read_unread, ha13.read_unread, ha14.read_unread, ha15.read_unread, ha16.read_unread, ha17.read_unread, ha18.read_unread, ha19.read_unread, ha20.read_unread,
    readCov_ld]
  simp (disch := decide) only [View.ld_unit_lit', View.canon_cons_unit_lit']
  simp (disch := decide) only [ld_skip, View.canon_cons_unit_lit']
  try simp only [up_ties, row_ties, halo_ties, head_ties, tie_conv, tie0, tie1, tie2, tie3]
  rfl

end

/-! The same at a grid point of the launch. -/

section
variable (m : (ℓ : Loc nD τ sig) → Buf (Elt F) ℓ) (c : Dev nD)

/-- The weights' blocks at a grid point. -/
def wts (t : Fin cfg0.N) : Wts F :=
  ⟨iblk m c 6 t, iblk m c 7 t, iblk m c 8 t, iblk m c 9 t, iblk m c 10 t, iblk m c 11 t, iblk m c 12 t, iblk m c 13 t, iblk m c 14 t⟩

theorem acc_B (t : Fin cfg0.N) (hc0 : ¬cond0_0 (grid0.coords t)) (hc1 : ¬cond0_1 (grid0.coords t)) (hc2 : ¬cond0_2 (grid0.coords t)) (hc3 : ¬cond0_3 (grid0.coords t)) (xs0 : Vec F S1024x1024 .bf16) (xs1 : Vec F S1024x1024 .f32) :
    sout0_B_1 m c t hc0 hc1 hc2 hc3 xs0 xs1 = View.canon (accPieces (isLat (grid0.coords t)) xs0 xs1 (wts m c t)) := by
  unfold sout0_B_1
  rw [View.read_writes_eq_canon _ _ _ (scover0_B_1 m c t hc0 hc1 hc2 hc3 xs0 xs1)]
  exact accB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3 xs0 xs1

theorem acc_C (t : Fin cfg0.N) (hc0 : ¬cond0_0 (grid0.coords t)) (hc1 : ¬cond0_1 (grid0.coords t)) (hc2 : cond0_2 (grid0.coords t)) (hc3 : ¬cond0_3 (grid0.coords t)) (xo15 : Vec F S1024x1024 .f32) (xs0 : Vec F S1024x1024 .bf16) (xs1 : Vec F S1024x1024 .f32) :
    sout0_C_1 m c t hc0 hc1 hc2 hc3 xo15 xs0 xs1 = View.canon (accPieces (isLat (grid0.coords t)) xs0 xs1 (wts m c t)) := by
  unfold sout0_C_1
  rw [View.read_writes_eq_canon _ _ _ (scover0_C_1 m c t hc0 hc1 hc2 hc3 xo15 xs0 xs1)]
  exact accC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3 xo15 xs0 xs1

theorem acc_E (t : Fin cfg0.N) (hc0 : ¬cond0_0 (grid0.coords t)) (hc1 : ¬cond0_1 (grid0.coords t)) (hc2 : ¬cond0_2 (grid0.coords t)) (hc3 : cond0_3 (grid0.coords t)) (xo16 : Vec F S1024x1024 .f32) (xs0 : Vec F S1024x1024 .bf16) (xs1 : Vec F S1024x1024 .f32) :
    sout0_E_1 m c t hc0 hc1 hc2 hc3 xo16 xs0 xs1 = View.canon (accPieces (isLat (grid0.coords t)) xs0 xs1 (wts m c t)) := by
  unfold sout0_E_1
  rw [View.read_writes_eq_canon _ _ _ (scover0_E_1 m c t hc0 hc1 hc2 hc3 xo16 xs0 xs1)]
  exact accE c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3 xo16 xs0 xs1

theorem out_C (t : Fin cfg0.N) (hc0 : ¬cond0_0 (grid0.coords t)) (hc1 : ¬cond0_1 (grid0.coords t)) (hc2 : cond0_2 (grid0.coords t)) (hc3 : ¬cond0_3 (grid0.coords t)) (xo15 : Vec F S1024x1024 .f32) (xs0 : Vec F S1024x1024 .bf16) (xs1 : Vec F S1024x1024 .f32) :
    out0_C_15 m c t hc0 hc1 hc2 hc3 xo15 xs0 xs1 = Kernel2Ideal.Gen.k0_pay2 xo15 (View.ld (iblk m c 4 t) (Rect.unit ![0, 0, 0, 5120] ![1, 1, 1, 1024] inb_S1x1x1x6144_S1x1x1x1024_0_0_0_5120)) (View.canon (accPieces (isLat (grid0.coords t)) xs0 xs1 (wts m c t))) := by
  unfold out0_C_15
  rw [View.read_writes_eq_canon _ _ _ (cover0_C_15 m c t hc0 hc1 hc2 hc3 xo15 xs0 xs1)]
  exact outC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3 xo15 xs0 xs1

theorem out_E (t : Fin cfg0.N) (hc0 : ¬cond0_0 (grid0.coords t)) (hc1 : ¬cond0_1 (grid0.coords t)) (hc2 : ¬cond0_2 (grid0.coords t)) (hc3 : cond0_3 (grid0.coords t)) (xo16 : Vec F S1024x1024 .f32) (xs0 : Vec F S1024x1024 .bf16) (xs1 : Vec F S1024x1024 .f32) :
    out0_E_16 m c t hc0 hc1 hc2 hc3 xo16 xs0 xs1 = Kernel2Ideal.Gen.k0_pay2 xo16 (View.ld (iblk m c 4 t) (Rect.unit ![0, 0, 0, 5120] ![1, 1, 1, 1024] inb_S1x1x1x6144_S1x1x1x1024_0_0_0_5120)) (View.canon (accPieces (isLat (grid0.coords t)) xs0 xs1 (wts m c t))) := by
  unfold out0_E_16
  rw [View.read_writes_eq_canon _ _ _ (cover0_E_16 m c t hc0 hc1 hc2 hc3 xo16 xs0 xs1)]
  exact outE c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3 xo16 xs0 xs1

theorem out_A (t : Fin cfg0.N) (hc0 : cond0_0 (grid0.coords t)) (hc1 : ¬cond0_1 (grid0.coords t)) (hc2 : ¬cond0_2 (grid0.coords t)) (hc3 : ¬cond0_3 (grid0.coords t)) :
    out0_A_15 m c t hc0 hc1 hc2 hc3 = xNew (isLat (grid0.coords t)) (iblk m c 0 t) (iblk m c 1 t) (iblk m c 2 t) (iblk m c 3 t) (iblk m c 4 t) := by
  unfold out0_A_15
  rw [View.read_writes_eq_canon _ _ _ (cover0_A_15 m c t hc0 hc1 hc2 hc3)]
  exact outA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3

theorem out_D (t : Fin cfg0.N) (hc0 : ¬cond0_0 (grid0.coords t)) (hc1 : cond0_1 (grid0.coords t)) (hc2 : ¬cond0_2 (grid0.coords t)) (hc3 : ¬cond0_3 (grid0.coords t)) :
    out0_D_16 m c t hc0 hc1 hc2 hc3 = xNew (isLat (grid0.coords t)) (iblk m c 0 t) (iblk m c 1 t) (iblk m c 2 t) (iblk m c 3 t) (iblk m c 4 t) := by
  unfold out0_D_16
  rw [View.read_writes_eq_canon _ _ _ (cover0_D_16 m c t hc0 hc1 hc2 hc3)]
  exact outD c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3

theorem xn_A (t : Fin cfg0.N) (hc0 : cond0_0 (grid0.coords t)) (hc1 : ¬cond0_1 (grid0.coords t)) (hc2 : ¬cond0_2 (grid0.coords t)) (hc3 : ¬cond0_3 (grid0.coords t)) :
    sout0_A_0 m c t hc0 hc1 hc2 hc3 = xNorm (isLat (grid0.coords t)) (iblk m c 0 t) (iblk m c 1 t) (iblk m c 2 t) (iblk m c 3 t) (iblk m c 4 t) (iblk m c 5 t) := by
  unfold sout0_A_0
  rw [View.read_writes_eq_canon _ _ _ (scover0_A_0 m c t hc0 hc1 hc2 hc3)]
  exact xnA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3

theorem xn_D (t : Fin cfg0.N) (hc0 : ¬cond0_0 (grid0.coords t)) (hc1 : cond0_1 (grid0.coords t)) (hc2 : ¬cond0_2 (grid0.coords t)) (hc3 : ¬cond0_3 (grid0.coords t)) :
    sout0_D_0 m c t hc0 hc1 hc2 hc3 = xNorm (isLat (grid0.coords t)) (iblk m c 0 t) (iblk m c 1 t) (iblk m c 2 t) (iblk m c 3 t) (iblk m c 4 t) (iblk m c 5 t) := by
  unfold sout0_D_0
  rw [View.read_writes_eq_canon _ _ _ (scover0_D_0 m c t hc0 hc1 hc2 hc3)]
  exact xnD c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3

theorem acc_A (t : Fin cfg0.N) (hc0 : cond0_0 (grid0.coords t)) (hc1 : ¬cond0_1 (grid0.coords t)) (hc2 : ¬cond0_2 (grid0.coords t)) (hc3 : ¬cond0_3 (grid0.coords t)) :
    sout0_A_1 m c t hc0 hc1 hc2 hc3 = View.canon (accPieces (isLat (grid0.coords t)) (xNorm (isLat (grid0.coords t)) (iblk m c 0 t) (iblk m c 1 t) (iblk m c 2 t) (iblk m c 3 t) (iblk m c 4 t) (iblk m c 5 t)) Kernel2Ideal.Gen.k0_pay8 (wts m c t) ++ [⟨Rect.unit ![0, 0] ![1024, 1024] inb_S1024x1024_S1024x1024_0_0, Kernel2Ideal.Gen.k0_pay8⟩]) := by
  unfold sout0_A_1
  rw [View.read_writes_eq_canon _ _ _ (scover0_A_1 m c t hc0 hc1 hc2 hc3)]
  exact accA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3

theorem acc_D (t : Fin cfg0.N) (hc0 : ¬cond0_0 (grid0.coords t)) (hc1 : cond0_1 (grid0.coords t)) (hc2 : ¬cond0_2 (grid0.coords t)) (hc3 : ¬cond0_3 (grid0.coords t)) :
    sout0_D_1 m c t hc0 hc1 hc2 hc3 = View.canon (accPieces (isLat (grid0.coords t)) (xNorm (isLat (grid0.coords t)) (iblk m c 0 t) (iblk m c 1 t) (iblk m c 2 t) (iblk m c 3 t) (iblk m c 4 t) (iblk m c 5 t)) Kernel2Ideal.Gen.k0_pay8 (wts m c t) ++ [⟨Rect.unit ![0, 0] ![1024, 1024] inb_S1024x1024_S1024x1024_0_0, Kernel2Ideal.Gen.k0_pay8⟩]) := by
  unfold sout0_D_1
  rw [View.read_writes_eq_canon _ _ _ (scover0_D_1 m c t hc0 hc1 hc2 hc3)]
  exact accD c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 hc3

end

end Cert.Kernel3Ideal.Ffn
-- ==== Proof.FfnLastSweep.lean ====
module

public import proofs.«01_k».proof.Proof.FfnLastPieces
public import proofs.«01_k».proof.Proof.FfnSweep

@[expose] public section

/-! The last feed-forward call's sweep of a row tile over the eleven column blocks. A context tile lies in the first output window and a
lattice tile in the second; the first window then keeps the last context tile while the lattice is swept. -/

set_option maxRecDepth 16384
noncomputable section
namespace Cert.Kernel3Ideal.Ffn
open Cert.Kernel3Ideal Cert.Kernel3Ideal.Gen Idealize.ShloMosaic Idealize.ShloMosaic.TcCoe Idealize.SL.Sem Idealize.ShloMosaic.Tactic
open Cert.Kernel2Ideal.Ffn (accPieces xNew xNorm Wts aval acc_pieces pay8_apply lat)

variable (m : (ℓ : Loc nD τ sig) → Buf (Elt Ideal) ℓ) (c : Dev nD)

/-- The grid point of row tile `i` and column block `f`. -/
def pt (i : Fin 16) (f : ℕ) : Fin cfg0.N := ⟨(11 * i.val + f) % 176, Nat.mod_lt _ (by decide)⟩

theorem pt_val (i : Fin 16) (f : ℕ) (hf : f ≤ 10) : (pt i f).val = 11 * i.val + f := Nat.mod_eq_of_lt (by omega)

theorem isLat_eq (t : Fin cfg0.N) : isLat (grid0.coords t) = if t.val < 88 then 0#1 else 1#1 :=
  (by decide +kernel : ∀ t : Fin grid0.N, isLat (grid0.coords t) = if t.val < 88 then 0#1 else 1#1) t

theorem lat_pt (i : Fin 16) (f : ℕ) (hf : f ≤ 10) : isLat (grid0.coords (pt i f)) = lat i := by
  rw [isLat_eq, pt_val i f hf]
  unfold lat
  by_cases h : i.val < 8
  · rw [if_pos h, if_pos (by omega)]
  · rw [if_neg h, if_neg (by omega)]

/-- The tile's residual stream, and its normalised rows. -/
def xR (i : Fin 16) : Vec Ideal S1024x1024 .f32 :=
  xNew (lat i) (iblk m c 0 (pt i 0)) (iblk m c 1 (pt i 0)) (iblk m c 2 (pt i 0)) (iblk m c 3 (pt i 0)) (iblk m c 4 (pt i 0))
def xN (i : Fin 16) : Vec Ideal S1024x1024 .bf16 :=
  xNorm (lat i) (iblk m c 0 (pt i 0)) (iblk m c 1 (pt i 0)) (iblk m c 2 (pt i 0)) (iblk m c 3 (pt i 0)) (iblk m c 4 (pt i 0)) (iblk m c 5 (pt i 0))

/-- The share of column block `f` in the accumulator. -/
def share (i : Fin 16) (f : ℕ) (y : S1024x1024.Idx) : EReal :=
  ∑ j : Fin 256, aval (lat i) (xN m c i) (wts m c (pt i f)) (y 0).val j * (wts m c (pt i f)).d (ix3 0 j (y 1))

theorem outsAt0_congr {n n' : ℕ} (h : n = n') (hn hn') : outsAt0 m c n hn = outsAt0 m c n' hn' := by subst h; rfl

/-- The output window tile `i` lies in, after a point. -/
def tileOut (i : Fin 16) (t : Fin cfg0.N) : Vec Ideal S1024x1024 .f32 :=
  if i.val < 8 then (outsAt0 m c t.val t.isLt).1 else (outsAt0 m c t.val t.isLt).2.1

/-- A middle point leaves both output windows and the normalised rows. -/
theorem mid (i : Fin 16) (f : ℕ) (h1 : 1 ≤ f) (h9 : f ≤ 9) (t' : Fin cfg0.N) (ht : t'.val = (pt i f).val - 1) :
    (outsAt0 m c (pt i f).val (pt i f).isLt).1 = (outsAt0 m c t'.val t'.isLt).1
      ∧ (outsAt0 m c (pt i f).val (pt i f).isLt).2.1 = (outsAt0 m c t'.val t'.isLt).2.1
      ∧ (outsAt0 m c (pt i f).val (pt i f).isLt).2.2.1 = (outsAt0 m c t'.val t'.isLt).2.2.1
      ∧ (outsAt0 m c (pt i f).val (pt i f).isLt).2.2.2
        = View.canon (accPieces (isLat (grid0.coords (pt i f))) (outsAt0 m c t'.val t'.isLt).2.2.1 (outsAt0 m c t'.val t'.isLt).2.2.2 (wts m c (pt i f))) := by
  have hv := pt_val i f (by omega)
  rw [outsAt0_B m c (pt i f) (by omega) (by omega) (by omega) (by omega), outsAt0_congr m c ht.symm _ t'.isLt]
  dsimp only
  unfold out0_B_15 out0_B_16 sout0_B_0
  exact ⟨rfl, rfl, rfl, acc_B m c _ _ _ _ _ _ _⟩

theorem sweep (i : Fin 16) : ∀ f, f < 10 →
    tileOut m c i (pt i f) = xR m c i ∧ (outsAt0 m c (pt i f).val (pt i f).isLt).2.2.1 = xN m c i
      ∧ ∀ y, ((outsAt0 m c (pt i f).val (pt i f).isLt).2.2.2 y : EReal) = ∑ g ∈ Finset.range (f + 1), share m c i g y
  | 0, _ => by
    have hv := pt_val i 0 (by omega)
    have fin : ∀ y, (View.canon (accPieces (isLat (grid0.coords (pt i 0))) (xN m c i) (Kernel2Ideal.Gen.k0_pay8 (F := Ideal)) (wts m c (pt i 0))
        ++ [⟨Rect.unit ![0, 0] ![1024, 1024] inb_S1024x1024_S1024x1024_0_0, (Kernel2Ideal.Gen.k0_pay8 (F := Ideal) : Vec Ideal S1024x1024 .f32)⟩]) y : EReal) = ∑ g ∈ Finset.range (0 + 1), share m c i g y := by
      intro y
      rw [acc_pieces, lat_pt i 0 (by omega), Finset.sum_range_one]
      exact (congrArg (· + _) (pay8_apply y)).trans (zero_add _)
    have ex : xNorm (isLat (grid0.coords (pt i 0))) (iblk m c 0 (pt i 0)) (iblk m c 1 (pt i 0)) (iblk m c 2 (pt i 0)) (iblk m c 3 (pt i 0)) (iblk m c 4 (pt i 0)) (iblk m c 5 (pt i 0))
        = xN m c i := by rw [lat_pt i 0 (by omega)]; rfl
    unfold tileOut
    by_cases hi : i.val < 8
    · rw [if_pos hi, outsAt0_A m c (pt i 0) (by omega) (by omega) (by omega) (by omega)]
      dsimp only
      refine ⟨?_, ?_, fun y => ?_⟩
      · exact (out_A m c _ _ _ _ _).trans (by rw [lat_pt i 0 (by omega)]; rfl)
      · exact (xn_A m c _ _ _ _ _).trans ex
      · refine (congrFun (acc_A m c _ _ _ _ _) y).trans ?_
        rw [ex]
        exact fin y
    · rw [if_neg hi, outsAt0_D m c (pt i 0) (by omega) (by omega) (by omega) (by omega)]
      dsimp only
      refine ⟨?_, ?_, fun y => ?_⟩
      · exact (out_D m c _ _ _ _ _).trans (by rw [lat_pt i 0 (by omega)]; rfl)
      · exact (xn_D m c _ _ _ _ _).trans ex
      · refine (congrFun (acc_D m c _ _ _ _ _) y).trans ?_
        rw [ex]
        exact fin y
  | f + 1, hf => by
    obtain ⟨a, b, d⟩ := sweep i f (by omega)
    obtain ⟨e1, e2, e3, e4⟩ := mid m c i (f + 1) (by omega) (by omega) (pt i f) (by rw [pt_val i _ (by omega), pt_val i _ (by omega)]; omega)
    refine ⟨?_, e3.trans b, fun y => ?_⟩
    · unfold tileOut at a ⊢
      rw [e1, e2, a]
    · rw [e4, ← List.append_nil (accPieces _ _ _ _), acc_pieces, lat_pt i _ (by omega), Finset.sum_range_succ, ← d y, b]
      rfl

/-- What the tile's last grid point writes. -/
theorem out_last (i : Fin 16) : tileOut m c i (pt i 10)
    = Kernel2Ideal.Gen.k0_pay2 (xR m c i) (View.ld (iblk m c 4 (pt i 10) : Vec Ideal S1x1x1x6144 .f32) (Rect.unit ![0, 0, 0, 5120] ![1, 1, 1, 1024] inb_S1x1x1x6144_S1x1x1x1024_0_0_0_5120))
        (fun y => (∑ g ∈ Finset.range 11, share m c i g y : EReal)) := by
  obtain ⟨a, b, d⟩ := sweep m c i 9 (by omega)
  have hv := pt_val i 10 (by omega)
  have e : (pt i 10).val - 1 = (pt i 9).val := by rw [pt_val i _ (by omega), pt_val i _ (by omega)]; omega
  have acc : View.canon (accPieces (isLat (grid0.coords (pt i 10))) (outsAt0 m c (pt i 9).val (pt i 9).isLt).2.2.1 (outsAt0 m c (pt i 9).val (pt i 9).isLt).2.2.2 (wts m c (pt i 10)))
      = fun y => (∑ g ∈ Finset.range 11, share m c i g y : EReal) := by
    funext y
    rw [← List.append_nil (accPieces _ _ _ _), acc_pieces, lat_pt i _ (by omega), b, Finset.sum_range_succ, ← d y]
    rfl
  unfold tileOut at a ⊢
  by_cases hi : i.val < 8
  · rw [if_pos hi] at a
    rw [if_pos hi, outsAt0_C m c (pt i 10) (by omega) (by omega) (by omega) (by omega), outsAt0_congr m c e _ (pt i 9).isLt]
    dsimp only
    refine (out_C m c _ _ _ _ _ _ _ _).trans ?_
    rw [acc, a]
  · rw [if_neg hi] at a
    rw [if_neg hi, outsAt0_E m c (pt i 10) (by omega) (by omega) (by omega) (by omega), outsAt0_congr m c e _ (pt i 9).isLt]
    dsimp only
    refine (out_E m c _ _ _ _ _ _ _ _).trans ?_
    rw [acc, a]

/-- A point of the lattice leaves the first output window. -/
theorem keep (t t' : Fin cfg0.N) (h : 88 ≤ t.val) (e : t'.val = t.val - 1) : (outsAt0 m c t.val t.isLt).1 = (outsAt0 m c t'.val t'.isLt).1 := by
  have hN : t.val < 176 := t.isLt
  rw [← outsAt0_congr m c e.symm (Nat.lt_of_le_of_lt (Nat.sub_le _ _) t.isLt) t'.isLt]
  by_cases h0 : t.val % 11 = 0
  · rw [outsAt0_D m c t (by omega) (by omega) (by omega) (by omega)]
    rfl
  · by_cases h1 : t.val % 11 = 10
    · rw [outsAt0_E m c t (by omega) (by omega) (by omega) (by omega)]
      rfl
    · rw [outsAt0_B m c t (by omega) (by omega) (by omega) (by omega)]
      rfl

/-- Through the lattice the first output window holds the last context tile. -/
theorem kept : ∀ n, 87 ≤ n → (hn : n < cfg0.N) → (outsAt0 m c n hn).1 = (outsAt0 m c 87 (by decide)).1
  | 0, h, _ => absurd h (by omega)
  | n + 1, h, hn => by
    by_cases h' : n + 1 = 87
    · rw [outsAt0_congr m c h' hn (by decide)]
    · exact (keep m c ⟨n + 1, hn⟩ ⟨n, by omega⟩ (by show 88 ≤ n + 1; omega) rfl).trans (kept n (by omega) (by omega))

end Cert.Kernel3Ideal.Ffn
-- ==== Proof.FfnLastBlocks.lean ====
module

public import proofs.«01_k».proof.Proof.FfnRead
public import proofs.«01_k».proof.Proof.FfnLastPoints
public import Idealize.ShloMosaic.Lib.StableHlo.ReadAt

@[expose] public section

/-! The last feed-forward launch's blocks, read at an index as elements of the arguments. -/

set_option maxRecDepth 100000
noncomputable section
namespace Cert.Kernel3Ideal.Ffn
open Cert.Kernel3Ideal Cert.Kernel3Ideal.Gen Idealize.ShloMosaic Idealize.ShloMosaic.TcCoe Idealize.SL.Sem Idealize.ShloMosaic.Tactic

variable (m : (ℓ : Loc nD τ sig) → Buf (Elt Ideal) ℓ) (c : Dev nD)

/-! The arguments: the two streams, the heads' outputs, the output projection, the modulations, the norm's gain, and the block's weights. -/
abbrev aHC : FVec Ideal S32x256x1024 .f32 := m ((c.tc : Thread nD τ).loc main_arg0)
abbrev aHL : FVec Ideal S8x1024x1024 .f32 := m ((c.tc : Thread nD τ).loc main_arg1)
abbrev aOC : FVec Ideal S32x256x1024 .f32 := m ((c.tc : Thread nD τ).loc main_arg2)
abbrev aOL : FVec Ideal S8x1024x1024 .f32 := m ((c.tc : Thread nD τ).loc main_arg3)
abbrev aWo : FVec Ideal S1024x1024 .f32 := m ((c.tc : Thread nD τ).loc main_arg4)
abbrev aMC : FVec Ideal S4x6144 .f32 := m ((c.tc : Thread nD τ).loc main_arg5)
abbrev aML : FVec Ideal S4x8x6144 .f32 := m ((c.tc : Thread nD τ).loc main_arg6)
abbrev aN2 : FVec Ideal S4x1024 .f32 := m ((c.tc : Thread nD τ).loc main_arg7)
abbrev aWu : FVec Ideal S4x1024x5632 .f32 := m ((c.tc : Thread nD τ).loc main_arg8)
abbrev aBu : FVec Ideal S4x5632 .f32 := m ((c.tc : Thread nD τ).loc main_arg9)
abbrev aCk : FVec Ideal S4x3x5632 .f32 := m ((c.tc : Thread nD τ).loc main_arg10)
abbrev aCb : FVec Ideal S4x5632 .f32 := m ((c.tc : Thread nD τ).loc main_arg11)
abbrev aWd : FVec Ideal S4x2816x1024 .f32 := m ((c.tc : Thread nD τ).loc main_arg12)

/-! ## The host's arrays -/

theorem V2 (R : Fin 16384) (d : Fin 1024) : (V m c main_v2 : FVec Ideal S16384x1024 .f32) (ix2 R d)
    = if h : R.val < 8192 then aHC m c (ix3 ⟨R.val / 256, by omega⟩ ⟨R.val % 256, by omega⟩ d)
      else aHL m c (ix3 ⟨(R.val - 8192) / 1024, by omega⟩ ⟨(R.val - 8192) % 1024, by omega⟩ d) := by
  unfold V
  after_reads_at

theorem V7 (R : Fin 8192) (d : Fin 1024) : (V m c main_v7 : FVec Ideal S8192x1024 .bf16) (ix2 R d)
    = aOC m c (ix3 ⟨R.val / 256, by omega⟩ ⟨R.val % 256, by omega⟩ d) := by
  unfold V
  after_reads_at

theorem V9 (R : Fin 8192) (d : Fin 1024) : (V m c main_v9 : FVec Ideal S8192x1024 .bf16) (ix2 R d)
    = aOL m c (ix3 ⟨R.val / 1024, by omega⟩ ⟨R.val % 1024, by omega⟩ d) := by
  unfold V
  after_reads_at

theorem V14 (e d : Fin 1024) : (V m c main_v14 : FVec Ideal S1024x1024 .bf16) (ix2 e d) = aWo m c (ix2 e d) := by
  unfold V
  after_reads_at

theorem V15c (d : Fin 6144) : (V m c main_v15 : FVec Ideal S4x16x1x6144 .f32) (ix4 3 0 0 d) = aMC m c (ix2 3 d) := by
  unfold V
  after_reads_at
  unfold StableHlo.upto
  after_reads_at

theorem V15l (r : Fin 8) (d : Fin 6144) : (V m c main_v15 : FVec Ideal S4x16x1x6144 .f32) (ix4 3 ⟨8 + r.val, by omega⟩ 0 d) = aML m c (ix3 3 r d) := by
  unfold V
  after_reads_at
  rw [dif_neg (by omega), dif_neg (by omega)]
  have e : (⟨8 + r.val - 1 - 7, by omega⟩ : Fin 8) = r := Fin.ext (by show 8 + r.val - 1 - 7 = r.val; omega)
  rw [e]
  unfold StableHlo.upto
  after_reads_at

theorem V16 (d : Fin 1024) : (V m c main_v16 : FVec Ideal S1x1024 .f32) (ix2 0 d) = aN2 m c (ix2 3 d) := by
  unfold V
  after_reads_at

theorem V12 (d : Fin 5632) : (V m c main_v12 : FVec Ideal S4x1x5632 .f32) (ix3 3 0 d) = aBu m c (ix2 3 d) := by
  unfold V
  after_reads_at

theorem V13 (d : Fin 5632) : (V m c main_v13 : FVec Ideal S4x1x5632 .f32) (ix3 3 0 d) = aCb m c (ix2 3 d) := by
  unfold V
  after_reads_at

/-! ## The windows' blocks -/

theorem idx (t : Fin cfg0.N) : win0_0.index t = ![t.val / 11, 0] ∧ win0_1.index t = ![min (t.val / 11) 7, 0] ∧ win0_2.index t = ![t.val / 11 - 8, 0] ∧ win0_3.index t = ![0, 0]
    ∧ win0_4.index t = ![3, if t.val / 11 < 8 then 0 else t.val / 11, 0, 0] ∧ win0_5.index t = ![0, 0] ∧ win0_6.index t = ![3, 0, t.val % 11]
    ∧ win0_7.index t = ![3, 0, 11 + t.val % 11] ∧ win0_8.index t = ![3, 0, t.val % 11] ∧ win0_9.index t = ![3, 0, 11 + t.val % 11] ∧ win0_10.index t = ![3, 0, t.val % 11]
    ∧ win0_11.index t = ![3, 0, 11 + t.val % 11] ∧ win0_12.index t = ![3, 0, t.val % 11] ∧ win0_13.index t = ![3, 0, 11 + t.val % 11] ∧ win0_14.index t = ![3, t.val % 11, 0] ∧ win0_15.index t = ![min (t.val / 11) 7, 0] ∧ win0_16.index t = ![t.val / 11 - 8, 0] :=
  (by decide +kernel : ∀ t : Fin grid0.N, win0_0.index t = ![t.val / 11, 0] ∧ win0_1.index t = ![min (t.val / 11) 7, 0] ∧ win0_2.index t = ![t.val / 11 - 8, 0] ∧ win0_3.index t = ![0, 0]
    ∧ win0_4.index t = ![3, if t.val / 11 < 8 then 0 else t.val / 11, 0, 0] ∧ win0_5.index t = ![0, 0] ∧ win0_6.index t = ![3, 0, t.val % 11]
    ∧ win0_7.index t = ![3, 0, 11 + t.val % 11] ∧ win0_8.index t = ![3, 0, t.val % 11] ∧ win0_9.index t = ![3, 0, 11 + t.val % 11] ∧ win0_10.index t = ![3, 0, t.val % 11]
    ∧ win0_11.index t = ![3, 0, 11 + t.val % 11] ∧ win0_12.index t = ![3, 0, t.val % 11] ∧ win0_13.index t = ![3, 0, 11 + t.val % 11] ∧ win0_14.index t = ![3, t.val % 11, 0] ∧ win0_15.index t = ![min (t.val / 11) 7, 0] ∧ win0_16.index t = ![t.val / 11 - 8, 0]) t

theorem t_lt (t : Fin cfg0.N) : t.val < 176 := t.isLt

theorem i0 (t : Fin cfg0.N) (r d : Fin 1024) : (iblk m c 0 t : Vec Ideal S1024x1024 .f32) (ix2 r d)
    = (V m c main_v2 : FVec Ideal S16384x1024 .f32) (ix2 ⟨t.val / 11 * 1024 + r.val, by have := t_lt t; omega⟩ d) := by
  blk_ext [iblk, (idx t).1]

theorem i1 (t : Fin cfg0.N) (r d : Fin 1024) : (iblk m c 1 t : Vec Ideal S1024x1024 .bf16) (ix2 r d)
    = (V m c main_v7 : FVec Ideal S8192x1024 .bf16) (ix2 ⟨min (t.val / 11) 7 * 1024 + r.val, by omega⟩ d) := by
  blk_ext [iblk, (idx t).2.1]

theorem i2 (t : Fin cfg0.N) (r d : Fin 1024) : (iblk m c 2 t : Vec Ideal S1024x1024 .bf16) (ix2 r d)
    = (V m c main_v9 : FVec Ideal S8192x1024 .bf16) (ix2 ⟨(t.val / 11 - 8) * 1024 + r.val, by have := t_lt t; omega⟩ d) := by
  blk_ext [iblk, (idx t).2.2.1]

theorem i3 (t : Fin cfg0.N) (r d : Fin 1024) : (iblk m c 3 t : Vec Ideal S1024x1024 .bf16) (ix2 r d) = aWo m c (ix2 r d) := by
  rw [← V14]
  blk_ext [iblk, (idx t).2.2.2.1]

theorem i4 (t : Fin cfg0.N) (q : Fin 6144) : (iblk m c 4 t : Vec Ideal S1x1x1x6144 .f32) (ix4 0 0 0 q)
    = (V m c main_v15 : FVec Ideal S4x16x1x6144 .f32) (ix4 3 ⟨if t.val / 11 < 8 then 0 else t.val / 11, by have := t_lt t; split <;> omega⟩ 0 q) := by
  blk_ext [iblk, (idx t).2.2.2.2.1]

theorem i5 (t : Fin cfg0.N) (d : Fin 1024) : (iblk m c 5 t : Vec Ideal S1x1024 .f32) (ix2 0 d) = aN2 m c (ix2 3 d) := by
  rw [← V16]
  blk_ext [iblk, (idx t).2.2.2.2.2.1]

theorem i6 (t : Fin cfg0.N) (k : Fin 1024) (j : Fin 256) : (iblk m c 6 t : Vec Ideal S1x1024x256 .f32) (ix3 0 k j)
    = aWu m c (ix3 3 k ⟨t.val % 11 * 256 + j.val, by omega⟩) := by
  refine Eq.trans ?_ (congrFun (V_main_arg8 m c) _)
  blk_ext [iblk, (idx t).2.2.2.2.2.2.1]

theorem i7 (t : Fin cfg0.N) (k : Fin 1024) (j : Fin 256) : (iblk m c 7 t : Vec Ideal S1x1024x256 .f32) (ix3 0 k j)
    = aWu m c (ix3 3 k ⟨(11 + t.val % 11) * 256 + j.val, by omega⟩) := by
  refine Eq.trans ?_ (congrFun (V_main_arg8 m c) _)
  blk_ext [iblk, (idx t).2.2.2.2.2.2.2.1]

theorem i8 (t : Fin cfg0.N) (j : Fin 256) : (iblk m c 8 t : Vec Ideal S1x1x256 .f32) (ix3 0 0 j)
    = aBu m c (ix2 3 ⟨t.val % 11 * 256 + j.val, by omega⟩) := by
  rw [← V12]
  blk_ext [iblk, (idx t).2.2.2.2.2.2.2.2.1]

theorem i9 (t : Fin cfg0.N) (j : Fin 256) : (iblk m c 9 t : Vec Ideal S1x1x256 .f32) (ix3 0 0 j)
    = aBu m c (ix2 3 ⟨(11 + t.val % 11) * 256 + j.val, by omega⟩) := by
  rw [← V12]
  blk_ext [iblk, (idx t).2.2.2.2.2.2.2.2.2.1]

theorem i10 (t : Fin cfg0.N) (a : Fin 3) (j : Fin 256) : (iblk m c 10 t : Vec Ideal S1x3x256 .f32) (ix3 0 a j)
    = aCk m c (ix3 3 a ⟨t.val % 11 * 256 + j.val, by omega⟩) := by
  refine Eq.trans ?_ (congrFun (V_main_arg10 m c) _)
  blk_ext [iblk, (idx t).2.2.2.2.2.2.2.2.2.2.1]

theorem i11 (t : Fin cfg0.N) (a : Fin 3) (j : Fin 256) : (iblk m c 11 t : Vec Ideal S1x3x256 .f32) (ix3 0 a j)
    = aCk m c (ix3 3 a ⟨(11 + t.val % 11) * 256 + j.val, by omega⟩) := by
  refine Eq.trans ?_ (congrFun (V_main_arg10 m c) _)
  blk_ext [iblk, (idx t).2.2.2.2.2.2.2.2.2.2.2.1]

theorem i12 (t : Fin cfg0.N) (j : Fin 256) : (iblk m c 12 t : Vec Ideal S1x1x256 .f32) (ix3 0 0 j)
    = aCb m c (ix2 3 ⟨t.val % 11 * 256 + j.val, by omega⟩) := by
  rw [← V13]
  blk_ext [iblk, (idx t).2.2.2.2.2.2.2.2.2.2.2.2.1]

theorem i13 (t : Fin cfg0.N) (j : Fin 256) : (iblk m c 13 t : Vec Ideal S1x1x256 .f32) (ix3 0 0 j)
    = aCb m c (ix2 3 ⟨(11 + t.val % 11) * 256 + j.val, by omega⟩) := by
  rw [← V13]
  blk_ext [iblk, (idx t).2.2.2.2.2.2.2.2.2.2.2.2.2.1]

theorem i14 (t : Fin cfg0.N) (j : Fin 256) (d : Fin 1024) : (iblk m c 14 t : Vec Ideal S1x256x1024 .f32) (ix3 0 j d)
    = aWd m c (ix3 3 ⟨t.val % 11 * 256 + j.val, by omega⟩ d) := by
  refine Eq.trans ?_ (congrFun (V_main_arg12 m c) _)
  blk_ext [iblk, (idx t).2.2.2.2.2.2.2.2.2.2.2.2.2.2.1]

end Cert.Kernel3Ideal.Ffn
-- ==== Proof.FfnLastRef.lean ====
module

public import proofs.«01_k».proof.Proof.Gen.Reference3Ideal.Run
public import proofs.«01_k».proof.Proof.Gen.Reference3Ideal.Read
public import proofs.«01_k».proof.Proof.FfnRef

@[expose] public section

/-! The reference's last feed-forward layer read at an index, as the layer's arithmetic on the rows of a sequence. -/

set_option maxRecDepth 16384
noncomputable section
namespace Cert.Reference3Ideal.Ffn
open Cert.Reference3Ideal Cert.Reference3Ideal.Gen Cert.Reference3Ideal.Read Idealize.ShloMosaic Idealize.ShloMosaic.TcCoe Idealize.SL.Sem Cert.FfnMath
open Cert.Reference2Ideal.Ffn (hC hL wo pad_zero pad_row)

variable (x4 : (⟨S1024x1024, .f32⟩ : BufTy).Contents (Elt Ideal)) (x7 : (⟨S4x1024, .f32⟩ : BufTy).Contents (Elt Ideal)) (x8 : (⟨S4x1024x5632, .f32⟩ : BufTy).Contents (Elt Ideal))
  (x9 x11 : (⟨S4x5632, .f32⟩ : BufTy).Contents (Elt Ideal)) (x10 : (⟨S4x3x5632, .f32⟩ : BufTy).Contents (Elt Ideal)) (x12 : (⟨S4x2816x1024, .f32⟩ : BufTy).Contents (Elt Ideal))

/-- The weights of the layer, by coordinates. -/
def gn (d : Fin 1024) : EReal := x7 (ix2 3 d)
def wu (k : Fin 1024) (j : Fin 5632) : EReal := x8 (ix3 3 k j)
def bu (j : Fin 5632) : EReal := x9 (ix2 3 j)
def cbR (j : Fin 5632) : EReal := x11 (ix2 3 j)
def ck (a : Fin 3) (j : Fin 5632) : EReal := x10 (ix3 3 a j)
def wd (q : Fin 2816) (d : Fin 1024) : EReal := x12 (ix3 3 q d)

/-! ## The context -/

section
variable (x0 x2 : (⟨S32x256x1024, .f32⟩ : BufTy).Contents (Elt Ideal)) (x5 : (⟨S4x6144, .f32⟩ : BufTy).Contents (Elt Ideal))

/-- A sequence's modulation. -/
def mC (q : Fin 6144) : EReal := x5 (ix2 3 q)

theorem v23 (b : Fin 32) (t : Fin 256) (d : Fin 1024) : val_main_v23 (F := Ideal) x0 x2 x4 x5 (ix3 b t d)
    = yRow (hC x0 b t) (hC x2 b t) (mC x5) (wo x4) d := by
  unfold yRow hC mC wo
  simp only [Nat.mod_eq_of_lt t.isLt]
  pointwise [val_main_v23, val_main_v22, val_main_v21, val_main_v20, val_main_v19, val_main_v15, val_main_v12, val_main_v11, val_main_v10]

/-- The normalised rows of sequence `b`. -/
def nC (b : Fin 32) (t : ℕ) : Fin 1024 → EReal := nRow (yRow (hC x0 b t) (hC x2 b t) (mC x5) (wo x4)) (mC x5) (gn x7)

theorem v46 (b : Fin 32) (t : Fin 256) (d : Fin 1024) : val_main_v46 (F := Ideal) x0 x2 x4 x5 x7 (ix3 b t d) = nC x4 x7 x0 x2 x5 b t d := by
  unfold nC nRow gn
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v16, val_main_v17, val_main_v12, val_main_v11, val_main_v10, val_main_cst, val_main_cst_0, val_main_cst_1, val_main_cst_2, v23, Ideal.ofBits_zero_f32]
  rfl

theorem v50 (b : Fin 32) (t : Fin 256) (j : Fin 5632) : val_main_v50 (F := Ideal) x0 x2 x4 x5 x7 x8 x9 (ix3 b t j)
    = upR (nC x4 x7 x0 x2 x5 b) (wu x8) t j + bu x9 j := by
  unfold upR wu bu
  pointwise [val_main_v50, val_main_v49, val_main_v48, val_main_v47, val_main_v3, val_main_v2, val_main_v1, val_main_v0, v46]

theorem v51 (b : Fin 32) (s : Fin 258) (j : Fin 5632) : val_main_v51 (F := Ideal) x0 x2 x4 x5 x7 x8 x9 (ix3 b s j)
    = if s.val = 0 ∨ s.val = 256 + 1 then 0 else upR (nC x4 x7 x0 x2 x5 b) (wu x8) (s.val - 1) j + bu x9 j := by
  rw [← pad_row 256 s.val s.isLt fun r => upR (nC x4 x7 x0 x2 x5 b) (wu x8) r j + bu x9 j, ← pad_zero]
  pointwise [val_main_v51, val_main_call0_v0, val_main_c, v50]

theorem v76 (b : Fin 32) (t : Fin 256) (j : Fin 5632) : val_main_v76 (F := Ideal) x0 x2 x4 x5 x7 x8 x9 x10 x11 (ix3 b t j)
    = cvR 256 (nC x4 x7 x0 x2 x5 b) (wu x8) (bu x9) (cbR x11) (ck x10) t j := by
  have ht := t.isLt
  have a0 : (t.val = 0 ∨ t.val = 256 + 1) = (t.val = 0) := propext (by omega)
  have a1 : ¬(1 + t.val = 0 ∨ 1 + t.val = 256 + 1) := by omega
  have a2 : (2 + t.val = 0 ∨ 2 + t.val = 256 + 1) = (t.val + 1 = 256) := propext (by omega)
  have e1 : 1 + t.val - 1 = t.val := by omega
  have e2 : 2 + t.val - 1 = t.val + 1 := by omega
  have key : val_main_v76 (F := Ideal) x0 x2 x4 x5 x7 x8 x9 x10 x11 (ix3 b t j)
      = x11 (ix2 3 j) + ((val_main_v51 (F := Ideal) x0 x2 x4 x5 x7 x8 x9 (ix3 b ⟨t, by omega⟩ j) * x10 (ix3 3 0 j)
        + val_main_v51 (F := Ideal) x0 x2 x4 x5 x7 x8 x9 (ix3 b ⟨1 + t, by omega⟩ j) * x10 (ix3 3 1 j))
        + val_main_v51 (F := Ideal) x0 x2 x4 x5 x7 x8 x9 (ix3 b ⟨2 + t, by omega⟩ j) * x10 (ix3 3 2 j) : EReal) := by
    unfold val_main_v76 val_main_v73 val_main_v66 val_main_v59 val_main_v57 val_main_v52 val_main_v65 val_main_v60 val_main_v72 val_main_v67
    generalize val_main_v51 (F := Ideal) x0 x2 x4 x5 x7 x8 x9 = P
    pointwise [val_main_v75, val_main_v74, val_main_v71, val_main_v70, val_main_v69, val_main_v68, val_main_v64, val_main_v63, val_main_v62, val_main_v61, val_main_v58, val_main_v56, val_main_v55, val_main_v54, val_main_v53, val_main_v7, val_main_v6, val_main_v5, val_main_v4, val_main_cst_3, Ideal.ofBits_zero_f32]
  rw [key, v51, v51, v51]
  unfold cvR
  simp only [a0, a1, a2, e1, e2, if_false]
  rfl

theorem v80 (b : Fin 32) (t : Fin 256) (q : Fin 2816) : val_main_v80 (F := Ideal) x0 x2 x4 x5 x7 x8 x9 x10 x11 (ix3 b t q)
    = gateS (cvR 256 (nC x4 x7 x0 x2 x5 b) (wu x8) (bu x9) (cbR x11) (ck x10) t ⟨q.val, by omega⟩)
        (cvR 256 (nC x4 x7 x0 x2 x5 b) (wu x8) (bu x9) (cbR x11) (ck x10) t ⟨2816 + q.val, by omega⟩) := by
  unfold gateS Ideal.logistic
  pointwise [val_main_v80, val_main_v79, val_main_v78, val_main_v77, val_main_call1_v5, val_main_call1_v4, val_main_call1_cst_0, val_main_call1_v3, val_main_call1_v2, val_main_call1_cst, val_main_call1_v1, val_main_call1_v0, v76, Ideal.ofBits_one_f32]

theorem v85 (b : Fin 32) (t : Fin 256) (d : Fin 1024) : val_main_v85 (F := Ideal) x0 x2 x4 x5 x7 x8 x9 x10 x11 x12 (ix3 b t d)
    = outR 256 (hC x0 b) (hC x2 b) (mC x5) (wo x4) (gn x7) (wu x8) (bu x9) (cbR x11) (ck x10) (wd x12) t d := by
  unfold outR wd
  pointwise [val_main_v85, val_main_v84, val_main_v83, val_main_v82, val_main_v81, val_main_v18, val_main_v12, val_main_v11, val_main_v10, val_main_v9, val_main_v8, v23, v80]
  rfl

end

/-! ## The lattice -/

section
variable (x1 x3 : (⟨S8x1024x1024, .f32⟩ : BufTy).Contents (Elt Ideal)) (x6 : (⟨S4x8x6144, .f32⟩ : BufTy).Contents (Elt Ideal))

/-- A sequence's modulation. -/
def mL (b : Fin 8) (q : Fin 6144) : EReal := x6 (ix3 3 b q)

theorem v99 (b : Fin 8) (t : Fin 1024) (d : Fin 1024) : val_main_v99 (F := Ideal) x1 x3 x4 x6 (ix3 b t d)
    = yRow (hL x1 b t) (hL x3 b t) (mL x6 b) (wo x4) d := by
  unfold yRow hL mL wo
  simp only [Nat.mod_eq_of_lt t.isLt]
  pointwise [val_main_v99, val_main_v98, val_main_v97, val_main_v96, val_main_v92, val_main_v89, val_main_v88, val_main_v87]

/-- The normalised rows of sequence `b`. -/
def nL (b : Fin 8) (t : ℕ) : Fin 1024 → EReal := nRow (yRow (hL x1 b t) (hL x3 b t) (mL x6 b) (wo x4)) (mL x6 b) (gn x7)

theorem v120 (b : Fin 8) (t : Fin 1024) (d : Fin 1024) : val_main_v120 (F := Ideal) x1 x3 x4 x6 x7 (ix3 b t d) = nL x4 x7 x1 x3 x6 b t d := by
  unfold nL nRow gn
  pointwise [val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v94, val_main_v93, val_main_v89, val_main_v88, val_main_v87, val_main_cst_4, val_main_cst_5, val_main_cst_6, val_main_cst_7, v99, Ideal.ofBits_zero_f32]
  rfl

theorem v124 (b : Fin 8) (t : Fin 1024) (j : Fin 5632) : val_main_v124 (F := Ideal) x1 x3 x4 x6 x7 x8 x9 (ix3 b t j)
    = upR (nL x4 x7 x1 x3 x6 b) (wu x8) t j + bu x9 j := by
  unfold upR wu bu
  pointwise [val_main_v124, val_main_v123, val_main_v122, val_main_v121, val_main_v3, val_main_v2, val_main_v1, val_main_v0, v120]

theorem v125 (b : Fin 8) (s : Fin 1026) (j : Fin 5632) : val_main_v125 (F := Ideal) x1 x3 x4 x6 x7 x8 x9 (ix3 b s j)
    = if s.val = 0 ∨ s.val = 1024 + 1 then 0 else upR (nL x4 x7 x1 x3 x6 b) (wu x8) (s.val - 1) j + bu x9 j := by
  rw [← pad_row 1024 s.val s.isLt fun r => upR (nL x4 x7 x1 x3 x6 b) (wu x8) r j + bu x9 j, ← pad_zero]
  pointwise [val_main_v125, val_main_call2_v0, val_main_c_8, v124]

theorem v150 (b : Fin 8) (t : Fin 1024) (j : Fin 5632) : val_main_v150 (F := Ideal) x1 x3 x4 x6 x7 x8 x9 x10 x11 (ix3 b t j)
    = cvR 1024 (nL x4 x7 x1 x3 x6 b) (wu x8) (bu x9) (cbR x11) (ck x10) t j := by
  have ht := t.isLt
  have a0 : (t.val = 0 ∨ t.val = 1024 + 1) = (t.val = 0) := propext (by omega)
  have a1 : ¬(1 + t.val = 0 ∨ 1 + t.val = 1024 + 1) := by omega
  have a2 : (2 + t.val = 0 ∨ 2 + t.val = 1024 + 1) = (t.val + 1 = 1024) := propext (by omega)
  have e1 : 1 + t.val - 1 = t.val := by omega
  have e2 : 2 + t.val - 1 = t.val + 1 := by omega
  have key : val_main_v150 (F := Ideal) x1 x3 x4 x6 x7 x8 x9 x10 x11 (ix3 b t j)
      = x11 (ix2 3 j) + ((val_main_v125 (F := Ideal) x1 x3 x4 x6 x7 x8 x9 (ix3 b ⟨t, by omega⟩ j) * x10 (ix3 3 0 j)
        + val_main_v125 (F := Ideal) x1 x3 x4 x6 x7 x8 x9 (ix3 b ⟨1 + t, by omega⟩ j) * x10 (ix3 3 1 j))
        + val_main_v125 (F := Ideal) x1 x3 x4 x6 x7 x8 x9 (ix3 b ⟨2 + t, by omega⟩ j) * x10 (ix3 3 2 j) : EReal) := by
    unfold val_main_v150 val_main_v147 val_main_v140 val_main_v133 val_main_v131 val_main_v126 val_main_v139 val_main_v134 val_main_v146 val_main_v141
    generalize val_main_v125 (F := Ideal) x1 x3 x4 x6 x7 x8 x9 = P
    pointwise [val_main_v149, val_main_v148, val_main_v145, val_main_v144, val_main_v143, val_main_v142, val_main_v138, val_main_v137, val_main_v136, val_main_v135, val_main_v132, val_main_v130, val_main_v129, val_main_v128, val_main_v127, val_main_v7, val_main_v6, val_main_v5, val_main_v4, val_main_cst_9, Ideal.ofBits_zero_f32]
  rw [key, v125, v125, v125]
  unfold cvR
  simp only [a0, a1, a2, e1, e2, if_false]
  rfl

theorem v154 (b : Fin 8) (t : Fin 1024) (q : Fin 2816) : val_main_v154 (F := Ideal) x1 x3 x4 x6 x7 x8 x9 x10 x11 (ix3 b t q)
    = gateS (cvR 1024 (nL x4 x7 x1 x3 x6 b) (wu x8) (bu x9) (cbR x11) (ck x10) t ⟨q.val, by omega⟩)
        (cvR 1024 (nL x4 x7 x1 x3 x6 b) (wu x8) (bu x9) (cbR x11) (ck x10) t ⟨2816 + q.val, by omega⟩) := by
  unfold gateS Ideal.logistic
  pointwise [val_main_v154, val_main_v153, val_main_v152, val_main_v151, val_main_call3_v5, val_main_call3_v4, val_main_call3_cst_0, val_main_call3_v3, val_main_call3_v2, val_main_call3_cst, val_main_call3_v1, val_main_call3_v0, v150, Ideal.ofBits_one_f32]

theorem v158 (b : Fin 8) (t : Fin 1024) (d : Fin 1024) : val_main_v158 (F := Ideal) x1 x3 x4 x6 x7 x8 x9 x10 x11 x12 (ix3 b t d)
    = outR 1024 (hL x1 b) (hL x3 b) (mL x6 b) (wo x4) (gn x7) (wu x8) (bu x9) (cbR x11) (ck x10) (wd x12) t d := by
  unfold outR wd
  pointwise [val_main_v158, val_main_v157, val_main_v156, val_main_v155, val_main_v95, val_main_v89, val_main_v88, val_main_v87, val_main_v9, val_main_v8, v99, v154]
  rfl

end

/-! ## The results -/

theorem v86 (x0 x2 : (⟨S32x256x1024, .f32⟩ : BufTy).Contents (Elt Ideal)) (x5 : (⟨S4x6144, .f32⟩ : BufTy).Contents (Elt Ideal)) (R : Fin 8192) (d : Fin 1024) :
    val_main_v86 (F := Ideal) x0 x2 x4 x5 x7 x8 x9 x10 x11 x12 (ix2 R d)
      = outR 256 (hC x0 ⟨R.val / 256, by omega⟩) (hC x2 ⟨R.val / 256, by omega⟩) (mC x5) (wo x4) (gn x7) (wu x8) (bu x9) (cbR x11) (ck x10) (wd x12) (R.val % 256) d := by
  pointwise [val_main_v86, v85]

theorem v159 (x1 x3 : (⟨S8x1024x1024, .f32⟩ : BufTy).Contents (Elt Ideal)) (x6 : (⟨S4x8x6144, .f32⟩ : BufTy).Contents (Elt Ideal)) (R : Fin 8192) (d : Fin 1024) :
    val_main_v159 (F := Ideal) x1 x3 x4 x6 x7 x8 x9 x10 x11 x12 (ix2 R d)
      = outR 1024 (hL x1 ⟨R.val / 1024, by omega⟩) (hL x3 ⟨R.val / 1024, by omega⟩) (mL x6 ⟨R.val / 1024, by omega⟩) (wo x4) (gn x7) (wu x8) (bu x9) (cbR x11) (ck x10) (wd x12) (R.val % 1024) d := by
  pointwise [val_main_v159, v158]

end Cert.Reference3Ideal.Ffn
-- ==== Proof.FfnLastRows.lean ====
module

public import proofs.«01_k».proof.Proof.FfnLastSweep
public import proofs.«01_k».proof.Proof.FfnLastBlocks
public import proofs.«01_k».proof.Proof.FfnLastRef
public import proofs.«01_k».proof.Proof.FfnRows

@[expose] public section

/-! In the last feed-forward call, the tile's normalised rows and its convolution, as the reference's rows of a sequence: a context tile holds four sequences of
256 rows, a lattice tile one sequence of 1024. -/

set_option maxRecDepth 16384
noncomputable section
namespace Cert.Kernel3Ideal.Ffn
open Cert.Kernel3Ideal Cert.Kernel3Ideal.Gen Idealize.ShloMosaic Idealize.ShloMosaic.TcCoe Idealize.SL.Sem Idealize.ShloMosaic.Tactic Cert.FfnMath
open Cert.Reference2Ideal.Ffn (hC hL wo)
open Cert.Reference3Ideal.Ffn (mC mL nC nL gn wu bu cbR ck wd)
open Cert.Kernel2Ideal.Ffn (lat seqC seqL xNew_eq xNorm_eq U U_eq cv prevU nextU cv_eq)

variable (m : (ℓ : Loc nD τ sig) → Buf (Elt Ideal) ℓ) (c : Dev nD)

/-! ## The tile's inputs by rows -/

theorem wo_eq (t : Fin cfg0.N) (e d : Fin 1024) : (iblk m c 3 t : Vec Ideal S1024x1024 .bf16) (ix2 e d) = wo (aWo m c) e d := i3 m c t e d

theorem gn_eq (t : Fin cfg0.N) (d : Fin 1024) : (iblk m c 5 t : Vec Ideal S1x1024 .f32) (ix2 0 d) = gn (aN2 m c) d := i5 m c t d

theorem pt_div (i : Fin 16) (f : ℕ) (hf : f ≤ 10) : (pt i f).val / 11 = i.val := by rw [pt_val i f hf]; omega

theorem md_ctx (i : Fin 16) (hi : i.val < 8) (f : ℕ) (hf : f ≤ 10) (q : Fin 6144) :
    (iblk m c 4 (pt i f) : Vec Ideal S1x1x1x6144 .f32) (ix4 0 0 0 q) = mC (aMC m c) q := by
  have e := pt_div i f hf
  refine (i4 m c (pt i f) q).trans (Eq.trans ?_ (V15c m c q))
  refine congrArg (fun x => (V m c main_v15 : FVec Ideal S4x16x1x6144 .f32) (ix4 3 x 0 q)) (Fin.ext ?_)
  show (if (pt i f).val / 11 < 8 then 0 else _) = 0
  rw [if_pos (by omega)]

theorem md_lat (i : Fin 16) (hi : 8 ≤ i.val) (f : ℕ) (hf : f ≤ 10) (q : Fin 6144) :
    (iblk m c 4 (pt i f) : Vec Ideal S1x1x1x6144 .f32) (ix4 0 0 0 q) = mL (aML m c) (seqL i) q := by
  have e := pt_div i f hf
  refine (i4 m c (pt i f) q).trans (Eq.trans ?_ (V15l m c (seqL i) q))
  refine congrArg (fun x => (V m c main_v15 : FVec Ideal S4x16x1x6144 .f32) (ix4 3 x 0 q)) (Fin.ext ?_)
  show (if (pt i f).val / 11 < 8 then 0 else (pt i f).val / 11) = 8 + (i.val - 8) % 8
  rw [if_neg (by omega)]
  omega

theorem h_ctx (i : Fin 16) (hi : i.val < 8) (f : ℕ) (hf : f ≤ 10) (r d : Fin 1024) :
    (iblk m c 0 (pt i f) : Vec Ideal S1024x1024 .f32) (ix2 r d) = hC (aHC m c) (seqC i r) (r.val % 256) d := by
  have e := pt_div i f hf
  refine (i0 m c (pt i f) r d).trans ((V2 m c _ d).trans ?_)
  rw [dif_pos (by show (pt i f).val / 11 * 1024 + r.val < 8192; omega)]
  refine congrArg₂ (fun x y => aHC m c (ix3 x y d)) (Fin.ext ?_) (Fin.ext ?_)
  · show ((pt i f).val / 11 * 1024 + r.val) / 256 = (4 * i.val + r.val / 256) % 32; omega
  · show ((pt i f).val / 11 * 1024 + r.val) % 256 = r.val % 256 % 256; omega

theorem h_lat (i : Fin 16) (hi : 8 ≤ i.val) (f : ℕ) (hf : f ≤ 10) (r d : Fin 1024) :
    (iblk m c 0 (pt i f) : Vec Ideal S1024x1024 .f32) (ix2 r d) = hL (aHL m c) (seqL i) r d := by
  have e := pt_div i f hf
  refine (i0 m c (pt i f) r d).trans ((V2 m c _ d).trans ?_)
  rw [dif_neg (by show ¬(pt i f).val / 11 * 1024 + r.val < 8192; omega)]
  refine congrArg₂ (fun x y => aHL m c (ix3 x y d)) (Fin.ext ?_) (Fin.ext ?_)
  · show ((pt i f).val / 11 * 1024 + r.val - 8192) / 1024 = (i.val - 8) % 8; omega
  · show ((pt i f).val / 11 * 1024 + r.val - 8192) % 1024 = r.val % 1024; omega

theorem o_ctx (i : Fin 16) (hi : i.val < 8) (f : ℕ) (hf : f ≤ 10) (r d : Fin 1024) :
    Scalar.select (lat i) ((iblk m c 2 (pt i f) : Vec Ideal S1024x1024 .bf16) (ix2 r d) : EReal) ((iblk m c 1 (pt i f) : Vec Ideal S1024x1024 .bf16) (ix2 r d))
      = hC (aOC m c) (seqC i r) (r.val % 256) d := by
  have e := pt_div i f hf
  have hl : lat i = 0#1 := if_pos hi
  rw [hl]
  refine Eq.trans (if_neg (by decide)) ((i1 m c (pt i f) r d).trans ((V7 m c _ d).trans ?_))
  refine congrArg₂ (fun x y => aOC m c (ix3 x y d)) (Fin.ext ?_) (Fin.ext ?_)
  · show (min ((pt i f).val / 11) 7 * 1024 + r.val) / 256 = (4 * i.val + r.val / 256) % 32; omega
  · show (min ((pt i f).val / 11) 7 * 1024 + r.val) % 256 = r.val % 256 % 256; omega

theorem o_lat (i : Fin 16) (hi : 8 ≤ i.val) (f : ℕ) (hf : f ≤ 10) (r d : Fin 1024) :
    Scalar.select (lat i) ((iblk m c 2 (pt i f) : Vec Ideal S1024x1024 .bf16) (ix2 r d) : EReal) ((iblk m c 1 (pt i f) : Vec Ideal S1024x1024 .bf16) (ix2 r d))
      = hL (aOL m c) (seqL i) r d := by
  have e := pt_div i f hf
  have hl : lat i = 1#1 := if_neg (by omega)
  rw [hl]
  refine Eq.trans (if_pos rfl) ((i2 m c (pt i f) r d).trans ((V9 m c _ d).trans ?_))
  refine congrArg₂ (fun x y => aOL m c (ix3 x y d)) (Fin.ext ?_) (Fin.ext ?_)
  · show (((pt i f).val / 11 - 8) * 1024 + r.val) / 1024 = (i.val - 8) % 8; omega
  · show (((pt i f).val / 11 - 8) * 1024 + r.val) % 1024 = r.val % 1024; omega

/-! ## The residual stream and the normalised rows -/

theorem x_ctx (i : Fin 16) (hi : i.val < 8) (r d : Fin 1024) :
    xR m c i (ix2 r d) = yRow (hC (aHC m c) (seqC i r) (r.val % 256)) (hC (aOC m c) (seqC i r) (r.val % 256)) (mC (aMC m c)) (wo (aWo m c)) d :=
  xNew_eq _ _ _ _ _ _ r d _ _ _ _ (h_ctx m c i hi 0 (by omega) r) (o_ctx m c i hi 0 (by omega) r) (md_ctx m c i hi 0 (by omega)) (wo_eq m c (pt i 0))

theorem x_lat (i : Fin 16) (hi : 8 ≤ i.val) (r d : Fin 1024) :
    xR m c i (ix2 r d) = yRow (hL (aHL m c) (seqL i) r) (hL (aOL m c) (seqL i) r) (mL (aML m c) (seqL i)) (wo (aWo m c)) d :=
  xNew_eq _ _ _ _ _ _ r d _ _ _ _ (h_lat m c i hi 0 (by omega) r) (o_lat m c i hi 0 (by omega) r) (md_lat m c i hi 0 (by omega)) (wo_eq m c (pt i 0))

theorem n_ctx (i : Fin 16) (hi : i.val < 8) (r d : Fin 1024) :
    xN m c i (ix2 r d) = nC (aWo m c) (aN2 m c) (aHC m c) (aOC m c) (aMC m c) (seqC i r) (r.val % 256) d :=
  xNorm_eq _ _ _ _ _ _ _ r d _ _ _ (x_ctx m c i hi r) (md_ctx m c i hi 0 (by omega)) (gn_eq m c (pt i 0))

theorem n_lat (i : Fin 16) (hi : 8 ≤ i.val) (r d : Fin 1024) :
    xN m c i (ix2 r d) = nL (aWo m c) (aN2 m c) (aHL m c) (aOL m c) (aML m c) (seqL i) r d :=
  xNorm_eq _ _ _ _ _ _ _ r d _ _ _ (x_lat m c i hi r) (md_lat m c i hi 0 (by omega)) (gn_eq m c (pt i 0))

/-! ## The up-projection and the convolution -/

theorem cv_ctx (i : Fin 16) (hi : i.val < 8) (w : Vec Ideal S1x1024x256 .f32) (b cb : Vec Ideal S1x1x256 .f32) (k : Vec Ideal S1x3x256 .f32)
    (r : Fin 1024) (j : Fin 256) (w' : Fin 1024 → Fin 5632 → EReal) (b' cb' : Fin 5632 → EReal) (k' : Fin 3 → Fin 5632 → EReal) (J : Fin 5632)
    (hw : ∀ k, w (ix3 0 k j) = w' k J) (hb : b (ix3 0 0 j) = b' J) (hcb : cb (ix3 0 0 j) = cb' J) (hk : ∀ a, k (ix3 0 a j) = k' a J)
    (rb : ∃ x : ℝ, b' J = x) (rk : ∀ a, ∃ x : ℝ, k' a J = x) :
    cv (lat i) (xN m c i) w b cb k r j = cvR 256 (nC (aWo m c) (aN2 m c) (aHC m c) (aOC m c) (aMC m c) (seqC i r)) w' b' cb' k' (r.val % 256) J := by
  have hl : lat i = 0#1 := if_pos hi
  have hU : ∀ (s : ℕ), s < 1024 → s / 256 = r.val / 256 → U (xN m c i) w s j = upR (nC (aWo m c) (aN2 m c) (aHC m c) (aOC m c) (aMC m c) (seqC i r)) w' (s % 256) J := by
    intro s hs hq
    refine U_eq _ _ s hs j _ _ _ J (fun k => ?_) hw
    have e : seqC i s = seqC i r := Fin.ext (by show (4 * i.val + s / 256) % 32 = (4 * i.val + r.val / 256) % 32; rw [hq])
    rw [← e]
    exact n_ctx m c i hi ⟨s, hs⟩ k
  refine cv_eq _ _ _ _ _ _ _ _ _ _ _ _ _ _ _ J hb hcb hk rb rk ?_ (hU r r.isLt rfl) ?_
  · unfold prevU
    rw [hl]
    by_cases h : r.val % 256 = 0
    · rw [if_pos h, if_pos h]
      split
      · rfl
      · exact if_neg (by decide)
    · rw [if_neg h, if_neg h, hU (r.val - 1) (by omega) (by omega)]
      congr 1; omega
  · unfold nextU
    rw [hl]
    by_cases h : r.val % 256 = 255
    · rw [if_pos h, if_pos (by omega : r.val % 256 + 1 = 256)]
      split
      · rfl
      · exact if_neg (by decide)
    · rw [if_neg h, if_neg (by omega : ¬r.val % 256 + 1 = 256), hU (r.val + 1) (by omega) (by omega)]
      congr 1; omega

theorem cv_lat (i : Fin 16) (hi : 8 ≤ i.val) (w : Vec Ideal S1x1024x256 .f32) (b cb : Vec Ideal S1x1x256 .f32) (k : Vec Ideal S1x3x256 .f32)
    (r : Fin 1024) (j : Fin 256) (w' : Fin 1024 → Fin 5632 → EReal) (b' cb' : Fin 5632 → EReal) (k' : Fin 3 → Fin 5632 → EReal) (J : Fin 5632)
    (hw : ∀ k, w (ix3 0 k j) = w' k J) (hb : b (ix3 0 0 j) = b' J) (hcb : cb (ix3 0 0 j) = cb' J) (hk : ∀ a, k (ix3 0 a j) = k' a J)
    (rb : ∃ x : ℝ, b' J = x) (rk : ∀ a, ∃ x : ℝ, k' a J = x) :
    cv (lat i) (xN m c i) w b cb k r j = cvR 1024 (nL (aWo m c) (aN2 m c) (aHL m c) (aOL m c) (aML m c) (seqL i)) w' b' cb' k' r J := by
  have hl : lat i = 1#1 := if_neg (by omega)
  have hU : ∀ (s : ℕ), s < 1024 → U (xN m c i) w s j = upR (nL (aWo m c) (aN2 m c) (aHL m c) (aOL m c) (aML m c) (seqL i)) w' s J := by
    intro s hs
    exact U_eq _ _ s hs j _ _ _ J (fun k => n_lat m c i hi ⟨s, hs⟩ k) hw
  refine cv_eq _ _ _ _ _ _ _ _ _ _ _ _ _ _ _ J hb hcb hk rb rk ?_ (hU r r.isLt) ?_
  · unfold prevU
    rw [hl]
    by_cases h : r.val = 0
    · rw [if_pos (by omega : r.val % 256 = 0), if_pos h, if_pos h]
    · rw [if_neg h, if_neg h, ← hU (r.val - 1) (by omega)]
      split
      · exact if_pos rfl
      · rfl
  · unfold nextU
    rw [hl]
    by_cases h : r.val = 1023
    · rw [if_pos (by omega : r.val % 256 = 255), if_pos h, if_pos (by omega : r.val + 1 = 1024)]
    · rw [if_neg h, if_neg (by omega : ¬r.val + 1 = 1024), ← hU (r.val + 1) (by omega)]
      split
      · exact if_pos rfl
      · rfl

end Cert.Kernel3Ideal.Ffn
-- ==== Proof.FfnLastValue.lean ====
module

public import proofs.«01_k».proof.Proof.FfnLastRows
public import proofs.«01_k».proof.Proof.FfnValue
public import proofs.«01_k».proof.Proof.FfnLastFrame

@[expose] public section

/-! The two arrays the last feed-forward launch leaves are the reference's. -/

set_option maxRecDepth 16384
noncomputable section
namespace Cert.Kernel3Ideal.Ffn
open Cert.Kernel3Ideal Cert.Kernel3Ideal.Gen Idealize.ShloMosaic Idealize.ShloMosaic.TcCoe Idealize.SL.Sem Idealize.ShloMosaic.Tactic Cert.FfnMath
open Cert.Reference2Ideal.Ffn (hC hL wo)
open Cert.Reference3Ideal.Ffn (mC mL nC nL gn wu bu cbR ck wd)
open Cert.Kernel2Ideal.Ffn (lat seqC seqL cv gate)

variable (m : (ℓ : Loc nD τ sig) → Buf (Elt Ideal) ℓ) (c : Dev nD)

/-! ## The precondition: the up-projection's bias and the taps are reals -/

theorem reals (h : Cert.Pre_Kernel3Ideal_finite_conv (hPre_finite_conv := Cert.Pre_finite_conv.Gen.facts) m) :
    (∀ i, ∃ r : ℝ, aBu m c i = (r : EReal)) ∧ (∀ i, ∃ r : ℝ, aCk m c i = (r : EReal)) := by
  have key : ∀ p q : BitVec 1, IntOp.andi p q = 1#1 → p = 1#1 ∧ q = 1#1 := by decide
  have h0 := congrFun (h c) (fun a => a.elim0)
  obtain ⟨h1, h2⟩ := key _ _ h0
  exact ⟨Cert.Finite.of_reduce _ _ _ _ _ _ (fun _ _ => funext fun a => a.elim0) _ h1,
    Cert.Finite.of_reduce _ _ _ _ _ _ (fun _ _ => funext fun a => a.elim0) _ h2⟩

/-- The reference's two results of the launch's arguments. -/
abbrev resC : FVec Ideal S8192x1024 .f32 := Cert.Reference3Ideal.Read.val_main_v86 (F := Ideal) (aHC m c) (aOC m c) (aWo m c) (aMC m c) (aN2 m c) (aWu m c) (aBu m c) (aCk m c) (aCb m c) (aWd m c)
abbrev resL : FVec Ideal S8192x1024 .f32 := Cert.Reference3Ideal.Read.val_main_v159 (F := Ideal) (aHL m c) (aOL m c) (aWo m c) (aML m c) (aN2 m c) (aWu m c) (aBu m c) (aCk m c) (aCb m c) (aWd m c)

/-! ## The columns' shares -/

theorem pt_mod (i : Fin 16) (f : ℕ) (hf : f ≤ 10) : (pt i f).val % 11 = f := by rw [pt_val i f hf]; omega

/-- A tile's row, given its convolution: the eleven shares are the sum over the 2816 hidden columns. -/
theorem shares (i : Fin 16) (r d : Fin 1024) (C : Fin 5632 → EReal)
    (hg : ∀ f : ℕ, ∀ hf : f ≤ 10, ∀ j : Fin 256, cv (lat i) (xN m c i) (wts m c (pt i f)).g (wts m c (pt i f)).bg (wts m c (pt i f)).cg (wts m c (pt i f)).kg r j
      = C ⟨f * 256 + j.val, by omega⟩)
    (hv : ∀ f : ℕ, ∀ hf : f ≤ 10, ∀ j : Fin 256, cv (lat i) (xN m c i) (wts m c (pt i f)).v (wts m c (pt i f)).bv (wts m c (pt i f)).cv (wts m c (pt i f)).kv r j
      = C ⟨(11 + f) * 256 + j.val, by omega⟩) :
    ∑ g ∈ Finset.range 11, share m c i g (ix2 r d)
      = ∑ q : Fin 2816, gateS (C ⟨q.val, by omega⟩) (C ⟨2816 + q.val, by omega⟩) * wd (aWd m c) q d := by
  have key := sum_blocks fun q => if h : q < 2816 then gateS (C ⟨q, by omega⟩) (C ⟨2816 + q, by omega⟩) * wd (aWd m c) ⟨q, h⟩ d else 0
  refine Eq.trans (Finset.sum_congr rfl fun f hf => ?_) (key.trans (Finset.sum_congr rfl fun q _ => dif_pos q.isLt))
  have hf' : f ≤ 10 := by have := Finset.mem_range.mp hf; omega
  unfold share
  refine Finset.sum_congr rfl fun j _ => ?_
  rw [dif_pos (by omega : f * 256 + j.val < 2816)]
  refine congrArg₂ (· * ·) ?_ ?_
  · show gate _ _ = gateS _ _
    refine congrArg₂ gateS ((hg f hf' j).trans rfl) ((hv f hf' j).trans (congrArg C (Fin.ext ?_)))
    show (11 + f) * 256 + j.val = 2816 + (f * 256 + j.val)
    omega
  · refine (i14 m c (pt i f) j d).trans (congrArg (fun x => aWd m c (ix3 3 x d)) (Fin.ext ?_))
    show (pt i f).val % 11 * 256 + j.val = f * 256 + j.val
    rw [pt_mod i f hf']

/-- A column of the gate half, and of the value half, at column block `f`. -/
theorem colG (i : Fin 16) (f : ℕ) (hf : f ≤ 10) (j : Fin 256) : (⟨(pt i f).val % 11 * 256 + j.val, by omega⟩ : Fin 5632) = ⟨f * 256 + j.val, by omega⟩ :=
  Fin.ext (by show (pt i f).val % 11 * 256 + j.val = f * 256 + j.val; rw [pt_mod i f hf])
theorem colV (i : Fin 16) (f : ℕ) (hf : f ≤ 10) (j : Fin 256) : (⟨(11 + (pt i f).val % 11) * 256 + j.val, by omega⟩ : Fin 5632) = ⟨(11 + f) * 256 + j.val, by omega⟩ :=
  Fin.ext (by show (11 + (pt i f).val % 11) * 256 + j.val = (11 + f) * 256 + j.val; rw [pt_mod i f hf])

/-- The first window is written back at the end of a context tile but the last, which is written back at the end of the launch. -/
theorem flushC (t : Fin cfg0.N) (hf : (cfg0.win 15).flush t = true) : t.val % 11 = 10 ∧ (t.val < 77 ∨ t.val = 175) :=
  (by decide +kernel : ∀ t : Fin grid0.N, (cfg0.win 15).flush t = true → t.val % 11 = 10 ∧ (t.val < 77 ∨ t.val = 175)) t hf

/-- The second window is written back at the end of a lattice tile. -/
theorem flushL (t : Fin cfg0.N) (hf : (cfg0.win 16).flush t = true) : t.val % 11 = 10 ∧ 88 ≤ t.val :=
  (by decide +kernel : ∀ t : Fin grid0.N, (cfg0.win 16).flush t = true → t.val % 11 = 10 ∧ 88 ≤ t.val) t hf

variable (h : Cert.Pre_Kernel3Ideal_finite_conv (hPre_finite_conv := Cert.Pre_finite_conv.Gen.facts) m)
include h

theorem out_ctx (i : Fin 16) (hi : i.val < 8) (r d : Fin 1024) : tileOut m c i (pt i 10) (ix2 r d)
    = outR 256 (hC (aHC m c) (seqC i r)) (hC (aOC m c) (seqC i r)) (mC (aMC m c)) (wo (aWo m c)) (gn (aN2 m c)) (wu (aWu m c)) (bu (aBu m c)) (cbR (aCb m c))
        (ck (aCk m c)) (wd (aWd m c)) (r.val % 256) d := by
  obtain ⟨rb, rk⟩ := reals m c h
  rw [out_last, Cert.Kernel2Ideal.Ffn.pay2_apply, x_ctx m c i hi, md_ctx m c i hi 10 (by omega)]
  unfold outR
  refine congrArg (fun z => yRow _ _ _ _ d + mC (aMC m c) ⟨5120 + d.val, by omega⟩ * z) ?_
  refine shares m c i r d (cvR 256 (nC (aWo m c) (aN2 m c) (aHC m c) (aOC m c) (aMC m c) (seqC i r)) (wu (aWu m c)) (bu (aBu m c)) (cbR (aCb m c)) (ck (aCk m c)) (r.val % 256)) ?_ ?_
  · intro f hf j
    rw [← colG i f hf j]
    exact cv_ctx m c i hi _ _ _ _ r j _ _ _ _ _ (fun k => i6 m c (pt i f) k j) (i8 m c (pt i f) j) (i12 m c (pt i f) j) (fun a => i10 m c (pt i f) a j) (rb _) (fun a => rk _)
  · intro f hf j
    rw [← colV i f hf j]
    exact cv_ctx m c i hi _ _ _ _ r j _ _ _ _ _ (fun k => i7 m c (pt i f) k j) (i9 m c (pt i f) j) (i13 m c (pt i f) j) (fun a => i11 m c (pt i f) a j) (rb _) (fun a => rk _)

theorem out_lat (i : Fin 16) (hi : 8 ≤ i.val) (r d : Fin 1024) : tileOut m c i (pt i 10) (ix2 r d)
    = outR 1024 (hL (aHL m c) (seqL i)) (hL (aOL m c) (seqL i)) (mL (aML m c) (seqL i)) (wo (aWo m c)) (gn (aN2 m c)) (wu (aWu m c)) (bu (aBu m c)) (cbR (aCb m c))
        (ck (aCk m c)) (wd (aWd m c)) r d := by
  obtain ⟨rb, rk⟩ := reals m c h
  rw [out_last, Cert.Kernel2Ideal.Ffn.pay2_apply, x_lat m c i hi, md_lat m c i hi 10 (by omega)]
  unfold outR
  refine congrArg (fun z => yRow _ _ _ _ d + mL (aML m c) (seqL i) ⟨5120 + d.val, by omega⟩ * z) ?_
  refine shares m c i r d (cvR 1024 (nL (aWo m c) (aN2 m c) (aHL m c) (aOL m c) (aML m c) (seqL i)) (wu (aWu m c)) (bu (aBu m c)) (cbR (aCb m c)) (ck (aCk m c)) r) ?_ ?_
  · intro f hf j
    rw [← colG i f hf j]
    exact cv_lat m c i hi _ _ _ _ r j _ _ _ _ _ (fun k => i6 m c (pt i f) k j) (i8 m c (pt i f) j) (i12 m c (pt i f) j) (fun a => i10 m c (pt i f) a j) (rb _) (fun a => rk _)
  · intro f hf j
    rw [← colV i f hf j]
    exact cv_lat m c i hi _ _ _ _ r j _ _ _ _ _ (fun k => i7 m c (pt i f) k j) (i9 m c (pt i f) j) (i13 m c (pt i f) j) (fun a => i11 m c (pt i f) a j) (rb _) (fun a => rk _)

/-- Row `r` of the tile that the last column block of tile `i` writes is the reference's row `1024 i + r`, counted in its stream. -/
theorem row_ctx (i : Fin 16) (hi : i.val < 8) (r d : Fin 1024) (R : Fin 8192) (hR : R.val = i.val * 1024 + r.val) :
    tileOut m c i (pt i 10) (ix2 r d) = resC m c (ix2 R d) := by
  show _ = Cert.Reference3Ideal.Read.val_main_v86 (F := Ideal) (aHC m c) (aOC m c) (aWo m c) (aMC m c) (aN2 m c) (aWu m c) (aBu m c) (aCk m c) (aCb m c) (aWd m c) (ix2 R d)
  rw [Cert.Reference3Ideal.Ffn.v86, out_ctx m c h i hi]
  have e : seqC i r = ⟨R.val / 256, by omega⟩ := Fin.ext (by show (4 * i.val + r.val / 256) % 32 = R.val / 256; omega)
  rw [e, show R.val % 256 = r.val % 256 by omega]

theorem row_lat (i : Fin 16) (hi : 8 ≤ i.val) (r d : Fin 1024) (R : Fin 8192) (hR : R.val = (i.val - 8) * 1024 + r.val) :
    tileOut m c i (pt i 10) (ix2 r d) = resL m c (ix2 R d) := by
  show _ = Cert.Reference3Ideal.Read.val_main_v159 (F := Ideal) (aHL m c) (aOL m c) (aWo m c) (aML m c) (aN2 m c) (aWu m c) (aBu m c) (aCk m c) (aCb m c) (aWd m c) (ix2 R d)
  rw [Cert.Reference3Ideal.Ffn.v159, out_lat m c h i hi]
  have e : seqL i = ⟨R.val / 1024, by omega⟩ := Fin.ext (by show (i.val - 8) % 8 = R.val / 1024; omega)
  rw [e, show R.val % 1024 = r.val by omega]

theorem finalC : (dats m 0 c).arrAt 15 cfg0.N = resC m c := by
  refine (dats m 0 c).arrAt_eq_of_covers 15 _ (by decide +kernel) fun t hf y => ?_
  obtain ⟨h10, h7⟩ := flushC t hf
  have ht := t_lt t
  let i : Fin 16 := ⟨min (t.val / 11) 7, by omega⟩
  have hi : i.val = min (t.val / 11) 7 := rfl
  have e : (outsAt0 m c t.val t.isLt).1 = tileOut m c i (pt i 10) := by
    unfold tileOut
    rw [if_pos (by omega)]
    have hv := pt_val i 10 (by omega)
    by_cases h' : t.val < 77
    · exact congrArg (·.1) (outsAt0_congr m c (by omega : t.val = (pt i 10).val) t.isLt (pt i 10).isLt)
    · exact (kept m c t.val (by omega) t.isLt).trans (congrArg (·.1) (outsAt0_congr m c (by omega : 87 = (pt i 10).val) _ (pt i 10).isLt))
  have key := row_ctx m c h i (by omega) (y 0) (y 1) ⟨i.val * 1024 + (y 0).val, by have : (y 0).val < 1024 := (y 0).isLt; omega⟩ rfl
  rw [← e] at key
  simp only [after0_15]
  refine Eq.trans ?_ (key.trans ?_)
  · blk_simp
    exact congrArg (outsAt0 m c t.val t.isLt).1 (eq_ix2 (y : S1024x1024.Idx))
  · refine congrArg _ (funext fun a => Fin.ext ?_)
    match a with
    | ⟨0, _⟩ => blk_simp [(idx t).2.2.2.2.2.2.2.2.2.2.2.2.2.2.2.1]; rfl
    | ⟨1, _⟩ => blk_simp [(idx t).2.2.2.2.2.2.2.2.2.2.2.2.2.2.2.1]; rfl

theorem finalL : (dats m 0 c).arrAt 16 cfg0.N = resL m c := by
  refine (dats m 0 c).arrAt_eq_of_covers 16 _ (by decide +kernel) fun t hf y => ?_
  obtain ⟨h10, h8⟩ := flushL t hf
  have ht := t_lt t
  let i : Fin 16 := ⟨t.val / 11, by omega⟩
  have hi : i.val = t.val / 11 := rfl
  have e : (outsAt0 m c t.val t.isLt).2.1 = tileOut m c i (pt i 10) := by
    unfold tileOut
    rw [if_neg (by omega)]
    have hv := pt_val i 10 (by omega)
    rw [outsAt0_congr m c (by omega : t.val = (pt i 10).val) t.isLt (pt i 10).isLt]
  have key := row_lat m c h i (by omega) (y 0) (y 1) ⟨(i.val - 8) * 1024 + (y 0).val, by have : (y 0).val < 1024 := (y 0).isLt; omega⟩ rfl
  rw [← e] at key
  simp only [after0_16]
  refine Eq.trans ?_ (key.trans ?_)
  · blk_simp
    exact congrArg (outsAt0 m c t.val t.isLt).2.1 (eq_ix2 (y : S1024x1024.Idx))
  · refine congrArg _ (funext fun a => Fin.ext ?_)
    match a with
    | ⟨0, _⟩ => blk_simp [(idx t).2.2.2.2.2.2.2.2.2.2.2.2.2.2.2.2]; rfl
    | ⟨1, _⟩ => blk_simp [(idx t).2.2.2.2.2.2.2.2.2.2.2.2.2.2.2.2]; rfl

omit h in
/-- The launch's run, with the output array named and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v17_0) = (dats m 0 c).arrAt 15 cfg0.N
      ∧ r.2.mem ((c : Thread nD τ).loc main_v17_1) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1 15, (h c).1 16,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c))),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).2 main_arg11 (Pipeline.mem_restRefs_of main_arg11 (by decide) (by decide))).trans (V_main_arg11 m c),
      ((h c).1 14).trans (((dats m 0 c).arrAt_in 14 rfl _).trans ((A_eq m c 14).trans (V_main_arg12 m c)))⟩)
    (run_main m ρ)

end Cert.Kernel3Ideal.Ffn
-- ==== Proof.FfnFirstPieces.lean ====
module

public import proofs.«01_k».proof.Proof.Gen.Kernel4Ideal.Frame
public import proofs.«01_k».proof.Proof.FfnRead

@[expose] public section

/-! Layer 0 of the feed-forward call, which takes the residual stream as two arrays: what a grid point leaves in its buffers, in the
terms already used for layer 2. -/

set_option maxRecDepth 16384
noncomputable section
namespace Cert.Kernel4Ideal.Ffn
open Cert.Kernel4Ideal Cert.Kernel4Ideal.Gen Idealize.ShloMosaic Idealize.ShloMosaic.TcCoe Idealize.SL.Sem Idealize.ShloMosaic.Tactic
open Cert.Kernel2Ideal.Ffn (accPieces xNew xNorm readCov_ld ld_skip up_ties row_ties halo_ties tie0 tie1 tie2 tie3)

variable {F : FTy → Type} [FloatOps F]

/-- Is the row tile one of the lattice frames? -/
def isLat (i : grid0.Coords) : BitVec 1 := Scalar.cmpi .sge (BitVec.ofNat 32 (i 0).val) 8#32

/-- Past the first point's stages the body's text is layer 2's, one stage further on. -/
theorem ties : (k0_pay9 (F := F) = Kernel2Ideal.Gen.k0_pay8 ∧ k0_pay10 (F := F) = Kernel2Ideal.Gen.k0_pay9 ∧ k0_pay11 (F := F) = Kernel2Ideal.Gen.k0_pay10 ∧ k0_pay12 (F := F) = Kernel2Ideal.Gen.k0_pay11 ∧ k0_pay13 (F := F) = Kernel2Ideal.Gen.k0_pay12 ∧ k0_pay14 (F := F) = Kernel2Ideal.Gen.k0_pay13 ∧ k0_pay15 (F := F) = Kernel2Ideal.Gen.k0_pay14 ∧ k0_pay16 (F := F) = Kernel2Ideal.Gen.k0_pay15) ∧
    (k0_pay17 (F := F) = Kernel2Ideal.Gen.k0_pay16 ∧ k0_pay18 (F := F) = Kernel2Ideal.Gen.k0_pay17 ∧ k0_pay19 (F := F) = Kernel2Ideal.Gen.k0_pay18 ∧ k0_pay20 (F := F) = Kernel2Ideal.Gen.k0_pay19 ∧ k0_pay21 (F := F) = Kernel2Ideal.Gen.k0_pay20 ∧ k0_pay22 (F := F) = Kernel2Ideal.Gen.k0_pay21 ∧ k0_pay23 (F := F) = Kernel2Ideal.Gen.k0_pay22 ∧ k0_pay24 (F := F) = Kernel2Ideal.Gen.k0_pay23) ∧
    (k0_pay25 (F := F) = Kernel2Ideal.Gen.k0_pay24 ∧ k0_pay26 (F := F) = Kernel2Ideal.Gen.k0_pay25 ∧ k0_pay27 (F := F) = Kernel2Ideal.Gen.k0_pay26 ∧ k0_pay28 (F := F) = Kernel2Ideal.Gen.k0_pay27 ∧ k0_pay29 (F := F) = Kernel2Ideal.Gen.k0_pay28 ∧ k0_pay30 (F := F) = Kernel2Ideal.Gen.k0_pay29 ∧ k0_pay31 (F := F) = Kernel2Ideal.Gen.k0_pay30 ∧ k0_pay32 (F := F) = Kernel2Ideal.Gen.k0_pay31) ∧
    (k0_pay33 (F := F) = Kernel2Ideal.Gen.k0_pay32 ∧ k0_pay34 (F := F) = Kernel2Ideal.Gen.k0_pay33 ∧ k0_pay35 (F := F) = Kernel2Ideal.Gen.k0_pay34 ∧ k0_pay36 (F := F) = Kernel2Ideal.Gen.k0_pay35 ∧ k0_pay37 (F := F) = Kernel2Ideal.Gen.k0_pay36 ∧ k0_pay38 (F := F) = Kernel2Ideal.Gen.k0_pay37 ∧ k0_pay39 (F := F) = Kernel2Ideal.Gen.k0_pay38 ∧ k0_pay40 (F := F) = Kernel2Ideal.Gen.k0_pay39) ∧
    (k0_pay41 (F := F) = Kernel2Ideal.Gen.k0_pay40 ∧ k0_pay42 (F := F) = Kernel2Ideal.Gen.k0_pay41 ∧ k0_pay43 (F := F) = Kernel2Ideal.Gen.k0_pay42 ∧ k0_pay44 (F := F) = Kernel2Ideal.Gen.k0_pay43 ∧ k0_pay45 (F := F) = Kernel2Ideal.Gen.k0_pay44 ∧ k0_pay46 (F := F) = Kernel2Ideal.Gen.k0_pay45 ∧ k0_pay47 (F := F) = Kernel2Ideal.Gen.k0_pay46 ∧ k0_pay48 (F := F) = Kernel2Ideal.Gen.k0_pay47) ∧
    (k0_pay49 (F := F) = Kernel2Ideal.Gen.k0_pay48 ∧ k0_pay50 (F := F) = Kernel2Ideal.Gen.k0_pay49 ∧ k0_pay51 (F := F) = Kernel2Ideal.Gen.k0_pay50 ∧ k0_pay52 (F := F) = Kernel2Ideal.Gen.k0_pay51 ∧ k0_pay53 (F := F) = Kernel2Ideal.Gen.k0_pay52 ∧ k0_pay54 (F := F) = Kernel2Ideal.Gen.k0_pay53 ∧ k0_pay55 (F := F) = Kernel2Ideal.Gen.k0_pay54 ∧ k0_pay56 (F := F) = Kernel2Ideal.Gen.k0_pay55) ∧
    (k0_pay57 (F := F) = Kernel2Ideal.Gen.k0_pay56 ∧ k0_pay58 (F := F) = Kernel2Ideal.Gen.k0_pay57 ∧ k0_pay59 (F := F) = Kernel2Ideal.Gen.k0_pay58 ∧ k0_pay60 (F := F) = Kernel2Ideal.Gen.k0_pay59 ∧ k0_pay61 (F := F) = Kernel2Ideal.Gen.k0_pay60 ∧ k0_pay62 (F := F) = Kernel2Ideal.Gen.k0_pay61 ∧ k0_pay63 (F := F) = Kernel2Ideal.Gen.k0_pay62 ∧ k0_pay64 (F := F) = Kernel2Ideal.Gen.k0_pay63) ∧
    (k0_pay65 (F := F) = Kernel2Ideal.Gen.k0_pay64 ∧ k0_pay66 (F := F) = Kernel2Ideal.Gen.k0_pay65 ∧ k0_pay67 (F := F) = Kernel2Ideal.Gen.k0_pay66 ∧ k0_pay68 (F := F) = Kernel2Ideal.Gen.k0_pay67) :=
  ⟨⟨rfl, rfl, rfl, rfl, rfl, rfl, rfl, rfl⟩, ⟨rfl, rfl, rfl, rfl, rfl, rfl, rfl, rfl⟩, ⟨rfl, rfl, rfl, rfl, rfl, rfl, rfl, rfl⟩, ⟨rfl, rfl, rfl, rfl, rfl, rfl, rfl, rfl⟩, ⟨rfl, rfl, rfl, rfl, rfl, rfl, rfl, rfl⟩, ⟨rfl, rfl, rfl, rfl, rfl, rfl, rfl, rfl⟩, ⟨rfl, rfl, rfl, rfl, rfl, rfl, rfl, rfl⟩, ⟨rfl, rfl, rfl, rfl⟩⟩

/-- The first point takes the stream's tile from the array its frame is in. -/
theorem heads (l : BitVec 1) (md : Vec F S1x1x1x6144 .f32) (h h' : Vec F S1024x1024 .f32) (ol oc w : Vec F S1024x1024 .bf16) (g : Vec F S1x1024 .f32) :
    k0_pay4 l md h h' ol oc w = xNew l (Scalar.select l h h') oc ol w md
      ∧ k0_pay8 (k0_pay5 md) (k0_pay6 md) (k0_pay7 l md h h' ol oc w g) (Scalar.ofBits .f32 0x3F800000#32) = xNorm l (Scalar.select l h h') oc ol w md g := by
  rcases (by decide : ∀ l : BitVec 1, l = 0#1 ∨ l = 1#1) l with rfl | rfl <;> exact ⟨rfl, rfl⟩

theorem pay2 : k0_pay2 (F := F) = Kernel2Ideal.Gen.k0_pay2 := rfl

section
variable (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x1x1x6144 .f32) (h7 : a7.IsWhole) (a8 : Memref sig .tc .vmem S1x1024 .f32) (h8 : a8.IsWhole) (a9 : Memref sig .tc .vmem S1x1024x256 .f32) (h9 : a9.IsWhole) (a10 : Memref sig .tc .vmem S1x1024x256 .f32) (h10 : a10.IsWhole) (a11 : Memref sig .tc .vmem S1x1x256 .f32) (h11 : a11.IsWhole) (a12 : Memref sig .tc .vmem S1x1x256 .f32) (h12 : a12.IsWhole) (a13 : Memref sig .tc .vmem S1x3x256 .f32) (h13 : a13.IsWhole) (a14 : Memref sig .tc .vmem S1x3x256 .f32) (h14 : a14.IsWhole) (a15 : Memref sig .tc .vmem S1x1x256 .f32) (h15 : a15.IsWhole) (a16 : Memref sig .tc .vmem S1x1x256 .f32) (h16 : a16.IsWhole) (a17 : Memref sig .tc .vmem S1x256x1024 .f32) (h17 : a17.IsWhole) (a18 : Memref sig .tc .vmem S1024x1024 .f32) (h18 : a18.IsWhole) (a19 : Memref sig .tc .vmem S1024x1024 .bf16) (h19 : a19.IsWhole) (a20 : Memref sig .tc .vmem S1024x1024 .f32) (h20 : a20.IsWhole) (a21 : Memref sig .tc .vmem S1096x256 .f32) (h21 : a21.IsWhole) (a22 : Memref sig .tc .vmem S1096x256 .f32) (h22 : a22.IsWhole) (a23 : Memref sig .tc .vmem S1024x256 .bf16) (h23 : a23.IsWhole) (a24 : Memref sig .tc .vmem S1024x256 .bf16) (h24 : a24.IsWhole) (a25 : Memref sig .tc .vmem S256x1024 .bf16) (h25 : a25.IsWhole)
    (x0 : Vec F S1024x1024 .f32) (x1 : Vec F S1024x1024 .f32) (x2 : Vec F S1024x1024 .bf16) (x3 : Vec F S1024x1024 .bf16) (x4 : Vec F S1024x1024 .bf16) (x5 : Vec F S1x1x1x6144 .f32) (x6 : Vec F S1x1024 .f32) (x7 : Vec F S1x1024x256 .f32) (x8 : Vec F S1x1024x256 .f32) (x9 : Vec F S1x1x256 .f32) (x10 : Vec F S1x1x256 .f32) (x11 : Vec F S1x3x256 .f32) (x12 : Vec F S1x3x256 .f32) (x13 : Vec F S1x1x256 .f32) (x14 : Vec F S1x1x256 .f32) (x15 : Vec F S1x256x1024 .f32)

/-- The accumulator after a middle column block. -/
theorem acc_B (hc0 : ¬cond0_0 i) (hc1 : ¬cond0_1 i) (xs0 : Vec F S1024x1024 .bf16) (xs1 : Vec F S1024x1024 .f32) :
    sout0_B_1 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 xs0 xs1
      = View.canon (accPieces (isLat i) xs0 xs1 ⟨x7, x8, x9, x10, x11, x12, x13, x14, x15⟩) := by
  unfold sout0_B_1
  rw [View.read_writes_eq_canon _ _ _ (scover0_B_1 c i _ _ _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread,
    readCov_ld]
  simp (disch := decide) only [View.ld_unit_lit', View.canon_cons_unit_lit']
  try simp only [ties, heads, pay2, up_ties, row_ties, halo_ties, tie0, tie1, tie2, tie3]
  rfl

/-- The accumulator after the last column block. -/
theorem acc_C (hc0 : ¬cond0_0 i) (hc1 : cond0_1 i) (xo16 : Vec F S1024x1024 .f32) (xs0 : Vec F S1024x1024 .bf16) (xs1 : Vec F S1024x1024 .f32) :
    sout0_C_1 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 xo16 xs0 xs1
      = View.canon (accPieces (isLat i) xs0 xs1 ⟨x7, x8, x9, x10, x11, x12, x13, x14, x15⟩) := by
  unfold sout0_C_1
  rw [View.read_writes_eq_canon _ _ _ (scover0_C_1 c i _ _ _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _)]
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread,
    readCov_ld]
  simp (disch := decide) only [View.ld_unit_lit', View.canon_cons_unit_lit']
  try simp only [ties, heads, pay2, up_ties, row_ties, halo_ties, tie0, tie1, tie2, tie3]
  rfl

/-- The output tile after the last column block. -/
theorem out_C (hc0 : ¬cond0_0 i) (hc1 : cond0_1 i) (xo16 : Vec F S1024x1024 .f32) (xs0 : Vec F S1024x1024 .bf16) (xs1 : Vec F S1024x1024 .f32) :
    out0_C_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 xo16 xs0 xs1
      = Kernel2Ideal.Gen.k0_pay2 xo16 (View.ld x5 (Rect.unit ![0, 0, 0, 5120] ![1, 1, 1, 1024] inb_S1x1x1x6144_S1x1x1x1024_0_0_0_5120)) (View.canon (accPieces (isLat i) xs0 xs1 ⟨x7, x8, x9, x10, x11, x12, x13, x14, x15⟩)) := by
  unfold out0_C_16
  rw [View.read_writes_eq_canon _ _ _ (cover0_C_16 c i _ _ _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _)]
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread,
    readCov_ld]
  simp (disch := decide) only [View.ld_unit_lit', View.canon_cons_unit_lit']
  try simp only [ties, heads, pay2, up_ties, row_ties, halo_ties, tie0, tie1, tie2, tie3]
  rfl

/-- The output tile after the first column block. -/
theorem out_A (hc0 : cond0_0 i) (hc1 : ¬cond0_1 i) :
    out0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15
      = xNew (isLat i) (Scalar.select (isLat i) x1 x0) x2 x3 x4 x5 := by
  unfold out0_A_16
  rw [View.read_writes_eq_canon _ _ _ (cover0_A_16 c i _ _ _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread,
    readCov_ld]
  simp (disch := decide) only [View.ld_unit_lit', View.canon_cons_unit_lit']
  try simp only [ties, heads, pay2, up_ties, row_ties, halo_ties, tie0, tie1, tie2, tie3]
  exact (heads _ _ _ _ _ _ _ x6).1

/-- The normalised rows after the first column block. -/
theorem xn_A (hc0 : cond0_0 i) (hc1 : ¬cond0_1 i) :
    sout0_A_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15
      = xNorm (isLat i) (Scalar.select (isLat i) x1 x0) x2 x3 x4 x5 x6 := by
  unfold sout0_A_0
  rw [View.read_writes_eq_canon _ _ _ (scover0_A_0 c i _ _ _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread,
    readCov_ld]
  simp (disch := decide) only [View.ld_unit_lit', View.canon_cons_unit_lit']
  try simp only [ties, heads, pay2, up_ties, row_ties, halo_ties, tie0, tie1, tie2, tie3]
  rfl

/-- The accumulator after the first column block. -/
theorem acc_A (hc0 : cond0_0 i) (hc1 : ¬cond0_1 i) :
    sout0_A_1 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15
      = View.canon (accPieces (isLat i) (xNorm (isLat i) (Scalar.select (isLat i) x1 x0) x2 x3 x4 x5 x6) Kernel2Ideal.Gen.k0_pay8 ⟨x7, x8, x9, x10, x11, x12, x13, x14, x15⟩ ++ [⟨Rect.unit ![0, 0] ![1024, 1024] inb_S1024x1024_S1024x1024_0_0, Kernel2Ideal.Gen.k0_pay8⟩]) := by
  unfold sout0_A_1
  rw [View.read_writes_eq_canon _ _ _ (scover0_A_1 c i _ _ _ _ _ _ _ _ _ _ _ _ _ _ _ _ _ _ _ _ _ _ _ _ _ _ _ _ _ _ _ _ _ _ _ _ _ _ _ _ _ _ _ _ _ _ _ _ hc0 hc1 _ _ _ _ _ _ _ _ _ _ _ _ _ _ _ _)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread,
    readCov_ld]
  simp (disch := decide) only [View.ld_unit_lit', View.canon_cons_unit_lit']
  simp (disch := decide) only [ld_skip, View.canon_cons_unit_lit']
  try simp only [ties, heads, pay2, up_ties, row_ties, halo_ties, tie0, tie1, tie2, tie3]
  rfl

end

end Cert.Kernel4Ideal.Ffn
-- ==== Proof.FfnFirstSweep.lean ====
module

public import proofs.«01_k».proof.Proof.FfnFirstPieces
public import proofs.«01_k».proof.Proof.FfnSweep

@[expose] public section

/-! The sweep of layer 0's row tile over the eleven column blocks. -/

set_option maxRecDepth 16384
noncomputable section
namespace Cert.Kernel4Ideal.Ffn
open Cert.Kernel4Ideal Cert.Kernel4Ideal.Gen Idealize.ShloMosaic Idealize.ShloMosaic.TcCoe Idealize.SL.Sem Idealize.ShloMosaic.Tactic
open Cert.Kernel2Ideal.Ffn (accPieces xNew xNorm Wts aval lat acc_pieces pay8_apply)

variable (m : (ℓ : Loc nD τ sig) → Buf (Elt Ideal) ℓ) (c : Dev nD)

/-- The grid point of row tile `i` and column block `f`. -/
def pt (i : Fin 16) (f : ℕ) : Fin cfg0.N := ⟨(11 * i.val + f) % 176, Nat.mod_lt _ (by decide)⟩

theorem pt_val (i : Fin 16) (f : ℕ) (hf : f ≤ 10) : (pt i f).val = 11 * i.val + f := Nat.mod_eq_of_lt (by omega)

theorem isLat_eq (t : Fin cfg0.N) : isLat (grid0.coords t) = if t.val < 88 then 0#1 else 1#1 :=
  (by decide +kernel : ∀ t : Fin grid0.N, isLat (grid0.coords t) = if t.val < 88 then 0#1 else 1#1) t

theorem lat_pt (i : Fin 16) (f : ℕ) (hf : f ≤ 10) : isLat (grid0.coords (pt i f)) = lat i := by
  rw [isLat_eq, pt_val i f hf]
  unfold lat
  by_cases h : i.val < 8
  · rw [if_pos h, if_pos (by omega)]
  · rw [if_neg h, if_neg (by omega)]

/-- The weights' blocks at a grid point. -/
def wts (t : Fin cfg0.N) : Wts Ideal :=
  ⟨iblk m c 7 t, iblk m c 8 t, iblk m c 9 t, iblk m c 10 t, iblk m c 11 t, iblk m c 12 t, iblk m c 13 t, iblk m c 14 t, iblk m c 15 t⟩

/-- The residual stream's tile, of the array it is in. -/
def hS (i : Fin 16) : Vec Ideal S1024x1024 .f32 := Scalar.select (lat i) (iblk m c 1 (pt i 0) : Vec Ideal S1024x1024 .f32) (iblk m c 0 (pt i 0))

/-- The tile's residual stream, and its normalised rows. -/
def xR (i : Fin 16) : Vec Ideal S1024x1024 .f32 :=
  xNew (lat i) (hS m c i) (iblk m c 2 (pt i 0)) (iblk m c 3 (pt i 0)) (iblk m c 4 (pt i 0)) (iblk m c 5 (pt i 0))
def xN (i : Fin 16) : Vec Ideal S1024x1024 .bf16 :=
  xNorm (lat i) (hS m c i) (iblk m c 2 (pt i 0)) (iblk m c 3 (pt i 0)) (iblk m c 4 (pt i 0)) (iblk m c 5 (pt i 0)) (iblk m c 6 (pt i 0))

/-- The share of column block `f` in the accumulator. -/
def share (i : Fin 16) (f : ℕ) (y : S1024x1024.Idx) : EReal :=
  ∑ j : Fin 256, aval (lat i) (xN m c i) (wts m c (pt i f)) (y 0).val j * (wts m c (pt i f)).d (ix3 0 j (y 1))

theorem outsAt0_congr {n n' : ℕ} (h : n = n') (hn hn') : outsAt0 m c n hn = outsAt0 m c n' hn' := by subst h; rfl

theorem sweep (i : Fin 16) : ∀ f, f < 10 →
    (outsAt0 m c (pt i f).val (pt i f).isLt).1 = xR m c i ∧ (outsAt0 m c (pt i f).val (pt i f).isLt).2.1 = xN m c i
      ∧ ∀ y, ((outsAt0 m c (pt i f).val (pt i f).isLt).2.2 y : EReal) = ∑ g ∈ Finset.range (f + 1), share m c i g y
  | 0, _ => by
    have h0 : (pt i 0).val % 11 = 0 := by rw [pt_val i 0 (by omega)]; omega
    have h1 : ¬(pt i 0).val % 11 = 10 := by omega
    rw [outsAt0_A m c (pt i 0) h0 h1]
    dsimp only
    refine ⟨?_, ?_, fun y => ?_⟩
    · exact (out_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (by rw [lat_pt i 0 (by omega)]; rfl)
    · exact (xn_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (by rw [lat_pt i 0 (by omega)]; rfl)
    · refine (congrFun (acc_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) y).trans ?_
      rw [acc_pieces, lat_pt i 0 (by omega), Finset.sum_range_one]
      exact (congrArg (· + _) (pay8_apply y)).trans (zero_add _)
  | f + 1, hf => by
    obtain ⟨a, b, d⟩ := sweep i f (by omega)
    have e : (pt i (f + 1)).val - 1 = (pt i f).val := by rw [pt_val i _ (by omega), pt_val i _ (by omega)]; omega
    have h0 : ¬(pt i (f + 1)).val % 11 = 0 := by rw [pt_val i _ (by omega)]; omega
    have h1 : ¬(pt i (f + 1)).val % 11 = 10 := by rw [pt_val i _ (by omega)]; omega
    rw [outsAt0_B m c (pt i (f + 1)) h0 h1, outsAt0_congr m c e _ (pt i f).isLt]
    refine ⟨a, b, fun y => ?_⟩
    dsimp only
    refine (congrFun (acc_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) y).trans ?_
    rw [← List.append_nil (accPieces _ _ _ _), acc_pieces, lat_pt i _ (by omega), Finset.sum_range_succ, ← d y, b]
    rfl

/-- What the tile's last grid point writes. -/
theorem out_last (i : Fin 16) : (outsAt0 m c (pt i 10).val (pt i 10).isLt).1
    = Kernel2Ideal.Gen.k0_pay2 (xR m c i) (View.ld (iblk m c 5 (pt i 10) : Vec Ideal S1x1x1x6144 .f32) (Rect.unit ![0, 0, 0, 5120] ![1, 1, 1, 1024] inb_S1x1x1x6144_S1x1x1x1024_0_0_0_5120))
        (fun y => (∑ g ∈ Finset.range 11, share m c i g y : EReal)) := by
  obtain ⟨a, b, d⟩ := sweep m c i 9 (by omega)
  have e : (pt i 10).val - 1 = (pt i 9).val := by rw [pt_val i _ (by omega), pt_val i _ (by omega)]; omega
  have h0 : ¬(pt i 10).val % 11 = 0 := by rw [pt_val i _ (by omega)]; omega
  have h1 : (pt i 10).val % 11 = 10 := by rw [pt_val i _ (by omega)]; omega
  rw [outsAt0_C m c (pt i 10) h0 h1, outsAt0_congr m c e _ (pt i 9).isLt]
  dsimp only
  refine (out_C c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  rw [← List.append_nil (accPieces _ _ _ _), acc_pieces, lat_pt i _ (by omega), a, b]
  refine congrArg (Kernel2Ideal.Gen.k0_pay2 (F := Ideal) _ _) (funext fun y => ?_)
  rw [Finset.sum_range_succ, ← d y]
  rfl

end Cert.Kernel4Ideal.Ffn
-- ==== Proof.FfnFirstBlocks.lean ====
module

public import proofs.«01_k».proof.Proof.FfnFirstSweep
public import Idealize.ShloMosaic.Lib.StableHlo.ReadAt

@[expose] public section

/-! Layer 0's feed-forward launch's blocks, read at an index as elements of the arguments. -/

set_option maxRecDepth 100000
noncomputable section
namespace Cert.Kernel4Ideal.Ffn
open Cert.Kernel4Ideal Cert.Kernel4Ideal.Gen Idealize.ShloMosaic Idealize.ShloMosaic.TcCoe Idealize.SL.Sem Idealize.ShloMosaic.Tactic

variable (m : (ℓ : Loc nD τ sig) → Buf (Elt Ideal) ℓ) (c : Dev nD)

/-! The arguments: the two streams, the heads' outputs, the output projection, the modulations, the norm's gain, and the block's weights. -/
abbrev aHC : FVec Ideal S32x256x1024 .f32 := m ((c.tc : Thread nD τ).loc main_arg0)
abbrev aHL : FVec Ideal S8x1024x1024 .f32 := m ((c.tc : Thread nD τ).loc main_arg1)
abbrev aOC : FVec Ideal S32x256x1024 .f32 := m ((c.tc : Thread nD τ).loc main_arg2)
abbrev aOL : FVec Ideal S8x1024x1024 .f32 := m ((c.tc : Thread nD τ).loc main_arg3)
abbrev aWo : FVec Ideal S1024x1024 .f32 := m ((c.tc : Thread nD τ).loc main_arg4)
abbrev aMC : FVec Ideal S4x6144 .f32 := m ((c.tc : Thread nD τ).loc main_arg5)
abbrev aML : FVec Ideal S4x8x6144 .f32 := m ((c.tc : Thread nD τ).loc main_arg6)
abbrev aN2 : FVec Ideal S4x1024 .f32 := m ((c.tc : Thread nD τ).loc main_arg7)
abbrev aWu : FVec Ideal S4x1024x5632 .f32 := m ((c.tc : Thread nD τ).loc main_arg8)
abbrev aBu : FVec Ideal S4x5632 .f32 := m ((c.tc : Thread nD τ).loc main_arg9)
abbrev aCk : FVec Ideal S4x3x5632 .f32 := m ((c.tc : Thread nD τ).loc main_arg10)
abbrev aCb : FVec Ideal S4x5632 .f32 := m ((c.tc : Thread nD τ).loc main_arg11)
abbrev aWd : FVec Ideal S4x2816x1024 .f32 := m ((c.tc : Thread nD τ).loc main_arg12)

/-! ## The host's arrays -/

theorem V0 (R : Fin 8192) (d : Fin 1024) : (V m c main_v0 : FVec Ideal S8192x1024 .f32) (ix2 R d)
    = aHC m c (ix3 ⟨R.val / 256, by omega⟩ ⟨R.val % 256, by omega⟩ d) := by
  unfold V
  after_reads_at

theorem V1 (R : Fin 8192) (d : Fin 1024) : (V m c main_v1 : FVec Ideal S8192x1024 .f32) (ix2 R d)
    = aHL m c (ix3 ⟨R.val / 1024, by omega⟩ ⟨R.val % 1024, by omega⟩ d) := by
  unfold V
  after_reads_at

theorem V6 (R : Fin 8192) (d : Fin 1024) : (V m c main_v6 : FVec Ideal S8192x1024 .bf16) (ix2 R d)
    = aOC m c (ix3 ⟨R.val / 256, by omega⟩ ⟨R.val % 256, by omega⟩ d) := by
  unfold V
  after_reads_at

theorem V8 (R : Fin 8192) (d : Fin 1024) : (V m c main_v8 : FVec Ideal S8192x1024 .bf16) (ix2 R d)
    = aOL m c (ix3 ⟨R.val / 1024, by omega⟩ ⟨R.val % 1024, by omega⟩ d) := by
  unfold V
  after_reads_at

theorem V13 (e d : Fin 1024) : (V m c main_v13 : FVec Ideal S1024x1024 .bf16) (ix2 e d) = aWo m c (ix2 e d) := by
  unfold V
  after_reads_at

theorem V14c (d : Fin 6144) : (V m c main_v14 : FVec Ideal S4x16x1x6144 .f32) (ix4 0 0 0 d) = aMC m c (ix2 0 d) := by
  unfold V
  after_reads_at
  unfold StableHlo.upto
  after_reads_at

theorem V14l (r : Fin 8) (d : Fin 6144) : (V m c main_v14 : FVec Ideal S4x16x1x6144 .f32) (ix4 0 ⟨8 + r.val, by omega⟩ 0 d) = aML m c (ix3 0 r d) := by
  unfold V
  after_reads_at
  rw [dif_neg (by omega), dif_neg (by omega)]
  have e : (⟨8 + r.val - 1 - 7, by omega⟩ : Fin 8) = r := Fin.ext (by show 8 + r.val - 1 - 7 = r.val; omega)
  rw [e]
  unfold StableHlo.upto
  after_reads_at

theorem V15 (d : Fin 1024) : (V m c main_v15 : FVec Ideal S1x1024 .f32) (ix2 0 d) = aN2 m c (ix2 0 d) := by
  unfold V
  after_reads_at

theorem V11 (d : Fin 5632) : (V m c main_v11 : FVec Ideal S4x1x5632 .f32) (ix3 0 0 d) = aBu m c (ix2 0 d) := by
  unfold V
  after_reads_at

theorem V12 (d : Fin 5632) : (V m c main_v12 : FVec Ideal S4x1x5632 .f32) (ix3 0 0 d) = aCb m c (ix2 0 d) := by
  unfold V
  after_reads_at

/-! ## The windows' blocks -/

theorem idx (t : Fin cfg0.N) : win0_0.index t = ![min (t.val / 11) 7, 0] ∧ win0_1.index t = ![t.val / 11 - 8, 0] ∧ win0_2.index t = ![min (t.val / 11) 7, 0] ∧ win0_3.index t = ![t.val / 11 - 8, 0]
    ∧ win0_4.index t = ![0, 0] ∧ win0_5.index t = ![0, if t.val / 11 < 8 then 0 else t.val / 11, 0, 0] ∧ win0_6.index t = ![0, 0] ∧ win0_7.index t = ![0, 0, t.val % 11]
    ∧ win0_8.index t = ![0, 0, 11 + t.val % 11] ∧ win0_9.index t = ![0, 0, t.val % 11] ∧ win0_10.index t = ![0, 0, 11 + t.val % 11] ∧ win0_11.index t = ![0, 0, t.val % 11]
    ∧ win0_12.index t = ![0, 0, 11 + t.val % 11] ∧ win0_13.index t = ![0, 0, t.val % 11] ∧ win0_14.index t = ![0, 0, 11 + t.val % 11] ∧ win0_15.index t = ![0, t.val % 11, 0]
    ∧ win0_16.index t = ![t.val / 11, 0] :=
  (by decide +kernel : ∀ t : Fin grid0.N, win0_0.index t = ![min (t.val / 11) 7, 0] ∧ win0_1.index t = ![t.val / 11 - 8, 0] ∧ win0_2.index t = ![min (t.val / 11) 7, 0] ∧ win0_3.index t = ![t.val / 11 - 8, 0]
    ∧ win0_4.index t = ![0, 0] ∧ win0_5.index t = ![0, if t.val / 11 < 8 then 0 else t.val / 11, 0, 0] ∧ win0_6.index t = ![0, 0] ∧ win0_7.index t = ![0, 0, t.val % 11]
    ∧ win0_8.index t = ![0, 0, 11 + t.val % 11] ∧ win0_9.index t = ![0, 0, t.val % 11] ∧ win0_10.index t = ![0, 0, 11 + t.val % 11] ∧ win0_11.index t = ![0, 0, t.val % 11]
    ∧ win0_12.index t = ![0, 0, 11 + t.val % 11] ∧ win0_13.index t = ![0, 0, t.val % 11] ∧ win0_14.index t = ![0, 0, 11 + t.val % 11] ∧ win0_15.index t = ![0, t.val % 11, 0]
    ∧ win0_16.index t = ![t.val / 11, 0]) t

theorem t_lt (t : Fin cfg0.N) : t.val < 176 := t.isLt

theorem i0 (t : Fin cfg0.N) (r d : Fin 1024) : (iblk m c 0 t : Vec Ideal S1024x1024 .f32) (ix2 r d)
    = (V m c main_v0 : FVec Ideal S8192x1024 .f32) (ix2 ⟨min (t.val / 11) 7 * 1024 + r.val, by have := t_lt t; omega⟩ d) := by
  blk_ext [iblk, (idx t).1]

theorem i1 (t : Fin cfg0.N) (r d : Fin 1024) : (iblk m c 1 t : Vec Ideal S1024x1024 .f32) (ix2 r d)
    = (V m c main_v1 : FVec Ideal S8192x1024 .f32) (ix2 ⟨(t.val / 11 - 8) * 1024 + r.val, by have := t_lt t; omega⟩ d) := by
  blk_ext [iblk, (idx t).2.1]

theorem i2 (t : Fin cfg0.N) (r d : Fin 1024) : (iblk m c 2 t : Vec Ideal S1024x1024 .bf16) (ix2 r d)
    = (V m c main_v6 : FVec Ideal S8192x1024 .bf16) (ix2 ⟨min (t.val / 11) 7 * 1024 + r.val, by have := t_lt t; omega⟩ d) := by
  blk_ext [iblk, (idx t).2.2.1]

theorem i3 (t : Fin cfg0.N) (r d : Fin 1024) : (iblk m c 3 t : Vec Ideal S1024x1024 .bf16) (ix2 r d)
    = (V m c main_v8 : FVec Ideal S8192x1024 .bf16) (ix2 ⟨(t.val / 11 - 8) * 1024 + r.val, by have := t_lt t; omega⟩ d) := by
  blk_ext [iblk, (idx t).2.2.2.1]

theorem i4 (t : Fin cfg0.N) (r d : Fin 1024) : (iblk m c 4 t : Vec Ideal S1024x1024 .bf16) (ix2 r d) = aWo m c (ix2 r d) := by
  rw [← V13]
  blk_ext [iblk, (idx t).2.2.2.2.1]

theorem i5 (t : Fin cfg0.N) (q : Fin 6144) : (iblk m c 5 t : Vec Ideal S1x1x1x6144 .f32) (ix4 0 0 0 q)
    = (V m c main_v14 : FVec Ideal S4x16x1x6144 .f32) (ix4 0 ⟨if t.val / 11 < 8 then 0 else t.val / 11, by have := t_lt t; split <;> omega⟩ 0 q) := by
  blk_ext [iblk, (idx t).2.2.2.2.2.1]

theorem i6 (t : Fin cfg0.N) (d : Fin 1024) : (iblk m c 6 t : Vec Ideal S1x1024 .f32) (ix2 0 d) = aN2 m c (ix2 0 d) := by
  rw [← V15]
  blk_ext [iblk, (idx t).2.2.2.2.2.2.1]

theorem i7 (t : Fin cfg0.N) (k : Fin 1024) (j : Fin 256) : (iblk m c 7 t : Vec Ideal S1x1024x256 .f32) (ix3 0 k j)
    = aWu m c (ix3 0 k ⟨t.val % 11 * 256 + j.val, by omega⟩) := by
  refine Eq.trans ?_ (congrFun (V_main_arg8 m c) _)
  blk_ext [iblk, (idx t).2.2.2.2.2.2.2.1]

theorem i8 (t : Fin cfg0.N) (k : Fin 1024) (j : Fin 256) : (iblk m c 8 t : Vec Ideal S1x1024x256 .f32) (ix3 0 k j)
    = aWu m c (ix3 0 k ⟨(11 + t.val % 11) * 256 + j.val, by omega⟩) := by
  refine Eq.trans ?_ (congrFun (V_main_arg8 m c) _)
  blk_ext [iblk, (idx t).2.2.2.2.2.2.2.2.1]

theorem i9 (t : Fin cfg0.N) (j : Fin 256) : (iblk m c 9 t : Vec Ideal S1x1x256 .f32) (ix3 0 0 j)
    = aBu m c (ix2 0 ⟨t.val % 11 * 256 + j.val, by omega⟩) := by
  rw [← V11]
  blk_ext [iblk, (idx t).2.2.2.2.2.2.2.2.2.1]

theorem i10 (t : Fin cfg0.N) (j : Fin 256) : (iblk m c 10 t : Vec Ideal S1x1x256 .f32) (ix3 0 0 j)
    = aBu m c (ix2 0 ⟨(11 + t.val % 11) * 256 + j.val, by omega⟩) := by
  rw [← V11]
  blk_ext [iblk, (idx t).2.2.2.2.2.2.2.2.2.2.1]

theorem i11 (t : Fin cfg0.N) (a : Fin 3) (j : Fin 256) : (iblk m c 11 t : Vec Ideal S1x3x256 .f32) (ix3 0 a j)
    = aCk m c (ix3 0 a ⟨t.val % 11 * 256 + j.val, by omega⟩) := by
  refine Eq.trans ?_ (congrFun (V_main_arg10 m c) _)
  blk_ext [iblk, (idx t).2.2.2.2.2.2.2.2.2.2.2.1]

theorem i12 (t : Fin cfg0.N) (a : Fin 3) (j : Fin 256) : (iblk m c 12 t : Vec Ideal S1x3x256 .f32) (ix3 0 a j)
    = aCk m c (ix3 0 a ⟨(11 + t.val % 11) * 256 + j.val, by omega⟩) := by
  refine Eq.trans ?_ (congrFun (V_main_arg10 m c) _)
  blk_ext [iblk, (idx t).2.2.2.2.2.2.2.2.2.2.2.2.1]

theorem i13 (t : Fin cfg0.N) (j : Fin 256) : (iblk m c 13 t : Vec Ideal S1x1x256 .f32) (ix3 0 0 j)
    = aCb m c (ix2 0 ⟨t.val % 11 * 256 + j.val, by omega⟩) := by
  rw [← V12]
  blk_ext [iblk, (idx t).2.2.2.2.2.2.2.2.2.2.2.2.2.1]

theorem i14 (t : Fin cfg0.N) (j : Fin 256) : (iblk m c 14 t : Vec Ideal S1x1x256 .f32) (ix3 0 0 j)
    = aCb m c (ix2 0 ⟨(11 + t.val % 11) * 256 + j.val, by omega⟩) := by
  rw [← V12]
  blk_ext [iblk, (idx t).2.2.2.2.2.2.2.2.2.2.2.2.2.2.1]

theorem i15 (t : Fin cfg0.N) (j : Fin 256) (d : Fin 1024) : (iblk m c 15 t : Vec Ideal S1x256x1024 .f32) (ix3 0 j d)
    = aWd m c (ix3 0 ⟨t.val % 11 * 256 + j.val, by omega⟩ d) := by
  refine Eq.trans ?_ (congrFun (V_main_arg12 m c) _)
  blk_ext [iblk, (idx t).2.2.2.2.2.2.2.2.2.2.2.2.2.2.2.1]

end Cert.Kernel4Ideal.Ffn
-- ==== Proof.FfnFirstRef.lean ====
module

public import proofs.«01_k».proof.Proof.Gen.Reference4Ideal.Run
public import proofs.«01_k».proof.Proof.Gen.Reference4Ideal.Read
public import proofs.«01_k».proof.Proof.FfnRef

@[expose] public section

/-! The reference's first feed-forward layer read at an index, as the layer's arithmetic on the rows of a sequence. -/

set_option maxRecDepth 16384
noncomputable section
namespace Cert.Reference4Ideal.Ffn
open Cert.Reference4Ideal Cert.Reference4Ideal.Gen Cert.Reference4Ideal.Read Idealize.ShloMosaic Idealize.ShloMosaic.TcCoe Idealize.SL.Sem Cert.FfnMath
open Cert.Reference2Ideal.Ffn (hC hL wo pad_zero pad_row)

variable (x4 : (⟨S1024x1024, .f32⟩ : BufTy).Contents (Elt Ideal)) (x7 : (⟨S4x1024, .f32⟩ : BufTy).Contents (Elt Ideal)) (x8 : (⟨S4x1024x5632, .f32⟩ : BufTy).Contents (Elt Ideal))
  (x9 x11 : (⟨S4x5632, .f32⟩ : BufTy).Contents (Elt Ideal)) (x10 : (⟨S4x3x5632, .f32⟩ : BufTy).Contents (Elt Ideal)) (x12 : (⟨S4x2816x1024, .f32⟩ : BufTy).Contents (Elt Ideal))

/-- The weights of the layer, by coordinates. -/
def gn (d : Fin 1024) : EReal := x7 (ix2 0 d)
def wu (k : Fin 1024) (j : Fin 5632) : EReal := x8 (ix3 0 k j)
def bu (j : Fin 5632) : EReal := x9 (ix2 0 j)
def cbR (j : Fin 5632) : EReal := x11 (ix2 0 j)
def ck (a : Fin 3) (j : Fin 5632) : EReal := x10 (ix3 0 a j)
def wd (q : Fin 2816) (d : Fin 1024) : EReal := x12 (ix3 0 q d)

/-! ## The context -/

section
variable (x0 x2 : (⟨S32x256x1024, .f32⟩ : BufTy).Contents (Elt Ideal)) (x5 : (⟨S4x6144, .f32⟩ : BufTy).Contents (Elt Ideal))

def mC (q : Fin 6144) : EReal := x5 (ix2 0 q)

theorem v23 (b : Fin 32) (t : Fin 256) (d : Fin 1024) : val_main_v23 (F := Ideal) x0 x2 x4 x5 (ix3 b t d)
    = yRow (hC x0 b t) (hC x2 b t) (mC x5) (wo x4) d := by
  unfold yRow hC mC wo
  simp only [Nat.mod_eq_of_lt t.isLt]
  pointwise [val_main_v23, val_main_v22, val_main_v21, val_main_v20, val_main_v19, val_main_v15, val_main_v12, val_main_v11, val_main_v10]

/-- The normalised rows of sequence `b`. -/
def nC (b : Fin 32) (t : ℕ) : Fin 1024 → EReal := nRow (yRow (hC x0 b t) (hC x2 b t) (mC x5) (wo x4)) (mC x5) (gn x7)

theorem v46 (b : Fin 32) (t : Fin 256) (d : Fin 1024) : val_main_v46 (F := Ideal) x0 x2 x4 x5 x7 (ix3 b t d) = nC x4 x7 x0 x2 x5 b t d := by
  unfold nC nRow gn
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v16, val_main_v17, val_main_v12, val_main_v11, val_main_v10, val_main_cst, val_main_cst_0, val_main_cst_1, val_main_cst_2, v23, Ideal.ofBits_zero_f32]
  rfl

theorem v50 (b : Fin 32) (t : Fin 256) (j : Fin 5632) : val_main_v50 (F := Ideal) x0 x2 x4 x5 x7 x8 x9 (ix3 b t j)
    = upR (nC x4 x7 x0 x2 x5 b) (wu x8) t j + bu x9 j := by
  unfold upR wu bu
  pointwise [val_main_v50, val_main_v49, val_main_v48, val_main_v47, val_main_v3, val_main_v2, val_main_v1, val_main_v0, v46]

theorem v51 (b : Fin 32) (s : Fin 258) (j : Fin 5632) : val_main_v51 (F := Ideal) x0 x2 x4 x5 x7 x8 x9 (ix3 b s j)
    = if s.val = 0 ∨ s.val = 256 + 1 then 0 else upR (nC x4 x7 x0 x2 x5 b) (wu x8) (s.val - 1) j + bu x9 j := by
  rw [← pad_row 256 s.val s.isLt fun r => upR (nC x4 x7 x0 x2 x5 b) (wu x8) r j + bu x9 j, ← pad_zero]
  pointwise [val_main_v51, val_main_call0_v0, val_main_c, v50]

theorem v76 (b : Fin 32) (t : Fin 256) (j : Fin 5632) : val_main_v76 (F := Ideal) x0 x2 x4 x5 x7 x8 x9 x10 x11 (ix3 b t j)
    = cvR 256 (nC x4 x7 x0 x2 x5 b) (wu x8) (bu x9) (cbR x11) (ck x10) t j := by
  have ht := t.isLt
  have a0 : (t.val = 0 ∨ t.val = 256 + 1) = (t.val = 0) := propext (by omega)
  have a1 : ¬(1 + t.val = 0 ∨ 1 + t.val = 256 + 1) := by omega
  have a2 : (2 + t.val = 0 ∨ 2 + t.val = 256 + 1) = (t.val + 1 = 256) := propext (by omega)
  have e1 : 1 + t.val - 1 = t.val := by omega
  have e2 : 2 + t.val - 1 = t.val + 1 := by omega
  have key : val_main_v76 (F := Ideal) x0 x2 x4 x5 x7 x8 x9 x10 x11 (ix3 b t j)
      = x11 (ix2 0 j) + ((val_main_v51 (F := Ideal) x0 x2 x4 x5 x7 x8 x9 (ix3 b ⟨t, by omega⟩ j) * x10 (ix3 0 0 j)
        + val_main_v51 (F := Ideal) x0 x2 x4 x5 x7 x8 x9 (ix3 b ⟨1 + t, by omega⟩ j) * x10 (ix3 0 1 j))
        + val_main_v51 (F := Ideal) x0 x2 x4 x5 x7 x8 x9 (ix3 b ⟨2 + t, by omega⟩ j) * x10 (ix3 0 2 j) : EReal) := by
    unfold val_main_v76 val_main_v73 val_main_v66 val_main_v59 val_main_v57 val_main_v52 val_main_v65 val_main_v60 val_main_v72 val_main_v67
    generalize val_main_v51 (F := Ideal) x0 x2 x4 x5 x7 x8 x9 = P
    pointwise [val_main_v75, val_main_v74, val_main_v71, val_main_v70, val_main_v69, val_main_v68, val_main_v64, val_main_v63, val_main_v62, val_main_v61, val_main_v58, val_main_v56, val_main_v55, val_main_v54, val_main_v53, val_main_v7, val_main_v6, val_main_v5, val_main_v4, val_main_cst_3, Ideal.ofBits_zero_f32]
  rw [key, v51, v51, v51]
  unfold cvR
  simp only [a0, a1, a2, e1, e2, if_false]
  rfl

theorem v80 (b : Fin 32) (t : Fin 256) (q : Fin 2816) : val_main_v80 (F := Ideal) x0 x2 x4 x5 x7 x8 x9 x10 x11 (ix3 b t q)
    = gateS (cvR 256 (nC x4 x7 x0 x2 x5 b) (wu x8) (bu x9) (cbR x11) (ck x10) t ⟨q.val, by omega⟩)
        (cvR 256 (nC x4 x7 x0 x2 x5 b) (wu x8) (bu x9) (cbR x11) (ck x10) t ⟨2816 + q.val, by omega⟩) := by
  unfold gateS Ideal.logistic
  pointwise [val_main_v80, val_main_v79, val_main_v78, val_main_v77, val_main_call1_v5, val_main_call1_v4, val_main_call1_cst_0, val_main_call1_v3, val_main_call1_v2, val_main_call1_cst, val_main_call1_v1, val_main_call1_v0, v76, Ideal.ofBits_one_f32]

theorem v85 (b : Fin 32) (t : Fin 256) (d : Fin 1024) : val_main_v85 (F := Ideal) x0 x2 x4 x5 x7 x8 x9 x10 x11 x12 (ix3 b t d)
    = outR 256 (hC x0 b) (hC x2 b) (mC x5) (wo x4) (gn x7) (wu x8) (bu x9) (cbR x11) (ck x10) (wd x12) t d := by
  unfold outR wd
  pointwise [val_main_v85, val_main_v84, val_main_v83, val_main_v82, val_main_v81, val_main_v18, val_main_v12, val_main_v11, val_main_v10, val_main_v9, val_main_v8, v23, v80]
  rfl

end

/-! ## The lattice -/

section
variable (x1 x3 : (⟨S8x1024x1024, .f32⟩ : BufTy).Contents (Elt Ideal)) (x6 : (⟨S4x8x6144, .f32⟩ : BufTy).Contents (Elt Ideal))

def mL (b : Fin 8) (q : Fin 6144) : EReal := x6 (ix3 0 b q)

theorem v98 (b : Fin 8) (t : Fin 1024) (d : Fin 1024) : val_main_v98 (F := Ideal) x1 x3 x4 x6 (ix3 b t d)
    = yRow (hL x1 b t) (hL x3 b t) (mL x6 b) (wo x4) d := by
  unfold yRow hL mL wo
  simp only [Nat.mod_eq_of_lt t.isLt]
  pointwise [val_main_v98, val_main_v97, val_main_v96, val_main_v95, val_main_v91, val_main_v88, val_main_v87, val_main_v86]

/-- The normalised rows of sequence `b`. -/
def nL (b : Fin 8) (t : ℕ) : Fin 1024 → EReal := nRow (yRow (hL x1 b t) (hL x3 b t) (mL x6 b) (wo x4)) (mL x6 b) (gn x7)

theorem v119 (b : Fin 8) (t : Fin 1024) (d : Fin 1024) : val_main_v119 (F := Ideal) x1 x3 x4 x6 x7 (ix3 b t d) = nL x4 x7 x1 x3 x6 b t d := by
  unfold nL nRow gn
  pointwise [val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v93, val_main_v92, val_main_v88, val_main_v87, val_main_v86, val_main_cst_4, val_main_cst_5, val_main_cst_6, val_main_cst_7, v98, Ideal.ofBits_zero_f32]
  rfl

theorem v123 (b : Fin 8) (t : Fin 1024) (j : Fin 5632) : val_main_v123 (F := Ideal) x1 x3 x4 x6 x7 x8 x9 (ix3 b t j)
    = upR (nL x4 x7 x1 x3 x6 b) (wu x8) t j + bu x9 j := by
  unfold upR wu bu
  pointwise [val_main_v123, val_main_v122, val_main_v121, val_main_v120, val_main_v3, val_main_v2, val_main_v1, val_main_v0, v119]

theorem v124 (b : Fin 8) (s : Fin 1026) (j : Fin 5632) : val_main_v124 (F := Ideal) x1 x3 x4 x6 x7 x8 x9 (ix3 b s j)
    = if s.val = 0 ∨ s.val = 1024 + 1 then 0 else upR (nL x4 x7 x1 x3 x6 b) (wu x8) (s.val - 1) j + bu x9 j := by
  rw [← pad_row 1024 s.val s.isLt fun r => upR (nL x4 x7 x1 x3 x6 b) (wu x8) r j + bu x9 j, ← pad_zero]
  pointwise [val_main_v124, val_main_call2_v0, val_main_c_8, v123]

theorem v149 (b : Fin 8) (t : Fin 1024) (j : Fin 5632) : val_main_v149 (F := Ideal) x1 x3 x4 x6 x7 x8 x9 x10 x11 (ix3 b t j)
    = cvR 1024 (nL x4 x7 x1 x3 x6 b) (wu x8) (bu x9) (cbR x11) (ck x10) t j := by
  have ht := t.isLt
  have a0 : (t.val = 0 ∨ t.val = 1024 + 1) = (t.val = 0) := propext (by omega)
  have a1 : ¬(1 + t.val = 0 ∨ 1 + t.val = 1024 + 1) := by omega
  have a2 : (2 + t.val = 0 ∨ 2 + t.val = 1024 + 1) = (t.val + 1 = 1024) := propext (by omega)
  have e1 : 1 + t.val - 1 = t.val := by omega
  have e2 : 2 + t.val - 1 = t.val + 1 := by omega
  have key : val_main_v149 (F := Ideal) x1 x3 x4 x6 x7 x8 x9 x10 x11 (ix3 b t j)
      = x11 (ix2 0 j) + ((val_main_v124 (F := Ideal) x1 x3 x4 x6 x7 x8 x9 (ix3 b ⟨t, by omega⟩ j) * x10 (ix3 0 0 j)
        + val_main_v124 (F := Ideal) x1 x3 x4 x6 x7 x8 x9 (ix3 b ⟨1 + t, by omega⟩ j) * x10 (ix3 0 1 j))
        + val_main_v124 (F := Ideal) x1 x3 x4 x6 x7 x8 x9 (ix3 b ⟨2 + t, by omega⟩ j) * x10 (ix3 0 2 j) : EReal) := by
    unfold val_main_v149 val_main_v146 val_main_v139 val_main_v132 val_main_v130 val_main_v125 val_main_v138 val_main_v133 val_main_v145 val_main_v140
    generalize val_main_v124 (F := Ideal) x1 x3 x4 x6 x7 x8 x9 = P
    pointwise [val_main_v148, val_main_v147, val_main_v144, val_main_v143, val_main_v142, val_main_v141, val_main_v137, val_main_v136, val_main_v135, val_main_v134, val_main_v131, val_main_v129, val_main_v128, val_main_v127, val_main_v126, val_main_v7, val_main_v6, val_main_v5, val_main_v4, val_main_cst_9, Ideal.ofBits_zero_f32]
  rw [key, v124, v124, v124]
  unfold cvR
  simp only [a0, a1, a2, e1, e2, if_false]
  rfl

theorem v153 (b : Fin 8) (t : Fin 1024) (q : Fin 2816) : val_main_v153 (F := Ideal) x1 x3 x4 x6 x7 x8 x9 x10 x11 (ix3 b t q)
    = gateS (cvR 1024 (nL x4 x7 x1 x3 x6 b) (wu x8) (bu x9) (cbR x11) (ck x10) t ⟨q.val, by omega⟩)
        (cvR 1024 (nL x4 x7 x1 x3 x6 b) (wu x8) (bu x9) (cbR x11) (ck x10) t ⟨2816 + q.val, by omega⟩) := by
  unfold gateS Ideal.logistic
  pointwise [val_main_v153, val_main_v152, val_main_v151, val_main_v150, val_main_call3_v5, val_main_call3_v4, val_main_call3_cst_0, val_main_call3_v3, val_main_call3_v2, val_main_call3_cst, val_main_call3_v1, val_main_call3_v0, v149, Ideal.ofBits_one_f32]

theorem v157 (b : Fin 8) (t : Fin 1024) (d : Fin 1024) : val_main_v157 (F := Ideal) x1 x3 x4 x6 x7 x8 x9 x10 x11 x12 (ix3 b t d)
    = outR 1024 (hL x1 b) (hL x3 b) (mL x6 b) (wo x4) (gn x7) (wu x8) (bu x9) (cbR x11) (ck x10) (wd x12) t d := by
  unfold outR wd
  pointwise [val_main_v157, val_main_v156, val_main_v155, val_main_v154, val_main_v94, val_main_v88, val_main_v87, val_main_v86, val_main_v9, val_main_v8, v98, v153]
  rfl

end

/-! ## The result -/

theorem v160 (x0 x2 : (⟨S32x256x1024, .f32⟩ : BufTy).Contents (Elt Ideal)) (x1 x3 : (⟨S8x1024x1024, .f32⟩ : BufTy).Contents (Elt Ideal))
    (x5 : (⟨S4x6144, .f32⟩ : BufTy).Contents (Elt Ideal)) (x6 : (⟨S4x8x6144, .f32⟩ : BufTy).Contents (Elt Ideal)) (R : Fin 16384) (d : Fin 1024) :
    val_main_v160 (F := Ideal) x0 x1 x2 x3 x4 x5 x6 x7 x8 x9 x10 x11 x12 (ix2 R d)
      = if h : R.val < 8192 then
          outR 256 (hC x0 ⟨R.val / 256, by omega⟩) (hC x2 ⟨R.val / 256, by omega⟩) (mC x5) (wo x4) (gn x7) (wu x8) (bu x9) (cbR x11) (ck x10) (wd x12) (R.val % 256) d
        else
          outR 1024 (hL x1 ⟨(R.val - 8192) / 1024, by omega⟩) (hL x3 ⟨(R.val - 8192) / 1024, by omega⟩) (mL x6 ⟨(R.val - 8192) / 1024, by omega⟩) (wo x4) (gn x7)
            (wu x8) (bu x9) (cbR x11) (ck x10) (wd x12) ((R.val - 8192) % 1024) d := by
  pointwise [val_main_v160, val_main_v159, val_main_v158, v85, v157]

end Cert.Reference4Ideal.Ffn
-- ==== Proof.FfnFirstRows.lean ====
module

public import proofs.«01_k».proof.Proof.FfnFirstSweep
public import proofs.«01_k».proof.Proof.FfnFirstBlocks
public import proofs.«01_k».proof.Proof.FfnFirstRef
public import proofs.«01_k».proof.Proof.FfnRows

@[expose] public section

/-! In layer 0's feed-forward call, the tile's normalised rows and its convolution, as the reference's rows of a sequence: a context tile holds four sequences of
256 rows, a lattice tile one sequence of 1024. -/

set_option maxRecDepth 16384
noncomputable section
namespace Cert.Kernel4Ideal.Ffn
open Cert.Kernel4Ideal Cert.Kernel4Ideal.Gen Idealize.ShloMosaic Idealize.ShloMosaic.TcCoe Idealize.SL.Sem Idealize.ShloMosaic.Tactic Cert.FfnMath
open Cert.Reference2Ideal.Ffn (hC hL wo)
open Cert.Reference4Ideal.Ffn (mC mL nC nL gn wu bu cbR ck wd)
open Cert.Kernel2Ideal.Ffn (lat seqC seqL xNew_eq xNorm_eq U U_eq cv prevU nextU cv_eq)

variable (m : (ℓ : Loc nD τ sig) → Buf (Elt Ideal) ℓ) (c : Dev nD)

/-! ## The tile's inputs by rows -/

theorem wo_eq (t : Fin cfg0.N) (e d : Fin 1024) : (iblk m c 4 t : Vec Ideal S1024x1024 .bf16) (ix2 e d) = wo (aWo m c) e d := i4 m c t e d

theorem gn_eq (t : Fin cfg0.N) (d : Fin 1024) : (iblk m c 6 t : Vec Ideal S1x1024 .f32) (ix2 0 d) = gn (aN2 m c) d := i6 m c t d

theorem pt_div (i : Fin 16) (f : ℕ) (hf : f ≤ 10) : (pt i f).val / 11 = i.val := by rw [pt_val i f hf]; omega

theorem md_ctx (i : Fin 16) (hi : i.val < 8) (f : ℕ) (hf : f ≤ 10) (q : Fin 6144) :
    (iblk m c 5 (pt i f) : Vec Ideal S1x1x1x6144 .f32) (ix4 0 0 0 q) = mC (aMC m c) q := by
  have e := pt_div i f hf
  refine (i5 m c (pt i f) q).trans (Eq.trans ?_ (V14c m c q))
  refine congrArg (fun x => (V m c main_v14 : FVec Ideal S4x16x1x6144 .f32) (ix4 0 x 0 q)) (Fin.ext ?_)
  show (if (pt i f).val / 11 < 8 then 0 else _) = 0
  rw [if_pos (by omega)]

theorem md_lat (i : Fin 16) (hi : 8 ≤ i.val) (f : ℕ) (hf : f ≤ 10) (q : Fin 6144) :
    (iblk m c 5 (pt i f) : Vec Ideal S1x1x1x6144 .f32) (ix4 0 0 0 q) = mL (aML m c) (seqL i) q := by
  have e := pt_div i f hf
  refine (i5 m c (pt i f) q).trans (Eq.trans ?_ (V14l m c (seqL i) q))
  refine congrArg (fun x => (V m c main_v14 : FVec Ideal S4x16x1x6144 .f32) (ix4 0 x 0 q)) (Fin.ext ?_)
  show (if (pt i f).val / 11 < 8 then 0 else (pt i f).val / 11) = 8 + (i.val - 8) % 8
  rw [if_neg (by omega)]
  omega

theorem h_ctx (i : Fin 16) (hi : i.val < 8) (f : ℕ) (hf : f ≤ 10) (r d : Fin 1024) :
    Scalar.select (lat i) ((iblk m c 1 (pt i f) : Vec Ideal S1024x1024 .f32) (ix2 r d) : EReal) ((iblk m c 0 (pt i f) : Vec Ideal S1024x1024 .f32) (ix2 r d))
      = hC (aHC m c) (seqC i r) (r.val % 256) d := by
  have e := pt_div i f hf
  have hl : lat i = 0#1 := if_pos hi
  rw [hl]
  refine Eq.trans (if_neg (by decide)) ((i0 m c (pt i f) r d).trans ((V0 m c _ d).trans ?_))
  refine congrArg₂ (fun x y => aHC m c (ix3 x y d)) (Fin.ext ?_) (Fin.ext ?_)
  · show (min ((pt i f).val / 11) 7 * 1024 + r.val) / 256 = (4 * i.val + r.val / 256) % 32; omega
  · show (min ((pt i f).val / 11) 7 * 1024 + r.val) % 256 = r.val % 256 % 256; omega

theorem h_lat (i : Fin 16) (hi : 8 ≤ i.val) (f : ℕ) (hf : f ≤ 10) (r d : Fin 1024) :
    Scalar.select (lat i) ((iblk m c 1 (pt i f) : Vec Ideal S1024x1024 .f32) (ix2 r d) : EReal) ((iblk m c 0 (pt i f) : Vec Ideal S1024x1024 .f32) (ix2 r d))
      = hL (aHL m c) (seqL i) r d := by
  have e := pt_div i f hf
  have hl : lat i = 1#1 := if_neg (by omega)
  rw [hl]
  refine Eq.trans (if_pos rfl) ((i1 m c (pt i f) r d).trans ((V1 m c _ d).trans ?_))
  refine congrArg₂ (fun x y => aHL m c (ix3 x y d)) (Fin.ext ?_) (Fin.ext ?_)
  · show (((pt i f).val / 11 - 8) * 1024 + r.val) / 1024 = (i.val - 8) % 8; omega
  · show (((pt i f).val / 11 - 8) * 1024 + r.val) % 1024 = r.val % 1024; omega

theorem o_ctx (i : Fin 16) (hi : i.val < 8) (f : ℕ) (hf : f ≤ 10) (r d : Fin 1024) :
    Scalar.select (lat i) ((iblk m c 3 (pt i f) : Vec Ideal S1024x1024 .bf16) (ix2 r d) : EReal) ((iblk m c 2 (pt i f) : Vec Ideal S1024x1024 .bf16) (ix2 r d))
      = hC (aOC m c) (seqC i r) (r.val % 256) d := by
  have e := pt_div i f hf
  have hl : lat i = 0#1 := if_pos hi
  rw [hl]
  refine Eq.trans (if_neg (by decide)) ((i2 m c (pt i f) r d).trans ((V6 m c _ d).trans ?_))
  refine congrArg₂ (fun x y => aOC m c (ix3 x y d)) (Fin.ext ?_) (Fin.ext ?_)
  · show (min ((pt i f).val / 11) 7 * 1024 + r.val) / 256 = (4 * i.val + r.val / 256) % 32; omega
  · show (min ((pt i f).val / 11) 7 * 1024 + r.val) % 256 = r.val % 256 % 256; omega

theorem o_lat (i : Fin 16) (hi : 8 ≤ i.val) (f : ℕ) (hf : f ≤ 10) (r d : Fin 1024) :
    Scalar.select (lat i) ((iblk m c 3 (pt i f) : Vec Ideal S1024x1024 .bf16) (ix2 r d) : EReal) ((iblk m c 2 (pt i f) : Vec Ideal S1024x1024 .bf16) (ix2 r d))
      = hL (aOL m c) (seqL i) r d := by
  have e := pt_div i f hf
  have hl : lat i = 1#1 := if_neg (by omega)
  rw [hl]
  refine Eq.trans (if_pos rfl) ((i3 m c (pt i f) r d).trans ((V8 m c _ d).trans ?_))
  refine congrArg₂ (fun x y => aOL m c (ix3 x y d)) (Fin.ext ?_) (Fin.ext ?_)
  · show (((pt i f).val / 11 - 8) * 1024 + r.val) / 1024 = (i.val - 8) % 8; omega
  · show (((pt i f).val / 11 - 8) * 1024 + r.val) % 1024 = r.val % 1024; omega

/-! ## The residual stream and the normalised rows -/

/-- The stream's tile by rows. -/
theorem hS_at (i : Fin 16) (r d : Fin 1024) : hS m c i (ix2 r d) =
    Scalar.select (lat i) ((iblk m c 1 (pt i 0) : Vec Ideal S1024x1024 .f32) (ix2 r d) : EReal) ((iblk m c 0 (pt i 0) : Vec Ideal S1024x1024 .f32) (ix2 r d)) := by
  unfold hS Scalar.select
  split <;> rfl

theorem x_ctx (i : Fin 16) (hi : i.val < 8) (r d : Fin 1024) :
    xR m c i (ix2 r d) = yRow (hC (aHC m c) (seqC i r) (r.val % 256)) (hC (aOC m c) (seqC i r) (r.val % 256)) (mC (aMC m c)) (wo (aWo m c)) d :=
  xNew_eq _ _ _ _ _ _ r d _ _ _ _ (fun d => (hS_at m c i r d).trans (h_ctx m c i hi 0 (by omega) r d)) (o_ctx m c i hi 0 (by omega) r) (md_ctx m c i hi 0 (by omega)) (wo_eq m c (pt i 0))

theorem x_lat (i : Fin 16) (hi : 8 ≤ i.val) (r d : Fin 1024) :
    xR m c i (ix2 r d) = yRow (hL (aHL m c) (seqL i) r) (hL (aOL m c) (seqL i) r) (mL (aML m c) (seqL i)) (wo (aWo m c)) d :=
  xNew_eq _ _ _ _ _ _ r d _ _ _ _ (fun d => (hS_at m c i r d).trans (h_lat m c i hi 0 (by omega) r d)) (o_lat m c i hi 0 (by omega) r) (md_lat m c i hi 0 (by omega)) (wo_eq m c (pt i 0))

theorem n_ctx (i : Fin 16) (hi : i.val < 8) (r d : Fin 1024) :
    xN m c i (ix2 r d) = nC (aWo m c) (aN2 m c) (aHC m c) (aOC m c) (aMC m c) (seqC i r) (r.val % 256) d :=
  xNorm_eq _ _ _ _ _ _ _ r d _ _ _ (x_ctx m c i hi r) (md_ctx m c i hi 0 (by omega)) (gn_eq m c (pt i 0))

theorem n_lat (i : Fin 16) (hi : 8 ≤ i.val) (r d : Fin 1024) :
    xN m c i (ix2 r d) = nL (aWo m c) (aN2 m c) (aHL m c) (aOL m c) (aML m c) (seqL i) r d :=
  xNorm_eq _ _ _ _ _ _ _ r d _ _ _ (x_lat m c i hi r) (md_lat m c i hi 0 (by omega)) (gn_eq m c (pt i 0))

/-! ## The up-projection and the convolution -/

theorem cv_ctx (i : Fin 16) (hi : i.val < 8) (w : Vec Ideal S1x1024x256 .f32) (b cb : Vec Ideal S1x1x256 .f32) (k : Vec Ideal S1x3x256 .f32)
    (r : Fin 1024) (j : Fin 256) (w' : Fin 1024 → Fin 5632 → EReal) (b' cb' : Fin 5632 → EReal) (k' : Fin 3 → Fin 5632 → EReal) (J : Fin 5632)
    (hw : ∀ k, w (ix3 0 k j) = w' k J) (hb : b (ix3 0 0 j) = b' J) (hcb : cb (ix3 0 0 j) = cb' J) (hk : ∀ a, k (ix3 0 a j) = k' a J)
    (rb : ∃ x : ℝ, b' J = x) (rk : ∀ a, ∃ x : ℝ, k' a J = x) :
    cv (lat i) (xN m c i) w b cb k r j = cvR 256 (nC (aWo m c) (aN2 m c) (aHC m c) (aOC m c) (aMC m c) (seqC i r)) w' b' cb' k' (r.val % 256) J := by
  have hl : lat i = 0#1 := if_pos hi
  have hU : ∀ (s : ℕ), s < 1024 → s / 256 = r.val / 256 → U (xN m c i) w s j = upR (nC (aWo m c) (aN2 m c) (aHC m c) (aOC m c) (aMC m c) (seqC i r)) w' (s % 256) J := by
    intro s hs hq
    refine U_eq _ _ s hs j _ _ _ J (fun k => ?_) hw
    have e : seqC i s = seqC i r := Fin.ext (by show (4 * i.val + s / 256) % 32 = (4 * i.val + r.val / 256) % 32; rw [hq])
    rw [← e]
    exact n_ctx m c i hi ⟨s, hs⟩ k
  refine cv_eq _ _ _ _ _ _ _ _ _ _ _ _ _ _ _ J hb hcb hk rb rk ?_ (hU r r.isLt rfl) ?_
  · unfold prevU
    rw [hl]
    by_cases h : r.val % 256 = 0
    · rw [if_pos h, if_pos h]
      split
      · rfl
      · exact if_neg (by decide)
    · rw [if_neg h, if_neg h, hU (r.val - 1) (by omega) (by omega)]
      congr 1; omega
  · unfold nextU
    rw [hl]
    by_cases h : r.val % 256 = 255
    · rw [if_pos h, if_pos (by omega : r.val % 256 + 1 = 256)]
      split
      · rfl
      · exact if_neg (by decide)
    · rw [if_neg h, if_neg (by omega : ¬r.val % 256 + 1 = 256), hU (r.val + 1) (by omega) (by omega)]
      congr 1; omega

theorem cv_lat (i : Fin 16) (hi : 8 ≤ i.val) (w : Vec Ideal S1x1024x256 .f32) (b cb : Vec Ideal S1x1x256 .f32) (k : Vec Ideal S1x3x256 .f32)
    (r : Fin 1024) (j : Fin 256) (w' : Fin 1024 → Fin 5632 → EReal) (b' cb' : Fin 5632 → EReal) (k' : Fin 3 → Fin 5632 → EReal) (J : Fin 5632)
    (hw : ∀ k, w (ix3 0 k j) = w' k J) (hb : b (ix3 0 0 j) = b' J) (hcb : cb (ix3 0 0 j) = cb' J) (hk : ∀ a, k (ix3 0 a j) = k' a J)
    (rb : ∃ x : ℝ, b' J = x) (rk : ∀ a, ∃ x : ℝ, k' a J = x) :
    cv (lat i) (xN m c i) w b cb k r j = cvR 1024 (nL (aWo m c) (aN2 m c) (aHL m c) (aOL m c) (aML m c) (seqL i)) w' b' cb' k' r J := by
  have hl : lat i = 1#1 := if_neg (by omega)
  have hU : ∀ (s : ℕ), s < 1024 → U (xN m c i) w s j = upR (nL (aWo m c) (aN2 m c) (aHL m c) (aOL m c) (aML m c) (seqL i)) w' s J := by
    intro s hs
    exact U_eq _ _ s hs j _ _ _ J (fun k => n_lat m c i hi ⟨s, hs⟩ k) hw
  refine cv_eq _ _ _ _ _ _ _ _ _ _ _ _ _ _ _ J hb hcb hk rb rk ?_ (hU r r.isLt) ?_
  · unfold prevU
    rw [hl]
    by_cases h : r.val = 0
    · rw [if_pos (by omega : r.val % 256 = 0), if_pos h, if_pos h]
    · rw [if_neg h, if_neg h, ← hU (r.val - 1) (by omega)]
      split
      · exact if_pos rfl
      · rfl
  · unfold nextU
    rw [hl]
    by_cases h : r.val = 1023
    · rw [if_pos (by omega : r.val % 256 = 255), if_pos h, if_pos (by omega : r.val + 1 = 1024)]
    · rw [if_neg h, if_neg (by omega : ¬r.val + 1 = 1024), ← hU (r.val + 1) (by omega)]
      split
      · exact if_pos rfl
      · rfl

end Cert.Kernel4Ideal.Ffn
-- ==== Proof.FfnFirstValue.lean ====
module

public import proofs.«01_k».proof.Proof.FfnFirstRows
public import proofs.«01_k».proof.Proof.FfnValue

@[expose] public section

/-! The array layer 0's feed-forward launch leaves is the reference's. -/

set_option maxRecDepth 16384
noncomputable section
namespace Cert.Kernel4Ideal.Ffn
open Cert.Kernel4Ideal Cert.Kernel4Ideal.Gen Idealize.ShloMosaic Idealize.ShloMosaic.TcCoe Idealize.SL.Sem Idealize.ShloMosaic.Tactic Cert.FfnMath
open Cert.Reference2Ideal.Ffn (hC hL wo)
open Cert.Reference4Ideal.Ffn (mC mL nC nL gn wu bu cbR ck wd)
open Cert.Kernel2Ideal.Ffn (lat seqC seqL cv gate pay2_apply)

variable (m : (ℓ : Loc nD τ sig) → Buf (Elt Ideal) ℓ) (c : Dev nD)

/-! ## The precondition: the up-projection's bias and the taps are reals -/

theorem reals (h : Cert.Pre_Kernel4Ideal_finite_conv (hPre_finite_conv := Cert.Pre_finite_conv.Gen.facts) m) :
    (∀ i, ∃ r : ℝ, aBu m c i = (r : EReal)) ∧ (∀ i, ∃ r : ℝ, aCk m c i = (r : EReal)) := by
  have key : ∀ p q : BitVec 1, IntOp.andi p q = 1#1 → p = 1#1 ∧ q = 1#1 := by decide
  have h0 := congrFun (h c) (fun a => a.elim0)
  obtain ⟨h1, h2⟩ := key _ _ h0
  exact ⟨Cert.Finite.of_reduce _ _ _ _ _ _ (fun _ _ => funext fun a => a.elim0) _ h1,
    Cert.Finite.of_reduce _ _ _ _ _ _ (fun _ _ => funext fun a => a.elim0) _ h2⟩

/-! ## The columns' shares -/

theorem pt_mod (i : Fin 16) (f : ℕ) (hf : f ≤ 10) : (pt i f).val % 11 = f := by rw [pt_val i f hf]; omega

/-- A tile's row, given its convolution: the eleven shares are the sum over the 2816 hidden columns. -/
theorem shares (i : Fin 16) (r d : Fin 1024) (C : Fin 5632 → EReal)
    (hg : ∀ f : ℕ, ∀ hf : f ≤ 10, ∀ j : Fin 256, cv (lat i) (xN m c i) (wts m c (pt i f)).g (wts m c (pt i f)).bg (wts m c (pt i f)).cg (wts m c (pt i f)).kg r j
      = C ⟨f * 256 + j.val, by omega⟩)
    (hv : ∀ f : ℕ, ∀ hf : f ≤ 10, ∀ j : Fin 256, cv (lat i) (xN m c i) (wts m c (pt i f)).v (wts m c (pt i f)).bv (wts m c (pt i f)).cv (wts m c (pt i f)).kv r j
      = C ⟨(11 + f) * 256 + j.val, by omega⟩) :
    ∑ g ∈ Finset.range 11, share m c i g (ix2 r d)
      = ∑ q : Fin 2816, gateS (C ⟨q.val, by omega⟩) (C ⟨2816 + q.val, by omega⟩) * wd (aWd m c) q d := by
  have key := sum_blocks fun q => if h : q < 2816 then gateS (C ⟨q, by omega⟩) (C ⟨2816 + q, by omega⟩) * wd (aWd m c) ⟨q, h⟩ d else 0
  refine Eq.trans (Finset.sum_congr rfl fun f hf => ?_) (key.trans (Finset.sum_congr rfl fun q _ => dif_pos q.isLt))
  have hf' : f ≤ 10 := by have := Finset.mem_range.mp hf; omega
  unfold share
  refine Finset.sum_congr rfl fun j _ => ?_
  rw [dif_pos (by omega : f * 256 + j.val < 2816)]
  refine congrArg₂ (· * ·) ?_ ?_
  · show gate _ _ = gateS _ _
    refine congrArg₂ gateS ((hg f hf' j).trans rfl) ((hv f hf' j).trans (congrArg C (Fin.ext ?_)))
    show (11 + f) * 256 + j.val = 2816 + (f * 256 + j.val)
    omega
  · refine (i15 m c (pt i f) j d).trans (congrArg (fun x => aWd m c (ix3 0 x d)) (Fin.ext ?_))
    show (pt i f).val % 11 * 256 + j.val = f * 256 + j.val
    rw [pt_mod i f hf']

/-- A column of the gate half, and of the value half, at column block `f`. -/
theorem colG (i : Fin 16) (f : ℕ) (hf : f ≤ 10) (j : Fin 256) : (⟨(pt i f).val % 11 * 256 + j.val, by omega⟩ : Fin 5632) = ⟨f * 256 + j.val, by omega⟩ :=
  Fin.ext (by show (pt i f).val % 11 * 256 + j.val = f * 256 + j.val; rw [pt_mod i f hf])
theorem colV (i : Fin 16) (f : ℕ) (hf : f ≤ 10) (j : Fin 256) : (⟨(11 + (pt i f).val % 11) * 256 + j.val, by omega⟩ : Fin 5632) = ⟨(11 + f) * 256 + j.val, by omega⟩ :=
  Fin.ext (by show (11 + (pt i f).val % 11) * 256 + j.val = (11 + f) * 256 + j.val; rw [pt_mod i f hf])

variable (h : Cert.Pre_Kernel4Ideal_finite_conv (hPre_finite_conv := Cert.Pre_finite_conv.Gen.facts) m)
include h

theorem out_ctx (i : Fin 16) (hi : i.val < 8) (r d : Fin 1024) : (outsAt0 m c (pt i 10).val (pt i 10).isLt).1 (ix2 r d)
    = outR 256 (hC (aHC m c) (seqC i r)) (hC (aOC m c) (seqC i r)) (mC (aMC m c)) (wo (aWo m c)) (gn (aN2 m c)) (wu (aWu m c)) (bu (aBu m c)) (cbR (aCb m c))
        (ck (aCk m c)) (wd (aWd m c)) (r.val % 256) d := by
  obtain ⟨rb, rk⟩ := reals m c h
  rw [out_last, pay2_apply, x_ctx m c i hi, md_ctx m c i hi 10 (by omega)]
  unfold outR
  refine congrArg (fun z => yRow _ _ _ _ d + mC (aMC m c) ⟨5120 + d.val, by omega⟩ * z) ?_
  refine shares m c i r d (cvR 256 (nC (aWo m c) (aN2 m c) (aHC m c) (aOC m c) (aMC m c) (seqC i r)) (wu (aWu m c)) (bu (aBu m c)) (cbR (aCb m c)) (ck (aCk m c)) (r.val % 256)) ?_ ?_
  · intro f hf j
    rw [← colG i f hf j]
    exact cv_ctx m c i hi _ _ _ _ r j _ _ _ _ _ (fun k => i7 m c (pt i f) k j) (i9 m c (pt i f) j) (i13 m c (pt i f) j) (fun a => i11 m c (pt i f) a j) (rb _) (fun a => rk _)
  · intro f hf j
    rw [← colV i f hf j]
    exact cv_ctx m c i hi _ _ _ _ r j _ _ _ _ _ (fun k => i8 m c (pt i f) k j) (i10 m c (pt i f) j) (i14 m c (pt i f) j) (fun a => i12 m c (pt i f) a j) (rb _) (fun a => rk _)

theorem out_lat (i : Fin 16) (hi : 8 ≤ i.val) (r d : Fin 1024) : (outsAt0 m c (pt i 10).val (pt i 10).isLt).1 (ix2 r d)
    = outR 1024 (hL (aHL m c) (seqL i)) (hL (aOL m c) (seqL i)) (mL (aML m c) (seqL i)) (wo (aWo m c)) (gn (aN2 m c)) (wu (aWu m c)) (bu (aBu m c)) (cbR (aCb m c))
        (ck (aCk m c)) (wd (aWd m c)) r d := by
  obtain ⟨rb, rk⟩ := reals m c h
  rw [out_last, pay2_apply, x_lat m c i hi, md_lat m c i hi 10 (by omega)]
  unfold outR
  refine congrArg (fun z => yRow _ _ _ _ d + mL (aML m c) (seqL i) ⟨5120 + d.val, by omega⟩ * z) ?_
  refine shares m c i r d (cvR 1024 (nL (aWo m c) (aN2 m c) (aHL m c) (aOL m c) (aML m c) (seqL i)) (wu (aWu m c)) (bu (aBu m c)) (cbR (aCb m c)) (ck (aCk m c)) r) ?_ ?_
  · intro f hf j
    rw [← colG i f hf j]
    exact cv_lat m c i hi _ _ _ _ r j _ _ _ _ _ (fun k => i7 m c (pt i f) k j) (i9 m c (pt i f) j) (i13 m c (pt i f) j) (fun a => i11 m c (pt i f) a j) (rb _) (fun a => rk _)
  · intro f hf j
    rw [← colV i f hf j]
    exact cv_lat m c i hi _ _ _ _ r j _ _ _ _ _ (fun k => i8 m c (pt i f) k j) (i10 m c (pt i f) j) (i14 m c (pt i f) j) (fun a => i12 m c (pt i f) a j) (rb _) (fun a => rk _)

/-- Row `r` of the tile that the last column block of tile `i` writes is the reference's row `1024 i + r`. -/
theorem out_row (i : Fin 16) (r d : Fin 1024) (R : Fin 16384) (hR : R.val = i.val * 1024 + r.val) : (outsAt0 m c (pt i 10).val (pt i 10).isLt).1 (ix2 r d)
    = Cert.Reference4Ideal.Read.val_main_v160 (F := Ideal) (aHC m c) (aHL m c) (aOC m c) (aOL m c) (aWo m c) (aMC m c) (aML m c) (aN2 m c) (aWu m c) (aBu m c) (aCk m c)
        (aCb m c) (aWd m c) (ix2 R d) := by
  rw [Cert.Reference4Ideal.Ffn.v160]
  by_cases hi : i.val < 8
  · rw [dif_pos (by omega), out_ctx m c h i hi]
    have e : seqC i r = ⟨R.val / 256, by omega⟩ := Fin.ext (by show (4 * i.val + r.val / 256) % 32 = R.val / 256; omega)
    rw [e, show R.val % 256 = r.val % 256 by omega]
  · rw [dif_neg (by omega), out_lat m c h i (by omega)]
    have e : seqL i = ⟨(R.val - 8192) / 1024, by omega⟩ := Fin.ext (by show (i.val - 8) % 8 = (R.val - 8192) / 1024; omega)
    rw [e, show (R.val - 8192) % 1024 = r.val by omega]

theorem final : (dats m 0 c).arrAt 16 cfg0.N
    = Cert.Reference4Ideal.Read.val_main_v160 (F := Ideal) (aHC m c) (aHL m c) (aOC m c) (aOL m c) (aWo m c) (aMC m c) (aML m c) (aN2 m c) (aWu m c) (aBu m c) (aCk m c)
        (aCb m c) (aWd m c) := by
  refine (dats m 0 c).arrAt_eq_of_covers 16 _ (by decide +kernel) fun t hf y => ?_
  have h10 : t.val % 11 = 10 := (flush0_16 t).mp hf
  have ht := t_lt t
  have e : pt ⟨t.val / 11, by omega⟩ 10 = t := Fin.ext (by rw [pt_val _ _ (by omega)]; show 11 * (t.val / 11) + 10 = t.val; omega)
  have key := out_row m c h ⟨t.val / 11, by omega⟩ (y 0) (y 1) ⟨t.val / 11 * 1024 + (y 0).val, by have : (y 0).val < 1024 := (y 0).isLt; omega⟩ rfl
  rw [e] at key
  simp only [after0_16]
  refine Eq.trans ?_ (key.trans ?_)
  · blk_simp
    exact congrArg (outsAt0 m c t.val t.isLt).1 (eq_ix2 (y : S1024x1024.Idx))
  · refine congrArg _ (funext fun a => Fin.ext ?_)
    match a with
    | ⟨0, _⟩ => blk_simp [(idx t).2.2.2.2.2.2.2.2.2.2.2.2.2.2.2.2]; rfl
    | ⟨1, _⟩ => blk_simp [(idx t).2.2.2.2.2.2.2.2.2.2.2.2.2.2.2.2]; rfl

omit h in
/-- The launch's run, with the output array named and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v16) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1 16,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).1 12).trans (((dats m 0 c).arrAt_in 12 rfl _).trans ((A_eq m c 12).trans (V_main_arg10 m c))),
      ((h c).2 main_arg11 (Pipeline.mem_restRefs_of main_arg11 (by decide) (by decide))).trans (V_main_arg11 m c),
      ((h c).1 15).trans (((dats m 0 c).arrAt_in 15 rfl _).trans ((A_eq m c 15).trans (V_main_arg12 m c)))⟩)
    (run_main m ρ)

end Cert.Kernel4Ideal.Ffn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite_scores
public import proofs.«01_k».proof.Proof.Gen.Pre_finite_conv
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.CtxValue
public import proofs.«01_k».proof.Proof.FfnValue
public import proofs.«01_k».proof.Proof.FfnLastFrame
public import proofs.«01_k».proof.Proof.FfnLastBitsFrame
public import proofs.«01_k».proof.Proof.FfnLastValue
public import proofs.«01_k».proof.Proof.FfnFirstValue
public import Idealize.ShloMosaic.Adequacy
public import Idealize.ShloMosaic.Init

@[expose] public section

noncomputable section

namespace Cert.Proof

open Idealize.ShloMosaic Idealize.SL.Sem Cert.Kernel

/-- The context attention: the launch leaves the reference's result. -/
theorem ctx : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hargs
  refine ⟨fun c => Cert.ReferenceIdeal.Read.val_main_v25 (F := Ideal) (Cert.KernelIdeal.Ctx.aq m c) (Cert.KernelIdeal.Ctx.ak m c)
    (Cert.KernelIdeal.Ctx.av m c) (Cert.KernelIdeal.Ctx.ask m c), ?_, ?_⟩
  · exact (θ_run Cert.KernelIdeal.defs _ _).mono (fun r h c => ⟨(h c).1.trans (Cert.KernelIdeal.Ctx.final m c hpre), (h c).2⟩)
      (Cert.KernelIdeal.Value.run_blocks m g)
  · refine (θ_run Cert.ReferenceIdeal.defs _ _).mono (fun r h c => ⟨(h c).1.trans ?_, (h c).2⟩) (Cert.ReferenceIdeal.Value.run m' g')
    rw [Cert.ReferenceIdeal.Read.val_main_v25_eq]
    obtain ⟨h0, h1, h2, h3⟩ := hargs c
    rw [h0, h1, h2, h3]

/-- The reference's run with its counters: it declares no semaphore. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward layer: the launch leaves the reference's result. -/
theorem ffn : Cert.algebraic_Kernel2Ideal_Reference2Ideal_pre_finite_conv (hKernel2Ideal := Cert.Kernel2Ideal.Gen.facts)
    (hReference2Ideal := Cert.Reference2Ideal.Gen.facts) (hPre_finite_conv := Cert.Pre_finite_conv.Gen.facts) := by
  intro m g m' g' hpre hargs
  refine ⟨fun c => Cert.Reference2Ideal.Read.val_main_v160 (F := Ideal) (Cert.Kernel2Ideal.Ffn.aHC m c) (Cert.Kernel2Ideal.Ffn.aHL m c) (Cert.Kernel2Ideal.Ffn.aOC m c)
    (Cert.Kernel2Ideal.Ffn.aOL m c) (Cert.Kernel2Ideal.Ffn.aWo m c) (Cert.Kernel2Ideal.Ffn.aMC m c) (Cert.Kernel2Ideal.Ffn.aML m c) (Cert.Kernel2Ideal.Ffn.aN2 m c)
    (Cert.Kernel2Ideal.Ffn.aWu m c) (Cert.Kernel2Ideal.Ffn.aBu m c) (Cert.Kernel2Ideal.Ffn.aCk m c) (Cert.Kernel2Ideal.Ffn.aCb m c) (Cert.Kernel2Ideal.Ffn.aWd m c), ?_, ?_⟩
  · exact (θ_run Cert.Kernel2Ideal.defs _ _).mono (fun r h c => ⟨(h c).1.trans (Cert.Kernel2Ideal.Ffn.final m c hpre), (h c).2⟩)
      (Cert.Kernel2Ideal.Ffn.run_blocks m g)
  · refine (θ_run Cert.Reference2Ideal.defs _ _).mono (fun r h c => ⟨(h c).1.trans ?_, (h c).2⟩) (Cert.Reference2Ideal.Value.run m' g')
    rw [Cert.Reference2Ideal.Read.val_main_v160_eq]
    show Cert.Reference2Ideal.Read.val_main_v160 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) = _
    obtain ⟨h0, h1, h2, h3, h4, h5, h6, h7, h8, h9, h10, h11, h12⟩ := hargs c
    rw [h0, h1, h2, h3, h4, h5, h6, h7, h8, h9, h10, h11, h12]

/-- The second reference's run with its counters: it declares no semaphore. -/
theorem ref2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The last feed-forward layer: the launch leaves the reference's two results. -/
theorem last : Cert.algebraic_Kernel3Ideal_Reference3Ideal_pre_finite_conv (hKernel3Ideal := Cert.Kernel3Ideal.Gen.facts)
    (hReference3Ideal := Cert.Reference3Ideal.Gen.facts) (hPre_finite_conv := Cert.Pre_finite_conv.Gen.facts) := by
  intro m g m' g' hpre hargs
  refine ⟨fun c => Cert.Kernel3Ideal.Ffn.resC m c, fun c => Cert.Kernel3Ideal.Ffn.resL m c, ?_, ?_⟩
  · exact (θ_run Cert.Kernel3Ideal.defs _ _).mono (fun r h c => ⟨(h c).1.trans (Cert.Kernel3Ideal.Ffn.finalC m c hpre),
      (h c).2.1.trans (Cert.Kernel3Ideal.Ffn.finalL m c hpre), (h c).2.2⟩) (Cert.Kernel3Ideal.Ffn.run_blocks m g)
  · refine (θ_run Cert.Reference3Ideal.defs _ _).mono (fun r h c => ⟨(h c).1.trans ?_, (h c).2.1.trans ?_, (h c).2.2⟩) (Cert.Reference3Ideal.Value.run m' g')
    · rw [Cert.Reference3Ideal.Read.val_main_v86_eq]
      show Cert.Reference3Ideal.Read.val_main_v86 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = _
      obtain ⟨h0, h1, h2, h3, h4, h5, h6, h7, h8, h9, h10, h11, h12⟩ := hargs c
      rw [h0, h2, h4, h5, h7, h8, h9, h10, h11, h12]
    · rw [Cert.Reference3Ideal.Read.val_main_v159_eq]
      show Cert.Reference3Ideal.Read.val_main_v159 (F := Ideal) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = _
      obtain ⟨h0, h1, h2, h3, h4, h5, h6, h7, h8, h9, h10, h11, h12⟩ := hargs c
      rw [h1, h3, h4, h6, h7, h8, h9, h10, h11, h12]

/-- The third reference's run with its counters: it declares no semaphore. -/
theorem ref3_frame : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The first feed-forward layer: the launch leaves the reference's result. -/
theorem first : Cert.algebraic_Kernel4Ideal_Reference4Ideal_pre_finite_conv (hKernel4Ideal := Cert.Kernel4Ideal.Gen.facts)
    (hReference4Ideal := Cert.Reference4Ideal.Gen.facts) (hPre_finite_conv := Cert.Pre_finite_conv.Gen.facts) := by
  intro m g m' g' hpre hargs
  refine ⟨fun c => Cert.Reference4Ideal.Read.val_main_v160 (F := Ideal) (Cert.Kernel4Ideal.Ffn.aHC m c) (Cert.Kernel4Ideal.Ffn.aHL m c) (Cert.Kernel4Ideal.Ffn.aOC m c)
    (Cert.Kernel4Ideal.Ffn.aOL m c) (Cert.Kernel4Ideal.Ffn.aWo m c) (Cert.Kernel4Ideal.Ffn.aMC m c) (Cert.Kernel4Ideal.Ffn.aML m c) (Cert.Kernel4Ideal.Ffn.aN2 m c)
    (Cert.Kernel4Ideal.Ffn.aWu m c) (Cert.Kernel4Ideal.Ffn.aBu m c) (Cert.Kernel4Ideal.Ffn.aCk m c) (Cert.Kernel4Ideal.Ffn.aCb m c) (Cert.Kernel4Ideal.Ffn.aWd m c), ?_, ?_⟩
  · exact (θ_run Cert.Kernel4Ideal.defs _ _).mono (fun r h c => ⟨(h c).1.trans (Cert.Kernel4Ideal.Ffn.final m c hpre), (h c).2⟩)
      (Cert.Kernel4Ideal.Ffn.run_blocks m g)
  · refine (θ_run Cert.Reference4Ideal.defs _ _).mono (fun r h c => ⟨(h c).1.trans ?_, (h c).2⟩) (Cert.Reference4Ideal.Value.run m' g')
    rw [Cert.Reference4Ideal.Read.val_main_v160_eq]
    show Cert.Reference4Ideal.Read.val_main_v160 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) = _
    obtain ⟨h0, h1, h2, h3, h4, h5, h6, h7, h8, h9, h10, h11, h12⟩ := hargs c
    rw [h0, h1, h2, h3, h4, h5, h6, h7, h8, h9, h10, h11, h12]

/-- The fourth reference's run with its counters: it declares no semaphore. -/
theorem ref4_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Pre_finite_scores.Gen.facts, Cert.Pre_finite_conv.Gen.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial,
  fun m ρ _ => Cert.Kernel2.Gen.frame m ρ, fun m ρ _ => Cert.Kernel2Ideal.Gen.frame m ρ, fun m ρ _ => Cert.Kernel2Ideal.Gen.frame m ρ,
  ref2_frame, fun m ρ _ => ref2_frame m ρ trivial,
  fun m ρ _ => Cert.Kernel3.Ffn.frame m ρ, fun m ρ _ => Cert.Kernel3Ideal.Ffn.frame m ρ, fun m ρ _ => Cert.Kernel3Ideal.Ffn.frame m ρ,
  ref3_frame, fun m ρ _ => ref3_frame m ρ trivial,
  fun m ρ _ => Cert.Kernel4.Gen.frame m ρ, fun m ρ _ => Cert.Kernel4Ideal.Gen.frame m ρ, fun m ρ _ => Cert.Kernel4Ideal.Gen.frame m ρ,
  ref4_frame, fun m ρ _ => ref4_frame m ρ trivial,
  IdealRules.named_const.statement Cert.KernelIdeal.κ "log2e" .f32 0x3FB8AA3B#32 (((Real.log 2)⁻¹ : ℝ) : EReal) rfl, ctx, trivial, ffn, trivial, last, trivial, first⟩

end Cert.Proof

end
